-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Prompt0 (m : (ℓ : Loc Cert.Prompt0.nD Cert.Prompt0.τ Cert.Prompt0.sig) → Buf (Elt Bits) ℓ) : Prop :=
  True

def Pre_Prompt0Ideal (m : (ℓ : Loc Cert.Prompt0Ideal.nD Cert.Prompt0Ideal.τ Cert.Prompt0Ideal.sig) → Buf (Elt Ideal) ℓ) : Prop :=
  True

def Pre_Prompt0RefIdeal (m : (ℓ : Loc Cert.Prompt0RefIdeal.nD Cert.Prompt0RefIdeal.τ Cert.Prompt0RefIdeal.sig) → Buf (Elt Ideal) ℓ) : Prop :=
  True

def Pre_Prompt1 (m : (ℓ : Loc Cert.Prompt1.nD Cert.Prompt1.τ Cert.Prompt1.sig) → Buf (Elt Bits) ℓ) : Prop :=
  True

def Pre_Prompt1Ideal (m : (ℓ : Loc Cert.Prompt1Ideal.nD Cert.Prompt1Ideal.τ Cert.Prompt1Ideal.sig) → Buf (Elt Ideal) ℓ) : Prop :=
  True

def Pre_Prompt1RefIdeal (m : (ℓ : Loc Cert.Prompt1RefIdeal.nD Cert.Prompt1RefIdeal.τ Cert.Prompt1RefIdeal.sig) → Buf (Elt Ideal) ℓ) : Prop :=
  True

def Pre_Prompt2 (m : (ℓ : Loc Cert.Prompt2.nD Cert.Prompt2.τ Cert.Prompt2.sig) → Buf (Elt Bits) ℓ) : Prop :=
  True

def Pre_Prompt2Ideal (m : (ℓ : Loc Cert.Prompt2Ideal.nD Cert.Prompt2Ideal.τ Cert.Prompt2Ideal.sig) → Buf (Elt Ideal) ℓ) : Prop :=
  True

def Pre_Prompt2RefIdeal (m : (ℓ : Loc Cert.Prompt2RefIdeal.nD Cert.Prompt2RefIdeal.τ Cert.Prompt2RefIdeal.sig) → Buf (Elt Ideal) ℓ) : Prop :=
  True

def Pre_Sample0 (m : (ℓ : Loc Cert.Sample0.nD Cert.Sample0.τ Cert.Sample0.sig) → Buf (Elt Bits) ℓ) : Prop :=
  True

def Pre_Sample0Ideal (m : (ℓ : Loc Cert.Sample0Ideal.nD Cert.Sample0Ideal.τ Cert.Sample0Ideal.sig) → Buf (Elt Ideal) ℓ) : Prop :=
  True

def Pre_Sample0RefIdeal (m : (ℓ : Loc Cert.Sample0RefIdeal.nD Cert.Sample0RefIdeal.τ Cert.Sample0RefIdeal.sig) → Buf (Elt Ideal) ℓ) : Prop :=
  True

def Pre_Sample1 (m : (ℓ : Loc Cert.Sample1.nD Cert.Sample1.τ Cert.Sample1.sig) → Buf (Elt Bits) ℓ) : Prop :=
  True

def Pre_Sample1Ideal (m : (ℓ : Loc Cert.Sample1Ideal.nD Cert.Sample1Ideal.τ Cert.Sample1Ideal.sig) → Buf (Elt Ideal) ℓ) : Prop :=
  True

def Pre_Sample1RefIdeal (m : (ℓ : Loc Cert.Sample1RefIdeal.nD Cert.Sample1RefIdeal.τ Cert.Sample1RefIdeal.sig) → Buf (Elt Ideal) ℓ) : Prop :=
  True

def Pre_Sample2 (m : (ℓ : Loc Cert.Sample2.nD Cert.Sample2.τ Cert.Sample2.sig) → Buf (Elt Bits) ℓ) : Prop :=
  True

def Pre_Sample2Ideal (m : (ℓ : Loc Cert.Sample2Ideal.nD Cert.Sample2Ideal.τ Cert.Sample2Ideal.sig) → Buf (Elt Ideal) ℓ) : Prop :=
  True

def Pre_Sample2RefIdeal (m : (ℓ : Loc Cert.Sample2RefIdeal.nD Cert.Sample2RefIdeal.τ Cert.Sample2RefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15)
      ∧ r.2.mem ((c.tc : Thread Cert.Merge.nD Cert.Merge.τ).loc Cert.Merge.main_arg16) = m ((c.tc : Thread Cert.Merge.nD Cert.Merge.τ).loc Cert.Merge.main_arg16)
      ∧ r.2.mem ((c.tc : Thread Cert.Merge.nD Cert.Merge.τ).loc Cert.Merge.main_arg17) = m ((c.tc : Thread Cert.Merge.nD Cert.Merge.τ).loc Cert.Merge.main_arg17)
      ∧ r.2.mem ((c.tc : Thread Cert.Merge.nD Cert.Merge.τ).loc Cert.Merge.main_arg18) = m ((c.tc : Thread Cert.Merge.nD Cert.Merge.τ).loc Cert.Merge.main_arg18)
      ∧ r.2.mem ((c.tc : Thread Cert.Merge.nD Cert.Merge.τ).loc Cert.Merge.main_arg19) = m ((c.tc : Thread Cert.Merge.nD Cert.Merge.τ).loc Cert.Merge.main_arg19)
      ∧ r.2.mem ((c.tc : Thread Cert.Merge.nD Cert.Merge.τ).loc Cert.Merge.main_arg20) = m ((c.tc : Thread Cert.Merge.nD Cert.Merge.τ).loc Cert.Merge.main_arg20))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
      ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16)
      ∧ r.2.mem ((c.tc : Thread Cert.MergeIdeal.nD Cert.MergeIdeal.τ).loc Cert.MergeIdeal.main_arg17) = m ((c.tc : Thread Cert.MergeIdeal.nD Cert.MergeIdeal.τ).loc Cert.MergeIdeal.main_arg17)
      ∧ r.2.mem ((c.tc : Thread Cert.MergeIdeal.nD Cert.MergeIdeal.τ).loc Cert.MergeIdeal.main_arg18) = m ((c.tc : Thread Cert.MergeIdeal.nD Cert.MergeIdeal.τ).loc Cert.MergeIdeal.main_arg18)
      ∧ r.2.mem ((c.tc : Thread Cert.MergeIdeal.nD Cert.MergeIdeal.τ).loc Cert.MergeIdeal.main_arg19) = m ((c.tc : Thread Cert.MergeIdeal.nD Cert.MergeIdeal.τ).loc Cert.MergeIdeal.main_arg19)
      ∧ r.2.mem ((c.tc : Thread Cert.MergeIdeal.nD Cert.MergeIdeal.τ).loc Cert.MergeIdeal.main_arg20) = m ((c.tc : Thread Cert.MergeIdeal.nD Cert.MergeIdeal.τ).loc Cert.MergeIdeal.main_arg20))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14)
      ∧ r.2.mem ((c.tc : Thread Cert.MergeRefIdeal.nD Cert.MergeRefIdeal.τ).loc Cert.MergeRefIdeal.main_arg15) = m ((c.tc : Thread Cert.MergeRefIdeal.nD Cert.MergeRefIdeal.τ).loc Cert.MergeRefIdeal.main_arg15)
      ∧ r.2.mem ((c.tc : Thread Cert.MergeRefIdeal.nD Cert.MergeRefIdeal.τ).loc Cert.MergeRefIdeal.main_arg16) = m ((c.tc : Thread Cert.MergeRefIdeal.nD Cert.MergeRefIdeal.τ).loc Cert.MergeRefIdeal.main_arg16)
      ∧ r.2.mem ((c.tc : Thread Cert.MergeRefIdeal.nD Cert.MergeRefIdeal.τ).loc Cert.MergeRefIdeal.main_arg17) = m ((c.tc : Thread Cert.MergeRefIdeal.nD Cert.MergeRefIdeal.τ).loc Cert.MergeRefIdeal.main_arg17)
      ∧ r.2.mem ((c.tc : Thread Cert.MergeRefIdeal.nD Cert.MergeRefIdeal.τ).loc Cert.MergeRefIdeal.main_arg18) = m ((c.tc : Thread Cert.MergeRefIdeal.nD Cert.MergeRefIdeal.τ).loc Cert.MergeRefIdeal.main_arg18)
      ∧ r.2.mem ((c.tc : Thread Cert.MergeRefIdeal.nD Cert.MergeRefIdeal.τ).loc Cert.MergeRefIdeal.main_arg19) = m ((c.tc : Thread Cert.MergeRefIdeal.nD Cert.MergeRefIdeal.τ).loc Cert.MergeRefIdeal.main_arg19)
      ∧ r.2.mem ((c.tc : Thread Cert.MergeRefIdeal.nD Cert.MergeRefIdeal.τ).loc Cert.MergeRefIdeal.main_arg20) = m ((c.tc : Thread Cert.MergeRefIdeal.nD Cert.MergeRefIdeal.τ).loc Cert.MergeRefIdeal.main_arg20))
      ∧ r.2.sem = fun _ => 0)

def quiescent_Prompt0 [hPrompt0 : Cert.Prompt0.Facts] : Prop :=
  ∀ (m : (ℓ : Loc Cert.Prompt0.nD Cert.Prompt0.τ Cert.Prompt0.sig) → Buf (Elt Bits) ℓ) (g : Dev Cert.Prompt0.nD → PrngReg), Pre_Prompt0 m →
    θ_run (Cert.Prompt0.defs (F := Bits)) (onTc (τ := Cert.Prompt0.τ) (Cert.Prompt0.main (F := Bits))) ⟨m, fun _ => 0, g⟩ (fun r => (∀ c : Dev Cert.Prompt0.nD,
      r.2.mem ((c.tc : Thread Cert.Prompt0.nD Cert.Prompt0.τ).loc Cert.Prompt0.main_arg0) = m ((c.tc : Thread Cert.Prompt0.nD Cert.Prompt0.τ).loc Cert.Prompt0.main_arg0))
      ∧ r.2.sem = fun _ => 0)

def quiescent_Prompt0Ideal [hPrompt0Ideal : Cert.Prompt0Ideal.Facts] : Prop :=
  ∀ (m : (ℓ : Loc Cert.Prompt0Ideal.nD Cert.Prompt0Ideal.τ Cert.Prompt0Ideal.sig) → Buf (Elt Ideal) ℓ) (g : Dev Cert.Prompt0Ideal.nD → PrngReg), Pre_Prompt0Ideal m →
    θ_run (Cert.Prompt0Ideal.defs (F := Ideal)) (onTc (τ := Cert.Prompt0Ideal.τ) (Cert.Prompt0Ideal.main (F := Ideal))) ⟨m, fun _ => 0, g⟩ (fun r => (∀ c : Dev Cert.Prompt0Ideal.nD,
      r.2.mem ((c.tc : Thread Cert.Prompt0Ideal.nD Cert.Prompt0Ideal.τ).loc Cert.Prompt0Ideal.main_arg0) = m ((c.tc : Thread Cert.Prompt0Ideal.nD Cert.Prompt0Ideal.τ).loc Cert.Prompt0Ideal.main_arg0))
      ∧ r.2.sem = fun _ => 0)

def quiescent_Prompt0RefIdeal [hPrompt0RefIdeal : Cert.Prompt0RefIdeal.Facts] : Prop :=
  ∀ (m : (ℓ : Loc Cert.Prompt0RefIdeal.nD Cert.Prompt0RefIdeal.τ Cert.Prompt0RefIdeal.sig) → Buf (Elt Ideal) ℓ) (g : Dev Cert.Prompt0RefIdeal.nD → PrngReg), Pre_Prompt0RefIdeal m →
    θ_run (Cert.Prompt0RefIdeal.defs (F := Ideal)) (onTc (τ := Cert.Prompt0RefIdeal.τ) (Cert.Prompt0RefIdeal.main (F := Ideal))) ⟨m, fun _ => 0, g⟩ (fun r => (∀ c : Dev Cert.Prompt0RefIdeal.nD,
      r.2.mem ((c.tc : Thread Cert.Prompt0RefIdeal.nD Cert.Prompt0RefIdeal.τ).loc Cert.Prompt0RefIdeal.main_arg0) = m ((c.tc : Thread Cert.Prompt0RefIdeal.nD Cert.Prompt0RefIdeal.τ).loc Cert.Prompt0RefIdeal.main_arg0))
      ∧ r.2.sem = fun _ => 0)

def quiescent_Prompt1 [hPrompt1 : Cert.Prompt1.Facts] : Prop :=
  ∀ (m : (ℓ : Loc Cert.Prompt1.nD Cert.Prompt1.τ Cert.Prompt1.sig) → Buf (Elt Bits) ℓ) (g : Dev Cert.Prompt1.nD → PrngReg), Pre_Prompt1 m →
    θ_run (Cert.Prompt1.defs (F := Bits)) (onTc (τ := Cert.Prompt1.τ) (Cert.Prompt1.main (F := Bits))) ⟨m, fun _ => 0, g⟩ (fun r => (∀ c : Dev Cert.Prompt1.nD,
      r.2.mem ((c.tc : Thread Cert.Prompt1.nD Cert.Prompt1.τ).loc Cert.Prompt1.main_arg0) = m ((c.tc : Thread Cert.Prompt1.nD Cert.Prompt1.τ).loc Cert.Prompt1.main_arg0))
      ∧ r.2.sem = fun _ => 0)

def quiescent_Prompt1Ideal [hPrompt1Ideal : Cert.Prompt1Ideal.Facts] : Prop :=
  ∀ (m : (ℓ : Loc Cert.Prompt1Ideal.nD Cert.Prompt1Ideal.τ Cert.Prompt1Ideal.sig) → Buf (Elt Ideal) ℓ) (g : Dev Cert.Prompt1Ideal.nD → PrngReg), Pre_Prompt1Ideal m →
    θ_run (Cert.Prompt1Ideal.defs (F := Ideal)) (onTc (τ := Cert.Prompt1Ideal.τ) (Cert.Prompt1Ideal.main (F := Ideal))) ⟨m, fun _ => 0, g⟩ (fun r => (∀ c : Dev Cert.Prompt1Ideal.nD,
      r.2.mem ((c.tc : Thread Cert.Prompt1Ideal.nD Cert.Prompt1Ideal.τ).loc Cert.Prompt1Ideal.main_arg0) = m ((c.tc : Thread Cert.Prompt1Ideal.nD Cert.Prompt1Ideal.τ).loc Cert.Prompt1Ideal.main_arg0))
      ∧ r.2.sem = fun _ => 0)

def quiescent_Prompt1RefIdeal [hPrompt1RefIdeal : Cert.Prompt1RefIdeal.Facts] : Prop :=
  ∀ (m : (ℓ : Loc Cert.Prompt1RefIdeal.nD Cert.Prompt1RefIdeal.τ Cert.Prompt1RefIdeal.sig) → Buf (Elt Ideal) ℓ) (g : Dev Cert.Prompt1RefIdeal.nD → PrngReg), Pre_Prompt1RefIdeal m →
    θ_run (Cert.Prompt1RefIdeal.defs (F := Ideal)) (onTc (τ := Cert.Prompt1RefIdeal.τ) (Cert.Prompt1RefIdeal.main (F := Ideal))) ⟨m, fun _ => 0, g⟩ (fun r => (∀ c : Dev Cert.Prompt1RefIdeal.nD,
      r.2.mem ((c.tc : Thread Cert.Prompt1RefIdeal.nD Cert.Prompt1RefIdeal.τ).loc Cert.Prompt1RefIdeal.main_arg0) = m ((c.tc : Thread Cert.Prompt1RefIdeal.nD Cert.Prompt1RefIdeal.τ).loc Cert.Prompt1RefIdeal.main_arg0))
      ∧ r.2.sem = fun _ => 0)

def quiescent_Prompt2 [hPrompt2 : Cert.Prompt2.Facts] : Prop :=
  ∀ (m : (ℓ : Loc Cert.Prompt2.nD Cert.Prompt2.τ Cert.Prompt2.sig) → Buf (Elt Bits) ℓ) (g : Dev Cert.Prompt2.nD → PrngReg), Pre_Prompt2 m →
    θ_run (Cert.Prompt2.defs (F := Bits)) (onTc (τ := Cert.Prompt2.τ) (Cert.Prompt2.main (F := Bits))) ⟨m, fun _ => 0, g⟩ (fun r => (∀ c : Dev Cert.Prompt2.nD,
      r.2.mem ((c.tc : Thread Cert.Prompt2.nD Cert.Prompt2.τ).loc Cert.Prompt2.main_arg0) = m ((c.tc : Thread Cert.Prompt2.nD Cert.Prompt2.τ).loc Cert.Prompt2.main_arg0))
      ∧ r.2.sem = fun _ => 0)

def quiescent_Prompt2Ideal [hPrompt2Ideal : Cert.Prompt2Ideal.Facts] : Prop :=
  ∀ (m : (ℓ : Loc Cert.Prompt2Ideal.nD Cert.Prompt2Ideal.τ Cert.Prompt2Ideal.sig) → Buf (Elt Ideal) ℓ) (g : Dev Cert.Prompt2Ideal.nD → PrngReg), Pre_Prompt2Ideal m →
    θ_run (Cert.Prompt2Ideal.defs (F := Ideal)) (onTc (τ := Cert.Prompt2Ideal.τ) (Cert.Prompt2Ideal.main (F := Ideal))) ⟨m, fun _ => 0, g⟩ (fun r => (∀ c : Dev Cert.Prompt2Ideal.nD,
      r.2.mem ((c.tc : Thread Cert.Prompt2Ideal.nD Cert.Prompt2Ideal.τ).loc Cert.Prompt2Ideal.main_arg0) = m ((c.tc : Thread Cert.Prompt2Ideal.nD Cert.Prompt2Ideal.τ).loc Cert.Prompt2Ideal.main_arg0))
      ∧ r.2.sem = fun _ => 0)

def quiescent_Prompt2RefIdeal [hPrompt2RefIdeal : Cert.Prompt2RefIdeal.Facts] : Prop :=
  ∀ (m : (ℓ : Loc Cert.Prompt2RefIdeal.nD Cert.Prompt2RefIdeal.τ Cert.Prompt2RefIdeal.sig) → Buf (Elt Ideal) ℓ) (g : Dev Cert.Prompt2RefIdeal.nD → PrngReg), Pre_Prompt2RefIdeal m →
    θ_run (Cert.Prompt2RefIdeal.defs (F := Ideal)) (onTc (τ := Cert.Prompt2RefIdeal.τ) (Cert.Prompt2RefIdeal.main (F := Ideal))) ⟨m, fun _ => 0, g⟩ (fun r => (∀ c : Dev Cert.Prompt2RefIdeal.nD,
      r.2.mem ((c.tc : Thread Cert.Prompt2RefIdeal.nD Cert.Prompt2RefIdeal.τ).loc Cert.Prompt2RefIdeal.main_arg0) = m ((c.tc : Thread Cert.Prompt2RefIdeal.nD Cert.Prompt2RefIdeal.τ).loc Cert.Prompt2RefIdeal.main_arg0))
      ∧ r.2.sem = fun _ => 0)

def quiescent_Sample0 [hSample0 : Cert.Sample0.Facts] : Prop :=
  ∀ (m : (ℓ : Loc Cert.Sample0.nD Cert.Sample0.τ Cert.Sample0.sig) → Buf (Elt Bits) ℓ) (g : Dev Cert.Sample0.nD → PrngReg), Pre_Sample0 m →
    θ_run (Cert.Sample0.defs (F := Bits)) (onTc (τ := Cert.Sample0.τ) (Cert.Sample0.main (F := Bits))) ⟨m, fun _ => 0, g⟩ (fun r => (∀ c : Dev Cert.Sample0.nD,
      r.2.mem ((c.tc : Thread Cert.Sample0.nD Cert.Sample0.τ).loc Cert.Sample0.main_arg0) = m ((c.tc : Thread Cert.Sample0.nD Cert.Sample0.τ).loc Cert.Sample0.main_arg0)
      ∧ r.2.mem ((c.tc : Thread Cert.Sample0.nD Cert.Sample0.τ).loc Cert.Sample0.main_arg1) = m ((c.tc : Thread Cert.Sample0.nD Cert.Sample0.τ).loc Cert.Sample0.main_arg1))
      ∧ r.2.sem = fun _ => 0)

def quiescent_Sample0Ideal [hSample0Ideal : Cert.Sample0Ideal.Facts] : Prop :=
  ∀ (m : (ℓ : Loc Cert.Sample0Ideal.nD Cert.Sample0Ideal.τ Cert.Sample0Ideal.sig) → Buf (Elt Ideal) ℓ) (g : Dev Cert.Sample0Ideal.nD → PrngReg), Pre_Sample0Ideal m →
    θ_run (Cert.Sample0Ideal.defs (F := Ideal)) (onTc (τ := Cert.Sample0Ideal.τ) (Cert.Sample0Ideal.main (F := Ideal))) ⟨m, fun _ => 0, g⟩ (fun r => (∀ c : Dev Cert.Sample0Ideal.nD,
      r.2.mem ((c.tc : Thread Cert.Sample0Ideal.nD Cert.Sample0Ideal.τ).loc Cert.Sample0Ideal.main_arg0) = m ((c.tc : Thread Cert.Sample0Ideal.nD Cert.Sample0Ideal.τ).loc Cert.Sample0Ideal.main_arg0)
      ∧ r.2.mem ((c.tc : Thread Cert.Sample0Ideal.nD Cert.Sample0Ideal.τ).loc Cert.Sample0Ideal.main_arg1) = m ((c.tc : Thread Cert.Sample0Ideal.nD Cert.Sample0Ideal.τ).loc Cert.Sample0Ideal.main_arg1))
      ∧ r.2.sem = fun _ => 0)

def quiescent_Sample0RefIdeal [hSample0RefIdeal : Cert.Sample0RefIdeal.Facts] : Prop :=
  ∀ (m : (ℓ : Loc Cert.Sample0RefIdeal.nD Cert.Sample0RefIdeal.τ Cert.Sample0RefIdeal.sig) → Buf (Elt Ideal) ℓ) (g : Dev Cert.Sample0RefIdeal.nD → PrngReg), Pre_Sample0RefIdeal m →
    θ_run (Cert.Sample0RefIdeal.defs (F := Ideal)) (onTc (τ := Cert.Sample0RefIdeal.τ) (Cert.Sample0RefIdeal.main (F := Ideal))) ⟨m, fun _ => 0, g⟩ (fun r => (∀ c : Dev Cert.Sample0RefIdeal.nD,
      r.2.mem ((c.tc : Thread Cert.Sample0RefIdeal.nD Cert.Sample0RefIdeal.τ).loc Cert.Sample0RefIdeal.main_arg0) = m ((c.tc : Thread Cert.Sample0RefIdeal.nD Cert.Sample0RefIdeal.τ).loc Cert.Sample0RefIdeal.main_arg0)
      ∧ r.2.mem ((c.tc : Thread Cert.Sample0RefIdeal.nD Cert.Sample0RefIdeal.τ).loc Cert.Sample0RefIdeal.main_arg1) = m ((c.tc : Thread Cert.Sample0RefIdeal.nD Cert.Sample0RefIdeal.τ).loc Cert.Sample0RefIdeal.main_arg1))
      ∧ r.2.sem = fun _ => 0)

def quiescent_Sample1 [hSample1 : Cert.Sample1.Facts] : Prop :=
  ∀ (m : (ℓ : Loc Cert.Sample1.nD Cert.Sample1.τ Cert.Sample1.sig) → Buf (Elt Bits) ℓ) (g : Dev Cert.Sample1.nD → PrngReg), Pre_Sample1 m →
    θ_run (Cert.Sample1.defs (F := Bits)) (onTc (τ := Cert.Sample1.τ) (Cert.Sample1.main (F := Bits))) ⟨m, fun _ => 0, g⟩ (fun r => (∀ c : Dev Cert.Sample1.nD,
      r.2.mem ((c.tc : Thread Cert.Sample1.nD Cert.Sample1.τ).loc Cert.Sample1.main_arg0) = m ((c.tc : Thread Cert.Sample1.nD Cert.Sample1.τ).loc Cert.Sample1.main_arg0)
      ∧ r.2.mem ((c.tc : Thread Cert.Sample1.nD Cert.Sample1.τ).loc Cert.Sample1.main_arg1) = m ((c.tc : Thread Cert.Sample1.nD Cert.Sample1.τ).loc Cert.Sample1.main_arg1))
      ∧ r.2.sem = fun _ => 0)

def quiescent_Sample1Ideal [hSample1Ideal : Cert.Sample1Ideal.Facts] : Prop :=
  ∀ (m : (ℓ : Loc Cert.Sample1Ideal.nD Cert.Sample1Ideal.τ Cert.Sample1Ideal.sig) → Buf (Elt Ideal) ℓ) (g : Dev Cert.Sample1Ideal.nD → PrngReg), Pre_Sample1Ideal m →
    θ_run (Cert.Sample1Ideal.defs (F := Ideal)) (onTc (τ := Cert.Sample1Ideal.τ) (Cert.Sample1Ideal.main (F := Ideal))) ⟨m, fun _ => 0, g⟩ (fun r => (∀ c : Dev Cert.Sample1Ideal.nD,
      r.2.mem ((c.tc : Thread Cert.Sample1Ideal.nD Cert.Sample1Ideal.τ).loc Cert.Sample1Ideal.main_arg0) = m ((c.tc : Thread Cert.Sample1Ideal.nD Cert.Sample1Ideal.τ).loc Cert.Sample1Ideal.main_arg0)
      ∧ r.2.mem ((c.tc : Thread Cert.Sample1Ideal.nD Cert.Sample1Ideal.τ).loc Cert.Sample1Ideal.main_arg1) = m ((c.tc : Thread Cert.Sample1Ideal.nD Cert.Sample1Ideal.τ).loc Cert.Sample1Ideal.main_arg1))
      ∧ r.2.sem = fun _ => 0)

def quiescent_Sample1RefIdeal [hSample1RefIdeal : Cert.Sample1RefIdeal.Facts] : Prop :=
  ∀ (m : (ℓ : Loc Cert.Sample1RefIdeal.nD Cert.Sample1RefIdeal.τ Cert.Sample1RefIdeal.sig) → Buf (Elt Ideal) ℓ) (g : Dev Cert.Sample1RefIdeal.nD → PrngReg), Pre_Sample1RefIdeal m →
    θ_run (Cert.Sample1RefIdeal.defs (F := Ideal)) (onTc (τ := Cert.Sample1RefIdeal.τ) (Cert.Sample1RefIdeal.main (F := Ideal))) ⟨m, fun _ => 0, g⟩ (fun r => (∀ c : Dev Cert.Sample1RefIdeal.nD,
      r.2.mem ((c.tc : Thread Cert.Sample1RefIdeal.nD Cert.Sample1RefIdeal.τ).loc Cert.Sample1RefIdeal.main_arg0) = m ((c.tc : Thread Cert.Sample1RefIdeal.nD Cert.Sample1RefIdeal.τ).loc Cert.Sample1RefIdeal.main_arg0)
      ∧ r.2.mem ((c.tc : Thread Cert.Sample1RefIdeal.nD Cert.Sample1RefIdeal.τ).loc Cert.Sample1RefIdeal.main_arg1) = m ((c.tc : Thread Cert.Sample1RefIdeal.nD Cert.Sample1RefIdeal.τ).loc Cert.Sample1RefIdeal.main_arg1))
      ∧ r.2.sem = fun _ => 0)

def quiescent_Sample2 [hSample2 : Cert.Sample2.Facts] : Prop :=
  ∀ (m : (ℓ : Loc Cert.Sample2.nD Cert.Sample2.τ Cert.Sample2.sig) → Buf (Elt Bits) ℓ) (g : Dev Cert.Sample2.nD → PrngReg), Pre_Sample2 m →
    θ_run (Cert.Sample2.defs (F := Bits)) (onTc (τ := Cert.Sample2.τ) (Cert.Sample2.main (F := Bits))) ⟨m, fun _ => 0, g⟩ (fun r => (∀ c : Dev Cert.Sample2.nD,
      r.2.mem ((c.tc : Thread Cert.Sample2.nD Cert.Sample2.τ).loc Cert.Sample2.main_arg0) = m ((c.tc : Thread Cert.Sample2.nD Cert.Sample2.τ).loc Cert.Sample2.main_arg0)
      ∧ r.2.mem ((c.tc : Thread Cert.Sample2.nD Cert.Sample2.τ).loc Cert.Sample2.main_arg1) = m ((c.tc : Thread Cert.Sample2.nD Cert.Sample2.τ).loc Cert.Sample2.main_arg1))
      ∧ r.2.sem = fun _ => 0)

def quiescent_Sample2Ideal [hSample2Ideal : Cert.Sample2Ideal.Facts] : Prop :=
  ∀ (m : (ℓ : Loc Cert.Sample2Ideal.nD Cert.Sample2Ideal.τ Cert.Sample2Ideal.sig) → Buf (Elt Ideal) ℓ) (g : Dev Cert.Sample2Ideal.nD → PrngReg), Pre_Sample2Ideal m →
    θ_run (Cert.Sample2Ideal.defs (F := Ideal)) (onTc (τ := Cert.Sample2Ideal.τ) (Cert.Sample2Ideal.main (F := Ideal))) ⟨m, fun _ => 0, g⟩ (fun r => (∀ c : Dev Cert.Sample2Ideal.nD,
      r.2.mem ((c.tc : Thread Cert.Sample2Ideal.nD Cert.Sample2Ideal.τ).loc Cert.Sample2Ideal.main_arg0) = m ((c.tc : Thread Cert.Sample2Ideal.nD Cert.Sample2Ideal.τ).loc Cert.Sample2Ideal.main_arg0)
      ∧ r.2.mem ((c.tc : Thread Cert.Sample2Ideal.nD Cert.Sample2Ideal.τ).loc Cert.Sample2Ideal.main_arg1) = m ((c.tc : Thread Cert.Sample2Ideal.nD Cert.Sample2Ideal.τ).loc Cert.Sample2Ideal.main_arg1))
      ∧ r.2.sem = fun _ => 0)

def quiescent_Sample2RefIdeal [hSample2RefIdeal : Cert.Sample2RefIdeal.Facts] : Prop :=
  ∀ (m : (ℓ : Loc Cert.Sample2RefIdeal.nD Cert.Sample2RefIdeal.τ Cert.Sample2RefIdeal.sig) → Buf (Elt Ideal) ℓ) (g : Dev Cert.Sample2RefIdeal.nD → PrngReg), Pre_Sample2RefIdeal m →
    θ_run (Cert.Sample2RefIdeal.defs (F := Ideal)) (onTc (τ := Cert.Sample2RefIdeal.τ) (Cert.Sample2RefIdeal.main (F := Ideal))) ⟨m, fun _ => 0, g⟩ (fun r => (∀ c : Dev Cert.Sample2RefIdeal.nD,
      r.2.mem ((c.tc : Thread Cert.Sample2RefIdeal.nD Cert.Sample2RefIdeal.τ).loc Cert.Sample2RefIdeal.main_arg0) = m ((c.tc : Thread Cert.Sample2RefIdeal.nD Cert.Sample2RefIdeal.τ).loc Cert.Sample2RefIdeal.main_arg0)
      ∧ r.2.mem ((c.tc : Thread Cert.Sample2RefIdeal.nD Cert.Sample2RefIdeal.τ).loc Cert.Sample2RefIdeal.main_arg1) = m ((c.tc : Thread Cert.Sample2RefIdeal.nD Cert.Sample2RefIdeal.τ).loc Cert.Sample2RefIdeal.main_arg1))
      ∧ r.2.sem = fun _ => 0)

def preserves_Kernel_KernelIdeal : Prop :=
  IdealRules.bf16_pair.BufferStatement Cert.KernelIdeal.S8704x128x2x128 Cert.KernelIdeal.S8704x128x1x128
  ∧ IdealRules.bf16_pair.BufferStatement Cert.KernelIdeal.S64x128x2x128 Cert.KernelIdeal.S64x128x1x128
  ∧ IdealRules.bf16_pair.PackStatement Cert.KernelIdeal.S128x128
  ∧ IdealRules.bf16_pair.Statement Cert.KernelIdeal.S1x128x2x128 Cert.KernelIdeal.S1x128x1x128
  ∧ IdealRules.bf16_pair.BufferStatement Cert.KernelIdeal.S512x8x2x128 Cert.KernelIdeal.S512x8x1x128
  ∧ IdealRules.bf16_pair.Statement Cert.KernelIdeal.S128x1x2x128 Cert.KernelIdeal.S128x1x1x128
  ∧ IdealRules.bf16_pair.Statement Cert.KernelIdeal.S256x128 Cert.KernelIdeal.S128x128

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v13)) (v1 : (c : Dev Cert.InprojIdeal.nD) → Buf (Elt Ideal) ((c.tc : Thread Cert.InprojIdeal.nD Cert.InprojIdeal.τ).loc Cert.InprojIdeal.main_v30)) (v2 : (c : Dev Cert.InprojIdeal.nD) → Buf (Elt Ideal) ((c.tc : Thread Cert.InprojIdeal.nD Cert.InprojIdeal.τ).loc Cert.InprojIdeal.main_v18)) (v3 : (c : Dev Cert.InprojIdeal.nD) → Buf (Elt Ideal) ((c.tc : Thread Cert.InprojIdeal.nD Cert.InprojIdeal.τ).loc Cert.InprojIdeal.main_v39)) (v4 : (c : Dev Cert.InprojIdeal.nD) → Buf (Elt Ideal) ((c.tc : Thread Cert.InprojIdeal.nD Cert.InprojIdeal.τ).loc Cert.InprojIdeal.main_v21)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v13) = v0 c
          ∧ r.2.mem ((c.tc : Thread Cert.InprojIdeal.nD Cert.InprojIdeal.τ).loc Cert.InprojIdeal.main_v30) = v1 c
          ∧ r.2.mem ((c.tc : Thread Cert.InprojIdeal.nD Cert.InprojIdeal.τ).loc Cert.InprojIdeal.main_v18) = v2 c
          ∧ r.2.mem ((c.tc : Thread Cert.InprojIdeal.nD Cert.InprojIdeal.τ).loc Cert.InprojIdeal.main_v39) = v3 c
          ∧ r.2.mem ((c.tc : Thread Cert.InprojIdeal.nD Cert.InprojIdeal.τ).loc Cert.InprojIdeal.main_v21) = v4 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v24) = v0 c
          ∧ r.2.mem ((c.tc : Thread Cert.InprojRefIdeal.nD Cert.InprojRefIdeal.τ).loc Cert.InprojRefIdeal.main_v29) = v1 c
          ∧ r.2.mem ((c.tc : Thread Cert.InprojRefIdeal.nD Cert.InprojRefIdeal.τ).loc Cert.InprojRefIdeal.main_v32) = v2 c
          ∧ r.2.mem ((c.tc : Thread Cert.InprojRefIdeal.nD Cert.InprojRefIdeal.τ).loc Cert.InprojRefIdeal.main_v33) = v3 c
          ∧ r.2.mem ((c.tc : Thread Cert.InprojRefIdeal.nD Cert.InprojRefIdeal.τ).loc Cert.InprojRefIdeal.main_v36) = v4 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)
      ∧ m' ((c.tc : Thread Cert.MergeRefIdeal.nD Cert.MergeRefIdeal.τ).loc Cert.MergeRefIdeal.main_arg14) = m ((c.tc : Thread Cert.MergeIdeal.nD Cert.MergeIdeal.τ).loc Cert.MergeIdeal.main_arg14)
      ∧ m' ((c.tc : Thread Cert.MergeRefIdeal.nD Cert.MergeRefIdeal.τ).loc Cert.MergeRefIdeal.main_arg15) = m ((c.tc : Thread Cert.MergeIdeal.nD Cert.MergeIdeal.τ).loc Cert.MergeIdeal.main_arg15)
      ∧ m' ((c.tc : Thread Cert.MergeRefIdeal.nD Cert.MergeRefIdeal.τ).loc Cert.MergeRefIdeal.main_arg16) = m ((c.tc : Thread Cert.MergeIdeal.nD Cert.MergeIdeal.τ).loc Cert.MergeIdeal.main_arg16)
      ∧ m' ((c.tc : Thread Cert.MergeRefIdeal.nD Cert.MergeRefIdeal.τ).loc Cert.MergeRefIdeal.main_arg17) = m ((c.tc : Thread Cert.MergeIdeal.nD Cert.MergeIdeal.τ).loc Cert.MergeIdeal.main_arg17)
      ∧ m' ((c.tc : Thread Cert.MergeRefIdeal.nD Cert.MergeRefIdeal.τ).loc Cert.MergeRefIdeal.main_arg18) = m ((c.tc : Thread Cert.MergeIdeal.nD Cert.MergeIdeal.τ).loc Cert.MergeIdeal.main_arg18)
      ∧ m' ((c.tc : Thread Cert.MergeRefIdeal.nD Cert.MergeRefIdeal.τ).loc Cert.MergeRefIdeal.main_arg19) = m ((c.tc : Thread Cert.MergeIdeal.nD Cert.MergeIdeal.τ).loc Cert.MergeIdeal.main_arg19)
      ∧ m' ((c.tc : Thread Cert.MergeRefIdeal.nD Cert.MergeRefIdeal.τ).loc Cert.MergeRefIdeal.main_arg20) = m ((c.tc : Thread Cert.MergeIdeal.nD Cert.MergeIdeal.τ).loc Cert.MergeIdeal.main_arg20)) →
    ∃ (v0 : (c : Dev Cert.MergeIdeal.nD) → Buf (Elt Ideal) ((c.tc : Thread Cert.MergeIdeal.nD Cert.MergeIdeal.τ).loc Cert.MergeIdeal.main_v24_0)) (v1 : (c : Dev Cert.MergeIdeal.nD) → Buf (Elt Ideal) ((c.tc : Thread Cert.MergeIdeal.nD Cert.MergeIdeal.τ).loc Cert.MergeIdeal.main_v24_1)) (v2 : (c : Dev Cert.MergeIdeal.nD) → Buf (Elt Ideal) ((c.tc : Thread Cert.MergeIdeal.nD Cert.MergeIdeal.τ).loc Cert.MergeIdeal.main_v24_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v24_0) = v0 c
          ∧ r.2.mem ((c.tc : Thread Cert.MergeIdeal.nD Cert.MergeIdeal.τ).loc Cert.MergeIdeal.main_v24_1) = v1 c
          ∧ r.2.mem ((c.tc : Thread Cert.MergeIdeal.nD Cert.MergeIdeal.τ).loc Cert.MergeIdeal.main_v24_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
          ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
          ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16)
          ∧ r.2.mem ((c.tc : Thread Cert.MergeIdeal.nD Cert.MergeIdeal.τ).loc Cert.MergeIdeal.main_arg17) = m ((c.tc : Thread Cert.MergeIdeal.nD Cert.MergeIdeal.τ).loc Cert.MergeIdeal.main_arg17)
          ∧ r.2.mem ((c.tc : Thread Cert.MergeIdeal.nD Cert.MergeIdeal.τ).loc Cert.MergeIdeal.main_arg18) = m ((c.tc : Thread Cert.MergeIdeal.nD Cert.MergeIdeal.τ).loc Cert.MergeIdeal.main_arg18)
          ∧ r.2.mem ((c.tc : Thread Cert.MergeIdeal.nD Cert.MergeIdeal.τ).loc Cert.MergeIdeal.main_arg19) = m ((c.tc : Thread Cert.MergeIdeal.nD Cert.MergeIdeal.τ).loc Cert.MergeIdeal.main_arg19)
          ∧ r.2.mem ((c.tc : Thread Cert.MergeIdeal.nD Cert.MergeIdeal.τ).loc Cert.MergeIdeal.main_arg20) = m ((c.tc : Thread Cert.MergeIdeal.nD Cert.MergeIdeal.τ).loc Cert.MergeIdeal.main_arg20))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v63) = v0 c
          ∧ r.2.mem ((c.tc : Thread Cert.MergeRefIdeal.nD Cert.MergeRefIdeal.τ).loc Cert.MergeRefIdeal.main_v77) = v1 c
          ∧ r.2.mem ((c.tc : Thread Cert.MergeRefIdeal.nD Cert.MergeRefIdeal.τ).loc Cert.MergeRefIdeal.main_v80) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13)
          ∧ r.2.mem ((c.tc : Thread Cert.MergeRefIdeal.nD Cert.MergeRefIdeal.τ).loc Cert.MergeRefIdeal.main_arg14) = m' ((c.tc : Thread Cert.MergeRefIdeal.nD Cert.MergeRefIdeal.τ).loc Cert.MergeRefIdeal.main_arg14)
          ∧ r.2.mem ((c.tc : Thread Cert.MergeRefIdeal.nD Cert.MergeRefIdeal.τ).loc Cert.MergeRefIdeal.main_arg15) = m' ((c.tc : Thread Cert.MergeRefIdeal.nD Cert.MergeRefIdeal.τ).loc Cert.MergeRefIdeal.main_arg15)
          ∧ r.2.mem ((c.tc : Thread Cert.MergeRefIdeal.nD Cert.MergeRefIdeal.τ).loc Cert.MergeRefIdeal.main_arg16) = m' ((c.tc : Thread Cert.MergeRefIdeal.nD Cert.MergeRefIdeal.τ).loc Cert.MergeRefIdeal.main_arg16)
          ∧ r.2.mem ((c.tc : Thread Cert.MergeRefIdeal.nD Cert.MergeRefIdeal.τ).loc Cert.MergeRefIdeal.main_arg17) = m' ((c.tc : Thread Cert.MergeRefIdeal.nD Cert.MergeRefIdeal.τ).loc Cert.MergeRefIdeal.main_arg17)
          ∧ r.2.mem ((c.tc : Thread Cert.MergeRefIdeal.nD Cert.MergeRefIdeal.τ).loc Cert.MergeRefIdeal.main_arg18) = m' ((c.tc : Thread Cert.MergeRefIdeal.nD Cert.MergeRefIdeal.τ).loc Cert.MergeRefIdeal.main_arg18)
          ∧ r.2.mem ((c.tc : Thread Cert.MergeRefIdeal.nD Cert.MergeRefIdeal.τ).loc Cert.MergeRefIdeal.main_arg19) = m' ((c.tc : Thread Cert.MergeRefIdeal.nD Cert.MergeRefIdeal.τ).loc Cert.MergeRefIdeal.main_arg19)
          ∧ r.2.mem ((c.tc : Thread Cert.MergeRefIdeal.nD Cert.MergeRefIdeal.τ).loc Cert.MergeRefIdeal.main_arg20) = m' ((c.tc : Thread Cert.MergeRefIdeal.nD Cert.MergeRefIdeal.τ).loc Cert.MergeRefIdeal.main_arg20))

def preserves_Prompt0_Prompt0Ideal : Prop :=
  True

def algebraic_Prompt0Ideal_Prompt0RefIdeal [hPrompt0Ideal : Cert.Prompt0Ideal.Facts] [hPrompt0RefIdeal : Cert.Prompt0RefIdeal.Facts] : Prop :=
  ∀ (m : (ℓ : Loc Cert.Prompt0Ideal.nD Cert.Prompt0Ideal.τ Cert.Prompt0Ideal.sig) → Buf (Elt Ideal) ℓ) (g : Dev Cert.Prompt0Ideal.nD → PrngReg)
    (m' : (ℓ : Loc Cert.Prompt0RefIdeal.nD Cert.Prompt0RefIdeal.τ Cert.Prompt0RefIdeal.sig) → Buf (Elt Ideal) ℓ) (g' : Dev Cert.Prompt0RefIdeal.nD → PrngReg), Pre_Prompt0Ideal m →
    (∀ c : Dev Cert.Prompt0Ideal.nD,
      m' ((c.tc : Thread Cert.Prompt0RefIdeal.nD Cert.Prompt0RefIdeal.τ).loc Cert.Prompt0RefIdeal.main_arg0) = m ((c.tc : Thread Cert.Prompt0Ideal.nD Cert.Prompt0Ideal.τ).loc Cert.Prompt0Ideal.main_arg0)) →
    ∃ (v0 : (c : Dev Cert.Prompt0Ideal.nD) → Buf (Elt Ideal) ((c.tc : Thread Cert.Prompt0Ideal.nD Cert.Prompt0Ideal.τ).loc Cert.Prompt0Ideal.main_v36)),
      θ_run (Cert.Prompt0Ideal.defs (F := Ideal)) (onTc (τ := Cert.Prompt0Ideal.τ) (Cert.Prompt0Ideal.main (F := Ideal))) ⟨m, fun _ => 0, g⟩ (fun r => ∀ c : Dev Cert.Prompt0Ideal.nD,
          r.2.mem ((c.tc : Thread Cert.Prompt0Ideal.nD Cert.Prompt0Ideal.τ).loc Cert.Prompt0Ideal.main_v36) = v0 c
          ∧ r.2.mem ((c.tc : Thread Cert.Prompt0Ideal.nD Cert.Prompt0Ideal.τ).loc Cert.Prompt0Ideal.main_arg0) = m ((c.tc : Thread Cert.Prompt0Ideal.nD Cert.Prompt0Ideal.τ).loc Cert.Prompt0Ideal.main_arg0))
      ∧ θ_run (Cert.Prompt0RefIdeal.defs (F := Ideal)) (onTc (τ := Cert.Prompt0RefIdeal.τ) (Cert.Prompt0RefIdeal.main (F := Ideal))) ⟨m', fun _ => 0, g'⟩ (fun r => ∀ c : Dev Cert.Prompt0RefIdeal.nD,
          r.2.mem ((c.tc : Thread Cert.Prompt0RefIdeal.nD Cert.Prompt0RefIdeal.τ).loc Cert.Prompt0RefIdeal.main_v37) = v0 c
          ∧ r.2.mem ((c.tc : Thread Cert.Prompt0RefIdeal.nD Cert.Prompt0RefIdeal.τ).loc Cert.Prompt0RefIdeal.main_arg0) = m' ((c.tc : Thread Cert.Prompt0RefIdeal.nD Cert.Prompt0RefIdeal.τ).loc Cert.Prompt0RefIdeal.main_arg0))

def preserves_Prompt1_Prompt1Ideal : Prop :=
  True

def algebraic_Prompt1Ideal_Prompt1RefIdeal [hPrompt1Ideal : Cert.Prompt1Ideal.Facts] [hPrompt1RefIdeal : Cert.Prompt1RefIdeal.Facts] : Prop :=
  ∀ (m : (ℓ : Loc Cert.Prompt1Ideal.nD Cert.Prompt1Ideal.τ Cert.Prompt1Ideal.sig) → Buf (Elt Ideal) ℓ) (g : Dev Cert.Prompt1Ideal.nD → PrngReg)
    (m' : (ℓ : Loc Cert.Prompt1RefIdeal.nD Cert.Prompt1RefIdeal.τ Cert.Prompt1RefIdeal.sig) → Buf (Elt Ideal) ℓ) (g' : Dev Cert.Prompt1RefIdeal.nD → PrngReg), Pre_Prompt1Ideal m →
    (∀ c : Dev Cert.Prompt1Ideal.nD,
      m' ((c.tc : Thread Cert.Prompt1RefIdeal.nD Cert.Prompt1RefIdeal.τ).loc Cert.Prompt1RefIdeal.main_arg0) = m ((c.tc : Thread Cert.Prompt1Ideal.nD Cert.Prompt1Ideal.τ).loc Cert.Prompt1Ideal.main_arg0)) →
    ∃ (v0 : (c : Dev Cert.Prompt1Ideal.nD) → Buf (Elt Ideal) ((c.tc : Thread Cert.Prompt1Ideal.nD Cert.Prompt1Ideal.τ).loc Cert.Prompt1Ideal.main_v43)),
      θ_run (Cert.Prompt1Ideal.defs (F := Ideal)) (onTc (τ := Cert.Prompt1Ideal.τ) (Cert.Prompt1Ideal.main (F := Ideal))) ⟨m, fun _ => 0, g⟩ (fun r => ∀ c : Dev Cert.Prompt1Ideal.nD,
          r.2.mem ((c.tc : Thread Cert.Prompt1Ideal.nD Cert.Prompt1Ideal.τ).loc Cert.Prompt1Ideal.main_v43) = v0 c
          ∧ r.2.mem ((c.tc : Thread Cert.Prompt1Ideal.nD Cert.Prompt1Ideal.τ).loc Cert.Prompt1Ideal.main_arg0) = m ((c.tc : Thread Cert.Prompt1Ideal.nD Cert.Prompt1Ideal.τ).loc Cert.Prompt1Ideal.main_arg0))
      ∧ θ_run (Cert.Prompt1RefIdeal.defs (F := Ideal)) (onTc (τ := Cert.Prompt1RefIdeal.τ) (Cert.Prompt1RefIdeal.main (F := Ideal))) ⟨m', fun _ => 0, g'⟩ (fun r => ∀ c : Dev Cert.Prompt1RefIdeal.nD,
          r.2.mem ((c.tc : Thread Cert.Prompt1RefIdeal.nD Cert.Prompt1RefIdeal.τ).loc Cert.Prompt1RefIdeal.main_v37) = v0 c
          ∧ r.2.mem ((c.tc : Thread Cert.Prompt1RefIdeal.nD Cert.Prompt1RefIdeal.τ).loc Cert.Prompt1RefIdeal.main_arg0) = m' ((c.tc : Thread Cert.Prompt1RefIdeal.nD Cert.Prompt1RefIdeal.τ).loc Cert.Prompt1RefIdeal.main_arg0))

def preserves_Prompt2_Prompt2Ideal : Prop :=
  True

def algebraic_Prompt2Ideal_Prompt2RefIdeal [hPrompt2Ideal : Cert.Prompt2Ideal.Facts] [hPrompt2RefIdeal : Cert.Prompt2RefIdeal.Facts] : Prop :=
  ∀ (m : (ℓ : Loc Cert.Prompt2Ideal.nD Cert.Prompt2Ideal.τ Cert.Prompt2Ideal.sig) → Buf (Elt Ideal) ℓ) (g : Dev Cert.Prompt2Ideal.nD → PrngReg)
    (m' : (ℓ : Loc Cert.Prompt2RefIdeal.nD Cert.Prompt2RefIdeal.τ Cert.Prompt2RefIdeal.sig) → Buf (Elt Ideal) ℓ) (g' : Dev Cert.Prompt2RefIdeal.nD → PrngReg), Pre_Prompt2Ideal m →
    (∀ c : Dev Cert.Prompt2Ideal.nD,
      m' ((c.tc : Thread Cert.Prompt2RefIdeal.nD Cert.Prompt2RefIdeal.τ).loc Cert.Prompt2RefIdeal.main_arg0) = m ((c.tc : Thread Cert.Prompt2Ideal.nD Cert.Prompt2Ideal.τ).loc Cert.Prompt2Ideal.main_arg0)) →
    ∃ (v0 : (c : Dev Cert.Prompt2Ideal.nD) → Buf (Elt Ideal) ((c.tc : Thread Cert.Prompt2Ideal.nD Cert.Prompt2Ideal.τ).loc Cert.Prompt2Ideal.main_v43)),
      θ_run (Cert.Prompt2Ideal.defs (F := Ideal)) (onTc (τ := Cert.Prompt2Ideal.τ) (Cert.Prompt2Ideal.main (F := Ideal))) ⟨m, fun _ => 0, g⟩ (fun r => ∀ c : Dev Cert.Prompt2Ideal.nD,
          r.2.mem ((c.tc : Thread Cert.Prompt2Ideal.nD Cert.Prompt2Ideal.τ).loc Cert.Prompt2Ideal.main_v43) = v0 c
          ∧ r.2.mem ((c.tc : Thread Cert.Prompt2Ideal.nD Cert.Prompt2Ideal.τ).loc Cert.Prompt2Ideal.main_arg0) = m ((c.tc : Thread Cert.Prompt2Ideal.nD Cert.Prompt2Ideal.τ).loc Cert.Prompt2Ideal.main_arg0))
      ∧ θ_run (Cert.Prompt2RefIdeal.defs (F := Ideal)) (onTc (τ := Cert.Prompt2RefIdeal.τ) (Cert.Prompt2RefIdeal.main (F := Ideal))) ⟨m', fun _ => 0, g'⟩ (fun r => ∀ c : Dev Cert.Prompt2RefIdeal.nD,
          r.2.mem ((c.tc : Thread Cert.Prompt2RefIdeal.nD Cert.Prompt2RefIdeal.τ).loc Cert.Prompt2RefIdeal.main_v37) = v0 c
          ∧ r.2.mem ((c.tc : Thread Cert.Prompt2RefIdeal.nD Cert.Prompt2RefIdeal.τ).loc Cert.Prompt2RefIdeal.main_arg0) = m' ((c.tc : Thread Cert.Prompt2RefIdeal.nD Cert.Prompt2RefIdeal.τ).loc Cert.Prompt2RefIdeal.main_arg0))

def preserves_Sample0_Sample0Ideal : Prop :=
  True

def algebraic_Sample0Ideal_Sample0RefIdeal [hSample0Ideal : Cert.Sample0Ideal.Facts] [hSample0RefIdeal : Cert.Sample0RefIdeal.Facts] : Prop :=
  ∀ (m : (ℓ : Loc Cert.Sample0Ideal.nD Cert.Sample0Ideal.τ Cert.Sample0Ideal.sig) → Buf (Elt Ideal) ℓ) (g : Dev Cert.Sample0Ideal.nD → PrngReg)
    (m' : (ℓ : Loc Cert.Sample0RefIdeal.nD Cert.Sample0RefIdeal.τ Cert.Sample0RefIdeal.sig) → Buf (Elt Ideal) ℓ) (g' : Dev Cert.Sample0RefIdeal.nD → PrngReg), Pre_Sample0Ideal m →
    (∀ c : Dev Cert.Sample0Ideal.nD,
      m' ((c.tc : Thread Cert.Sample0RefIdeal.nD Cert.Sample0RefIdeal.τ).loc Cert.Sample0RefIdeal.main_arg0) = m ((c.tc : Thread Cert.Sample0Ideal.nD Cert.Sample0Ideal.τ).loc Cert.Sample0Ideal.main_arg0)
      ∧ m' ((c.tc : Thread Cert.Sample0RefIdeal.nD Cert.Sample0RefIdeal.τ).loc Cert.Sample0RefIdeal.main_arg1) = m ((c.tc : Thread Cert.Sample0Ideal.nD Cert.Sample0Ideal.τ).loc Cert.Sample0Ideal.main_arg1)) →
    ∃ (v0 : (c : Dev Cert.Sample0Ideal.nD) → Buf (Elt Ideal) ((c.tc : Thread Cert.Sample0Ideal.nD Cert.Sample0Ideal.τ).loc Cert.Sample0Ideal.main_v35)),
      θ_run (Cert.Sample0Ideal.defs (F := Ideal)) (onTc (τ := Cert.Sample0Ideal.τ) (Cert.Sample0Ideal.main (F := Ideal))) ⟨m, fun _ => 0, g⟩ (fun r => ∀ c : Dev Cert.Sample0Ideal.nD,
          r.2.mem ((c.tc : Thread Cert.Sample0Ideal.nD Cert.Sample0Ideal.τ).loc Cert.Sample0Ideal.main_v35) = v0 c
          ∧ r.2.mem ((c.tc : Thread Cert.Sample0Ideal.nD Cert.Sample0Ideal.τ).loc Cert.Sample0Ideal.main_arg0) = m ((c.tc : Thread Cert.Sample0Ideal.nD Cert.Sample0Ideal.τ).loc Cert.Sample0Ideal.main_arg0)
          ∧ r.2.mem ((c.tc : Thread Cert.Sample0Ideal.nD Cert.Sample0Ideal.τ).loc Cert.Sample0Ideal.main_arg1) = m ((c.tc : Thread Cert.Sample0Ideal.nD Cert.Sample0Ideal.τ).loc Cert.Sample0Ideal.main_arg1))
      ∧ θ_run (Cert.Sample0RefIdeal.defs (F := Ideal)) (onTc (τ := Cert.Sample0RefIdeal.τ) (Cert.Sample0RefIdeal.main (F := Ideal))) ⟨m', fun _ => 0, g'⟩ (fun r => ∀ c : Dev Cert.Sample0RefIdeal.nD,
          r.2.mem ((c.tc : Thread Cert.Sample0RefIdeal.nD Cert.Sample0RefIdeal.τ).loc Cert.Sample0RefIdeal.main_v40) = v0 c
          ∧ r.2.mem ((c.tc : Thread Cert.Sample0RefIdeal.nD Cert.Sample0RefIdeal.τ).loc Cert.Sample0RefIdeal.main_arg0) = m' ((c.tc : Thread Cert.Sample0RefIdeal.nD Cert.Sample0RefIdeal.τ).loc Cert.Sample0RefIdeal.main_arg0)
          ∧ r.2.mem ((c.tc : Thread Cert.Sample0RefIdeal.nD Cert.Sample0RefIdeal.τ).loc Cert.Sample0RefIdeal.main_arg1) = m' ((c.tc : Thread Cert.Sample0RefIdeal.nD Cert.Sample0RefIdeal.τ).loc Cert.Sample0RefIdeal.main_arg1))

def preserves_Sample1_Sample1Ideal : Prop :=
  True

def algebraic_Sample1Ideal_Sample1RefIdeal [hSample1Ideal : Cert.Sample1Ideal.Facts] [hSample1RefIdeal : Cert.Sample1RefIdeal.Facts] : Prop :=
  ∀ (m : (ℓ : Loc Cert.Sample1Ideal.nD Cert.Sample1Ideal.τ Cert.Sample1Ideal.sig) → Buf (Elt Ideal) ℓ) (g : Dev Cert.Sample1Ideal.nD → PrngReg)
    (m' : (ℓ : Loc Cert.Sample1RefIdeal.nD Cert.Sample1RefIdeal.τ Cert.Sample1RefIdeal.sig) → Buf (Elt Ideal) ℓ) (g' : Dev Cert.Sample1RefIdeal.nD → PrngReg), Pre_Sample1Ideal m →
    (∀ c : Dev Cert.Sample1Ideal.nD,
      m' ((c.tc : Thread Cert.Sample1RefIdeal.nD Cert.Sample1RefIdeal.τ).loc Cert.Sample1RefIdeal.main_arg0) = m ((c.tc : Thread Cert.Sample1Ideal.nD Cert.Sample1Ideal.τ).loc Cert.Sample1Ideal.main_arg0)
      ∧ m' ((c.tc : Thread Cert.Sample1RefIdeal.nD Cert.Sample1RefIdeal.τ).loc Cert.Sample1RefIdeal.main_arg1) = m ((c.tc : Thread Cert.Sample1Ideal.nD Cert.Sample1Ideal.τ).loc Cert.Sample1Ideal.main_arg1)) →
    ∃ (v0 : (c : Dev Cert.Sample1Ideal.nD) → Buf (Elt Ideal) ((c.tc : Thread Cert.Sample1Ideal.nD Cert.Sample1Ideal.τ).loc Cert.Sample1Ideal.main_v35)),
      θ_run (Cert.Sample1Ideal.defs (F := Ideal)) (onTc (τ := Cert.Sample1Ideal.τ) (Cert.Sample1Ideal.main (F := Ideal))) ⟨m, fun _ => 0, g⟩ (fun r => ∀ c : Dev Cert.Sample1Ideal.nD,
          r.2.mem ((c.tc : Thread Cert.Sample1Ideal.nD Cert.Sample1Ideal.τ).loc Cert.Sample1Ideal.main_v35) = v0 c
          ∧ r.2.mem ((c.tc : Thread Cert.Sample1Ideal.nD Cert.Sample1Ideal.τ).loc Cert.Sample1Ideal.main_arg0) = m ((c.tc : Thread Cert.Sample1Ideal.nD Cert.Sample1Ideal.τ).loc Cert.Sample1Ideal.main_arg0)
          ∧ r.2.mem ((c.tc : Thread Cert.Sample1Ideal.nD Cert.Sample1Ideal.τ).loc Cert.Sample1Ideal.main_arg1) = m ((c.tc : Thread Cert.Sample1Ideal.nD Cert.Sample1Ideal.τ).loc Cert.Sample1Ideal.main_arg1))
      ∧ θ_run (Cert.Sample1RefIdeal.defs (F := Ideal)) (onTc (τ := Cert.Sample1RefIdeal.τ) (Cert.Sample1RefIdeal.main (F := Ideal))) ⟨m', fun _ => 0, g'⟩ (fun r => ∀ c : Dev Cert.Sample1RefIdeal.nD,
          r.2.mem ((c.tc : Thread Cert.Sample1RefIdeal.nD Cert.Sample1RefIdeal.τ).loc Cert.Sample1RefIdeal.main_v40) = v0 c
          ∧ r.2.mem ((c.tc : Thread Cert.Sample1RefIdeal.nD Cert.Sample1RefIdeal.τ).loc Cert.Sample1RefIdeal.main_arg0) = m' ((c.tc : Thread Cert.Sample1RefIdeal.nD Cert.Sample1RefIdeal.τ).loc Cert.Sample1RefIdeal.main_arg0)
          ∧ r.2.mem ((c.tc : Thread Cert.Sample1RefIdeal.nD Cert.Sample1RefIdeal.τ).loc Cert.Sample1RefIdeal.main_arg1) = m' ((c.tc : Thread Cert.Sample1RefIdeal.nD Cert.Sample1RefIdeal.τ).loc Cert.Sample1RefIdeal.main_arg1))

def preserves_Sample2_Sample2Ideal : Prop :=
  True

def algebraic_Sample2Ideal_Sample2RefIdeal [hSample2Ideal : Cert.Sample2Ideal.Facts] [hSample2RefIdeal : Cert.Sample2RefIdeal.Facts] : Prop :=
  ∀ (m : (ℓ : Loc Cert.Sample2Ideal.nD Cert.Sample2Ideal.τ Cert.Sample2Ideal.sig) → Buf (Elt Ideal) ℓ) (g : Dev Cert.Sample2Ideal.nD → PrngReg)
    (m' : (ℓ : Loc Cert.Sample2RefIdeal.nD Cert.Sample2RefIdeal.τ Cert.Sample2RefIdeal.sig) → Buf (Elt Ideal) ℓ) (g' : Dev Cert.Sample2RefIdeal.nD → PrngReg), Pre_Sample2Ideal m →
    (∀ c : Dev Cert.Sample2Ideal.nD,
      m' ((c.tc : Thread Cert.Sample2RefIdeal.nD Cert.Sample2RefIdeal.τ).loc Cert.Sample2RefIdeal.main_arg0) = m ((c.tc : Thread Cert.Sample2Ideal.nD Cert.Sample2Ideal.τ).loc Cert.Sample2Ideal.main_arg0)
      ∧ m' ((c.tc : Thread Cert.Sample2RefIdeal.nD Cert.Sample2RefIdeal.τ).loc Cert.Sample2RefIdeal.main_arg1) = m ((c.tc : Thread Cert.Sample2Ideal.nD Cert.Sample2Ideal.τ).loc Cert.Sample2Ideal.main_arg1)) →
    ∃ (v0 : (c : Dev Cert.Sample2Ideal.nD) → Buf (Elt Ideal) ((c.tc : Thread Cert.Sample2Ideal.nD Cert.Sample2Ideal.τ).loc Cert.Sample2Ideal.main_v35)),
      θ_run (Cert.Sample2Ideal.defs (F := Ideal)) (onTc (τ := Cert.Sample2Ideal.τ) (Cert.Sample2Ideal.main (F := Ideal))) ⟨m, fun _ => 0, g⟩ (fun r => ∀ c : Dev Cert.Sample2Ideal.nD,
          r.2.mem ((c.tc : Thread Cert.Sample2Ideal.nD Cert.Sample2Ideal.τ).loc Cert.Sample2Ideal.main_v35) = v0 c
          ∧ r.2.mem ((c.tc : Thread Cert.Sample2Ideal.nD Cert.Sample2Ideal.τ).loc Cert.Sample2Ideal.main_arg0) = m ((c.tc : Thread Cert.Sample2Ideal.nD Cert.Sample2Ideal.τ).loc Cert.Sample2Ideal.main_arg0)
          ∧ r.2.mem ((c.tc : Thread Cert.Sample2Ideal.nD Cert.Sample2Ideal.τ).loc Cert.Sample2Ideal.main_arg1) = m ((c.tc : Thread Cert.Sample2Ideal.nD Cert.Sample2Ideal.τ).loc Cert.Sample2Ideal.main_arg1))
      ∧ θ_run (Cert.Sample2RefIdeal.defs (F := Ideal)) (onTc (τ := Cert.Sample2RefIdeal.τ) (Cert.Sample2RefIdeal.main (F := Ideal))) ⟨m', fun _ => 0, g'⟩ (fun r => ∀ c : Dev Cert.Sample2RefIdeal.nD,
          r.2.mem ((c.tc : Thread Cert.Sample2RefIdeal.nD Cert.Sample2RefIdeal.τ).loc Cert.Sample2RefIdeal.main_v40) = v0 c
          ∧ r.2.mem ((c.tc : Thread Cert.Sample2RefIdeal.nD Cert.Sample2RefIdeal.τ).loc Cert.Sample2RefIdeal.main_arg0) = m' ((c.tc : Thread Cert.Sample2RefIdeal.nD Cert.Sample2RefIdeal.τ).loc Cert.Sample2RefIdeal.main_arg0)
          ∧ r.2.mem ((c.tc : Thread Cert.Sample2RefIdeal.nD Cert.Sample2RefIdeal.τ).loc Cert.Sample2RefIdeal.main_arg1) = m' ((c.tc : Thread Cert.Sample2RefIdeal.nD Cert.Sample2RefIdeal.τ).loc Cert.Sample2RefIdeal.main_arg1))

def Claim : Prop :=
  ∃ (hKernel : Cert.Kernel.Facts) (hKernelIdeal : Cert.KernelIdeal.Facts) (hReferenceIdeal : Cert.ReferenceIdeal.Facts) (hInproj : Cert.Inproj.Facts) (hInprojIdeal : Cert.InprojIdeal.Facts) (hInprojRefIdeal : Cert.InprojRefIdeal.Facts) (hMerge : Cert.Merge.Facts) (hMergeIdeal : Cert.MergeIdeal.Facts) (hMergeRefIdeal : Cert.MergeRefIdeal.Facts) (hPrompt0 : Cert.Prompt0.Facts) (hPrompt0Ideal : Cert.Prompt0Ideal.Facts) (hPrompt0RefIdeal : Cert.Prompt0RefIdeal.Facts) (hPrompt1 : Cert.Prompt1.Facts) (hPrompt1Ideal : Cert.Prompt1Ideal.Facts) (hPrompt1RefIdeal : Cert.Prompt1RefIdeal.Facts) (hPrompt2 : Cert.Prompt2.Facts) (hPrompt2Ideal : Cert.Prompt2Ideal.Facts) (hPrompt2RefIdeal : Cert.Prompt2RefIdeal.Facts) (hSample0 : Cert.Sample0.Facts) (hSample0Ideal : Cert.Sample0Ideal.Facts) (hSample0RefIdeal : Cert.Sample0RefIdeal.Facts) (hSample1 : Cert.Sample1.Facts) (hSample1Ideal : Cert.Sample1Ideal.Facts) (hSample1RefIdeal : Cert.Sample1RefIdeal.Facts) (hSample2 : Cert.Sample2.Facts) (hSample2Ideal : Cert.Sample2Ideal.Facts) (hSample2RefIdeal : Cert.Sample2RefIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ quiescent_Inproj (hInproj := hInproj)
    ∧ quiescent_InprojIdeal (hInprojIdeal := hInprojIdeal)
    ∧ quiescent_InprojRefIdeal (hInprojRefIdeal := hInprojRefIdeal)
    ∧ quiescent_Merge (hMerge := hMerge)
    ∧ quiescent_MergeIdeal (hMergeIdeal := hMergeIdeal)
    ∧ quiescent_MergeRefIdeal (hMergeRefIdeal := hMergeRefIdeal)
    ∧ quiescent_Prompt0 (hPrompt0 := hPrompt0)
    ∧ quiescent_Prompt0Ideal (hPrompt0Ideal := hPrompt0Ideal)
    ∧ quiescent_Prompt0RefIdeal (hPrompt0RefIdeal := hPrompt0RefIdeal)
    ∧ quiescent_Prompt1 (hPrompt1 := hPrompt1)
    ∧ quiescent_Prompt1Ideal (hPrompt1Ideal := hPrompt1Ideal)
    ∧ quiescent_Prompt1RefIdeal (hPrompt1RefIdeal := hPrompt1RefIdeal)
    ∧ quiescent_Prompt2 (hPrompt2 := hPrompt2)
    ∧ quiescent_Prompt2Ideal (hPrompt2Ideal := hPrompt2Ideal)
    ∧ quiescent_Prompt2RefIdeal (hPrompt2RefIdeal := hPrompt2RefIdeal)
    ∧ quiescent_Sample0 (hSample0 := hSample0)
    ∧ quiescent_Sample0Ideal (hSample0Ideal := hSample0Ideal)
    ∧ quiescent_Sample0RefIdeal (hSample0RefIdeal := hSample0RefIdeal)
    ∧ quiescent_Sample1 (hSample1 := hSample1)
    ∧ quiescent_Sample1Ideal (hSample1Ideal := hSample1Ideal)
    ∧ quiescent_Sample1RefIdeal (hSample1RefIdeal := hSample1RefIdeal)
    ∧ quiescent_Sample2 (hSample2 := hSample2)
    ∧ quiescent_Sample2Ideal (hSample2Ideal := hSample2Ideal)
    ∧ quiescent_Sample2RefIdeal (hSample2RefIdeal := hSample2RefIdeal)
    ∧ preserves_Kernel_KernelIdeal
    ∧ algebraic_KernelIdeal_ReferenceIdeal_pre_tame (hKernelIdeal := hKernelIdeal) (hReferenceIdeal := hReferenceIdeal) (hPre_tame := hPre_tame)
    ∧ preserves_Inproj_InprojIdeal
    ∧ algebraic_InprojIdeal_InprojRefIdeal (hInprojIdeal := hInprojIdeal) (hInprojRefIdeal := hInprojRefIdeal)
    ∧ preserves_Merge_MergeIdeal
    ∧ algebraic_MergeIdeal_MergeRefIdeal (hMergeIdeal := hMergeIdeal) (hMergeRefIdeal := hMergeRefIdeal)
    ∧ preserves_Prompt0_Prompt0Ideal
    ∧ algebraic_Prompt0Ideal_Prompt0RefIdeal (hPrompt0Ideal := hPrompt0Ideal) (hPrompt0RefIdeal := hPrompt0RefIdeal)
    ∧ preserves_Prompt1_Prompt1Ideal
    ∧ algebraic_Prompt1Ideal_Prompt1RefIdeal (hPrompt1Ideal := hPrompt1Ideal) (hPrompt1RefIdeal := hPrompt1RefIdeal)
    ∧ preserves_Prompt2_Prompt2Ideal
    ∧ algebraic_Prompt2Ideal_Prompt2RefIdeal (hPrompt2Ideal := hPrompt2Ideal) (hPrompt2RefIdeal := hPrompt2RefIdeal)
    ∧ preserves_Sample0_Sample0Ideal
    ∧ algebraic_Sample0Ideal_Sample0RefIdeal (hSample0Ideal := hSample0Ideal) (hSample0RefIdeal := hSample0RefIdeal)
    ∧ preserves_Sample1_Sample1Ideal
    ∧ algebraic_Sample1Ideal_Sample1RefIdeal (hSample1Ideal := hSample1Ideal) (hSample1RefIdeal := hSample1RefIdeal)
    ∧ preserves_Sample2_Sample2Ideal
    ∧ algebraic_Sample2Ideal_Sample2RefIdeal (hSample2Ideal := hSample2Ideal) (hSample2RefIdeal := hSample2RefIdeal)
-- ==== Pre_tame.lean ====
abbrev S8704x128x128 : Shape := ⟨3, ![8704, 128, 128]⟩
abbrev S17408x128 : Shape := ⟨2, ![17408, 128]⟩
abbrev S17408x1024 : Shape := ⟨2, ![17408, 1024]⟩
abbrev S16384x1024 : Shape := ⟨2, ![16384, 1024]⟩
abbrev S1024 : Shape := ⟨1, ![1024]⟩
abbrev S8704x128x128x2 : Shape := ⟨4, ![8704, 128, 128, 2]⟩
abbrev S_ : Shape := ⟨0, ![]⟩

class Facts : Prop where
  splits_S8704x128x128_w32_S8704x128x128x2_w16 : S8704x128x128.SplitsWords 32 S8704x128x128x2 16
  bitsLt_bf16_f32 : FTy.bits .bf16 < FTy.bits .f32
  bcast_S_S8704x128x128x2 : S_.BroadcastsInDim S8704x128x128x2 (![] : Fin 0 → Fin S8704x128x128x2.rank)
  reducesTo_S8704x128x128x2_S_d0_1_2_3 : S8704x128x128x2.ReducesTo [0, 1, 2, 3] S_
  h_S_ : 0 < S_.numel
  bcast_S_S17408x128 : S_.BroadcastsInDim S17408x128 (![] : Fin 0 → Fin S17408x128.rank)
  reducesTo_S17408x128_S_d0_1 : S17408x128.ReducesTo [0, 1] S_
  bcast_S_S16384x1024 : S_.BroadcastsInDim S16384x1024 (![] : Fin 0 → Fin S16384x1024.rank)
  reducesTo_S16384x1024_S_d0_1 : S16384x1024.ReducesTo [0, 1] S_

variable [Facts]

def fn_part1 {F : FTy → Type} [FloatOps F] (main_arg1 : IVec S17408x128 32) (main_arg2 : IVec S17408x128 32) (main_v15 : IVec S_ 1) (main_v16 : IVec S17408x128 32) : IVec S_ 1 :=
  let main_v17 : IVec S17408x128 1 := cmpi .sge main_arg1 main_v16
  let main_c_5 : IVec S_ 1 := constantI S_ 1 1#1
  let main_v18 : IVec S_ 1 := (fun x v => Host.reduce IntOp.andi x v reducesTo_S17408x128_S_d0_1 h_S_) main_v17 main_c_5
  let main_c_6 : IVec S_ 32 := constantI S_ 32 128#32
  let main_v19 : IVec S17408x128 32 := broadcastInDim S17408x128 ![] bcast_S_S17408x128 main_c_6
  let main_v20 : IVec S17408x128 1 := cmpi .slt main_arg1 main_v19
  let main_c_7 : IVec S_ 1 := constantI S_ 1 1#1
  let main_v21 : IVec S_ 1 := (fun x v => Host.reduce IntOp.andi x v reducesTo_S17408x128_S_d0_1 h_S_) main_v20 main_c_7
  let main_v22 : IVec S_ 1 := andi main_v18 main_v21
  let main_c_8 : IVec S_ 32 := constantI S_ 32 0#32
  let main_v23 : IVec S17408x128 32 := broadcastInDim S17408x128 ![] bcast_S_S17408x128 main_c_8
  let main_v24 : IVec S17408x128 1 := cmpi .sge main_arg2 main_v23
  let main_c_9 : IVec S_ 1 := constantI S_ 1 1#1
  let main_v25 : IVec S_ 1 := (fun x v => Host.reduce IntOp.andi x v reducesTo_S17408x128_S_d0_1 h_S_) main_v24 main_c_9
  let main_v26 : IVec S_ 1 := andi main_v22 main_v25
  let main_c_10 : IVec S_ 32 := constantI S_ 32 128#32
  let main_v27 : IVec S17408x128 32 := broadcastInDim S17408x128 ![] bcast_S_S17408x128 main_c_10
  let main_v28 : IVec S17408x128 1 := cmpi .slt main_arg2 main_v27
  let main_c_11 : IVec S_ 1 := constantI S_ 1 1#1
  let main_v29 : IVec S_ 1 := (fun x v => Host.reduce IntOp.andi x v reducesTo_S17408x128_S_d0_1 h_S_) main_v28 main_c_11
  let main_v30 : IVec S_ 1 := andi main_v26 main_v29
  let main_v31 : IVec S_ 1 := andi main_v15 main_v30
  main_v31

def fn {F : FTy → Type} [FloatOps F] (main_arg0 : IVec S8704x128x128 32) (main_arg1 : IVec S17408x128 32) (main_arg2 : IVec S17408x128 32) (main_arg3 : FVec F S17408x128 .f32) (main_arg4 : FVec F S17408x1024 .f32) (main_arg5 : FVec F S16384x1024 .f32) (main_arg6 : FVec F S1024 .f32) : IVec S_ 1 :=
  let main_v0 : FVec F S8704x128x128x2 .bf16 := (fun x => bitcastToFloat .bf16 (Host.bitcastConvertNarrow S8704x128x128x2 16 x splits_S8704x128x128_w32_S8704x128x128x2_w16)) main_arg0
  let main_v1 : FVec F S8704x128x128x2 .f32 := (extf .f32 · bitsLt_bf16_f32) main_v0
  let main_v2 : FVec F S8704x128x128x2 .f32 := Host.absf main_v1
  let main_cst : FVec F S_ .f32 := constant S_ .f32 0x7F800000#32
  let main_v3 : FVec F S8704x128x128x2 .f32 := broadcastInDim S8704x128x128x2 ![] bcast_S_S8704x128x128x2 main_cst
  let main_v4 : IVec S8704x128x128x2 1 := cmpf .olt main_v2 main_v3
  let main_c : IVec S_ 1 := constantI S_ 1 1#1
  let main_v5 : IVec S_ 1 := (fun x v => Host.reduce IntOp.andi x v reducesTo_S8704x128x128x2_S_d0_1_2_3 h_S_) main_v4 main_c
  let main_v6 : FVec F S17408x128 .f32 := Host.absf main_arg3
  let main_cst_0 : FVec F S_ .f32 := constant S_ .f32 0x7F800000#32
  let main_v7 : FVec F S17408x128 .f32 := broadcastInDim S17408x128 ![] bcast_S_S17408x128 main_cst_0
  let main_v8 : IVec S17408x128 1 := cmpf .olt main_v6 main_v7
  let main_c_1 : IVec S_ 1 := constantI S_ 1 1#1
  let main_v9 : IVec S_ 1 := (fun x v => Host.reduce IntOp.andi x v reducesTo_S17408x128_S_d0_1 h_S_) main_v8 main_c_1
  let main_v10 : IVec S_ 1 := andi main_v5 main_v9
  let main_v11 : FVec F S16384x1024 .f32 := Host.absf main_arg5
  let main_cst_2 : FVec F S_ .f32 := constant S_ .f32 0x7F800000#32
  let main_v12 : FVec F S16384x1024 .f32 := broadcastInDim S16384x1024 ![] bcast_S_S16384x1024 main_cst_2
  let main_v13 : IVec S16384x1024 1 := cmpf .olt main_v11 main_v12
  let main_c_3 : IVec S_ 1 := constantI S_ 1 1#1
  let main_v14 : IVec S_ 1 := (fun x v => Host.reduce IntOp.andi x v reducesTo_S16384x1024_S_d0_1 h_S_) main_v13 main_c_3
  let main_v15 : IVec S_ 1 := andi main_v10 main_v14
  let main_c_4 : IVec S_ 32 := constantI S_ 32 0#32
  let main_v16 : IVec S17408x128 32 := broadcastInDim S17408x128 ![] bcast_S_S17408x128 main_c_4
  fn_part1 (F := F) main_arg1 main_arg2 main_v15 main_v16
-- ==== Kernel.lean ====
abbrev S8704x128x128 : Shape := ⟨3, ![8704, 128, 128]⟩
abbrev S17408x128 : Shape := ⟨2, ![17408, 128]⟩
abbrev S17408x1024 : Shape := ⟨2, ![17408, 1024]⟩
abbrev S16384x1024 : Shape := ⟨2, ![16384, 1024]⟩
abbrev S1024 : Shape := ⟨1, ![1024]⟩
abbrev S64x128x128 : Shape := ⟨3, ![64, 128, 128]⟩
abbrev S128x128 : Shape := ⟨2, ![128, 128]⟩
abbrev S1x128 : Shape := ⟨2, ![1, 128]⟩
abbrev S1x128x128 : Shape := ⟨3, ![1, 128, 128]⟩
abbrev S128 : Shape := ⟨1, ![128]⟩
abbrev S1x1024 : Shape := ⟨2, ![1, 1024]⟩
abbrev S512x8x128 : Shape := ⟨3, ![512, 8, 128]⟩
abbrev S1024x1024 : Shape := ⟨2, ![1024, 1024]⟩
abbrev S128x1x128 : Shape := ⟨3, ![128, 1, 128]⟩
abbrev S256x128 : Shape := ⟨2, ![256, 128]⟩
abbrev S256x1024 : Shape := ⟨2, ![256, 1024]⟩
abbrev S1024x1 : Shape := ⟨2, ![1024, 1]⟩

abbrev nBuf : Space → Nat
  | .hbm => 11
  | .vmem => 20
  | .smem => 0
  | _ => 0

abbrev bufTy : (tb : Table) → Fin (tcTables nBuf tb) → BufTy
  | .hbm, ⟨0, _⟩ => ⟨S8704x128x128, .i32⟩
  | .hbm, ⟨1, _⟩ => ⟨S17408x128, .i32⟩
  | .hbm, ⟨2, _⟩ => ⟨S17408x128, .i32⟩
  | .hbm, ⟨3, _⟩ => ⟨S17408x128, .f32⟩
  | .hbm, ⟨4, _⟩ => ⟨S17408x1024, .f32⟩
  | .hbm, ⟨5, _⟩ => ⟨S16384x1024, .f32⟩
  | .hbm, ⟨6, _⟩ => ⟨S1024, .f32⟩
  | .hbm, ⟨7, _⟩ => ⟨S8704x128x128, .i32⟩
  | .hbm, ⟨8, _⟩ => ⟨S16384x1024, .bf16⟩
  | .hbm, ⟨9, _⟩ => ⟨S1x1024, .f32⟩
  | .hbm, ⟨10, _⟩ => ⟨S17408x1024, .f32⟩
  | .local _ .vmem, ⟨0, _⟩ => ⟨S64x128x128, .i32⟩
  | .local _ .vmem, ⟨1, _⟩ => ⟨S64x128x128, .i32⟩
  | .local _ .vmem, ⟨2, _⟩ => ⟨S128x128, .i32⟩
  | .local _ .vmem, ⟨3, _⟩ => ⟨S128x128, .i32⟩
  | .local _ .vmem, ⟨4, _⟩ => ⟨S128x128, .i32⟩
  | .local _ .vmem, ⟨5, _⟩ => ⟨S128x128, .i32⟩
  | .local _ .vmem, ⟨6, _⟩ => ⟨S128x128, .f32⟩
  | .local _ .vmem, ⟨7, _⟩ => ⟨S128x128, .f32⟩
  | .local _ .vmem, ⟨8, _⟩ => ⟨S64x128x128, .i32⟩
  | .local _ .vmem, ⟨9, _⟩ => ⟨S64x128x128, .i32⟩
  | .local _ .vmem, ⟨10, _⟩ => ⟨S512x8x128, .i32⟩
  | .local _ .vmem, ⟨11, _⟩ => ⟨S512x8x128, .i32⟩
  | .local _ .vmem, ⟨12, _⟩ => ⟨S1024x1024, .bf16⟩
  | .local _ .vmem, ⟨13, _⟩ => ⟨S1024x1024, .bf16⟩
  | .local _ .vmem, ⟨14, _⟩ => ⟨S1024x1024, .f32⟩
  | .local _ .vmem, ⟨15, _⟩ => ⟨S1024x1024, .f32⟩
  | .local _ .vmem, ⟨16, _⟩ => ⟨S1x1024, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .f32⟩
  | _, _ => ⟨S8704x128x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem4_1 : DmaSem sig := 18

abbrev nD : Nat := 1
abbrev τ : Topo := Topo.v7x

variable {F : FTy → Type} [BitOps F]

abbrev grid0 : Pipeline.Grid := ⟨1, ![136], ![false]⟩

@[reducible] def k0_t1_loop : Scf.Loop 32 :=
  let c0_i32 : BitVec 32 := 0#32
  let c8_i32 : BitVec 32 := 8#32
  let v1 : BitVec 32 := Scalar.addi c0_i32 c8_i32
  let c1_i32 : BitVec 32 := 1#32
  ⟨c0_i32, v1, c1_i32⟩
def k0_off1 (k0_t1 : Fin k0_t1_loop.trips) (c0_i32_2 : BitVec 32) (c0_i32_12 : BitVec 32) : Fin 2 → Nat :=
  let c2_i32_11 : BitVec 32 := 2#32
  let c0_i32 : BitVec 32 := 0#32
  let c1_i32 : BitVec 32 := 1#32
  let arg6 : BitVec 32 := Scf.iv c0_i32 c1_i32 k0_t1
  let c8_i32_1 : BitVec 32 := 8#32
  let v2 : BitVec 32 := Scalar.muli arg6 c8_i32_1
  let v3 : BitVec 32 := Scalar.addi v2 c0_i32_2
  let v18 : BitVec 32 := Scalar.muli c2_i32_11 v3
  let v19 : BitVec 32 := Scalar.addi v18 c0_i32_12
  let v50 : Index := Scalar.indexCast v19
  let c0 : Index := 0#32
  ![v50.toNat, 0]
def k0_off2 (k0_t1 : Fin k0_t1_loop.trips) (c0_i32_2 : BitVec 32) : Fin 3 → Nat :=
  let c0_i32 : BitVec 32 := 0#32
  let c1_i32 : BitVec 32 := 1#32
  let arg6 : BitVec 32 := Scf.iv c0_i32 c1_i32 k0_t1
  let c8_i32_1 : BitVec 32 := 8#32
  let v2 : BitVec 32 := Scalar.muli arg6 c8_i32_1
  let v3 : BitVec 32 := Scalar.addi v2 c0_i32_2
  let v242 : Index := Scalar.indexCast v3
  let c0_105 : Index := 0#32
  let c0_106 : Index := 0#32
  ![v242.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x128x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x128x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![17, 16], ![false, false]⟩

def k1_cond2 (i : grid1.Coords) : BitVec 1 :=
  let arg1 : BitVec 32 := BitVec.ofNat 32 (i 1).val
  let c15_i32 : BitVec 32 := 15#32
  let v135 : BitVec 1 := Scalar.cmpi .eq arg1 c15_i32
  let v136 : BitVec 32 := Scalar.extui v135
  let c0_i32_111 : BitVec 32 := 0#32
  let v137 : BitVec 1 := Scalar.cmpi .ne v136 c0_i32_111
  v137

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x8x128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]
-- ==== KernelIdeal.lean ====
abbrev S8704x128x128 : Shape := ⟨3, ![8704, 128, 128]⟩
abbrev S17408x128 : Shape := ⟨2, ![17408, 128]⟩
abbrev S17408x1024 : Shape := ⟨2, ![17408, 1024]⟩
abbrev S16384x1024 : Shape := ⟨2, ![16384, 1024]⟩
abbrev S1024 : Shape := ⟨1, ![1024]⟩
abbrev S8704x128x2x128 : Shape := ⟨4, ![8704, 128, 2, 128]⟩
abbrev S8704x128x1x128 : Shape := ⟨4, ![8704, 128, 1, 128]⟩
abbrev S64x128x128 : Shape := ⟨3, ![64, 128, 128]⟩
abbrev S128x128 : Shape := ⟨2, ![128, 128]⟩
abbrev S64x128x2x128 : Shape := ⟨4, ![64, 128, 2, 128]⟩
abbrev S64x128x1x128 : Shape := ⟨4, ![64, 128, 1, 128]⟩
abbrev S1x128 : Shape := ⟨2, ![1, 128]⟩
abbrev S1x128x128 : Shape := ⟨3, ![1, 128, 128]⟩
abbrev S128 : Shape := ⟨1, ![128]⟩
abbrev S1x128x2x128 : Shape := ⟨4, ![1, 128, 2, 128]⟩
abbrev S1x128x1x128 : Shape := ⟨4, ![1, 128, 1, 128]⟩
abbrev S1x1024 : Shape := ⟨2, ![1, 1024]⟩
abbrev S512x8x128 : Shape := ⟨3, ![512, 8, 128]⟩
abbrev S512x8x2x128 : Shape := ⟨4, ![512, 8, 2, 128]⟩
abbrev S512x8x1x128 : Shape := ⟨4, ![512, 8, 1, 128]⟩
abbrev S1024x1024 : Shape := ⟨2, ![1024, 1024]⟩
abbrev S128x1x128 : Shape := ⟨3, ![128, 1, 128]⟩
abbrev S128x1x2x128 : Shape := ⟨4, ![128, 1, 2, 128]⟩
abbrev S128x1x1x128 : Shape := ⟨4, ![128, 1, 1, 128]⟩
abbrev S256x128 : Shape := ⟨2, ![256, 128]⟩
abbrev S256x1024 : Shape := ⟨2, ![256, 1024]⟩
abbrev S1024x1 : Shape := ⟨2, ![1024, 1]⟩

abbrev nBuf : Space → Nat
  | .hbm => 11
  | .vmem => 20
  | .smem => 0
  | _ => 0

abbrev bufTy : (tb : Table) → Fin (tcTables nBuf tb) → BufTy
  | .hbm, ⟨0, _⟩ => ⟨S8704x128x128, .i32⟩
  | .hbm, ⟨1, _⟩ => ⟨S17408x128, .i32⟩
  | .hbm, ⟨2, _⟩ => ⟨S17408x128, .i32⟩
  | .hbm, ⟨3, _⟩ => ⟨S17408x128, .f32⟩
  | .hbm, ⟨4, _⟩ => ⟨S17408x1024, .f32⟩
  | .hbm, ⟨5, _⟩ => ⟨S16384x1024, .f32⟩
  | .hbm, ⟨6, _⟩ => ⟨S1024, .f32⟩
  | .hbm, ⟨7, _⟩ => ⟨S8704x128x2x128, .bf16⟩
  | .hbm, ⟨8, _⟩ => ⟨S16384x1024, .bf16⟩
  | .hbm, ⟨9, _⟩ => ⟨S1x1024, .f32⟩
  | .hbm, ⟨10, _⟩ => ⟨S17408x1024, .f32⟩
  | .local _ .vmem, ⟨0, _⟩ => ⟨S64x128x128, .i32⟩
  | .local _ .vmem, ⟨1, _⟩ => ⟨S64x128x128, .i32⟩
  | .local _ .vmem, ⟨2, _⟩ => ⟨S128x128, .i32⟩
  | .local _ .vmem, ⟨3, _⟩ => ⟨S128x128, .i32⟩
  | .local _ .vmem, ⟨4, _⟩ => ⟨S128x128, .i32⟩
  | .local _ .vmem, ⟨5, _⟩ => ⟨S128x128, .i32⟩
  | .local _ .vmem, ⟨6, _⟩ => ⟨S128x128, .f32⟩
  | .local _ .vmem, ⟨7, _⟩ => ⟨S128x128, .f32⟩
  | .local _ .vmem, ⟨8, _⟩ => ⟨S64x128x2x128, .bf16⟩
  | .local _ .vmem, ⟨9, _⟩ => ⟨S64x128x2x128, .bf16⟩
  | .local _ .vmem, ⟨10, _⟩ => ⟨S512x8x2x128, .bf16⟩
  | .local _ .vmem, ⟨11, _⟩ => ⟨S512x8x2x128, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .f32⟩
  | .local _ .vmem, ⟨15, _⟩ => ⟨S1024x1024, .f32⟩
  | .local _ .vmem, ⟨16, _⟩ => ⟨S1x1024, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .f32⟩
  | _, _ => ⟨S8704x128x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨1, ![136], ![false]⟩

@[reducible] def k0_t1_loop : Scf.Loop 32 :=
  let c0_i32 : BitVec 32 := 0#32
  let c8_i32 : BitVec 32 := 8#32
  let v1 : BitVec 32 := Scalar.addi c0_i32 c8_i32
  let c1_i32 : BitVec 32 := 1#32
  ⟨c0_i32, v1, c1_i32⟩
def k0_off1 (k0_t1 : Fin k0_t1_loop.trips) (c0_i32_2 : BitVec 32) (c0_i32_12 : BitVec 32) : Fin 2 → Nat :=
  let c2_i32_11 : BitVec 32 := 2#32
  let c0_i32 : BitVec 32 := 0#32
  let c1_i32 : BitVec 32 := 1#32
  let arg6 : BitVec 32 := Scf.iv c0_i32 c1_i32 k0_t1
  let c8_i32_1 : BitVec 32 := 8#32
  let v2 : BitVec 32 := Scalar.muli arg6 c8_i32_1
  let v3 : BitVec 32 := Scalar.addi v2 c0_i32_2
  let v18 : BitVec 32 := Scalar.muli c2_i32_11 v3
  let v19 : BitVec 32 := Scalar.addi v18 c0_i32_12
  let v50 : Index := Scalar.indexCast v19
  let c0 : Index := 0#32
  ![v50.toNat, 0]
def k0_off2 (k0_t1 : Fin k0_t1_loop.trips) (c0_i32_2 : BitVec 32) : Fin 3 → Nat :=
  let c0_i32 : BitVec 32 := 0#32
  let c1_i32 : BitVec 32 := 1#32
  let arg6 : BitVec 32 := Scf.iv c0_i32 c1_i32 k0_t1
  let c8_i32_1 : BitVec 32 := 8#32
  let v2 : BitVec 32 := Scalar.muli arg6 c8_i32_1
  let v3 : BitVec 32 := Scalar.addi v2 c0_i32_2
  let v242 : Index := Scalar.indexCast v3
  let c0_105 : Index := 0#32
  let c0_106 : Index := 0#32
  ![v242.toNat, 0, 0]
def k0_off3 (k0_t1 : Fin k0_t1_loop.trips) (c0_i32_2 : BitVec 32) : Fin 4 → Nat :=
  let c0_i32 : BitVec 32 := 0#32
  let c1_i32 : BitVec 32 := 1#32
  let arg6 : BitVec 32 := Scf.iv c0_i32 c1_i32 k0_t1
  let c8_i32_1 : BitVec 32 := 8#32
  let v2 : BitVec 32 := Scalar.muli arg6 c8_i32_1
  let v3 : BitVec 32 := Scalar.addi v2 c0_i32_2
  let v413 : Index := Scalar.indexCast v3
  let c0_181 : Index := 0#32
  let c0_182 : Index := 0#32
  ![v413.toNat, 0, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, 0, c0_i32_0.toNat]

abbrev stage0_0 : Fin 2 → Memref sig .tc .vmem S64x128x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x128x2x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![17, 16], ![false, false]⟩

def k1_cond2 (i : grid1.Coords) : BitVec 1 :=
  let arg1 : BitVec 32 := BitVec.ofNat 32 (i 1).val
  let c15_i32 : BitVec 32 := 15#32
  let v135 : BitVec 1 := Scalar.cmpi .eq arg1 c15_i32
  let v136 : BitVec 32 := Scalar.extui v135
  let c0_i32_111 : BitVec 32 := 0#32
  let v137 : BitVec 1 := Scalar.cmpi .ne v136 c0_i32_111
  v137

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, 0, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x8x2x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]
-- ==== ReferenceIdeal.lean ====
abbrev S8704x128x128 : Shape := ⟨3, ![8704, 128, 128]⟩
abbrev S17408x128 : Shape := ⟨2, ![17408, 128]⟩
abbrev S17408x1024 : Shape := ⟨2, ![17408, 1024]⟩
abbrev S16384x1024 : Shape := ⟨2, ![16384, 1024]⟩
abbrev S1024 : Shape := ⟨1, ![1024]⟩
abbrev S8704x128x128x2 : Shape := ⟨4, ![8704, 128, 128, 2]⟩
abbrev S8704x2x128x128 : Shape := ⟨4, ![8704, 2, 128, 128]⟩
abbrev S17408x16384 : Shape := ⟨2, ![17408, 16384]⟩
abbrev S_ : Shape := ⟨0, ![]⟩
abbrev S17408x128x1 : Shape := ⟨3, ![17408, 128, 1]⟩
abbrev S17408x128x1024 : Shape := ⟨3, ![17408, 128, 1024]⟩
abbrev S17408 : Shape := ⟨1, ![17408]⟩
abbrev S17408x1 : Shape := ⟨2, ![17408, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8704x128x128, .i32⟩
  | .hbm, ⟨1, _⟩ => ⟨S17408x128, .i32⟩
  | .hbm, ⟨2, _⟩ => ⟨S17408x128, .i32⟩
  | .hbm, ⟨3, _⟩ => ⟨S17408x128, .f32⟩
  | .hbm, ⟨4, _⟩ => ⟨S17408x1024, .f32⟩
  | .hbm, ⟨5, _⟩ => ⟨S16384x1024, .f32⟩
  | .hbm, ⟨6, _⟩ => ⟨S1024, .f32⟩
  | .hbm, ⟨7, _⟩ => ⟨S8704x128x128x2, .bf16⟩
  | .hbm, ⟨8, _⟩ => ⟨S8704x128x128x2, .f32⟩
  | .hbm, ⟨9, _⟩ => ⟨S8704x2x128x128, .f32⟩
  | .hbm, ⟨10, _⟩ => ⟨S17408x16384, .f32⟩
  | .hbm, ⟨11, _⟩ => ⟨S_, .i32⟩
  | .hbm, ⟨12, _⟩ => ⟨S17408x128, .i32⟩
  | .hbm, ⟨13, _⟩ => ⟨S17408x128, .i32⟩
  | .hbm, ⟨14, _⟩ => ⟨S17408x128, .i32⟩
  | .hbm, ⟨15, _⟩ => ⟨S_, .i32⟩
  | .hbm, ⟨16, _⟩ => ⟨S17408x128, .i32⟩
  | .hbm, ⟨17, _⟩ => ⟨S17408x128, .i1⟩
  | .hbm, ⟨18, _⟩ => ⟨S_, .i32⟩
  | .hbm, ⟨19, _⟩ => ⟨S17408x128, .i32⟩
  | .hbm, ⟨20, _⟩ => ⟨S17408x128, .i32⟩
  | .hbm, ⟨21, _⟩ => ⟨S17408x128, .i32⟩
  | .hbm, ⟨22, _⟩ => ⟨S17408x128x1, .i32⟩
  | .hbm, ⟨23, _⟩ => ⟨S17408x128, .f32⟩
  | .hbm, ⟨24, _⟩ => ⟨S_, .f32⟩
  | .hbm, ⟨25, _⟩ => ⟨S17408x128, .f32⟩
  | .hbm, ⟨26, _⟩ => ⟨S17408x128, .f32⟩
  | .hbm, ⟨27, _⟩ => ⟨S_, .f32⟩
  | .hbm, ⟨28, _⟩ => ⟨S17408x128, .f32⟩
  | .hbm, ⟨29, _⟩ => ⟨S17408x128, .f32⟩
  | .hbm, ⟨30, _⟩ => ⟨S17408x128, .f32⟩
  | .hbm, ⟨31, _⟩ => ⟨S_, .f32⟩
  | .hbm, ⟨32, _⟩ => ⟨S17408x128, .f32⟩
  | .hbm, ⟨33, _⟩ => ⟨S17408x128, .f32⟩
  | .hbm, ⟨34, _⟩ => ⟨S17408x128, .f32⟩
  | .hbm, ⟨35, _⟩ => ⟨S17408x128, .f32⟩
  | .hbm, ⟨36, _⟩ => ⟨S17408x128x1, .i32⟩
  | .hbm, ⟨37, _⟩ => ⟨S17408x128x1024, .f32⟩
  | .hbm, ⟨38, _⟩ => ⟨S17408x1024, .f32⟩
  | .hbm, ⟨39, _⟩ => ⟨S17408x1024, .f32⟩
  | .hbm, ⟨40, _⟩ => ⟨S17408x1024, .f32⟩
  | .hbm, ⟨41, _⟩ => ⟨S_, .f32⟩
  | .hbm, ⟨42, _⟩ => ⟨S17408, .f32⟩
  | .hbm, ⟨43, _⟩ => ⟨S17408x1, .f32⟩
  | .hbm, ⟨44, _⟩ => ⟨S_, .f32⟩
  | .hbm, ⟨45, _⟩ => ⟨S17408x1, .f32⟩
  | .hbm, ⟨46, _⟩ => ⟨S17408x1, .f32⟩
  | .hbm, ⟨47, _⟩ => ⟨S_, .f32⟩
  | .hbm, ⟨48, _⟩ => ⟨S17408x1, .f32⟩
  | .hbm, ⟨49, _⟩ => ⟨S17408x1, .f32⟩
  | .hbm, ⟨50, _⟩ => ⟨S17408x1, .f32⟩
  | .hbm, ⟨51, _⟩ => ⟨S17408x1024, .f32⟩
  | .hbm, ⟨52, _⟩ => ⟨S17408x1024, .f32⟩
  | .hbm, ⟨53, _⟩ => ⟨S1x1024, .f32⟩
  | .hbm, ⟨54, _⟩ => ⟨S17408x1024, .f32⟩
  | .hbm, ⟨55, _⟩ => ⟨S17408x1024, .f32⟩
  | _, _ => ⟨S8704x128x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_call1_v0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_2 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_v24 : Ref sig .tc := ⟨.hbm, 46, rfl⟩
abbrev main_cst_4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩

abbrev nD : Nat := 1
abbrev τ : Topo := Topo.v7x

variable {F : FTy → Type} [FloatOps F]
-- ==== Inproj.lean ====
abbrev S17408x1024 : Shape := ⟨2, ![17408, 1024]⟩
abbrev S1024 : Shape := ⟨1, ![1024]⟩
abbrev S1024x8968 : Shape := ⟨2, ![1024, 8968]⟩
abbrev S128x3x1536 : Shape := ⟨3, ![128, 3, 1536]⟩
abbrev S128x15x1536 : Shape := ⟨3, ![128, 15, 1536]⟩
abbrev S1024x2304 : Shape := ⟨2, ![1024, 2304]⟩
abbrev S1024x3x3x256 : Shape := ⟨4, ![1024, 3, 3, 256]⟩
abbrev S1024x1536 : Shape := ⟨2, ![1024, 1536]⟩
abbrev S1024x3072 : Shape := ⟨2, ![1024, 3072]⟩
abbrev S1024x512 : Shape := ⟨2, ![1024, 512]⟩
abbrev S1024x8 : Shape := ⟨2, ![1024, 8]⟩
abbrev S_ : Shape := ⟨0, ![]⟩
abbrev S1024x248 : Shape := ⟨2, ![1024, 248]⟩
abbrev S1024x9216 : Shape := ⟨2, ![1024, 9216]⟩
abbrev S1x1024 : Shape := ⟨2, ![1, 1024]⟩
abbrev S17408x9216 : Shape := ⟨2, ![17408, 9216]⟩
abbrev S1024x1024 : Shape := ⟨2, ![1024, 1024]⟩
abbrev S1024x1 : Shape := ⟨2, ![1024, 1]⟩
abbrev S128x8x9216 : Shape := ⟨3, ![128, 8, 9216]⟩
abbrev S128x8x1536 : Shape := ⟨3, ![128, 8, 1536]⟩
abbrev S128x11x1536 : Shape := ⟨3, ![128, 11, 1536]⟩
abbrev S128x23x1536 : Shape := ⟨3, ![128, 23, 1536]⟩
abbrev S3x1536 : Shape := ⟨2, ![3, 1536]⟩
abbrev S1x3x1536 : Shape := ⟨3, ![1, 3, 1536]⟩
abbrev S4x3x1536 : Shape := ⟨3, ![4, 3, 1536]⟩
abbrev S15x1536 : Shape := ⟨2, ![15, 1536]⟩
abbrev S1x15x1536 : Shape := ⟨3, ![1, 15, 1536]⟩
abbrev S4x15x1536 : Shape := ⟨3, ![4, 15, 1536]⟩

abbrev nBuf : Space → Nat
  | .hbm => 46
  | .vmem => 8
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x8968, .f32⟩
  | .hbm, ⟨3, _⟩ => ⟨S128x3x1536, .f32⟩
  | .hbm, ⟨4, _⟩ => ⟨S128x15x1536, .f32⟩
  | .hbm, ⟨5, _⟩ => ⟨S1024x2304, .f32⟩
  | .hbm, ⟨6, _⟩ => ⟨S1024x3x3x256, .f32⟩
  | .hbm, ⟨7, _⟩ => ⟨S1024x3x3x256, .f32⟩
  | .hbm, ⟨8, _⟩ => ⟨S1024x2304, .f32⟩
  | .hbm, ⟨9, _⟩ => ⟨S1024x1536, .f32⟩
  | .hbm, ⟨10, _⟩ => ⟨S1024x1536, .f32⟩
  | .hbm, ⟨11, _⟩ => ⟨S1024x3072, .f32⟩
  | .hbm, ⟨12, _⟩ => ⟨S1024x512, .f32⟩
  | .hbm, ⟨13, _⟩ => ⟨S1024x8, .f32⟩
  | .hbm, ⟨14, _⟩ => ⟨S_, .f32⟩
  | .hbm, ⟨15, _⟩ => ⟨S1024x248, .f32⟩
  | .hbm, ⟨16, _⟩ => ⟨S1024x9216, .f32⟩
  | .hbm, ⟨17, _⟩ => ⟨S1024x9216, .bf16⟩
  | .hbm, ⟨18, _⟩ => ⟨S1x1024, .f32⟩
  | .hbm, ⟨19, _⟩ => ⟨S17408x9216, .f32⟩
  | .hbm, ⟨20, _⟩ => ⟨S1024x9216, .f32⟩
  | .hbm, ⟨21, _⟩ => ⟨S128x8x9216, .f32⟩
  | .hbm, ⟨22, _⟩ => ⟨S128x8x1536, .f32⟩
  | .hbm, ⟨23, _⟩ => ⟨S128x11x1536, .f32⟩
  | .hbm, ⟨24, _⟩ => ⟨S128x3x1536, .f32⟩
  | .hbm, ⟨25, _⟩ => ⟨S128x8x1536, .f32⟩
  | .hbm, ⟨26, _⟩ => ⟨S128x23x1536, .f32⟩
  | .hbm, ⟨27, _⟩ => ⟨S128x15x1536, .f32⟩
  | .hbm, ⟨28, _⟩ => ⟨S3x1536, .f32⟩
  | .hbm, ⟨29, _⟩ => ⟨S3x1536, .f32⟩
  | .hbm, ⟨30, _⟩ => ⟨S3x1536, .f32⟩
  | .hbm, ⟨31, _⟩ => ⟨S3x1536, .f32⟩
  | .hbm, ⟨32, _⟩ => ⟨S1x3x1536, .f32⟩
  | .hbm, ⟨33, _⟩ => ⟨S1x3x1536, .f32⟩
  | .hbm, ⟨34, _⟩ => ⟨S1x3x1536, .f32⟩
  | .hbm, ⟨35, _⟩ => ⟨S1x3x1536, .f32⟩
  | .hbm, ⟨36, _⟩ => ⟨S4x3x1536, .f32⟩
  | .hbm, ⟨37, _⟩ => ⟨S15x1536, .f32⟩
  | .hbm, ⟨38, _⟩ => ⟨S15x1536, .f32⟩
  | .hbm, ⟨39, _⟩ => ⟨S15x1536, .f32⟩
  | .hbm, ⟨40, _⟩ => ⟨S15x1536, .f32⟩
  | .hbm, ⟨41, _⟩ => ⟨S1x15x1536, .f32⟩
  | .hbm, ⟨42, _⟩ => ⟨S1x15x1536, .f32⟩
  | .hbm, ⟨43, _⟩ => ⟨S1x15x1536, .f32⟩
  | .hbm, ⟨44, _⟩ => ⟨S1x15x1536, .f32⟩
  | .hbm, ⟨45, _⟩ => ⟨S4x15x1536, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2304, .bf16⟩
  | .local _ .vmem, ⟨4, _⟩ => ⟨S1024x2304, .bf16⟩
  | .local _ .vmem, ⟨5, _⟩ => ⟨S1024x2304, .f32⟩
  | .local _ .vmem, ⟨6, _⟩ => ⟨S1024x2304, .f32⟩
  | .local _ .vmem, ⟨7, _⟩ => ⟨S1024x1024, .bf16⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![17, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InprojRefIdeal.lean ====
abbrev S17408x1024 : Shape := ⟨2, ![17408, 1024]⟩
abbrev S1024 : Shape := ⟨1, ![1024]⟩
abbrev S1024x8968 : Shape := ⟨2, ![1024, 8968]⟩
abbrev S128x3x1536 : Shape := ⟨3, ![128, 3, 1536]⟩
abbrev S128x15x1536 : Shape := ⟨3, ![128, 15, 1536]⟩
abbrev S_ : Shape := ⟨0, ![]⟩
abbrev S17408 : Shape := ⟨1, ![17408]⟩
abbrev S17408x1 : Shape := ⟨2, ![17408, 1]⟩
abbrev S1x1024 : Shape := ⟨2, ![1, 1024]⟩
abbrev S17408x8968 : Shape := ⟨2, ![17408, 8968]⟩
abbrev S17408x2304 : Shape := ⟨2, ![17408, 2304]⟩
abbrev S17408x3x3x256 : Shape := ⟨4, ![17408, 3, 3, 256]⟩
abbrev S17408x1536 : Shape := ⟨2, ![17408, 1536]⟩
abbrev S17408x3072 : Shape := ⟨2, ![17408, 3072]⟩
abbrev S17408x512 : Shape := ⟨2, ![17408, 512]⟩
abbrev S17408x8 : Shape := ⟨2, ![17408, 8]⟩
abbrev S17408x248 : Shape := ⟨2, ![17408, 248]⟩
abbrev S17408x9216 : Shape := ⟨2, ![17408, 9216]⟩
abbrev S16384x8968 : Shape := ⟨2, ![16384, 8968]⟩
abbrev S4x4096x8968 : Shape := ⟨3, ![4, 4096, 8968]⟩
abbrev S128x8x8968 : Shape := ⟨3, ![128, 8, 8968]⟩
abbrev S4x3x1536 : Shape := ⟨3, ![4, 3, 1536]⟩
abbrev S128x8x1536 : Shape := ⟨3, ![128, 8, 1536]⟩
abbrev S128x11x1536 : Shape := ⟨3, ![128, 11, 1536]⟩
abbrev S4x15x1536 : Shape := ⟨3, ![4, 15, 1536]⟩
abbrev S128x23x1536 : Shape := ⟨3, ![128, 23, 1536]⟩

abbrev nBuf : Space → Nat
  | .hbm => 46
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S1024, .f32⟩
  | .hbm, ⟨2, _⟩ => ⟨S1024x8968, .f32⟩
  | .hbm, ⟨3, _⟩ => ⟨S128x3x1536, .f32⟩
  | .hbm, ⟨4, _⟩ => ⟨S128x15x1536, .f32⟩
  | .hbm, ⟨5, _⟩ => ⟨S17408x1024, .f32⟩
  | .hbm, ⟨6, _⟩ => ⟨S_, .f32⟩
  | .hbm, ⟨7, _⟩ => ⟨S17408, .f32⟩
  | .hbm, ⟨8, _⟩ => ⟨S17408x1, .f32⟩
  | .hbm, ⟨9, _⟩ => ⟨S_, .f32⟩
  | .hbm, ⟨10, _⟩ => ⟨S17408x1, .f32⟩
  | .hbm, ⟨11, _⟩ => ⟨S17408x1, .f32⟩
  | .hbm, ⟨12, _⟩ => ⟨S_, .f32⟩
  | .hbm, ⟨13, _⟩ => ⟨S17408x1, .f32⟩
  | .hbm, ⟨14, _⟩ => ⟨S17408x1, .f32⟩
  | .hbm, ⟨15, _⟩ => ⟨S17408x1, .f32⟩
  | .hbm, ⟨16, _⟩ => ⟨S17408x1024, .f32⟩
  | .hbm, ⟨17, _⟩ => ⟨S17408x1024, .f32⟩
  | .hbm, ⟨18, _⟩ => ⟨S1x1024, .f32⟩
  | .hbm, ⟨19, _⟩ => ⟨S17408x1024, .f32⟩
  | .hbm, ⟨20, _⟩ => ⟨S17408x1024, .f32⟩
  | .hbm, ⟨21, _⟩ => ⟨S17408x8968, .f32⟩
  | .hbm, ⟨22, _⟩ => ⟨S17408x2304, .f32⟩
  | .hbm, ⟨23, _⟩ => ⟨S17408x3x3x256, .f32⟩
  | .hbm, ⟨24, _⟩ => ⟨S17408x3x3x256, .f32⟩
  | .hbm, ⟨25, _⟩ => ⟨S17408x2304, .f32⟩
  | .hbm, ⟨26, _⟩ => ⟨S17408x1536, .f32⟩
  | .hbm, ⟨27, _⟩ => ⟨S17408x1536, .f32⟩
  | .hbm, ⟨28, _⟩ => ⟨S17408x3072, .f32⟩
  | .hbm, ⟨29, _⟩ => ⟨S17408x512, .f32⟩
  | .hbm, ⟨30, _⟩ => ⟨S17408x8, .f32⟩
  | .hbm, ⟨31, _⟩ => ⟨S_, .f32⟩
  | .hbm, ⟨32, _⟩ => ⟨S17408x248, .f32⟩
  | .hbm, ⟨33, _⟩ => ⟨S17408x9216, .f32⟩
  | .hbm, ⟨34, _⟩ => ⟨S16384x8968, .f32⟩
  | .hbm, ⟨35, _⟩ => ⟨S4x4096x8968, .f32⟩
  | .hbm, ⟨36, _⟩ => ⟨S1024x8968, .f32⟩
  | .hbm, ⟨37, _⟩ => ⟨S128x8x8968, .f32⟩
  | .hbm, ⟨38, _⟩ => ⟨S4x3x1536, .f32⟩
  | .hbm, ⟨39, _⟩ => ⟨S128x8x1536, .f32⟩
  | .hbm, ⟨40, _⟩ => ⟨S128x11x1536, .f32⟩
  | .hbm, ⟨41, _⟩ => ⟨S128x3x1536, .f32⟩
  | .hbm, ⟨42, _⟩ => ⟨S4x15x1536, .f32⟩
  | .hbm, ⟨43, _⟩ => ⟨S128x8x1536, .f32⟩
  | .hbm, ⟨44, _⟩ => ⟨S128x23x1536, .f32⟩
  | .hbm, ⟨45, _⟩ => ⟨S128x15x1536, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== Merge.lean ====
abbrev S17408x1024 : Shape := ⟨2, ![17408, 1024]⟩
abbrev S17408x9216 : Shape := ⟨2, ![17408, 9216]⟩
abbrev S16384x512 : Shape := ⟨2, ![16384, 512]⟩
abbrev S16384x256 : Shape := ⟨2, ![16384, 256]⟩
abbrev S16384x4x2 : Shape := ⟨3, ![16384, 4, 2]⟩
abbrev S16384x1536 : Shape := ⟨2, ![16384, 1536]⟩
abbrev S1024x512 : Shape := ⟨2, ![1024, 512]⟩
abbrev S1024x256 : Shape := ⟨2, ![1024, 256]⟩
abbrev S1024x4x2 : Shape := ⟨3, ![1024, 4, 2]⟩
abbrev S1024x1536 : Shape := ⟨2, ![1024, 1536]⟩
abbrev S2304x1024 : Shape := ⟨2, ![2304, 1024]⟩
abbrev S1024x1024 : Shape := ⟨2, ![1024, 1024]⟩
abbrev S1024 : Shape := ⟨1, ![1024]⟩
abbrev S16384x4x2x1 : Shape := ⟨4, ![16384, 4, 2, 1]⟩
abbrev S16384x4x2x32 : Shape := ⟨4, ![16384, 4, 2, 32]⟩
abbrev S1024x4x2x1 : Shape := ⟨4, ![1024, 4, 2, 1]⟩
abbrev S1024x4x2x32 : Shape := ⟨4, ![1024, 4, 2, 32]⟩
abbrev S512x1024 : Shape := ⟨2, ![512, 1024]⟩
abbrev S256x1024 : Shape := ⟨2, ![256, 1024]⟩
abbrev S1536x1024 : Shape := ⟨2, ![1536, 1024]⟩
abbrev S1x1024 : Shape := ⟨2, ![1, 1024]⟩
abbrev S256x512 : Shape := ⟨2, ![256, 512]⟩
abbrev S256x256 : Shape := ⟨2, ![256, 256]⟩
abbrev S256x1536 : Shape := ⟨2, ![256, 1536]⟩
abbrev S256 : Shape := ⟨1, ![256]⟩
abbrev S256x1 : Shape := ⟨2, ![256, 1]⟩

abbrev nBuf : Space → Nat
  | .hbm => 48
  | .vmem => 51
  | .smem => 0
  | _ => 0

abbrev bufTy : (tb : Table) → Fin (tcTables nBuf tb) → BufTy
  | .hbm, ⟨0, _⟩ => ⟨S17408x1024, .f32⟩
  | .hbm, ⟨1, _⟩ => ⟨S17408x9216, .f32⟩
  | .hbm, ⟨2, _⟩ => ⟨S16384x512, .f32⟩
  | .hbm, ⟨3, _⟩ => ⟨S16384x256, .f32⟩
  | .hbm, ⟨4, _⟩ => ⟨S16384x4x2, .f32⟩
  | .hbm, ⟨5, _⟩ => ⟨S16384x256, .f32⟩
  | .hbm, ⟨6, _⟩ => ⟨S16384x4x2, .f32⟩
  | .hbm, ⟨7, _⟩ => ⟨S16384x256, .f32⟩
  | .hbm, ⟨8, _⟩ => ⟨S16384x4x2, .f32⟩
  | .hbm, ⟨9, _⟩ => ⟨S16384x1536, .f32⟩
  | .hbm, ⟨10, _⟩ => ⟨S1024x512, .f32⟩
  | .hbm, ⟨11, _⟩ => ⟨S1024x256, .f32⟩
  | .hbm, ⟨12, _⟩ => ⟨S1024x4x2, .f32⟩
  | .hbm, ⟨13, _⟩ => ⟨S1024x256, .f32⟩
  | .hbm, ⟨14, _⟩ => ⟨S1024x4x2, .f32⟩
  | .hbm, ⟨15, _⟩ => ⟨S1024x256, .f32⟩
  | .hbm, ⟨16, _⟩ => ⟨S1024x4x2, .f32⟩
  | .hbm, ⟨17, _⟩ => ⟨S1024x1536, .f32⟩
  | .hbm, ⟨18, _⟩ => ⟨S2304x1024, .f32⟩
  | .hbm, ⟨19, _⟩ => ⟨S1024x1024, .f32⟩
  | .hbm, ⟨20, _⟩ => ⟨S1024, .f32⟩
  | .hbm, ⟨21, _⟩ => ⟨S2304x1024, .bf16⟩
  | .hbm, ⟨22, _⟩ => ⟨S16384x4x2x1, .f32⟩
  | .hbm, ⟨23, _⟩ => ⟨S16384x4x2x32, .f32⟩
  | .hbm, ⟨24, _⟩ => ⟨S16384x256, .f32⟩
  | .hbm, ⟨25, _⟩ => ⟨S16384x4x2x1, .f32⟩
  | .hbm, ⟨26, _⟩ => ⟨S16384x4x2x32, .f32⟩
  | .hbm, ⟨27, _⟩ => ⟨S16384x256, .f32⟩
  | .hbm, ⟨28, _⟩ => ⟨S16384x4x2x1, .f32⟩
  | .hbm, ⟨29, _⟩ => ⟨S16384x4x2x32, .f32⟩
  | .hbm, ⟨30, _⟩ => ⟨S16384x256, .f32⟩
  | .hbm, ⟨31, _⟩ => ⟨S1024x4x2x1, .f32⟩
  | .hbm, ⟨32, _⟩ => ⟨S1024x4x2x32, .f32⟩
  | .hbm, ⟨33, _⟩ => ⟨S1024x256, .f32⟩
  | .hbm, ⟨34, _⟩ => ⟨S1024x4x2x1, .f32⟩
  | .hbm, ⟨35, _⟩ => ⟨S1024x4x2x32, .f32⟩
  | .hbm, ⟨36, _⟩ => ⟨S1024x256, .f32⟩
  | .hbm, ⟨37, _⟩ => ⟨S1024x4x2x1, .f32⟩
  | .hbm, ⟨38, _⟩ => ⟨S1024x4x2x32, .f32⟩
  | .hbm, ⟨39, _⟩ => ⟨S1024x256, .f32⟩
  | .hbm, ⟨40, _⟩ => ⟨S512x1024, .bf16⟩
  | .hbm, ⟨41, _⟩ => ⟨S256x1024, .bf16⟩
  | .hbm, ⟨42, _⟩ => ⟨S1536x1024, .bf16⟩
  | .hbm, ⟨43, _⟩ => ⟨S1024x1024, .bf16⟩
  | .hbm, ⟨44, _⟩ => ⟨S1x1024, .f32⟩
  | .hbm, ⟨45, _⟩ => ⟨S17408x1024, .f32⟩
  | .hbm, ⟨46, _⟩ => ⟨S17408x1024, .bf16⟩
  | .hbm, ⟨47, _⟩ => ⟨S17408x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x512, .f32⟩
  | .local _ .vmem, ⟨9, _⟩ => ⟨S256x512, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S256x1536, .f32⟩
  | .local _ .vmem, ⟨23, _⟩ => ⟨S256x1536, .f32⟩
  | .local _ .vmem, ⟨24, _⟩ => ⟨S256x512, .f32⟩
  | .local _ .vmem, ⟨25, _⟩ => ⟨S256x512, .f32⟩
  | .local _ .vmem, ⟨26, _⟩ => ⟨S256x256, .f32⟩
  | .local _ .vmem, ⟨27, _⟩ => ⟨S256x256, .f32⟩
  | .local _ .vmem, ⟨28, _⟩ => ⟨S256x256, .f32⟩
  | .local _ .vmem, ⟨29, _⟩ => ⟨S256x256, .f32⟩
  | .local _ .vmem, ⟨30, _⟩ => ⟨S256x256, .f32⟩
  | .local _ .vmem, ⟨31, _⟩ => ⟨S256x256, .f32⟩
  | .local _ .vmem, ⟨32, _⟩ => ⟨S256x256, .f32⟩
  | .local _ .vmem, ⟨33, _⟩ => ⟨S256x256, .f32⟩
  | .local _ .vmem, ⟨34, _⟩ => ⟨S256x256, .f32⟩
  | .local _ .vmem, ⟨35, _⟩ => ⟨S256x256, .f32⟩
  | .local _ .vmem, ⟨36, _⟩ => ⟨S256x256, .f32⟩
  | .local _ .vmem, ⟨37, _⟩ => ⟨S256x256, .f32⟩
  | .local _ .vmem, ⟨38, _⟩ => ⟨S256x1536, .f32⟩
  | .local _ .vmem, ⟨39, _⟩ => ⟨S256x1536, .f32⟩
  | .local _ .vmem, ⟨40, _⟩ => ⟨S512x1024, .bf16⟩
  | .local _ .vmem, ⟨41, _⟩ => ⟨S256x1024, .bf16⟩
  | .local _ .vmem, ⟨42, _⟩ => ⟨S1536x1024, .bf16⟩
  | .local _ .vmem, ⟨43, _⟩ => ⟨S1024x1024, .bf16⟩
  | .local _ .vmem, ⟨44, _⟩ => ⟨S1x1024, .f32⟩
  | .local _ .vmem, ⟨45, _⟩ => ⟨S256x1024, .f32⟩
  | .local _ .vmem, ⟨46, _⟩ => ⟨S256x1024, .f32⟩
  | .local _ .vmem, ⟨47, _⟩ => ⟨S256x1024, .bf16⟩
  | .local _ .vmem, ⟨48, _⟩ => ⟨S256x1024, .bf16⟩
  | .local _ .vmem, ⟨49, _⟩ => ⟨S256x1024, .bf16⟩
  | .local _ .vmem, ⟨50, _⟩ => ⟨S256x1024, .bf16⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24_0 : Ref sig .tc := ⟨.hbm, 45, rfl⟩
abbrev main_v24_1 : Ref sig .tc := ⟨.hbm, 46, rfl⟩
abbrev main_v24_2 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg21_0 : Ref sig .tc := ⟨.vmem, 41, rfl⟩
abbrev cc0_stg22_0 : Ref sig .tc := ⟨.vmem, 42, rfl⟩
abbrev cc0_stg23_0 : Ref sig .tc := ⟨.vmem, 43, rfl⟩
abbrev cc0_stg24_0 : Ref sig .tc := ⟨.vmem, 44, rfl⟩
abbrev cc0_stg25_0 : Ref sig .tc := ⟨.vmem, 45, rfl⟩
abbrev cc0_stg25_1 : Ref sig .tc := ⟨.vmem, 46, rfl⟩
abbrev cc0_stg26_0 : Ref sig .tc := ⟨.vmem, 47, rfl⟩
abbrev cc0_stg26_1 : Ref sig .tc := ⟨.vmem, 48, rfl⟩
abbrev cc0_stg27_0 : Ref sig .tc := ⟨.vmem, 49, rfl⟩
abbrev cc0_stg27_1 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem21_0 : DmaSem sig := 41
abbrev cc0_sem22_0 : DmaSem sig := 42
abbrev cc0_sem23_0 : DmaSem sig := 43
abbrev cc0_sem24_0 : DmaSem sig := 44
abbrev cc0_sem25_0 : DmaSem sig := 45
abbrev cc0_sem25_1 : DmaSem sig := 46
abbrev cc0_sem26_0 : DmaSem sig := 47
abbrev cc0_sem26_1 : DmaSem sig := 48
abbrev cc0_sem27_0 : DmaSem sig := 49
abbrev cc0_sem27_1 : DmaSem sig := 50

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_13 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_14 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_15 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_16 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_17 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_18 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_19 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1536 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1536 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S512x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S256x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1536x1024 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1024x1024 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 2 → Memref sig .tc .vmem S256x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S256x1024 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S256x1024 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]
-- ==== MergeRefIdeal.lean ====
abbrev S17408x1024 : Shape := ⟨2, ![17408, 1024]⟩
abbrev S17408x9216 : Shape := ⟨2, ![17408, 9216]⟩
abbrev S16384x512 : Shape := ⟨2, ![16384, 512]⟩
abbrev S16384x256 : Shape := ⟨2, ![16384, 256]⟩
abbrev S16384x4x2 : Shape := ⟨3, ![16384, 4, 2]⟩
abbrev S16384x1536 : Shape := ⟨2, ![16384, 1536]⟩
abbrev S1024x512 : Shape := ⟨2, ![1024, 512]⟩
abbrev S1024x256 : Shape := ⟨2, ![1024, 256]⟩
abbrev S1024x4x2 : Shape := ⟨3, ![1024, 4, 2]⟩
abbrev S1024x1536 : Shape := ⟨2, ![1024, 1536]⟩
abbrev S2304x1024 : Shape := ⟨2, ![2304, 1024]⟩
abbrev S1024x1024 : Shape := ⟨2, ![1024, 1024]⟩
abbrev S1024 : Shape := ⟨1, ![1024]⟩
abbrev S17408x512 : Shape := ⟨2, ![17408, 512]⟩
abbrev S17408x1536 : Shape := ⟨2, ![17408, 1536]⟩
abbrev S17408x256 : Shape := ⟨2, ![17408, 256]⟩
abbrev S17408x4x64 : Shape := ⟨3, ![17408, 4, 64]⟩
abbrev S17408x4x2 : Shape := ⟨3, ![17408, 4, 2]⟩
abbrev S17408x4x1 : Shape := ⟨3, ![17408, 4, 1]⟩
abbrev S17408x3072 : Shape := ⟨2, ![17408, 3072]⟩
abbrev S_ : Shape := ⟨0, ![]⟩
abbrev S512x1024 : Shape := ⟨2, ![512, 1024]⟩
abbrev S256x1024 : Shape := ⟨2, ![256, 1024]⟩
abbrev S1536x1024 : Shape := ⟨2, ![1536, 1024]⟩
abbrev S17408 : Shape := ⟨1, ![17408]⟩
abbrev S17408x1 : Shape := ⟨2, ![17408, 1]⟩
abbrev S1x1024 : Shape := ⟨2, ![1, 1024]⟩

abbrev nBuf : Space → Nat
  | .hbm => 107
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S17408x9216, .f32⟩
  | .hbm, ⟨2, _⟩ => ⟨S16384x512, .f32⟩
  | .hbm, ⟨3, _⟩ => ⟨S16384x256, .f32⟩
  | .hbm, ⟨4, _⟩ => ⟨S16384x4x2, .f32⟩
  | .hbm, ⟨5, _⟩ => ⟨S16384x256, .f32⟩
  | .hbm, ⟨6, _⟩ => ⟨S16384x4x2, .f32⟩
  | .hbm, ⟨7, _⟩ => ⟨S16384x256, .f32⟩
  | .hbm, ⟨8, _⟩ => ⟨S16384x4x2, .f32⟩
  | .hbm, ⟨9, _⟩ => ⟨S16384x1536, .f32⟩
  | .hbm, ⟨10, _⟩ => ⟨S1024x512, .f32⟩
  | .hbm, ⟨11, _⟩ => ⟨S1024x256, .f32⟩
  | .hbm, ⟨12, _⟩ => ⟨S1024x4x2, .f32⟩
  | .hbm, ⟨13, _⟩ => ⟨S1024x256, .f32⟩
  | .hbm, ⟨14, _⟩ => ⟨S1024x4x2, .f32⟩
  | .hbm, ⟨15, _⟩ => ⟨S1024x256, .f32⟩
  | .hbm, ⟨16, _⟩ => ⟨S1024x4x2, .f32⟩
  | .hbm, ⟨17, _⟩ => ⟨S1024x1536, .f32⟩
  | .hbm, ⟨18, _⟩ => ⟨S2304x1024, .f32⟩
  | .hbm, ⟨19, _⟩ => ⟨S1024x1024, .f32⟩
  | .hbm, ⟨20, _⟩ => ⟨S1024, .f32⟩
  | .hbm, ⟨21, _⟩ => ⟨S17408x512, .f32⟩
  | .hbm, ⟨22, _⟩ => ⟨S17408x1536, .f32⟩
  | .hbm, ⟨23, _⟩ => ⟨S17408x256, .f32⟩
  | .hbm, ⟨24, _⟩ => ⟨S17408x4x64, .f32⟩
  | .hbm, ⟨25, _⟩ => ⟨S17408x256, .f32⟩
  | .hbm, ⟨26, _⟩ => ⟨S17408x4x64, .f32⟩
  | .hbm, ⟨27, _⟩ => ⟨S17408x256, .f32⟩
  | .hbm, ⟨28, _⟩ => ⟨S17408x4x64, .f32⟩
  | .hbm, ⟨29, _⟩ => ⟨S17408x4x2, .f32⟩
  | .hbm, ⟨30, _⟩ => ⟨S17408x4x2, .f32⟩
  | .hbm, ⟨31, _⟩ => ⟨S17408x4x2, .f32⟩
  | .hbm, ⟨32, _⟩ => ⟨S17408x4x1, .f32⟩
  | .hbm, ⟨33, _⟩ => ⟨S17408x4x1, .f32⟩
  | .hbm, ⟨34, _⟩ => ⟨S17408x4x1, .f32⟩
  | .hbm, ⟨35, _⟩ => ⟨S17408x4x1, .f32⟩
  | .hbm, ⟨36, _⟩ => ⟨S17408x4x1, .f32⟩
  | .hbm, ⟨37, _⟩ => ⟨S17408x4x1, .f32⟩
  | .hbm, ⟨38, _⟩ => ⟨S17408x4x1, .f32⟩
  | .hbm, ⟨39, _⟩ => ⟨S17408x4x1, .f32⟩
  | .hbm, ⟨40, _⟩ => ⟨S17408x4x1, .f32⟩
  | .hbm, ⟨41, _⟩ => ⟨S17408x4x1, .f32⟩
  | .hbm, ⟨42, _⟩ => ⟨S17408x4x1, .f32⟩
  | .hbm, ⟨43, _⟩ => ⟨S17408x4x1, .f32⟩
  | .hbm, ⟨44, _⟩ => ⟨S17408x4x1, .f32⟩
  | .hbm, ⟨45, _⟩ => ⟨S17408x4x1, .f32⟩
  | .hbm, ⟨46, _⟩ => ⟨S17408x4x64, .f32⟩
  | .hbm, ⟨47, _⟩ => ⟨S17408x4x64, .f32⟩
  | .hbm, ⟨48, _⟩ => ⟨S17408x4x64, .f32⟩
  | .hbm, ⟨49, _⟩ => ⟨S17408x4x64, .f32⟩
  | .hbm, ⟨50, _⟩ => ⟨S17408x4x64, .f32⟩
  | .hbm, ⟨51, _⟩ => ⟨S17408x4x64, .f32⟩
  | .hbm, ⟨52, _⟩ => ⟨S17408x4x64, .f32⟩
  | .hbm, ⟨53, _⟩ => ⟨S17408x4x64, .f32⟩
  | .hbm, ⟨54, _⟩ => ⟨S17408x4x1, .f32⟩
  | .hbm, ⟨55, _⟩ => ⟨S17408x4x1, .f32⟩
  | .hbm, ⟨56, _⟩ => ⟨S17408x4x1, .f32⟩
  | .hbm, ⟨57, _⟩ => ⟨S17408x4x1, .f32⟩
  | .hbm, ⟨58, _⟩ => ⟨S17408x4x1, .f32⟩
  | .hbm, ⟨59, _⟩ => ⟨S17408x4x64, .f32⟩
  | .hbm, ⟨60, _⟩ => ⟨S17408x4x64, .f32⟩
  | .hbm, ⟨61, _⟩ => ⟨S17408x256, .f32⟩
  | .hbm, ⟨62, _⟩ => ⟨S17408x3072, .f32⟩
  | .hbm, ⟨63, _⟩ => ⟨S17408x3072, .f32⟩
  | .hbm, ⟨64, _⟩ => ⟨S17408x3072, .f32⟩
  | .hbm, ⟨65, _⟩ => ⟨S_, .f32⟩
  | .hbm, ⟨66, _⟩ => ⟨S17408x3072, .f32⟩
  | .hbm, ⟨67, _⟩ => ⟨S17408x3072, .f32⟩
  | .hbm, ⟨68, _⟩ => ⟨S_, .f32⟩
  | .hbm, ⟨69, _⟩ => ⟨S17408x3072, .f32⟩
  | .hbm, ⟨70, _⟩ => ⟨S17408x3072, .f32⟩
  | .hbm, ⟨71, _⟩ => ⟨S17408x1024, .f32⟩
  | .hbm, ⟨72, _⟩ => ⟨S512x1024, .f32⟩
  | .hbm, ⟨73, _⟩ => ⟨S17408x1024, .f32⟩
  | .hbm, ⟨74, _⟩ => ⟨S17408x1024, .f32⟩
  | .hbm, ⟨75, _⟩ => ⟨S17408x1024, .f32⟩
  | .hbm, ⟨76, _⟩ => ⟨S256x1024, .f32⟩
  | .hbm, ⟨77, _⟩ => ⟨S17408x1024, .f32⟩
  | .hbm, ⟨78, _⟩ => ⟨S17408x1024, .f32⟩
  | .hbm, ⟨79, _⟩ => ⟨S17408x1024, .f32⟩
  | .hbm, ⟨80, _⟩ => ⟨S17408x1024, .f32⟩
  | .hbm, ⟨81, _⟩ => ⟨S1536x1024, .f32⟩
  | .hbm, ⟨82, _⟩ => ⟨S17408x1024, .f32⟩
  | .hbm, ⟨83, _⟩ => ⟨S17408x1024, .f32⟩
  | .hbm, ⟨84, _⟩ => ⟨S17408x1024, .f32⟩
  | .hbm, ⟨85, _⟩ => ⟨S17408x1024, .f32⟩
  | .hbm, ⟨86, _⟩ => ⟨S17408x1024, .f32⟩
  | .hbm, ⟨87, _⟩ => ⟨S17408x1024, .f32⟩
  | .hbm, ⟨88, _⟩ => ⟨S_, .f32⟩
  | .hbm, ⟨89, _⟩ => ⟨S17408, .f32⟩
  | .hbm, ⟨90, _⟩ => ⟨S17408x1, .f32⟩
  | .hbm, ⟨91, _⟩ => ⟨S_, .f32⟩
  | .hbm, ⟨92, _⟩ => ⟨S17408x1, .f32⟩
  | .hbm, ⟨93, _⟩ => ⟨S17408x1, .f32⟩
  | .hbm, ⟨94, _⟩ => ⟨S_, .f32⟩
  | .hbm, ⟨95, _⟩ => ⟨S17408x1, .f32⟩
  | .hbm, ⟨96, _⟩ => ⟨S17408x1, .f32⟩
  | .hbm, ⟨97, _⟩ => ⟨S17408x1, .f32⟩
  | .hbm, ⟨98, _⟩ => ⟨S17408x1024, .f32⟩
  | .hbm, ⟨99, _⟩ => ⟨S17408x1024, .f32⟩
  | .hbm, ⟨100, _⟩ => ⟨S1x1024, .f32⟩
  | .hbm, ⟨101, _⟩ => ⟨S17408x1024, .f32⟩
  | .hbm, ⟨102, _⟩ => ⟨S17408x1024, .f32⟩
  | .hbm, ⟨103, _⟩ => ⟨S17408x1024, .bf16⟩
  | .hbm, ⟨104, _⟩ => ⟨S17408x1024, .f32⟩
  | .hbm, ⟨105, _⟩ => ⟨S17408x1024, .f32⟩
  | .hbm, ⟨106, _⟩ => ⟨S17408x1024, .bf16⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst : Ref sig .tc := ⟨.hbm, 65, rfl⟩
abbrev main_v44 : Ref sig .tc := ⟨.hbm, 66, rfl⟩
abbrev main_v45 : Ref sig .tc := ⟨.hbm, 67, rfl⟩
abbrev main_cst_0 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_1 : Ref sig .tc := ⟨.hbm, 88, rfl⟩
abbrev main_v65 : Ref sig .tc := ⟨.hbm, 89, rfl⟩
abbrev main_v66 : Ref sig .tc := ⟨.hbm, 90, rfl⟩
abbrev main_cst_2 : Ref sig .tc := ⟨.hbm, 91, rfl⟩
abbrev main_v67 : Ref sig .tc := ⟨.hbm, 92, rfl⟩
abbrev main_v68 : Ref sig .tc := ⟨.hbm, 93, rfl⟩
abbrev main_cst_3 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩

abbrev nD : Nat := 1
abbrev τ : Topo := Topo.v7x

variable {F : FTy → Type} [FloatOps F]
-- ==== Prompt0.lean ====
abbrev S17408x9216 : Shape := ⟨2, ![17408, 9216]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S1x4096x8x32 : Shape := ⟨4, ![1, 4096, 8, 32]⟩
abbrev S4096x256 : Shape := ⟨2, ![4096, 256]⟩
abbrev S16384x256 : Shape := ⟨2, ![16384, 256]⟩
abbrev S512x256 : Shape := ⟨2, ![512, 256]⟩
abbrev S128x256 : Shape := ⟨2, ![128, 256]⟩
abbrev S640x256 : Shape := ⟨2, ![640, 256]⟩
abbrev S256x256 : Shape := ⟨2, ![256, 256]⟩
abbrev S512 : Shape := ⟨1, ![512]⟩
abbrev S512x1 : Shape := ⟨2, ![512, 1]⟩
abbrev S128x1 : Shape := ⟨2, ![128, 1]⟩
abbrev S1x128x256 : Shape := ⟨3, ![1, 128, 256]⟩
abbrev S4x128x256 : Shape := ⟨3, ![4, 128, 256]⟩
abbrev S4x4096x256 : Shape := ⟨3, ![4, 4096, 256]⟩
abbrev S4x128x1x256 : Shape := ⟨4, ![4, 128, 1, 256]⟩
abbrev S4x128x2x256 : Shape := ⟨4, ![4, 128, 2, 256]⟩
abbrev S4x128x2x4x64 : Shape := ⟨5, ![4, 128, 2, 4, 64]⟩

abbrev nBuf : Space → Nat
  | .hbm => 42
  | .vmem => 24
  | .smem => 0
  | _ => 0

abbrev bufTy : (tb : Table) → Fin (tcTables nBuf tb) → BufTy
  | .hbm, ⟨0, _⟩ => ⟨S17408x9216, .f32⟩
  | .hbm, ⟨1, _⟩ => ⟨S4096, .i32⟩
  | .hbm, ⟨2, _⟩ => ⟨S32, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S4096, .f32⟩
  | .hbm, ⟨11, _⟩ => ⟨S4096x1, .f32⟩
  | .hbm, ⟨12, _⟩ => ⟨S1x32, .f32⟩
  | .hbm, ⟨13, _⟩ => ⟨S4096x32, .f32⟩
  | .hbm, ⟨14, _⟩ => ⟨S4096x32, .f32⟩
  | .hbm, ⟨15, _⟩ => ⟨S4096x32, .f32⟩
  | .hbm, ⟨16, _⟩ => ⟨S4096x32, .f32⟩
  | .hbm, ⟨17, _⟩ => ⟨S1x4096x1x32, .f32⟩
  | .hbm, ⟨18, _⟩ => ⟨S1x4096x8x32, .f32⟩
  | .hbm, ⟨19, _⟩ => ⟨S4096x256, .f32⟩
  | .hbm, ⟨20, _⟩ => ⟨S4096x32, .f32⟩
  | .hbm, ⟨21, _⟩ => ⟨S1x4096x1x32, .f32⟩
  | .hbm, ⟨22, _⟩ => ⟨S1x4096x8x32, .f32⟩
  | .hbm, ⟨23, _⟩ => ⟨S4096x256, .f32⟩
  | .hbm, ⟨24, _⟩ => ⟨S16384x256, .f32⟩
  | .hbm, ⟨25, _⟩ => ⟨S16384x256, .f32⟩
  | .hbm, ⟨26, _⟩ => ⟨S16384x256, .f32⟩
  | .hbm, ⟨27, _⟩ => ⟨S128x256, .f32⟩
  | .hbm, ⟨28, _⟩ => ⟨S128x256, .f32⟩
  | .hbm, ⟨29, _⟩ => ⟨S128x256, .f32⟩
  | .hbm, ⟨30, _⟩ => ⟨S128x256, .f32⟩
  | .hbm, ⟨31, _⟩ => ⟨S1x128x256, .f32⟩
  | .hbm, ⟨32, _⟩ => ⟨S1x128x256, .f32⟩
  | .hbm, ⟨33, _⟩ => ⟨S1x128x256, .f32⟩
  | .hbm, ⟨34, _⟩ => ⟨S1x128x256, .f32⟩
  | .hbm, ⟨35, _⟩ => ⟨S4x128x256, .f32⟩
  | .hbm, ⟨36, _⟩ => ⟨S4x4096x256, .f32⟩
  | .hbm, ⟨37, _⟩ => ⟨S4x128x256, .f32⟩
  | .hbm, ⟨38, _⟩ => ⟨S4x128x1x256, .f32⟩
  | .hbm, ⟨39, _⟩ => ⟨S4x128x1x256, .f32⟩
  | .hbm, ⟨40, _⟩ => ⟨S4x128x2x256, .f32⟩
  | .hbm, ⟨41, _⟩ => ⟨S4x128x2x4x64, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S128x256, .f32⟩
  | .local _ .vmem, ⟨5, _⟩ => ⟨S128x256, .f32⟩
  | .local _ .vmem, ⟨6, _⟩ => ⟨S512x256, .f32⟩
  | .local _ .vmem, ⟨7, _⟩ => ⟨S512x256, .f32⟩
  | .local _ .vmem, ⟨8, _⟩ => ⟨S128x256, .f32⟩
  | .local _ .vmem, ⟨9, _⟩ => ⟨S128x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | _, _ => ⟨S17408x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21_0 : Ref sig .tc := ⟨.hbm, 24, rfl⟩
abbrev main_v21_1 : Ref sig .tc := ⟨.hbm, 25, rfl⟩
abbrev main_v21_2 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![4, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c26_i32 : BitVec 32 := 26#32
  let c0_i32 : BitVec 32 := 0#32
  ![v1.toNat, c26_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c27_i32 : BitVec 32 := 27#32
  let c0_i32 : BitVec 32 := 0#32
  ![v1.toNat, c27_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c4_i32 : BitVec 32 := 4#32
  let v1 : BitVec 32 := Scalar.muli arg2 c4_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c27_i32 : BitVec 32 := 27#32
  let c0_i32_0 : BitVec 32 := 0#32
  ![v4.toNat, c27_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c28_i32 : BitVec 32 := 28#32
  let c0_i32 : BitVec 32 := 0#32
  ![v1.toNat, c28_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c4_i32 : BitVec 32 := 4#32
  let v1 : BitVec 32 := Scalar.muli arg2 c4_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c28_i32 : BitVec 32 := 28#32
  let c0_i32_0 : BitVec 32 := 0#32
  ![v4.toNat, c28_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== Prompt0RefIdeal.lean ====
abbrev S17408x9216 : Shape := ⟨2, ![17408, 9216]⟩
abbrev S16384x256 : Shape := ⟨2, ![16384, 256]⟩
abbrev S4x4096x4x64 : Shape := ⟨4, ![4, 4096, 4, 64]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S4x4096x4x32 : Shape := ⟨4, ![4, 4096, 4, 32]⟩
abbrev S4x4096x1x4x64 : Shape := ⟨5, ![4, 4096, 1, 4, 64]⟩
abbrev S4x4096x2x4x64 : Shape := ⟨5, ![4, 4096, 2, 4, 64]⟩
abbrev S4x128x2x4x64 : Shape := ⟨5, ![4, 128, 2, 4, 64]⟩

abbrev nBuf : Space → Nat
  | .hbm => 41
  | .vmem => 0
  | .smem => 0
  | _ => 0

abbrev bufTy : (tb : Table) → Fin (tcTables nBuf tb) → BufTy
  | .hbm, ⟨0, _⟩ => ⟨S17408x9216, .f32⟩
  | .hbm, ⟨1, _⟩ => ⟨S16384x256, .f32⟩
  | .hbm, ⟨2, _⟩ => ⟨S4x4096x4x64, .f32⟩
  | .hbm, ⟨3, _⟩ => ⟨S16384x256, .f32⟩
  | .hbm, ⟨4, _⟩ => ⟨S4x4096x4x64, .f32⟩
  | .hbm, ⟨5, _⟩ => ⟨S4096, .i32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S4096, .f32⟩
  | .hbm, ⟨15, _⟩ => ⟨S4096x1, .f32⟩
  | .hbm, ⟨16, _⟩ => ⟨S1x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S1x4096x1x32, .f32⟩
  | .hbm, ⟨22, _⟩ => ⟨S4096x32, .f32⟩
  | .hbm, ⟨23, _⟩ => ⟨S1x4096x1x32, .f32⟩
  | .hbm, ⟨24, _⟩ => ⟨S4x4096x4x32, .f32⟩
  | .hbm, ⟨25, _⟩ => ⟨S4x4096x4x32, .f32⟩
  | .hbm, ⟨26, _⟩ => ⟨S4x4096x4x32, .f32⟩
  | .hbm, ⟨27, _⟩ => ⟨S4x4096x4x32, .f32⟩
  | .hbm, ⟨28, _⟩ => ⟨S4x4096x4x32, .f32⟩
  | .hbm, ⟨29, _⟩ => ⟨S4x4096x4x32, .f32⟩
  | .hbm, ⟨30, _⟩ => ⟨S4x4096x4x32, .f32⟩
  | .hbm, ⟨31, _⟩ => ⟨S4x4096x4x32, .f32⟩
  | .hbm, ⟨32, _⟩ => ⟨S4x4096x4x32, .f32⟩
  | .hbm, ⟨33, _⟩ => ⟨S4x4096x4x32, .f32⟩
  | .hbm, ⟨34, _⟩ => ⟨S4x4096x4x32, .f32⟩
  | .hbm, ⟨35, _⟩ => ⟨S4x4096x4x32, .f32⟩
  | .hbm, ⟨36, _⟩ => ⟨S4x4096x4x64, .f32⟩
  | .hbm, ⟨37, _⟩ => ⟨S4x4096x1x4x64, .f32⟩
  | .hbm, ⟨38, _⟩ => ⟨S4x4096x1x4x64, .f32⟩
  | .hbm, ⟨39, _⟩ => ⟨S4x4096x2x4x64, .f32⟩
  | .hbm, ⟨40, _⟩ => ⟨S4x128x2x4x64, .f32⟩
  | _, _ => ⟨S17408x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩

abbrev nD : Nat := 1
abbrev τ : Topo := Topo.v7x

variable {F : FTy → Type} [FloatOps F]
-- ==== Prompt1.lean ====
abbrev S17408x9216 : Shape := ⟨2, ![17408, 9216]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S1x4096x8x32 : Shape := ⟨4, ![1, 4096, 8, 32]⟩
abbrev S4096x256 : Shape := ⟨2, ![4096, 256]⟩
abbrev S16384x768 : Shape := ⟨2, ![16384, 768]⟩
abbrev S4096x3072 : Shape := ⟨2, ![4096, 3072]⟩
abbrev S1024x1024 : Shape := ⟨2, ![1024, 1024]⟩
abbrev S4096x1024 : Shape := ⟨2, ![4096, 1024]⟩
abbrev S512x256 : Shape := ⟨2, ![512, 256]⟩
abbrev S128x256 : Shape := ⟨2, ![128, 256]⟩
abbrev S640x256 : Shape := ⟨2, ![640, 256]⟩
abbrev S256x256 : Shape := ⟨2, ![256, 256]⟩
abbrev S512 : Shape := ⟨1, ![512]⟩
abbrev S512x1 : Shape := ⟨2, ![512, 1]⟩
abbrev S128x1 : Shape := ⟨2, ![128, 1]⟩
abbrev S16384x256 : Shape := ⟨2, ![16384, 256]⟩
abbrev S1x512x256 : Shape := ⟨3, ![1, 512, 256]⟩
abbrev S4x512x256 : Shape := ⟨3, ![4, 512, 256]⟩
abbrev S4x4096x256 : Shape := ⟨3, ![4, 4096, 256]⟩
abbrev S4x512x1x256 : Shape := ⟨4, ![4, 512, 1, 256]⟩
abbrev S4x512x2x256 : Shape := ⟨4, ![4, 512, 2, 256]⟩
abbrev S4x512x2x4x64 : Shape := ⟨5, ![4, 512, 2, 4, 64]⟩

abbrev nBuf : Space → Nat
  | .hbm => 49
  | .vmem => 24
  | .smem => 0
  | _ => 0

abbrev bufTy : (tb : Table) → Fin (tcTables nBuf tb) → BufTy
  | .hbm, ⟨0, _⟩ => ⟨S17408x9216, .f32⟩
  | .hbm, ⟨1, _⟩ => ⟨S4096, .i32⟩
  | .hbm, ⟨2, _⟩ => ⟨S32, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S4096, .f32⟩
  | .hbm, ⟨11, _⟩ => ⟨S4096x1, .f32⟩
  | .hbm, ⟨12, _⟩ => ⟨S1x32, .f32⟩
  | .hbm, ⟨13, _⟩ => ⟨S4096x32, .f32⟩
  | .hbm, ⟨14, _⟩ => ⟨S4096x32, .f32⟩
  | .hbm, ⟨15, _⟩ => ⟨S4096x32, .f32⟩
  | .hbm, ⟨16, _⟩ => ⟨S4096x32, .f32⟩
  | .hbm, ⟨17, _⟩ => ⟨S1x4096x1x32, .f32⟩
  | .hbm, ⟨18, _⟩ => ⟨S1x4096x8x32, .f32⟩
  | .hbm, ⟨19, _⟩ => ⟨S4096x256, .f32⟩
  | .hbm, ⟨20, _⟩ => ⟨S4096x32, .f32⟩
  | .hbm, ⟨21, _⟩ => ⟨S1x4096x1x32, .f32⟩
  | .hbm, ⟨22, _⟩ => ⟨S1x4096x8x32, .f32⟩
  | .hbm, ⟨23, _⟩ => ⟨S4096x256, .f32⟩
  | .hbm, ⟨24, _⟩ => ⟨S16384x768, .f32⟩
  | .hbm, ⟨25, _⟩ => ⟨S4096x3072, .f32⟩
  | .hbm, ⟨26, _⟩ => ⟨S1024x1024, .f32⟩
  | .hbm, ⟨27, _⟩ => ⟨S1024x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S16384x256, .f32⟩
  | .hbm, ⟨32, _⟩ => ⟨S16384x256, .f32⟩
  | .hbm, ⟨33, _⟩ => ⟨S16384x256, .f32⟩
  | .hbm, ⟨34, _⟩ => ⟨S512x256, .f32⟩
  | .hbm, ⟨35, _⟩ => ⟨S512x256, .f32⟩
  | .hbm, ⟨36, _⟩ => ⟨S512x256, .f32⟩
  | .hbm, ⟨37, _⟩ => ⟨S512x256, .f32⟩
  | .hbm, ⟨38, _⟩ => ⟨S1x512x256, .f32⟩
  | .hbm, ⟨39, _⟩ => ⟨S1x512x256, .f32⟩
  | .hbm, ⟨40, _⟩ => ⟨S1x512x256, .f32⟩
  | .hbm, ⟨41, _⟩ => ⟨S1x512x256, .f32⟩
  | .hbm, ⟨42, _⟩ => ⟨S4x512x256, .f32⟩
  | .hbm, ⟨43, _⟩ => ⟨S4x4096x256, .f32⟩
  | .hbm, ⟨44, _⟩ => ⟨S4x512x256, .f32⟩
  | .hbm, ⟨45, _⟩ => ⟨S4x512x1x256, .f32⟩
  | .hbm, ⟨46, _⟩ => ⟨S4x512x1x256, .f32⟩
  | .hbm, ⟨47, _⟩ => ⟨S4x512x2x256, .f32⟩
  | .hbm, ⟨48, _⟩ => ⟨S4x512x2x4x64, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S128x256, .f32⟩
  | .local _ .vmem, ⟨5, _⟩ => ⟨S128x256, .f32⟩
  | .local _ .vmem, ⟨6, _⟩ => ⟨S512x256, .f32⟩
  | .local _ .vmem, ⟨7, _⟩ => ⟨S512x256, .f32⟩
  | .local _ .vmem, ⟨8, _⟩ => ⟨S128x256, .f32⟩
  | .local _ .vmem, ⟨9, _⟩ => ⟨S128x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | _, _ => ⟨S17408x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25_0 : Ref sig .tc := ⟨.hbm, 28, rfl⟩
abbrev main_v25_1 : Ref sig .tc := ⟨.hbm, 29, rfl⟩
abbrev main_v25_2 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![4, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c3_i32 : BitVec 32 := 3#32
  let v2 : BitVec 32 := Scalar.muli arg1 c3_i32
  let c0_i32 : BitVec 32 := 0#32
  let v3 : BitVec 32 := Scalar.addi v2 c0_i32
  let c0_i32_0 : BitVec 32 := 0#32
  ![v1.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c3_i32 : BitVec 32 := 3#32
  let v2 : BitVec 32 := Scalar.muli arg1 c3_i32
  let c1_i32 : BitVec 32 := 1#32
  let v3 : BitVec 32 := Scalar.addi v2 c1_i32
  let c0_i32 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c4_i32 : BitVec 32 := 4#32
  let v1 : BitVec 32 := Scalar.muli arg2 c4_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c3_i32 : BitVec 32 := 3#32
  let v5 : BitVec 32 := Scalar.muli arg1 c3_i32
  let c1_i32_0 : BitVec 32 := 1#32
  let v6 : BitVec 32 := Scalar.addi v5 c1_i32_0
  let c0_i32_1 : BitVec 32 := 0#32
  ![v4.toNat, v6.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c3_i32 : BitVec 32 := 3#32
  let v2 : BitVec 32 := Scalar.muli arg1 c3_i32
  let c2_i32_0 : BitVec 32 := 2#32
  let v3 : BitVec 32 := Scalar.addi v2 c2_i32_0
  let c0_i32 : BitVec 32 := 0#32
  ![v1.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c4_i32 : BitVec 32 := 4#32
  let v1 : BitVec 32 := Scalar.muli arg2 c4_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c3_i32 : BitVec 32 := 3#32
  let v5 : BitVec 32 := Scalar.muli arg1 c3_i32
  let c2_i32 : BitVec 32 := 2#32
  let v6 : BitVec 32 := Scalar.addi v5 c2_i32
  let c0_i32_0 : BitVec 32 := 0#32
  ![v4.toNat, v6.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== Prompt1RefIdeal.lean ====
abbrev S17408x9216 : Shape := ⟨2, ![17408, 9216]⟩
abbrev S16384x256 : Shape := ⟨2, ![16384, 256]⟩
abbrev S4x4096x4x64 : Shape := ⟨4, ![4, 4096, 4, 64]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S4x4096x4x32 : Shape := ⟨4, ![4, 4096, 4, 32]⟩
abbrev S4x4096x1x4x64 : Shape := ⟨5, ![4, 4096, 1, 4, 64]⟩
abbrev S4x4096x2x4x64 : Shape := ⟨5, ![4, 4096, 2, 4, 64]⟩
abbrev S4x512x2x4x64 : Shape := ⟨5, ![4, 512, 2, 4, 64]⟩

abbrev nBuf : Space → Nat
  | .hbm => 41
  | .vmem => 0
  | .smem => 0
  | _ => 0

abbrev bufTy : (tb : Table) → Fin (tcTables nBuf tb) → BufTy
  | .hbm, ⟨0, _⟩ => ⟨S17408x9216, .f32⟩
  | .hbm, ⟨1, _⟩ => ⟨S16384x256, .f32⟩
  | .hbm, ⟨2, _⟩ => ⟨S4x4096x4x64, .f32⟩
  | .hbm, ⟨3, _⟩ => ⟨S16384x256, .f32⟩
  | .hbm, ⟨4, _⟩ => ⟨S4x4096x4x64, .f32⟩
  | .hbm, ⟨5, _⟩ => ⟨S4096, .i32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S4096, .f32⟩
  | .hbm, ⟨15, _⟩ => ⟨S4096x1, .f32⟩
  | .hbm, ⟨16, _⟩ => ⟨S1x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S1x4096x1x32, .f32⟩
  | .hbm, ⟨22, _⟩ => ⟨S4096x32, .f32⟩
  | .hbm, ⟨23, _⟩ => ⟨S1x4096x1x32, .f32⟩
  | .hbm, ⟨24, _⟩ => ⟨S4x4096x4x32, .f32⟩
  | .hbm, ⟨25, _⟩ => ⟨S4x4096x4x32, .f32⟩
  | .hbm, ⟨26, _⟩ => ⟨S4x4096x4x32, .f32⟩
  | .hbm, ⟨27, _⟩ => ⟨S4x4096x4x32, .f32⟩
  | .hbm, ⟨28, _⟩ => ⟨S4x4096x4x32, .f32⟩
  | .hbm, ⟨29, _⟩ => ⟨S4x4096x4x32, .f32⟩
  | .hbm, ⟨30, _⟩ => ⟨S4x4096x4x32, .f32⟩
  | .hbm, ⟨31, _⟩ => ⟨S4x4096x4x32, .f32⟩
  | .hbm, ⟨32, _⟩ => ⟨S4x4096x4x32, .f32⟩
  | .hbm, ⟨33, _⟩ => ⟨S4x4096x4x32, .f32⟩
  | .hbm, ⟨34, _⟩ => ⟨S4x4096x4x32, .f32⟩
  | .hbm, ⟨35, _⟩ => ⟨S4x4096x4x32, .f32⟩
  | .hbm, ⟨36, _⟩ => ⟨S4x4096x4x64, .f32⟩
  | .hbm, ⟨37, _⟩ => ⟨S4x4096x1x4x64, .f32⟩
  | .hbm, ⟨38, _⟩ => ⟨S4x4096x1x4x64, .f32⟩
  | .hbm, ⟨39, _⟩ => ⟨S4x4096x2x4x64, .f32⟩
  | .hbm, ⟨40, _⟩ => ⟨S4x512x2x4x64, .f32⟩
  | _, _ => ⟨S17408x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩

abbrev nD : Nat := 1
abbrev τ : Topo := Topo.v7x

variable {F : FTy → Type} [FloatOps F]
-- ==== Prompt2.lean ====
abbrev S17408x9216 : Shape := ⟨2, ![17408, 9216]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S1x4096x8x32 : Shape := ⟨4, ![1, 4096, 8, 32]⟩
abbrev S4096x256 : Shape := ⟨2, ![4096, 256]⟩
abbrev S16384x768 : Shape := ⟨2, ![16384, 768]⟩
abbrev S1024x12288 : Shape := ⟨2, ![1024, 12288]⟩
abbrev S256x4096 : Shape := ⟨2, ![256, 4096]⟩
abbrev S1024x4096 : Shape := ⟨2, ![1024, 4096]⟩
abbrev S256x256 : Shape := ⟨2, ![256, 256]⟩
abbrev S128x256 : Shape := ⟨2, ![128, 256]⟩
abbrev S384x256 : Shape := ⟨2, ![384, 256]⟩
abbrev S512x256 : Shape := ⟨2, ![512, 256]⟩
abbrev S512 : Shape := ⟨1, ![512]⟩
abbrev S512x1 : Shape := ⟨2, ![512, 1]⟩
abbrev S128x1 : Shape := ⟨2, ![128, 1]⟩
abbrev S16384x256 : Shape := ⟨2, ![16384, 256]⟩
abbrev S2048x256 : Shape := ⟨2, ![2048, 256]⟩
abbrev S1x2048x256 : Shape := ⟨3, ![1, 2048, 256]⟩
abbrev S4x2048x256 : Shape := ⟨3, ![4, 2048, 256]⟩
abbrev S4x4096x256 : Shape := ⟨3, ![4, 4096, 256]⟩
abbrev S4x2048x1x256 : Shape := ⟨4, ![4, 2048, 1, 256]⟩
abbrev S4x2048x2x256 : Shape := ⟨4, ![4, 2048, 2, 256]⟩
abbrev S4x2048x2x4x64 : Shape := ⟨5, ![4, 2048, 2, 4, 64]⟩

abbrev nBuf : Space → Nat
  | .hbm => 49
  | .vmem => 24
  | .smem => 0
  | _ => 0

abbrev bufTy : (tb : Table) → Fin (tcTables nBuf tb) → BufTy
  | .hbm, ⟨0, _⟩ => ⟨S17408x9216, .f32⟩
  | .hbm, ⟨1, _⟩ => ⟨S4096, .i32⟩
  | .hbm, ⟨2, _⟩ => ⟨S32, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S4096, .f32⟩
  | .hbm, ⟨11, _⟩ => ⟨S4096x1, .f32⟩
  | .hbm, ⟨12, _⟩ => ⟨S1x32, .f32⟩
  | .hbm, ⟨13, _⟩ => ⟨S4096x32, .f32⟩
  | .hbm, ⟨14, _⟩ => ⟨S4096x32, .f32⟩
  | .hbm, ⟨15, _⟩ => ⟨S4096x32, .f32⟩
  | .hbm, ⟨16, _⟩ => ⟨S4096x32, .f32⟩
  | .hbm, ⟨17, _⟩ => ⟨S1x4096x1x32, .f32⟩
  | .hbm, ⟨18, _⟩ => ⟨S1x4096x8x32, .f32⟩
  | .hbm, ⟨19, _⟩ => ⟨S4096x256, .f32⟩
  | .hbm, ⟨20, _⟩ => ⟨S4096x32, .f32⟩
  | .hbm, ⟨21, _⟩ => ⟨S1x4096x1x32, .f32⟩
  | .hbm, ⟨22, _⟩ => ⟨S1x4096x8x32, .f32⟩
  | .hbm, ⟨23, _⟩ => ⟨S4096x256, .f32⟩
  | .hbm, ⟨24, _⟩ => ⟨S16384x768, .f32⟩
  | .hbm, ⟨25, _⟩ => ⟨S1024x12288, .f32⟩
  | .hbm, ⟨26, _⟩ => ⟨S256x4096, .f32⟩
  | .hbm, ⟨27, _⟩ => ⟨S256x4096, .f32⟩
  | .hbm, ⟨28, _⟩ => ⟨S1024x4096, .f32⟩
  | .hbm, ⟨29, _⟩ => ⟨S1024x4096, .f32⟩
  | .hbm, ⟨30, _⟩ => ⟨S1024x4096, .f32⟩
  | .hbm, ⟨31, _⟩ => ⟨S16384x256, .f32⟩
  | .hbm, ⟨32, _⟩ => ⟨S16384x256, .f32⟩
  | .hbm, ⟨33, _⟩ => ⟨S16384x256, .f32⟩
  | .hbm, ⟨34, _⟩ => ⟨S2048x256, .f32⟩
  | .hbm, ⟨35, _⟩ => ⟨S2048x256, .f32⟩
  | .hbm, ⟨36, _⟩ => ⟨S2048x256, .f32⟩
  | .hbm, ⟨37, _⟩ => ⟨S2048x256, .f32⟩
  | .hbm, ⟨38, _⟩ => ⟨S1x2048x256, .f32⟩
  | .hbm, ⟨39, _⟩ => ⟨S1x2048x256, .f32⟩
  | .hbm, ⟨40, _⟩ => ⟨S1x2048x256, .f32⟩
  | .hbm, ⟨41, _⟩ => ⟨S1x2048x256, .f32⟩
  | .hbm, ⟨42, _⟩ => ⟨S4x2048x256, .f32⟩
  | .hbm, ⟨43, _⟩ => ⟨S4x4096x256, .f32⟩
  | .hbm, ⟨44, _⟩ => ⟨S4x2048x256, .f32⟩
  | .hbm, ⟨45, _⟩ => ⟨S4x2048x1x256, .f32⟩
  | .hbm, ⟨46, _⟩ => ⟨S4x2048x1x256, .f32⟩
  | .hbm, ⟨47, _⟩ => ⟨S4x2048x2x256, .f32⟩
  | .hbm, ⟨48, _⟩ => ⟨S4x2048x2x4x64, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S128x256, .f32⟩
  | .local _ .vmem, ⟨5, _⟩ => ⟨S128x256, .f32⟩
  | .local _ .vmem, ⟨6, _⟩ => ⟨S256x256, .f32⟩
  | .local _ .vmem, ⟨7, _⟩ => ⟨S256x256, .f32⟩
  | .local _ .vmem, ⟨8, _⟩ => ⟨S128x256, .f32⟩
  | .local _ .vmem, ⟨9, _⟩ => ⟨S128x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S256x256, .f32⟩
  | .local _ .vmem, ⟨23, _⟩ => ⟨S256x256, .f32⟩
  | _, _ => ⟨S17408x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25_0 : Ref sig .tc := ⟨.hbm, 28, rfl⟩
abbrev main_v25_1 : Ref sig .tc := ⟨.hbm, 29, rfl⟩
abbrev main_v25_2 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c3_i32 : BitVec 32 := 3#32
  let v2 : BitVec 32 := Scalar.muli arg1 c3_i32
  let c0_i32 : BitVec 32 := 0#32
  let v3 : BitVec 32 := Scalar.addi v2 c0_i32
  let c0_i32_0 : BitVec 32 := 0#32
  ![v1.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c3_i32 : BitVec 32 := 3#32
  let v2 : BitVec 32 := Scalar.muli arg1 c3_i32
  let c1_i32_0 : BitVec 32 := 1#32
  let v3 : BitVec 32 := Scalar.addi v2 c1_i32_0
  let c0_i32 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c2_i32_0 : BitVec 32 := 2#32
  let v1 : BitVec 32 := Scalar.muli arg2 c2_i32_0
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c3_i32 : BitVec 32 := 3#32
  let v5 : BitVec 32 := Scalar.muli arg1 c3_i32
  let c1_i32_1 : BitVec 32 := 1#32
  let v6 : BitVec 32 := Scalar.addi v5 c1_i32_1
  let c0_i32_2 : BitVec 32 := 0#32
  ![v4.toNat, v6.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c3_i32 : BitVec 32 := 3#32
  let v2 : BitVec 32 := Scalar.muli arg1 c3_i32
  let c2_i32 : BitVec 32 := 2#32
  let v3 : BitVec 32 := Scalar.addi v2 c2_i32
  let c0_i32 : BitVec 32 := 0#32
  ![v1.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c2_i32_0 : BitVec 32 := 2#32
  let v1 : BitVec 32 := Scalar.muli arg2 c2_i32_0
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c3_i32 : BitVec 32 := 3#32
  let v5 : BitVec 32 := Scalar.muli arg1 c3_i32
  let c2_i32_1 : BitVec 32 := 2#32
  let v6 : BitVec 32 := Scalar.addi v5 c2_i32_1
  let c0_i32_2 : BitVec 32 := 0#32
  ![v4.toNat, v6.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== Prompt2RefIdeal.lean ====
abbrev S17408x9216 : Shape := ⟨2, ![17408, 9216]⟩
abbrev S16384x256 : Shape := ⟨2, ![16384, 256]⟩
abbrev S4x4096x4x64 : Shape := ⟨4, ![4, 4096, 4, 64]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S4x4096x4x32 : Shape := ⟨4, ![4, 4096, 4, 32]⟩
abbrev S4x4096x1x4x64 : Shape := ⟨5, ![4, 4096, 1, 4, 64]⟩
abbrev S4x4096x2x4x64 : Shape := ⟨5, ![4, 4096, 2, 4, 64]⟩
abbrev S4x2048x2x4x64 : Shape := ⟨5, ![4, 2048, 2, 4, 64]⟩

abbrev nBuf : Space → Nat
  | .hbm => 41
  | .vmem => 0
  | .smem => 0
  | _ => 0

abbrev bufTy : (tb : Table) → Fin (tcTables nBuf tb) → BufTy
  | .hbm, ⟨0, _⟩ => ⟨S17408x9216, .f32⟩
  | .hbm, ⟨1, _⟩ => ⟨S16384x256, .f32⟩
  | .hbm, ⟨2, _⟩ => ⟨S4x4096x4x64, .f32⟩
  | .hbm, ⟨3, _⟩ => ⟨S16384x256, .f32⟩
  | .hbm, ⟨4, _⟩ => ⟨S4x4096x4x64, .f32⟩
  | .hbm, ⟨5, _⟩ => ⟨S4096, .i32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S4096, .f32⟩
  | .hbm, ⟨15, _⟩ => ⟨S4096x1, .f32⟩
  | .hbm, ⟨16, _⟩ => ⟨S1x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S1x4096x1x32, .f32⟩
  | .hbm, ⟨22, _⟩ => ⟨S4096x32, .f32⟩
  | .hbm, ⟨23, _⟩ => ⟨S1x4096x1x32, .f32⟩
  | .hbm, ⟨24, _⟩ => ⟨S4x4096x4x32, .f32⟩
  | .hbm, ⟨25, _⟩ => ⟨S4x4096x4x32, .f32⟩
  | .hbm, ⟨26, _⟩ => ⟨S4x4096x4x32, .f32⟩
  | .hbm, ⟨27, _⟩ => ⟨S4x4096x4x32, .f32⟩
  | .hbm, ⟨28, _⟩ => ⟨S4x4096x4x32, .f32⟩
  | .hbm, ⟨29, _⟩ => ⟨S4x4096x4x32, .f32⟩
  | .hbm, ⟨30, _⟩ => ⟨S4x4096x4x32, .f32⟩
  | .hbm, ⟨31, _⟩ => ⟨S4x4096x4x32, .f32⟩
  | .hbm, ⟨32, _⟩ => ⟨S4x4096x4x32, .f32⟩
  | .hbm, ⟨33, _⟩ => ⟨S4x4096x4x32, .f32⟩
  | .hbm, ⟨34, _⟩ => ⟨S4x4096x4x32, .f32⟩
  | .hbm, ⟨35, _⟩ => ⟨S4x4096x4x32, .f32⟩
  | .hbm, ⟨36, _⟩ => ⟨S4x4096x4x64, .f32⟩
  | .hbm, ⟨37, _⟩ => ⟨S4x4096x1x4x64, .f32⟩
  | .hbm, ⟨38, _⟩ => ⟨S4x4096x1x4x64, .f32⟩
  | .hbm, ⟨39, _⟩ => ⟨S4x4096x2x4x64, .f32⟩
  | .hbm, ⟨40, _⟩ => ⟨S4x2048x2x4x64, .f32⟩
  | _, _ => ⟨S17408x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩

abbrev nD : Nat := 1
abbrev τ : Topo := Topo.v7x

variable {F : FTy → Type} [FloatOps F]
-- ==== Sample0.lean ====
abbrev S17408x9216 : Shape := ⟨2, ![17408, 9216]⟩
abbrev S128x128x2x4x64 : Shape := ⟨5, ![128, 128, 2, 4, 64]⟩
abbrev S8 : Shape := ⟨1, ![8]⟩
abbrev S_ : Shape := ⟨0, ![]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S1x8x1x32 : Shape := ⟨4, ![1, 8, 1, 32]⟩
abbrev S1x8x8x32 : Shape := ⟨4, ![1, 8, 8, 32]⟩
abbrev S8x256 : Shape := ⟨2, ![8, 256]⟩
abbrev S128x2x4x64x128 : Shape := ⟨5, ![128, 2, 4, 64, 128]⟩
abbrev S1x128x2x4x64x128 : Shape := ⟨6, ![1, 128, 2, 4, 64, 128]⟩
abbrev S1024x256 : Shape := ⟨2, ![1024, 256]⟩
abbrev S32x256 : Shape := ⟨2, ![32, 256]⟩
abbrev S1x4x2x4x64x128 : Shape := ⟨6, ![1, 4, 2, 4, 64, 128]⟩
abbrev S32x128 : Shape := ⟨2, ![32, 128]⟩
abbrev S32x8 : Shape := ⟨2, ![32, 8]⟩
abbrev S1x1x1x4x64x128 : Shape := ⟨6, ![1, 1, 1, 4, 64, 128]⟩
abbrev S4x64x128 : Shape := ⟨3, ![4, 64, 128]⟩
abbrev S256x128 : Shape := ⟨2, ![256, 128]⟩
abbrev S32x1 : Shape := ⟨2, ![32, 1]⟩
abbrev S1024x9216 : Shape := ⟨2, ![1024, 9216]⟩
abbrev S128x8x9216 : Shape := ⟨3, ![128, 8, 9216]⟩
abbrev S128x8x256 : Shape := ⟨3, ![128, 8, 256]⟩
abbrev S128x8x1x256 : Shape := ⟨4, ![128, 8, 1, 256]⟩
abbrev S128x8x2x256 : Shape := ⟨4, ![128, 8, 2, 256]⟩
abbrev S128x8x2x4x64 : Shape := ⟨5, ![128, 8, 2, 4, 64]⟩
abbrev S128x136x2x4x64 : Shape := ⟨5, ![128, 136, 2, 4, 64]⟩

abbrev nBuf : Space → Nat
  | .hbm => 43
  | .vmem => 16
  | .smem => 0
  | _ => 0

abbrev bufTy : (tb : Table) → Fin (tcTables nBuf tb) → BufTy
  | .hbm, ⟨0, _⟩ => ⟨S17408x9216, .f32⟩
  | .hbm, ⟨1, _⟩ => ⟨S128x128x2x4x64, .f32⟩
  | .hbm, ⟨2, _⟩ => ⟨S8, .i32⟩
  | .hbm, ⟨3, _⟩ => ⟨S_, .i32⟩
  | .hbm, ⟨4, _⟩ => ⟨S8, .i32⟩
  | .hbm, ⟨5, _⟩ => ⟨S8, .i32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S8, .f32⟩
  | .hbm, ⟨15, _⟩ => ⟨S8x1, .f32⟩
  | .hbm, ⟨16, _⟩ => ⟨S1x32, .f32⟩
  | .hbm, ⟨17, _⟩ => ⟨S8x32, .f32⟩
  | .hbm, ⟨18, _⟩ => ⟨S8x32, .f32⟩
  | .hbm, ⟨19, _⟩ => ⟨S8x32, .f32⟩
  | .hbm, ⟨20, _⟩ => ⟨S8x32, .f32⟩
  | .hbm, ⟨21, _⟩ => ⟨S1x8x1x32, .f32⟩
  | .hbm, ⟨22, _⟩ => ⟨S1x8x8x32, .f32⟩
  | .hbm, ⟨23, _⟩ => ⟨S8x256, .f32⟩
  | .hbm, ⟨24, _⟩ => ⟨S8x32, .f32⟩
  | .hbm, ⟨25, _⟩ => ⟨S1x8x1x32, .f32⟩
  | .hbm, ⟨26, _⟩ => ⟨S1x8x8x32, .f32⟩
  | .hbm, ⟨27, _⟩ => ⟨S8x256, .f32⟩
  | .hbm, ⟨28, _⟩ => ⟨S128x2x4x64x128, .f32⟩
  | .hbm, ⟨29, _⟩ => ⟨S1x128x2x4x64x128, .f32⟩
  | .hbm, ⟨30, _⟩ => ⟨S1024x256, .f32⟩
  | .hbm, ⟨31, _⟩ => ⟨S1024x256, .f32⟩
  | .hbm, ⟨32, _⟩ => ⟨S1024x256, .f32⟩
  | .hbm, ⟨33, _⟩ => ⟨S1024x9216, .f32⟩
  | .hbm, ⟨34, _⟩ => ⟨S128x8x9216, .f32⟩
  | .hbm, ⟨35, _⟩ => ⟨S128x8x256, .f32⟩
  | .hbm, ⟨36, _⟩ => ⟨S128x8x256, .f32⟩
  | .hbm, ⟨37, _⟩ => ⟨S128x8x1x256, .f32⟩
  | .hbm, ⟨38, _⟩ => ⟨S128x8x1x256, .f32⟩
  | .hbm, ⟨39, _⟩ => ⟨S128x8x2x256, .f32⟩
  | .hbm, ⟨40, _⟩ => ⟨S128x8x2x4x64, .f32⟩
  | .hbm, ⟨41, _⟩ => ⟨S128x136x2x4x64, .f32⟩
  | .hbm, ⟨42, _⟩ => ⟨S128x128x2x4x64, .f32⟩
  | .local _ .vmem, ⟨0, _⟩ => ⟨S32x256, .f32⟩
  | .local _ .vmem, ⟨1, _⟩ => ⟨S32x256, .f32⟩
  | .local _ .vmem, ⟨2, _⟩ => ⟨S32x256, .f32⟩
  | .local _ .vmem, ⟨3, _⟩ => ⟨S32x256, .f32⟩
  | .local _ .vmem, ⟨4, _⟩ => ⟨S32x256, .f32⟩
  | .local _ .vmem, ⟨5, _⟩ => ⟨S32x256, .f32⟩
  | .local _ .vmem, ⟨6, _⟩ => ⟨S8x256, .f32⟩
  | .local _ .vmem, ⟨7, _⟩ => ⟨S8x256, .f32⟩
  | .local _ .vmem, ⟨8, _⟩ => ⟨S1x4x2x4x64x128, .f32⟩
  | .local _ .vmem, ⟨9, _⟩ => ⟨S1x4x2x4x64x128, .f32⟩
  | .local _ .vmem, ⟨10, _⟩ => ⟨S32x256, .f32⟩
  | .local _ .vmem, ⟨11, _⟩ => ⟨S32x256, .f32⟩
  | .local _ .vmem, ⟨12, _⟩ => ⟨S32x256, .f32⟩
  | .local _ .vmem, ⟨13, _⟩ => ⟨S32x256, .f32⟩
  | .local _ .vmem, ⟨14, _⟩ => ⟨S32x256, .f32⟩
  | .local _ .vmem, ⟨15, _⟩ => ⟨S32x256, .f32⟩
  | _, _ => ⟨S17408x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25_0 : Ref sig .tc := ⟨.hbm, 30, rfl⟩
abbrev main_v25_1 : Ref sig .tc := ⟨.hbm, 31, rfl⟩
abbrev main_v25_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c512_i32 : BitVec 32 := 512#32
  let v0 : BitVec 32 := Scalar.addi c512_i32 arg0
  let c26_i32 : BitVec 32 := 26#32
  let c0_i32 : BitVec 32 := 0#32
  ![v0.toNat, c26_i32.toNat]

def cc0_transform_1 (i : grid0.Coords) : Fin 2 → Nat :=
  let arg0 : BitVec 32 := BitVec.ofNat 32 (i 0).val
  let c512_i32 : BitVec 32 := 512#32
  let v0 : BitVec 32 := Scalar.addi c512_i32 arg0
  let c27_i32 : BitVec 32 := 27#32
  let c0_i32 : BitVec 32 := 0#32
  ![v0.toNat, c27_i32.toNat]

def cc0_transform_2 (i : grid0.Coords) : Fin 2 → Nat :=
  let arg0 : BitVec 32 := BitVec.ofNat 32 (i 0).val
  let c512_i32 : BitVec 32 := 512#32
  let v0 : BitVec 32 := Scalar.addi c512_i32 arg0
  let c28_i32 : BitVec 32 := 28#32
  let c0_i32 : BitVec 32 := 0#32
  ![v0.toNat, c28_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 6 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, arg0.toNat, c0_i32_0.toNat, c0_i32_1.toNat, c0_i32_2.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x4x2x4x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Sample0RefIdeal.lean ====
abbrev S17408x9216 : Shape := ⟨2, ![17408, 9216]⟩
abbrev S128x128x2x4x64 : Shape := ⟨5, ![128, 128, 2, 4, 64]⟩
abbrev S1024x256 : Shape := ⟨2, ![1024, 256]⟩
abbrev S128x8x4x64 : Shape := ⟨4, ![128, 8, 4, 64]⟩
abbrev S8 : Shape := ⟨1, ![8]⟩
abbrev S_ : Shape := ⟨0, ![]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S1x8x1x32 : Shape := ⟨4, ![1, 8, 1, 32]⟩
abbrev S128x8x4x32 : Shape := ⟨4, ![128, 8, 4, 32]⟩
abbrev S128x8x1x4x64 : Shape := ⟨5, ![128, 8, 1, 4, 64]⟩
abbrev S128x8x2x4x64 : Shape := ⟨5, ![128, 8, 2, 4, 64]⟩
abbrev S128x136x2x4x64 : Shape := ⟨5, ![128, 136, 2, 4, 64]⟩

abbrev nBuf : Space → Nat
  | .hbm => 46
  | .vmem => 0
  | .smem => 0
  | _ => 0

abbrev bufTy : (tb : Table) → Fin (tcTables nBuf tb) → BufTy
  | .hbm, ⟨0, _⟩ => ⟨S17408x9216, .f32⟩
  | .hbm, ⟨1, _⟩ => ⟨S128x128x2x4x64, .f32⟩
  | .hbm, ⟨2, _⟩ => ⟨S1024x256, .f32⟩
  | .hbm, ⟨3, _⟩ => ⟨S128x8x4x64, .f32⟩
  | .hbm, ⟨4, _⟩ => ⟨S1024x256, .f32⟩
  | .hbm, ⟨5, _⟩ => ⟨S128x8x4x64, .f32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S8, .f32⟩
  | .hbm, ⟨19, _⟩ => ⟨S8x1, .f32⟩
  | .hbm, ⟨20, _⟩ => ⟨S1x32, .f32⟩
  | .hbm, ⟨21, _⟩ => ⟨S8x32, .f32⟩
  | .hbm, ⟨22, _⟩ => ⟨S8x32, .f32⟩
  | .hbm, ⟨23, _⟩ => ⟨S8x32, .f32⟩
  | .hbm, ⟨24, _⟩ => ⟨S8x32, .f32⟩
  | .hbm, ⟨25, _⟩ => ⟨S1x8x1x32, .f32⟩
  | .hbm, ⟨26, _⟩ => ⟨S8x32, .f32⟩
  | .hbm, ⟨27, _⟩ => ⟨S1x8x1x32, .f32⟩
  | .hbm, ⟨28, _⟩ => ⟨S128x8x4x32, .f32⟩
  | .hbm, ⟨29, _⟩ => ⟨S128x8x4x32, .f32⟩
  | .hbm, ⟨30, _⟩ => ⟨S128x8x4x32, .f32⟩
  | .hbm, ⟨31, _⟩ => ⟨S128x8x4x32, .f32⟩
  | .hbm, ⟨32, _⟩ => ⟨S128x8x4x32, .f32⟩
  | .hbm, ⟨33, _⟩ => ⟨S128x8x4x32, .f32⟩
  | .hbm, ⟨34, _⟩ => ⟨S128x8x4x32, .f32⟩
  | .hbm, ⟨35, _⟩ => ⟨S128x8x4x32, .f32⟩
  | .hbm, ⟨36, _⟩ => ⟨S128x8x4x32, .f32⟩
  | .hbm, ⟨37, _⟩ => ⟨S128x8x4x32, .f32⟩
  | .hbm, ⟨38, _⟩ => ⟨S128x8x4x32, .f32⟩
  | .hbm, ⟨39, _⟩ => ⟨S128x8x4x32, .f32⟩
  | .hbm, ⟨40, _⟩ => ⟨S128x8x4x64, .f32⟩
  | .hbm, ⟨41, _⟩ => ⟨S128x8x1x4x64, .f32⟩
  | .hbm, ⟨42, _⟩ => ⟨S128x8x1x4x64, .f32⟩
  | .hbm, ⟨43, _⟩ => ⟨S128x8x2x4x64, .f32⟩
  | .hbm, ⟨44, _⟩ => ⟨S128x136x2x4x64, .f32⟩
  | .hbm, ⟨45, _⟩ => ⟨S128x128x2x4x64, .f32⟩
  | _, _ => ⟨S17408x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩

abbrev nD : Nat := 1
abbrev τ : Topo := Topo.v7x

variable {F : FTy → Type} [FloatOps F]
-- ==== Sample1.lean ====
abbrev S17408x9216 : Shape := ⟨2, ![17408, 9216]⟩
abbrev S128x512x2x4x64 : Shape := ⟨5, ![128, 512, 2, 4, 64]⟩
abbrev S8 : Shape := ⟨1, ![8]⟩
abbrev S_ : Shape := ⟨0, ![]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S1x8x1x32 : Shape := ⟨4, ![1, 8, 1, 32]⟩
abbrev S1x8x8x32 : Shape := ⟨4, ![1, 8, 8, 32]⟩
abbrev S8x256 : Shape := ⟨2, ![8, 256]⟩
abbrev S128x2x4x64x512 : Shape := ⟨5, ![128, 2, 4, 64, 512]⟩
abbrev S1x128x2x4x64x512 : Shape := ⟨6, ![1, 128, 2, 4, 64, 512]⟩
abbrev S1024x256 : Shape := ⟨2, ![1024, 256]⟩
abbrev S32x256 : Shape := ⟨2, ![32, 256]⟩
abbrev S1x4x2x4x64x512 : Shape := ⟨6, ![1, 4, 2, 4, 64, 512]⟩
abbrev S32x512 : Shape := ⟨2, ![32, 512]⟩
abbrev S32x8 : Shape := ⟨2, ![32, 8]⟩
abbrev S1x1x1x4x64x512 : Shape := ⟨6, ![1, 1, 1, 4, 64, 512]⟩
abbrev S4x64x512 : Shape := ⟨3, ![4, 64, 512]⟩
abbrev S256x512 : Shape := ⟨2, ![256, 512]⟩
abbrev S32x1 : Shape := ⟨2, ![32, 1]⟩
abbrev S1024x9216 : Shape := ⟨2, ![1024, 9216]⟩
abbrev S128x8x9216 : Shape := ⟨3, ![128, 8, 9216]⟩
abbrev S128x8x256 : Shape := ⟨3, ![128, 8, 256]⟩
abbrev S128x8x1x256 : Shape := ⟨4, ![128, 8, 1, 256]⟩
abbrev S128x8x2x256 : Shape := ⟨4, ![128, 8, 2, 256]⟩
abbrev S128x8x2x4x64 : Shape := ⟨5, ![128, 8, 2, 4, 64]⟩
abbrev S128x520x2x4x64 : Shape := ⟨5, ![128, 520, 2, 4, 64]⟩

abbrev nBuf : Space → Nat
  | .hbm => 43
  | .vmem => 16
  | .smem => 0
  | _ => 0

abbrev bufTy : (tb : Table) → Fin (tcTables nBuf tb) → BufTy
  | .hbm, ⟨0, _⟩ => ⟨S17408x9216, .f32⟩
  | .hbm, ⟨1, _⟩ => ⟨S128x512x2x4x64, .f32⟩
  | .hbm, ⟨2, _⟩ => ⟨S8, .i32⟩
  | .hbm, ⟨3, _⟩ => ⟨S_, .i32⟩
  | .hbm, ⟨4, _⟩ => ⟨S8, .i32⟩
  | .hbm, ⟨5, _⟩ => ⟨S8, .i32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S8, .f32⟩
  | .hbm, ⟨15, _⟩ => ⟨S8x1, .f32⟩
  | .hbm, ⟨16, _⟩ => ⟨S1x32, .f32⟩
  | .hbm, ⟨17, _⟩ => ⟨S8x32, .f32⟩
  | .hbm, ⟨18, _⟩ => ⟨S8x32, .f32⟩
  | .hbm, ⟨19, _⟩ => ⟨S8x32, .f32⟩
  | .hbm, ⟨20, _⟩ => ⟨S8x32, .f32⟩
  | .hbm, ⟨21, _⟩ => ⟨S1x8x1x32, .f32⟩
  | .hbm, ⟨22, _⟩ => ⟨S1x8x8x32, .f32⟩
  | .hbm, ⟨23, _⟩ => ⟨S8x256, .f32⟩
  | .hbm, ⟨24, _⟩ => ⟨S8x32, .f32⟩
  | .hbm, ⟨25, _⟩ => ⟨S1x8x1x32, .f32⟩
  | .hbm, ⟨26, _⟩ => ⟨S1x8x8x32, .f32⟩
  | .hbm, ⟨27, _⟩ => ⟨S8x256, .f32⟩
  | .hbm, ⟨28, _⟩ => ⟨S128x2x4x64x512, .f32⟩
  | .hbm, ⟨29, _⟩ => ⟨S1x128x2x4x64x512, .f32⟩
  | .hbm, ⟨30, _⟩ => ⟨S1024x256, .f32⟩
  | .hbm, ⟨31, _⟩ => ⟨S1024x256, .f32⟩
  | .hbm, ⟨32, _⟩ => ⟨S1024x256, .f32⟩
  | .hbm, ⟨33, _⟩ => ⟨S1024x9216, .f32⟩
  | .hbm, ⟨34, _⟩ => ⟨S128x8x9216, .f32⟩
  | .hbm, ⟨35, _⟩ => ⟨S128x8x256, .f32⟩
  | .hbm, ⟨36, _⟩ => ⟨S128x8x256, .f32⟩
  | .hbm, ⟨37, _⟩ => ⟨S128x8x1x256, .f32⟩
  | .hbm, ⟨38, _⟩ => ⟨S128x8x1x256, .f32⟩
  | .hbm, ⟨39, _⟩ => ⟨S128x8x2x256, .f32⟩
  | .hbm, ⟨40, _⟩ => ⟨S128x8x2x4x64, .f32⟩
  | .hbm, ⟨41, _⟩ => ⟨S128x520x2x4x64, .f32⟩
  | .hbm, ⟨42, _⟩ => ⟨S128x512x2x4x64, .f32⟩
  | .local _ .vmem, ⟨0, _⟩ => ⟨S32x256, .f32⟩
  | .local _ .vmem, ⟨1, _⟩ => ⟨S32x256, .f32⟩
  | .local _ .vmem, ⟨2, _⟩ => ⟨S32x256, .f32⟩
  | .local _ .vmem, ⟨3, _⟩ => ⟨S32x256, .f32⟩
  | .local _ .vmem, ⟨4, _⟩ => ⟨S32x256, .f32⟩
  | .local _ .vmem, ⟨5, _⟩ => ⟨S32x256, .f32⟩
  | .local _ .vmem, ⟨6, _⟩ => ⟨S8x256, .f32⟩
  | .local _ .vmem, ⟨7, _⟩ => ⟨S8x256, .f32⟩
  | .local _ .vmem, ⟨8, _⟩ => ⟨S1x4x2x4x64x512, .f32⟩
  | .local _ .vmem, ⟨9, _⟩ => ⟨S1x4x2x4x64x512, .f32⟩
  | .local _ .vmem, ⟨10, _⟩ => ⟨S32x256, .f32⟩
  | .local _ .vmem, ⟨11, _⟩ => ⟨S32x256, .f32⟩
  | .local _ .vmem, ⟨12, _⟩ => ⟨S32x256, .f32⟩
  | .local _ .vmem, ⟨13, _⟩ => ⟨S32x256, .f32⟩
  | .local _ .vmem, ⟨14, _⟩ => ⟨S32x256, .f32⟩
  | .local _ .vmem, ⟨15, _⟩ => ⟨S32x256, .f32⟩
  | _, _ => ⟨S17408x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25_0 : Ref sig .tc := ⟨.hbm, 30, rfl⟩
abbrev main_v25_1 : Ref sig .tc := ⟨.hbm, 31, rfl⟩
abbrev main_v25_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c512_i32 : BitVec 32 := 512#32
  let v0 : BitVec 32 := Scalar.addi c512_i32 arg0
  let c29_i32 : BitVec 32 := 29#32
  let c0_i32 : BitVec 32 := 0#32
  ![v0.toNat, c29_i32.toNat]

def cc0_transform_1 (i : grid0.Coords) : Fin 2 → Nat :=
  let arg0 : BitVec 32 := BitVec.ofNat 32 (i 0).val
  let c512_i32 : BitVec 32 := 512#32
  let v0 : BitVec 32 := Scalar.addi c512_i32 arg0
  let c30_i32 : BitVec 32 := 30#32
  let c0_i32 : BitVec 32 := 0#32
  ![v0.toNat, c30_i32.toNat]

def cc0_transform_2 (i : grid0.Coords) : Fin 2 → Nat :=
  let arg0 : BitVec 32 := BitVec.ofNat 32 (i 0).val
  let c512_i32 : BitVec 32 := 512#32
  let v0 : BitVec 32 := Scalar.addi c512_i32 arg0
  let c31_i32 : BitVec 32 := 31#32
  let c0_i32 : BitVec 32 := 0#32
  ![v0.toNat, c31_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 6 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, arg0.toNat, c0_i32_0.toNat, c0_i32_1.toNat, c0_i32_2.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x4x2x4x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Sample1RefIdeal.lean ====
abbrev S17408x9216 : Shape := ⟨2, ![17408, 9216]⟩
abbrev S128x512x2x4x64 : Shape := ⟨5, ![128, 512, 2, 4, 64]⟩
abbrev S1024x256 : Shape := ⟨2, ![1024, 256]⟩
abbrev S128x8x4x64 : Shape := ⟨4, ![128, 8, 4, 64]⟩
abbrev S8 : Shape := ⟨1, ![8]⟩
abbrev S_ : Shape := ⟨0, ![]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S1x8x1x32 : Shape := ⟨4, ![1, 8, 1, 32]⟩
abbrev S128x8x4x32 : Shape := ⟨4, ![128, 8, 4, 32]⟩
abbrev S128x8x1x4x64 : Shape := ⟨5, ![128, 8, 1, 4, 64]⟩
abbrev S128x8x2x4x64 : Shape := ⟨5, ![128, 8, 2, 4, 64]⟩
abbrev S128x520x2x4x64 : Shape := ⟨5, ![128, 520, 2, 4, 64]⟩

abbrev nBuf : Space → Nat
  | .hbm => 46
  | .vmem => 0
  | .smem => 0
  | _ => 0

abbrev bufTy : (tb : Table) → Fin (tcTables nBuf tb) → BufTy
  | .hbm, ⟨0, _⟩ => ⟨S17408x9216, .f32⟩
  | .hbm, ⟨1, _⟩ => ⟨S128x512x2x4x64, .f32⟩
  | .hbm, ⟨2, _⟩ => ⟨S1024x256, .f32⟩
  | .hbm, ⟨3, _⟩ => ⟨S128x8x4x64, .f32⟩
  | .hbm, ⟨4, _⟩ => ⟨S1024x256, .f32⟩
  | .hbm, ⟨5, _⟩ => ⟨S128x8x4x64, .f32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S8, .f32⟩
  | .hbm, ⟨19, _⟩ => ⟨S8x1, .f32⟩
  | .hbm, ⟨20, _⟩ => ⟨S1x32, .f32⟩
  | .hbm, ⟨21, _⟩ => ⟨S8x32, .f32⟩
  | .hbm, ⟨22, _⟩ => ⟨S8x32, .f32⟩
  | .hbm, ⟨23, _⟩ => ⟨S8x32, .f32⟩
  | .hbm, ⟨24, _⟩ => ⟨S8x32, .f32⟩
  | .hbm, ⟨25, _⟩ => ⟨S1x8x1x32, .f32⟩
  | .hbm, ⟨26, _⟩ => ⟨S8x32, .f32⟩
  | .hbm, ⟨27, _⟩ => ⟨S1x8x1x32, .f32⟩
  | .hbm, ⟨28, _⟩ => ⟨S128x8x4x32, .f32⟩
  | .hbm, ⟨29, _⟩ => ⟨S128x8x4x32, .f32⟩
  | .hbm, ⟨30, _⟩ => ⟨S128x8x4x32, .f32⟩
  | .hbm, ⟨31, _⟩ => ⟨S128x8x4x32, .f32⟩
  | .hbm, ⟨32, _⟩ => ⟨S128x8x4x32, .f32⟩
  | .hbm, ⟨33, _⟩ => ⟨S128x8x4x32, .f32⟩
  | .hbm, ⟨34, _⟩ => ⟨S128x8x4x32, .f32⟩
  | .hbm, ⟨35, _⟩ => ⟨S128x8x4x32, .f32⟩
  | .hbm, ⟨36, _⟩ => ⟨S128x8x4x32, .f32⟩
  | .hbm, ⟨37, _⟩ => ⟨S128x8x4x32, .f32⟩
  | .hbm, ⟨38, _⟩ => ⟨S128x8x4x32, .f32⟩
  | .hbm, ⟨39, _⟩ => ⟨S128x8x4x32, .f32⟩
  | .hbm, ⟨40, _⟩ => ⟨S128x8x4x64, .f32⟩
  | .hbm, ⟨41, _⟩ => ⟨S128x8x1x4x64, .f32⟩
  | .hbm, ⟨42, _⟩ => ⟨S128x8x1x4x64, .f32⟩
  | .hbm, ⟨43, _⟩ => ⟨S128x8x2x4x64, .f32⟩
  | .hbm, ⟨44, _⟩ => ⟨S128x520x2x4x64, .f32⟩
  | .hbm, ⟨45, _⟩ => ⟨S128x512x2x4x64, .f32⟩
  | _, _ => ⟨S17408x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩

abbrev nD : Nat := 1
abbrev τ : Topo := Topo.v7x

variable {F : FTy → Type} [FloatOps F]
-- ==== Sample2.lean ====
abbrev S17408x9216 : Shape := ⟨2, ![17408, 9216]⟩
abbrev S128x2048x2x4x64 : Shape := ⟨5, ![128, 2048, 2, 4, 64]⟩
abbrev S8 : Shape := ⟨1, ![8]⟩
abbrev S_ : Shape := ⟨0, ![]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S1x8x1x32 : Shape := ⟨4, ![1, 8, 1, 32]⟩
abbrev S1x8x8x32 : Shape := ⟨4, ![1, 8, 8, 32]⟩
abbrev S8x256 : Shape := ⟨2, ![8, 256]⟩
abbrev S128x2x4x64x2048 : Shape := ⟨5, ![128, 2, 4, 64, 2048]⟩
abbrev S1x128x2x4x64x2048 : Shape := ⟨6, ![1, 128, 2, 4, 64, 2048]⟩
abbrev S1024x256 : Shape := ⟨2, ![1024, 256]⟩
abbrev S16x256 : Shape := ⟨2, ![16, 256]⟩
abbrev S1x2x2x4x64x2048 : Shape := ⟨6, ![1, 2, 2, 4, 64, 2048]⟩
abbrev S32x2048 : Shape := ⟨2, ![32, 2048]⟩
abbrev S32x8 : Shape := ⟨2, ![32, 8]⟩
abbrev S32x256 : Shape := ⟨2, ![32, 256]⟩
abbrev S1x1x1x4x64x2048 : Shape := ⟨6, ![1, 1, 1, 4, 64, 2048]⟩
abbrev S4x64x2048 : Shape := ⟨3, ![4, 64, 2048]⟩
abbrev S256x2048 : Shape := ⟨2, ![256, 2048]⟩
abbrev S32x1 : Shape := ⟨2, ![32, 1]⟩
abbrev S1024x9216 : Shape := ⟨2, ![1024, 9216]⟩
abbrev S128x8x9216 : Shape := ⟨3, ![128, 8, 9216]⟩
abbrev S128x8x256 : Shape := ⟨3, ![128, 8, 256]⟩
abbrev S128x8x1x256 : Shape := ⟨4, ![128, 8, 1, 256]⟩
abbrev S128x8x2x256 : Shape := ⟨4, ![128, 8, 2, 256]⟩
abbrev S128x8x2x4x64 : Shape := ⟨5, ![128, 8, 2, 4, 64]⟩
abbrev S128x2056x2x4x64 : Shape := ⟨5, ![128, 2056, 2, 4, 64]⟩

abbrev nBuf : Space → Nat
  | .hbm => 43
  | .vmem => 16
  | .smem => 0
  | _ => 0

abbrev bufTy : (tb : Table) → Fin (tcTables nBuf tb) → BufTy
  | .hbm, ⟨0, _⟩ => ⟨S17408x9216, .f32⟩
  | .hbm, ⟨1, _⟩ => ⟨S128x2048x2x4x64, .f32⟩
  | .hbm, ⟨2, _⟩ => ⟨S8, .i32⟩
  | .hbm, ⟨3, _⟩ => ⟨S_, .i32⟩
  | .hbm, ⟨4, _⟩ => ⟨S8, .i32⟩
  | .hbm, ⟨5, _⟩ => ⟨S8, .i32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S8, .f32⟩
  | .hbm, ⟨15, _⟩ => ⟨S8x1, .f32⟩
  | .hbm, ⟨16, _⟩ => ⟨S1x32, .f32⟩
  | .hbm, ⟨17, _⟩ => ⟨S8x32, .f32⟩
  | .hbm, ⟨18, _⟩ => ⟨S8x32, .f32⟩
  | .hbm, ⟨19, _⟩ => ⟨S8x32, .f32⟩
  | .hbm, ⟨20, _⟩ => ⟨S8x32, .f32⟩
  | .hbm, ⟨21, _⟩ => ⟨S1x8x1x32, .f32⟩
  | .hbm, ⟨22, _⟩ => ⟨S1x8x8x32, .f32⟩
  | .hbm, ⟨23, _⟩ => ⟨S8x256, .f32⟩
  | .hbm, ⟨24, _⟩ => ⟨S8x32, .f32⟩
  | .hbm, ⟨25, _⟩ => ⟨S1x8x1x32, .f32⟩
  | .hbm, ⟨26, _⟩ => ⟨S1x8x8x32, .f32⟩
  | .hbm, ⟨27, _⟩ => ⟨S8x256, .f32⟩
  | .hbm, ⟨28, _⟩ => ⟨S128x2x4x64x2048, .f32⟩
  | .hbm, ⟨29, _⟩ => ⟨S1x128x2x4x64x2048, .f32⟩
  | .hbm, ⟨30, _⟩ => ⟨S1024x256, .f32⟩
  | .hbm, ⟨31, _⟩ => ⟨S1024x256, .f32⟩
  | .hbm, ⟨32, _⟩ => ⟨S1024x256, .f32⟩
  | .hbm, ⟨33, _⟩ => ⟨S1024x9216, .f32⟩
  | .hbm, ⟨34, _⟩ => ⟨S128x8x9216, .f32⟩
  | .hbm, ⟨35, _⟩ => ⟨S128x8x256, .f32⟩
  | .hbm, ⟨36, _⟩ => ⟨S128x8x256, .f32⟩
  | .hbm, ⟨37, _⟩ => ⟨S128x8x1x256, .f32⟩
  | .hbm, ⟨38, _⟩ => ⟨S128x8x1x256, .f32⟩
  | .hbm, ⟨39, _⟩ => ⟨S128x8x2x256, .f32⟩
  | .hbm, ⟨40, _⟩ => ⟨S128x8x2x4x64, .f32⟩
  | .hbm, ⟨41, _⟩ => ⟨S128x2056x2x4x64, .f32⟩
  | .hbm, ⟨42, _⟩ => ⟨S128x2048x2x4x64, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S8x256, .f32⟩
  | .local _ .vmem, ⟨7, _⟩ => ⟨S8x256, .f32⟩
  | .local _ .vmem, ⟨8, _⟩ => ⟨S1x2x2x4x64x2048, .f32⟩
  | .local _ .vmem, ⟨9, _⟩ => ⟨S1x2x2x4x64x2048, .f32⟩
  | .local _ .vmem, ⟨10, _⟩ => ⟨S16x256, .f32⟩
  | .local _ .vmem, ⟨11, _⟩ => ⟨S16x256, .f32⟩
  | .local _ .vmem, ⟨12, _⟩ => ⟨S16x256, .f32⟩
  | .local _ .vmem, ⟨13, _⟩ => ⟨S16x256, .f32⟩
  | .local _ .vmem, ⟨14, _⟩ => ⟨S16x256, .f32⟩
  | .local _ .vmem, ⟨15, _⟩ => ⟨S16x256, .f32⟩
  | _, _ => ⟨S17408x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25_0 : Ref sig .tc := ⟨.hbm, 30, rfl⟩
abbrev main_v25_1 : Ref sig .tc := ⟨.hbm, 31, rfl⟩
abbrev main_v25_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c1024_i32 : BitVec 32 := 1024#32
  let v0 : BitVec 32 := Scalar.addi c1024_i32 arg0
  let c32_i32 : BitVec 32 := 32#32
  let c0_i32 : BitVec 32 := 0#32
  ![v0.toNat, c32_i32.toNat]

def cc0_transform_1 (i : grid0.Coords) : Fin 2 → Nat :=
  let arg0 : BitVec 32 := BitVec.ofNat 32 (i 0).val
  let c1024_i32 : BitVec 32 := 1024#32
  let v0 : BitVec 32 := Scalar.addi c1024_i32 arg0
  let c33_i32 : BitVec 32 := 33#32
  let c0_i32 : BitVec 32 := 0#32
  ![v0.toNat, c33_i32.toNat]

def cc0_transform_2 (i : grid0.Coords) : Fin 2 → Nat :=
  let arg0 : BitVec 32 := BitVec.ofNat 32 (i 0).val
  let c1024_i32 : BitVec 32 := 1024#32
  let v0 : BitVec 32 := Scalar.addi c1024_i32 arg0
  let c34_i32 : BitVec 32 := 34#32
  let c0_i32 : BitVec 32 := 0#32
  ![v0.toNat, c34_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 6 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, arg0.toNat, c0_i32_0.toNat, c0_i32_1.toNat, c0_i32_2.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2x2x4x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Sample2RefIdeal.lean ====
abbrev S17408x9216 : Shape := ⟨2, ![17408, 9216]⟩
abbrev S128x2048x2x4x64 : Shape := ⟨5, ![128, 2048, 2, 4, 64]⟩
abbrev S1024x256 : Shape := ⟨2, ![1024, 256]⟩
abbrev S128x8x4x64 : Shape := ⟨4, ![128, 8, 4, 64]⟩
abbrev S8 : Shape := ⟨1, ![8]⟩
abbrev S_ : Shape := ⟨0, ![]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S1x8x1x32 : Shape := ⟨4, ![1, 8, 1, 32]⟩
abbrev S128x8x4x32 : Shape := ⟨4, ![128, 8, 4, 32]⟩
abbrev S128x8x1x4x64 : Shape := ⟨5, ![128, 8, 1, 4, 64]⟩
abbrev S128x8x2x4x64 : Shape := ⟨5, ![128, 8, 2, 4, 64]⟩
abbrev S128x2056x2x4x64 : Shape := ⟨5, ![128, 2056, 2, 4, 64]⟩

abbrev nBuf : Space → Nat
  | .hbm => 46
  | .vmem => 0
  | .smem => 0
  | _ => 0

abbrev bufTy : (tb : Table) → Fin (tcTables nBuf tb) → BufTy
  | .hbm, ⟨0, _⟩ => ⟨S17408x9216, .f32⟩
  | .hbm, ⟨1, _⟩ => ⟨S128x2048x2x4x64, .f32⟩
  | .hbm, ⟨2, _⟩ => ⟨S1024x256, .f32⟩
  | .hbm, ⟨3, _⟩ => ⟨S128x8x4x64, .f32⟩
  | .hbm, ⟨4, _⟩ => ⟨S1024x256, .f32⟩
  | .hbm, ⟨5, _⟩ => ⟨S128x8x4x64, .f32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S8, .f32⟩
  | .hbm, ⟨19, _⟩ => ⟨S8x1, .f32⟩
  | .hbm, ⟨20, _⟩ => ⟨S1x32, .f32⟩
  | .hbm, ⟨21, _⟩ => ⟨S8x32, .f32⟩
  | .hbm, ⟨22, _⟩ => ⟨S8x32, .f32⟩
  | .hbm, ⟨23, _⟩ => ⟨S8x32, .f32⟩
  | .hbm, ⟨24, _⟩ => ⟨S8x32, .f32⟩
  | .hbm, ⟨25, _⟩ => ⟨S1x8x1x32, .f32⟩
  | .hbm, ⟨26, _⟩ => ⟨S8x32, .f32⟩
  | .hbm, ⟨27, _⟩ => ⟨S1x8x1x32, .f32⟩
  | .hbm, ⟨28, _⟩ => ⟨S128x8x4x32, .f32⟩
  | .hbm, ⟨29, _⟩ => ⟨S128x8x4x32, .f32⟩
  | .hbm, ⟨30, _⟩ => ⟨S128x8x4x32, .f32⟩
  | .hbm, ⟨31, _⟩ => ⟨S128x8x4x32, .f32⟩
  | .hbm, ⟨32, _⟩ => ⟨S128x8x4x32, .f32⟩
  | .hbm, ⟨33, _⟩ => ⟨S128x8x4x32, .f32⟩
  | .hbm, ⟨34, _⟩ => ⟨S128x8x4x32, .f32⟩
  | .hbm, ⟨35, _⟩ => ⟨S128x8x4x32, .f32⟩
  | .hbm, ⟨36, _⟩ => ⟨S128x8x4x32, .f32⟩
  | .hbm, ⟨37, _⟩ => ⟨S128x8x4x32, .f32⟩
  | .hbm, ⟨38, _⟩ => ⟨S128x8x4x32, .f32⟩
  | .hbm, ⟨39, _⟩ => ⟨S128x8x4x32, .f32⟩
  | .hbm, ⟨40, _⟩ => ⟨S128x8x4x64, .f32⟩
  | .hbm, ⟨41, _⟩ => ⟨S128x8x1x4x64, .f32⟩
  | .hbm, ⟨42, _⟩ => ⟨S128x8x1x4x64, .f32⟩
  | .hbm, ⟨43, _⟩ => ⟨S128x8x2x4x64, .f32⟩
  | .hbm, ⟨44, _⟩ => ⟨S128x2056x2x4x64, .f32⟩
  | .hbm, ⟨45, _⟩ => ⟨S128x2048x2x4x64, .f32⟩
  | _, _ => ⟨S17408x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩

abbrev nD : Nat := 1
abbrev τ : Topo := Topo.v7x

variable {F : FTy → Type} [FloatOps F]
-- ==== Proof.MergeIdealRun.lean ====
/- The merge call's run: @main up to its one region, each window's block at a point, what each output's buffer holds after
   the body (the canon of its stores over the input blocks), the body's triple, the proof data, the body obligation, the run,
   and the frame. The call has twenty-eight windows, which is why three of the steps below raise their limit. -/
module

public import proofs.«01_k».proof.Proof.Gen.MergeIdeal.Launch
public import proofs.«01_k».proof.Proof.Gen.MergeIdeal.Skeleton
public import proofs.«01_k».proof.Proof.Gen.MergeIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.MergeIdeal.Call
open Cert.MergeIdeal Cert.MergeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- What the host operations before the region write. -/
def written : List (Ref sig .tc) :=
  [main_v0, main_v1, main_v2, main_v3, main_v4, main_v5, main_v6, main_v7, main_v8, main_v9, main_v10, main_v11, main_v12,
    main_v13, main_v14, main_v15, main_v16, main_v17, main_v18, main_v19, main_v20, main_v21, main_v22, main_v23]

/-- A buffer none of them writes is found by the region as launched. -/
theorem kept (c : Dev nD) (b : Ref sig .tc) (h : b ∉ written) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, StableHlo.binary_writes, StableHlo.reshape_writes, Finset.mem_singleton]
    repeat' apply And.intro
    all_goals exact StableHlo.devRef_ne_of_ne (by rintro rfl; exact h (by decide))))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The frame claim's post from the frame run's -/

/-- Memory `m'` has the arguments of `m`, on every device. -/
abbrev Same (m m' : (ℓ : Loc nD τ sig) → Buf (Elt F) ℓ) : Prop := ∀ c : Dev nD,
      m' ((c.tc : Thread nD τ).loc main_arg0) = m ((c.tc : Thread nD τ).loc main_arg0)
      ∧ m' ((c.tc : Thread nD τ).loc main_arg1) = m ((c.tc : Thread nD τ).loc main_arg1)
      ∧ m' ((c.tc : Thread nD τ).loc main_arg2) = m ((c.tc : Thread nD τ).loc main_arg2)
      ∧ m' ((c.tc : Thread nD τ).loc main_arg3) = m ((c.tc : Thread nD τ).loc main_arg3)
      ∧ m' ((c.tc : Thread nD τ).loc main_arg4) = m ((c.tc : Thread nD τ).loc main_arg4)
      ∧ m' ((c.tc : Thread nD τ).loc main_arg5) = m ((c.tc : Thread nD τ).loc main_arg5)
      ∧ m' ((c.tc : Thread nD τ).loc main_arg6) = m ((c.tc : Thread nD τ).loc main_arg6)
      ∧ m' ((c.tc : Thread nD τ).loc main_arg7) = m ((c.tc : Thread nD τ).loc main_arg7)
      ∧ m' ((c.tc : Thread nD τ).loc main_arg8) = m ((c.tc : Thread nD τ).loc main_arg8)
      ∧ m' ((c.tc : Thread nD τ).loc main_arg9) = m ((c.tc : Thread nD τ).loc main_arg9)
      ∧ m' ((c.tc : Thread nD τ).loc main_arg10) = m ((c.tc : Thread nD τ).loc main_arg10)
      ∧ m' ((c.tc : Thread nD τ).loc main_arg11) = m ((c.tc : Thread nD τ).loc main_arg11)
      ∧ m' ((c.tc : Thread nD τ).loc main_arg12) = m ((c.tc : Thread nD τ).loc main_arg12)
      ∧ m' ((c.tc : Thread nD τ).loc main_arg13) = m ((c.tc : Thread nD τ).loc main_arg13)
      ∧ m' ((c.tc : Thread nD τ).loc main_arg14) = m ((c.tc : Thread nD τ).loc main_arg14)
      ∧ m' ((c.tc : Thread nD τ).loc main_arg15) = m ((c.tc : Thread nD τ).loc main_arg15)
      ∧ m' ((c.tc : Thread nD τ).loc main_arg16) = m ((c.tc : Thread nD τ).loc main_arg16)
      ∧ m' ((c.tc : Thread nD τ).loc main_arg17) = m ((c.tc : Thread nD τ).loc main_arg17)
      ∧ m' ((c.tc : Thread nD τ).loc main_arg18) = m ((c.tc : Thread nD τ).loc main_arg18)
      ∧ m' ((c.tc : Thread nD τ).loc main_arg19) = m ((c.tc : Thread nD τ).loc main_arg19)
      ∧ m' ((c.tc : Thread nD τ).loc main_arg20) = m ((c.tc : Thread nD τ).loc main_arg20)

set_option maxHeartbeats 1680000 in
/-- The arguments are unchanged after a run of the pipeline: a staged input's array and every unstaged buffer end as the region
    found them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => Same m r.2.mem) :=
  (θ_run defs _ _).mono (fun _ h c => ⟨((h c).1 0).trans (((dats 0 c).arrAt_in 0 rfl _).trans ((hA c 0).trans (kept m c main_arg0 (by decide)))),
      ((h c).1 3).trans (((dats 0 c).arrAt_in 3 rfl _).trans ((hA c 3).trans (kept m c main_arg1 (by decide)))),
      ((h c).1 4).trans (((dats 0 c).arrAt_in 4 rfl _).trans ((hA c 4).trans (kept m c main_arg2 (by decide)))),
      ((h c).1 5).trans (((dats 0 c).arrAt_in 5 rfl _).trans ((hA c 5).trans (kept m c main_arg3 (by decide)))),
      ((h c).2 main_arg4 (Pipeline.mem_restRefs_of main_arg4 (by decide) (by decide))).trans (kept m c main_arg4 (by decide)),
      ((h c).1 7).trans (((dats 0 c).arrAt_in 7 rfl _).trans ((hA c 7).trans (kept m c main_arg5 (by decide)))),
      ((h c).2 main_arg6 (Pipeline.mem_restRefs_of main_arg6 (by decide) (by decide))).trans (kept m c main_arg6 (by decide)),
      ((h c).1 9).trans (((dats 0 c).arrAt_in 9 rfl _).trans ((hA c 9).trans (kept m c main_arg7 (by decide)))),
      ((h c).2 main_arg8 (Pipeline.mem_restRefs_of main_arg8 (by decide) (by decide))).trans (kept m c main_arg8 (by decide)),
      ((h c).1 11).trans (((dats 0 c).arrAt_in 11 rfl _).trans ((hA c 11).trans (kept m c main_arg9 (by decide)))),
      ((h c).1 12).trans (((dats 0 c).arrAt_in 12 rfl _).trans ((hA c 12).trans (kept m c main_arg10 (by decide)))),
      ((h c).1 13).trans (((dats 0 c).arrAt_in 13 rfl _).trans ((hA c 13).trans (kept m c main_arg11 (by decide)))),
      ((h c).2 main_arg12 (Pipeline.mem_restRefs_of main_arg12 (by decide) (by decide))).trans (kept m c main_arg12 (by decide)),
      ((h c).1 15).trans (((dats 0 c).arrAt_in 15 rfl _).trans ((hA c 15).trans (kept m c main_arg13 (by decide)))),
      ((h c).2 main_arg14 (Pipeline.mem_restRefs_of main_arg14 (by decide) (by decide))).trans (kept m c main_arg14 (by decide)),
      ((h c).1 17).trans (((dats 0 c).arrAt_in 17 rfl _).trans ((hA c 17).trans (kept m c main_arg15 (by decide)))),
      ((h c).2 main_arg16 (Pipeline.mem_restRefs_of main_arg16 (by decide) (by decide))).trans (kept m c main_arg16 (by decide)),
      ((h c).1 19).trans (((dats 0 c).arrAt_in 19 rfl _).trans ((hA c 19).trans (kept m c main_arg17 (by decide)))),
      ((h c).2 main_arg18 (Pipeline.mem_restRefs_of main_arg18 (by decide) (by decide))).trans (kept m c main_arg18 (by decide)),
      ((h c).2 main_arg19 (Pipeline.mem_restRefs_of main_arg19 (by decide) (by decide))).trans (kept m c main_arg19 (by decide)),
      ((h c).2 main_arg20 (Pipeline.mem_restRefs_of main_arg20 (by decide) (by decide))).trans (kept m c main_arg20 (by decide))⟩) h

/-! ## The body's accesses -/

abbrev r0_0 : Rect S256x512 := Rect.unit (s := S256x512) ![0, 0] S256x512.size inb_S256x512_S256x512_0_0
abbrev r0_1 : Rect S256x256 := Rect.unit (s := S256x256) ![0, 0] S256x256.size inb_S256x256_S256x256_0_0
abbrev r0_2 : Rect S256x1536 := Rect.unit (s := S256x1536) ![0, 0] S256x1536.size inb_S256x1536_S256x1536_0_0
abbrev r0_3 : Rect S256x1024 := Rect.unit (s := S256x1024) ![0, 0] S256x1024.size inb_S256x1024_S256x1024_0_0
abbrev r0_4 : Rect S512x1024 := Rect.unit (s := S512x1024) ![0, 0] S512x1024.size inb_S512x1024_S512x1024_0_0
abbrev r0_5 : Rect S1536x1024 := Rect.unit (s := S1536x1024) ![0, 0] S1536x1024.size inb_S1536x1024_S1536x1024_0_0
abbrev r0_6 : Rect S1024x1024 := Rect.unit (s := S1024x1024) ![0, 0] S1024x1024.size inb_S1024x1024_S1024x1024_0_0
abbrev r0_7 : Rect S1x1024 := Rect.unit (s := S1x1024) ![0, 0] S1x1024.size inb_S1x1024_S1x1024_0_0

/-! ## What the body leaves in each output window's buffer -/

/-! Values the body binds that several stores read, over the input windows' blocks. -/

def k0_pay21 (i : grid0.Coords) (x0 x1 x2 x3 : Vec F S256x1024 .f32) (x4 : Vec F S256x512 .f32) (x5 x6 x7 x8 x9 x10 : Vec F S256x256 .f32) (x11 : Vec F S256x1536 .f32) (x12 : Vec F S256x512 .f32) (x13 x14 x15 x16 x17 x18 : Vec F S256x256 .f32) (x19 : Vec F S256x1536 .f32) (x20 : Vec F S512x1024 .bf16) (x21 : Vec F S256x1024 .bf16) (x22 : Vec F S1536x1024 .bf16) (x23 : Vec F S1024x1024 .bf16) (x24 : Vec F S1x1024 .f32) : FVec F S256x256 .f32 :=
  k0_pay7 i (View.ld x6 r0_1) (View.ld x14 r0_1) -- `v11`
def k0_pay22 (i : grid0.Coords) (x0 x1 x2 x3 : Vec F S256x1024 .f32) (x4 : Vec F S256x512 .f32) (x5 x6 x7 x8 x9 x10 : Vec F S256x256 .f32) (x11 : Vec F S256x1536 .f32) (x12 : Vec F S256x512 .f32) (x13 x14 x15 x16 x17 x18 : Vec F S256x256 .f32) (x19 : Vec F S256x1536 .f32) (x20 : Vec F S512x1024 .bf16) (x21 : Vec F S256x1024 .bf16) (x22 : Vec F S1536x1024 .bf16) (x23 : Vec F S1024x1024 .bf16) (x24 : Vec F S1x1024 .f32) : FVec F S256x1024 .f32 :=
  k0_pay18 (k0_pay5 i (View.ld x4 r0_0) (View.ld x12 r0_0)) (k0_pay17 (k0_pay6 i (View.ld x5 r0_1) (View.ld x13 r0_1)) (k0_pay8 i (View.ld x7 r0_1) (View.ld x15 r0_1)) (k0_pay9 i (View.ld x8 r0_1) (View.ld x16 r0_1)) (k0_pay10 i (View.ld x9 r0_1) (View.ld x17 r0_1)) (k0_pay11 i (View.ld x10 r0_1) (View.ld x18 r0_1)) (k0_pay14 (k0_pay21 i x0 x1 x2 x3 x4 x5 x6 x7 x8 x9 x10 x11 x12 x13 x14 x15 x16 x17 x18 x19 x20 x21 x22 x23 x24)) (k0_pay15 (k0_pay21 i x0 x1 x2 x3 x4 x5 x6 x7 x8 x9 x10 x11 x12 x13 x14 x15 x16 x17 x18 x19 x20 x21 x22 x23 x24)) k0_pay16) (View.ld x1 r0_3) (View.ld x20 r0_4) (View.ld x2 r0_3) (View.ld x21 r0_3) -- `v145`
def k0_pay23 (i : grid0.Coords) (x0 x1 x2 x3 : Vec F S256x1024 .f32) (x4 : Vec F S256x512 .f32) (x5 x6 x7 x8 x9 x10 : Vec F S256x256 .f32) (x11 : Vec F S256x1536 .f32) (x12 : Vec F S256x512 .f32) (x13 x14 x15 x16 x17 x18 : Vec F S256x256 .f32) (x19 : Vec F S256x1536 .f32) (x20 : Vec F S512x1024 .bf16) (x21 : Vec F S256x1024 .bf16) (x22 : Vec F S1536x1024 .bf16) (x23 : Vec F S1024x1024 .bf16) (x24 : Vec F S1x1024 .f32) : FVec F S256x1024 .f32 :=
  k0_pay19 (View.ld x3 r0_3) -- `v153`
def k0_pay24 (i : grid0.Coords) (x0 x1 x2 x3 : Vec F S256x1024 .f32) (x4 : Vec F S256x512 .f32) (x5 x6 x7 x8 x9 x10 : Vec F S256x256 .f32) (x11 : Vec F S256x1536 .f32) (x12 : Vec F S256x512 .f32) (x13 x14 x15 x16 x17 x18 : Vec F S256x256 .f32) (x19 : Vec F S256x1536 .f32) (x20 : Vec F S512x1024 .bf16) (x21 : Vec F S256x1024 .bf16) (x22 : Vec F S1536x1024 .bf16) (x23 : Vec F S1024x1024 .bf16) (x24 : Vec F S1x1024 .f32) : FVec F S256x1536 .bf16 :=
  k0_pay20 (k0_pay12 (Scalar.cmpi .slt (BitVec.ofNat 32 (i 0).val) 64#32) (View.ld x11 r0_2) (View.ld x19 r0_2)) -- `v154`

/-- Window 25's staging buffer after the body: its one store. -/
def out0_25 (i : grid0.Coords) (x0 x1 x2 x3 : Vec F S256x1024 .f32) (x4 : Vec F S256x512 .f32) (x5 x6 x7 x8 x9 x10 : Vec F S256x256 .f32) (x11 : Vec F S256x1536 .f32) (x12 : Vec F S256x512 .f32) (x13 x14 x15 x16 x17 x18 : Vec F S256x256 .f32) (x19 : Vec F S256x1536 .f32) (x20 : Vec F S512x1024 .bf16) (x21 : Vec F S256x1024 .bf16) (x22 : Vec F S1536x1024 .bf16) (x23 : Vec F S1024x1024 .bf16) (x24 : Vec F S1x1024 .f32) : Vec F S256x1024 .f32 :=
  View.canon [⟨r0_3, k0_pay1 (k0_pay22 i x0 x1 x2 x3 x4 x5 x6 x7 x8 x9 x10 x11 x12 x13 x14 x15 x16 x17 x18 x19 x20 x21 x22 x23 x24) (k0_pay23 i x0 x1 x2 x3 x4 x5 x6 x7 x8 x9 x10 x11 x12 x13 x14 x15 x16 x17 x18 x19 x20 x21 x22 x23 x24) (k0_pay24 i x0 x1 x2 x3 x4 x5 x6 x7 x8 x9 x10 x11 x12 x13 x14 x15 x16 x17 x18 x19 x20 x21 x22 x23 x24) (View.ld x22 r0_5) (View.ld x0 r0_3) (View.ld x23 r0_6)⟩]

/-- Its stores tile the buffer (checked by evaluation), so they cover it. -/
theorem cover0_25 (p0 : Vec F S256x1024 .f32) (y : S256x1024.Idx) :
    ∃ pc ∈ ([⟨r0_3, p0⟩] : List (View.Piece (Elt F) S256x1024 .f32)), y ∈ pc.1.set :=
  View.cover_of_tiled [⟨r0_3, p0⟩] S256x1024.size (by rfl) y

/-- Window 26's staging buffer after the body: its one store. -/
def out0_26 (i : grid0.Coords) (x0 x1 x2 x3 : Vec F S256x1024 .f32) (x4 : Vec F S256x512 .f32) (x5 x6 x7 x8 x9 x10 : Vec F S256x256 .f32) (x11 : Vec F S256x1536 .f32) (x12 : Vec F S256x512 .f32) (x13 x14 x15 x16 x17 x18 : Vec F S256x256 .f32) (x19 : Vec F S256x1536 .f32) (x20 : Vec F S512x1024 .bf16) (x21 : Vec F S256x1024 .bf16) (x22 : Vec F S1536x1024 .bf16) (x23 : Vec F S1024x1024 .bf16) (x24 : Vec F S1x1024 .f32) : Vec F S256x1024 .bf16 :=
  View.canon [⟨r0_3, k0_pay3 (k0_pay22 i x0 x1 x2 x3 x4 x5 x6 x7 x8 x9 x10 x11 x12 x13 x14 x15 x16 x17 x18 x19 x20 x21 x22 x23 x24) (k0_pay23 i x0 x1 x2 x3 x4 x5 x6 x7 x8 x9 x10 x11 x12 x13 x14 x15 x16 x17 x18 x19 x20 x21 x22 x23 x24) (k0_pay24 i x0 x1 x2 x3 x4 x5 x6 x7 x8 x9 x10 x11 x12 x13 x14 x15 x16 x17 x18 x19 x20 x21 x22 x23 x24) (View.ld x22 r0_5) (View.ld x0 r0_3) (View.ld x23 r0_6) (View.ld x24 r0_7)⟩]

/-- Its stores tile the buffer (checked by evaluation), so they cover it. -/
theorem cover0_26 (p0 : Vec F S256x1024 .bf16) (y : S256x1024.Idx) :
    ∃ pc ∈ ([⟨r0_3, p0⟩] : List (View.Piece (Elt F) S256x1024 .bf16)), y ∈ pc.1.set :=
  View.cover_of_tiled [⟨r0_3, p0⟩] S256x1024.size (by rfl) y

/-- Window 27's staging buffer after the body: its one store. -/
def out0_27 (i : grid0.Coords) (x0 x1 x2 x3 : Vec F S256x1024 .f32) (x4 : Vec F S256x512 .f32) (x5 x6 x7 x8 x9 x10 : Vec F S256x256 .f32) (x11 : Vec F S256x1536 .f32) (x12 : Vec F S256x512 .f32) (x13 x14 x15 x16 x17 x18 : Vec F S256x256 .f32) (x19 : Vec F S256x1536 .f32) (x20 : Vec F S512x1024 .bf16) (x21 : Vec F S256x1024 .bf16) (x22 : Vec F S1536x1024 .bf16) (x23 : Vec F S1024x1024 .bf16) (x24 : Vec F S1x1024 .f32) : Vec F S256x1024 .bf16 :=
  View.canon [⟨r0_3, k0_pay4 (k0_pay22 i x0 x1 x2 x3 x4 x5 x6 x7 x8 x9 x10 x11 x12 x13 x14 x15 x16 x17 x18 x19 x20 x21 x22 x23 x24) (k0_pay23 i x0 x1 x2 x3 x4 x5 x6 x7 x8 x9 x10 x11 x12 x13 x14 x15 x16 x17 x18 x19 x20 x21 x22 x23 x24) (k0_pay24 i x0 x1 x2 x3 x4 x5 x6 x7 x8 x9 x10 x11 x12 x13 x14 x15 x16 x17 x18 x19 x20 x21 x22 x23 x24) (View.ld x22 r0_5) (View.ld x0 r0_3) (View.ld x23 r0_6) (View.ld x24 r0_7)⟩]

/-- Its stores tile the buffer (checked by evaluation), so they cover it. -/
theorem cover0_27 (p0 : Vec F S256x1024 .bf16) (y : S256x1024.Idx) :
    ∃ pc ∈ ([⟨r0_3, p0⟩] : List (View.Piece (Elt F) S256x1024 .bf16)), y ∈ pc.1.set :=
  View.cover_of_tiled [⟨r0_3, p0⟩] S256x1024.size (by rfl) y

/-! ## The body's triple -/

set_option maxHeartbeats 1000000 in
/-- The body on whole staging buffers leaves the inputs' as they were and each output's at `out0_W` of them. -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x512 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x1536 .f32) (harg12 : arg12.IsWhole) (arg13 : Memref sig .tc .vmem S256x512 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .f32) (harg18 : arg18.IsWhole) (arg19 : Memref sig .tc .vmem S256x256 .f32) (harg19 : arg19.IsWhole) (arg20 : Memref sig .tc .vmem S256x1536 .f32) (harg20 : arg20.IsWhole) (arg21 : Memref sig .tc .vmem S512x1024 .bf16) (harg21 : arg21.IsWhole) (arg22 : Memref sig .tc .vmem S256x1024 .bf16) (harg22 : arg22.IsWhole) (arg23 : Memref sig .tc .vmem S1536x1024 .bf16) (harg23 : arg23.IsWhole) (arg24 : Memref sig .tc .vmem S1024x1024 .bf16) (harg24 : arg24.IsWhole) (arg25 : Memref sig .tc .vmem S1x1024 .f32) (harg25 : arg25.IsWhole) (arg26 : Memref sig .tc .vmem S256x1024 .f32) (harg26 : arg26.IsWhole) (arg27 : Memref sig .tc .vmem S256x1024 .bf16) (harg27 : arg27.IsWhole) (arg28 : Memref sig .tc .vmem S256x1024 .bf16) (harg28 : arg28.IsWhole)
    (x0 x1 x2 x3 : Vec F S256x1024 .f32) (x4 : Vec F S256x512 .f32) (x5 x6 x7 x8 x9 x10 : Vec F S256x256 .f32) (x11 : Vec F S256x1536 .f32) (x12 : Vec F S256x512 .f32) (x13 x14 x15 x16 x17 x18 : Vec F S256x256 .f32) (x19 : Vec F S256x1536 .f32) (x20 : Vec F S512x1024 .bf16) (x21 : Vec F S256x1024 .bf16) (x22 : Vec F S1536x1024 .bf16) (x23 : Vec F S1024x1024 .bf16) (x24 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ (∃ d, owns (c : Thread nD τ) arg26 fullShare d) ∗ (∃ d, owns (c : Thread nD τ) arg27 fullShare d) ∗ (∃ d, owns (c : Thread nD τ) arg28 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare (out0_25 i x0 x1 x2 x3 x4 x5 x6 x7 x8 x9 x10 x11 x12 x13 x14 x15 x16 x17 x18 x19 x20 x21 x22 x23 x24) ∗ owns (c : Thread nD τ) arg27 fullShare (out0_26 i x0 x1 x2 x3 x4 x5 x6 x7 x8 x9 x10 x11 x12 x13 x14 x15 x16 x17 x18 x19 x20 x21 x22 x23 x24) ∗ owns (c : Thread nD τ) arg28 fullShare (out0_27 i x0 x1 x2 x3 x4 x5 x6 x7 x8 x9 x10 x11 x12 x13 x14 x15 x16 x17 x18 x19 x20 x21 x22 x23 x24)) -∗ K ⟨⟩))
      ⊢ wp frame (wpE (defs₀ (F := F)) Variants.none c none) E (cc0_merge i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  simp only [cc0_merge_eq_skeleton]; unfold cc0_merge_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%d25, %f25, -, H25⟩, ⟨%d26, %f26, -, H26⟩, ⟨%d27, %f27, -, H27⟩, Hk⟩
  subst hf0 hf1 hf2 hf3 hf4 hf5 hf6 hf7 hf8 hf9 hf10 hf11 hf12 hf13 hf14 hf15 hf16 hf17 hf18 hf19 hf20 hf21 hf22 hf23 hf24
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists _; isplitr
    swap; · iexact H25
    ipureintro
    refine (View.read_writes_eq_canon _ _ _ (cover0_25 _)).trans ?_
    rfl
  isplitl [H26]
  · iexists _; isplitr
    swap; · iexact H26
    ipureintro
    refine (View.read_writes_eq_canon _ _ _ (cover0_26 _)).trans ?_
    rfl
  iexists _; isplitr
  swap; · iexact H27
  ipureintro
  refine (View.read_writes_eq_canon _ _ _ (cover0_27 _)).trans ?_
  rfl

/-! ## The pipeline's proof data -/

/-- The pipeline's proof data on core `c`: after the body each input's buffer holds its block, each output's `out0_W` of the
    blocks; nothing is owed; an array staged by several windows is shared among them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => out0_25 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨26, _⟩ => out0_26 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨27, _⟩ => out0_27 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)
    | ⟨_ + 28, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = out0_25 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]
theorem after0_26 (c : Dev nD) (t : Fin cfg0.N) : (dats m 0 c).after 26 t = out0_26 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]
theorem after0_27 (c : Dev nD) (t : Fin cfg0.N) : (dats m 0 c).after 27 t = out0_27 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) := by dsimp only [dats]

/-- A window's block as the proof data has it is `iblk`. -/
theorem blockOf_eq (c : Dev nD) (w : Fin cfg0.W) (t : Fin cfg0.N) : (dats m 0 c).blockOf w t = iblk m c w t := by
  unfold Dat.blockOf iblk; rw [A_eq]

/-- Each input window's staging buffer holds its block at every point, fetched there or not: where it is not fetched its
    index has not moved and the body has left the block in place (`Dat.before_in_eq_fetched`). -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; exact blockOf_eq m c 0 t) t d).trans (blockOf_eq m c 0 t)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; exact blockOf_eq m c 1 t) t d).trans (blockOf_eq m c 1 t)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; exact blockOf_eq m c 2 t) t d).trans (blockOf_eq m c 2 t)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; exact blockOf_eq m c 3 t) t d).trans (blockOf_eq m c 3 t)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; exact blockOf_eq m c 4 t) t d).trans (blockOf_eq m c 4 t)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; exact blockOf_eq m c 5 t) t d).trans (blockOf_eq m c 5 t)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; exact blockOf_eq m c 6 t) t d).trans (blockOf_eq m c 6 t)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; exact blockOf_eq m c 7 t) t d).trans (blockOf_eq m c 7 t)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; exact blockOf_eq m c 8 t) t d).trans (blockOf_eq m c 8 t)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; exact blockOf_eq m c 9 t) t d).trans (blockOf_eq m c 9 t)
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; exact blockOf_eq m c 10 t) t d).trans (blockOf_eq m c 10 t)
theorem before0_11 (c : Dev nD) (t : Fin cfg0.N) (d) : (dats m 0 c).before 11 t d = iblk m c 11 t :=
  ((dats m 0 c).before_in_eq_fetched 11 rfl (fun _ => rfl) (fun _ _ _ => rfl) (fun t => by rw [after0_11]; exact blockOf_eq m c 11 t) t d).trans (blockOf_eq m c 11 t)
theorem before0_12 (c : Dev nD) (t : Fin cfg0.N) (d) : (dats m 0 c).before 12 t d = iblk m c 12 t :=
  ((dats m 0 c).before_in_eq_fetched 12 rfl (fun _ => rfl) (fun _ _ _ => rfl) (fun t => by rw [after0_12]; exact blockOf_eq m c 12 t) t d).trans (blockOf_eq m c 12 t)
theorem before0_13 (c : Dev nD) (t : Fin cfg0.N) (d) : (dats m 0 c).before 13 t d = iblk m c 13 t :=
  ((dats m 0 c).before_in_eq_fetched 13 rfl (fun _ => rfl) (fun _ _ _ => rfl) (fun t => by rw [after0_13]; exact blockOf_eq m c 13 t) t d).trans (blockOf_eq m c 13 t)
theorem before0_14 (c : Dev nD) (t : Fin cfg0.N) (d) : (dats m 0 c).before 14 t d = iblk m c 14 t :=
  ((dats m 0 c).before_in_eq_fetched 14 rfl (fun _ => rfl) (fun _ _ _ => rfl) (fun t => by rw [after0_14]; exact blockOf_eq m c 14 t) t d).trans (blockOf_eq m c 14 t)
theorem before0_15 (c : Dev nD) (t : Fin cfg0.N) (d) : (dats m 0 c).before 15 t d = iblk m c 15 t :=
  ((dats m 0 c).before_in_eq_fetched 15 rfl (fun _ => rfl) (fun _ _ _ => rfl) (fun t => by rw [after0_15]; exact blockOf_eq m c 15 t) t d).trans (blockOf_eq m c 15 t)
theorem before0_16 (c : Dev nD) (t : Fin cfg0.N) (d) : (dats m 0 c).before 16 t d = iblk m c 16 t :=
  ((dats m 0 c).before_in_eq_fetched 16 rfl (fun _ => rfl) (fun _ _ _ => rfl) (fun t => by rw [after0_16]; exact blockOf_eq m c 16 t) t d).trans (blockOf_eq m c 16 t)
theorem before0_17 (c : Dev nD) (t : Fin cfg0.N) (d) : (dats m 0 c).before 17 t d = iblk m c 17 t :=
  ((dats m 0 c).before_in_eq_fetched 17 rfl (fun _ => rfl) (fun _ _ _ => rfl) (fun t => by rw [after0_17]; exact blockOf_eq m c 17 t) t d).trans (blockOf_eq m c 17 t)
theorem before0_18 (c : Dev nD) (t : Fin cfg0.N) (d) : (dats m 0 c).before 18 t d = iblk m c 18 t :=
  ((dats m 0 c).before_in_eq_fetched 18 rfl (fun _ => rfl) (fun _ _ _ => rfl) (fun t => by rw [after0_18]; exact blockOf_eq m c 18 t) t d).trans (blockOf_eq m c 18 t)
theorem before0_19 (c : Dev nD) (t : Fin cfg0.N) (d) : (dats m 0 c).before 19 t d = iblk m c 19 t :=
  ((dats m 0 c).before_in_eq_fetched 19 rfl (fun _ => rfl) (fun _ _ _ => rfl) (fun t => by rw [after0_19]; exact blockOf_eq m c 19 t) t d).trans (blockOf_eq m c 19 t)
theorem before0_20 (c : Dev nD) (t : Fin cfg0.N) (d) : (dats m 0 c).before 20 t d = iblk m c 20 t :=
  ((dats m 0 c).before_in_eq_fetched 20 rfl (fun _ => rfl) (fun _ _ _ => rfl) (fun t => by rw [after0_20]; exact blockOf_eq m c 20 t) t d).trans (blockOf_eq m c 20 t)
theorem before0_21 (c : Dev nD) (t : Fin cfg0.N) (d) : (dats m 0 c).before 21 t d = iblk m c 21 t :=
  ((dats m 0 c).before_in_eq_fetched 21 rfl (fun _ => rfl) (fun _ _ _ => rfl) (fun t => by rw [after0_21]; exact blockOf_eq m c 21 t) t d).trans (blockOf_eq m c 21 t)
theorem before0_22 (c : Dev nD) (t : Fin cfg0.N) (d) : (dats m 0 c).before 22 t d = iblk m c 22 t :=
  ((dats m 0 c).before_in_eq_fetched 22 rfl (fun _ => rfl) (fun _ _ _ => rfl) (fun t => by rw [after0_22]; exact blockOf_eq m c 22 t) t d).trans (blockOf_eq m c 22 t)
theorem before0_23 (c : Dev nD) (t : Fin cfg0.N) (d) : (dats m 0 c).before 23 t d = iblk m c 23 t :=
  ((dats m 0 c).before_in_eq_fetched 23 rfl (fun _ => rfl) (fun _ _ _ => rfl) (fun t => by rw [after0_23]; exact blockOf_eq m c 23 t) t d).trans (blockOf_eq m c 23 t)
theorem before0_24 (c : Dev nD) (t : Fin cfg0.N) (d) : (dats m 0 c).before 24 t d = iblk m c 24 t :=
  ((dats m 0 c).before_in_eq_fetched 24 rfl (fun _ => rfl) (fun _ _ _ => rfl) (fun t => by rw [after0_24]; exact blockOf_eq m c 24 t) t d).trans (blockOf_eq m c 24 t)

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t))

set_option maxHeartbeats 3200000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  isplitl [H26]; · iexists _; iexact H26
  isplitl [H27]; · iexists _; iexact H27
  iintro ⟨H0, H1, H2, H3, H4, H5, H6, H7, H8, H9, H10, H11, H12, H13, H14, H15, H16, H17, H18, H19, H20, H21, H22, H23, H24, H25, H26, H27⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 3200000 in
/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
set_option maxHeartbeats 3200000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => Same m r.2.mem) :=
  frame_of m ρ (dats m) (A_eq m) (run_main m ρ)

/-- The frame, with every semaphore counter at zero. -/
theorem frame : θ_run defs (onTc (τ := τ) (main (F := F))) ⟨m, fun _ => 0, ρ⟩ (fun r => Same m r.2.mem ∧ r.2.sem = fun _ => 0) :=
  θ_run_and (unchanged m ρ) ((θ_run defs _ _).mono (fun _ h => h.2) (run_main_quiescent m ρ))

end Cert.MergeIdeal.Call

end
-- ==== Proof.MergeSpec.lean ====
/- The merge of one row's branches, on the values themselves: three softmax groups combined by their maxima and sums, the
   gate, the gated sum of three products, the output projection and the normalised row. -/
module

public import Idealize.ShloMosaic.Lib.Pipeline.ValueKit
public import Idealize.ShloMosaic.Lib.Pointwise

@[expose] public section

noncomputable section

open Idealize.ShloMosaic

namespace Cert.MergeSpec

/-- Three groups' softmax outputs `o` with maxima `m` and sums `l` as one output. -/
def comb (m0 m1 m2 l0 l1 l2 o0 o1 o2 : EReal) : EReal :=
  Ideal.div (Ideal.exp (m0 - max (max m0 m1) m2) * o0 + Ideal.exp (m1 - max (max m0 m1) m2) * o1 + Ideal.exp (m2 - max (max m0 m1) m2) * o2)
    (Ideal.exp (m0 - max (max m0 m1) m2) * l0 + Ideal.exp (m1 - max (max m0 m1) m2) * l1 + Ideal.exp (m2 - max (max m0 m1) m2) * l2)

/-- The gate. -/
def gate (g : EReal) : EReal := Ideal.div 1 (1 + Ideal.exp (-g))

/-- A column of the gated sum of the three branches. -/
def gated (oa : Fin 512 → EReal) (ob : Fin 256 → EReal) (oc : Fin 1536 → EReal) (ga gb gc : EReal)
    (wa : Fin 512 → EReal) (wb : Fin 256 → EReal) (wc : Fin 1536 → EReal) : EReal :=
  gate ga * (∑ k, oa k * wa k) + gate gb * (∑ k, ob k * wb k) + gate gc * (∑ k, oc k * wc k)

/-- A column of the normalised row. -/
def normed (x : Fin 1024 → EReal) (g : EReal) (d : Fin 1024) : EReal :=
  x d * Ideal.rsqrt (Ideal.div (∑ l : Fin 1024, x l * x l) (Ideal.ofBits FTy.f32 0x44800000#32) + Ideal.ofBits FTy.f32 0x358637BD#32) * g

end Cert.MergeSpec
-- ==== Proof.MergePay.lean ====
/- The merge call's values at an index: the softmax statistics spread over the lanes, the combined group, the gated
   sum, the projected row and its normalisation. -/
module

public import proofs.«01_k».proof.Proof.Gen.MergeIdeal.Skeleton
public import proofs.«01_k».proof.Proof.MergeSpec

@[expose] public section

set_option maxRecDepth 100000

noncomputable section

open Idealize.ShloMosaic Idealize.ShloMosaic.TcCoe Idealize.SL.Sem
open Cert.MergeSpec (comb gate gated normed)

namespace Cert.MergeIdeal.Pay
open Cert.MergeIdeal Cert.MergeIdeal.Gen

theorem lane_at (r j : Fin 256) : k0_pay13 (ix2 r j) = if j.val % 64 < 32 then 1#1 else 0#1 := by
  pointwise [k0_pay13]
  revert j
  decide +kernel

theorem lane'_at (r j : Fin 256) : cmpi .slt k0_pay16 (broadcast S256x256 32#32) (ix2 r j) = if j.val % 64 < 32 then 1#1 else 0#1 := by
  pointwise [k0_pay16]
  revert j
  decide +kernel

theorem m_at (v : FVec Ideal S256x256 .f32) (r j i : Fin 256) (hi : i.val = j.val / 64 * 64 + j.val % 32) : k0_pay14 (F := Ideal) v (ix2 r j) = v (ix2 r i) := by
  pointwise [k0_pay14, lane_at]
  split_ifs with h
  · exact congrArg v ((ix2_inj ..).2 ⟨rfl, Fin.ext (by omega)⟩)
  · exact congrArg v ((ix2_inj ..).2 ⟨rfl, Fin.ext (by dsimp only; omega)⟩)

theorem l_at (v : FVec Ideal S256x256 .f32) (r j i : Fin 256) (hi : i.val = j.val / 64 * 64 + 32 + j.val % 32) : k0_pay15 (F := Ideal) v (ix2 r j) = v (ix2 r i) := by
  pointwise [k0_pay15, lane_at]
  split_ifs with h
  · exact congrArg v ((ix2_inj ..).2 ⟨rfl, Fin.ext (by dsimp only; omega)⟩)
  · exact congrArg v ((ix2_inj ..).2 ⟨rfl, Fin.ext (by omega)⟩)

/-- The statistics' lanes spread in one step. -/
theorem m'_at (v : FVec Ideal S256x256 .f32) (r j i : Fin 256) (hi : i.val = j.val / 64 * 64 + j.val % 32) :
    select (cmpi .slt k0_pay16 (broadcast S256x256 32#32)) v (dynamicRotate 1 32#32 none v rotates_S256x256_d1) (ix2 r j) = v (ix2 r i) := by
  refine Eq.trans ?_ (m_at v r j i hi)
  pointwise [k0_pay14, lane_at, lane'_at]

theorem l'_at (v : FVec Ideal S256x256 .f32) (r j i : Fin 256) (hi : i.val = j.val / 64 * 64 + 32 + j.val % 32) :
    select (cmpi .slt k0_pay16 (broadcast S256x256 32#32)) (dynamicRotate 1 224#32 none v rotates_S256x256_d1) v (ix2 r j) = v (ix2 r i) := by
  refine Eq.trans ?_ (l_at v r j i hi)
  pointwise [k0_pay15, lane_at, lane'_at]

theorem comb_at (o0 o1 o2 v0 v1 v2 : FVec Ideal S256x256 .f32) (r j im il : Fin 256) (hm : im.val = j.val / 64 * 64 + j.val % 32)
    (hl : il.val = j.val / 64 * 64 + 32 + j.val % 32) :
    k0_pay17 (F := Ideal) o0 o1 v1 o2 v2 (k0_pay14 v0) (k0_pay15 v0) k0_pay16 (ix2 r j)
    = comb (v0 (ix2 r im)) (v1 (ix2 r im)) (v2 (ix2 r im)) (v0 (ix2 r il)) (v1 (ix2 r il)) (v2 (ix2 r il)) (o0 (ix2 r j)) (o1 (ix2 r j)) (o2 (ix2 r j)) := by
  rw [← m_at v0 r j im hm, ← l_at v0 r j il hl, ← m'_at v1 r j im hm, ← l'_at v1 r j il hl, ← m'_at v2 r j im hm, ← l'_at v2 r j il hl]
  rfl

theorem gate_at (g : FVec Ideal S256x1024 .f32) (r : Fin 256) (d : Fin 1024) : k0_pay19 (F := Ideal) g (ix2 r d) = gate (g (ix2 r d)) := by
  pointwise [k0_pay19]
  rw [zero_sub]; rfl

theorem x1_at (a b : FVec Ideal S256x1024 .f32) (oc : FVec Ideal S256x1536 .bf16) (wc : FVec Ideal S1536x1024 .bf16) (x : FVec Ideal S256x1024 .f32)
    (w : FVec Ideal S1024x1024 .bf16) (r : Fin 256) (d : Fin 1024) :
    k0_pay1 (F := Ideal) a b oc wc x w (ix2 r d) = x (ix2 r d) + ∑ j : Fin 1024, (a (ix2 r j) + b (ix2 r j) * ∑ k : Fin 1536, oc (ix2 r k) * wc (ix2 k j)) * w (ix2 j d) := by
  pointwise [k0_pay1]

theorem h2_at (a b : FVec Ideal S256x1024 .f32) (oc : FVec Ideal S256x1536 .bf16) (wc : FVec Ideal S1536x1024 .bf16) (x : FVec Ideal S256x1024 .f32)
    (w : FVec Ideal S1024x1024 .bf16) (g : FVec Ideal S1x1024 .f32) (r : Fin 256) (d : Fin 1024) :
    k0_pay2 (F := Ideal) a b oc wc x w g (ix2 r d) = normed (fun l => k0_pay1 (F := Ideal) a b oc wc x w (ix2 r l)) (g (ix2 0 d)) d := by
  generalize hx : k0_pay1 (F := Ideal) a b oc wc x w = X
  unfold k0_pay2
  simp only [hx]
  pointwise [normed]

theorem ab_at (oa : FVec Ideal S256x512 .f32) (ob : FVec Ideal S256x256 .f32) (ga gb : FVec Ideal S256x1024 .f32) (wa : FVec Ideal S512x1024 .bf16)
    (wb : FVec Ideal S256x1024 .bf16) (r : Fin 256) (d : Fin 1024) :
    k0_pay18 (F := Ideal) oa ob ga wa gb wb (ix2 r d) = gate (ga (ix2 r d)) * (∑ k : Fin 512, oa (ix2 r k) * wa (ix2 k d)) + gate (gb (ix2 r d)) * (∑ k : Fin 256, ob (ix2 r k) * wb (ix2 k d)) := by
  pointwise [k0_pay18]
  rw [zero_sub, zero_sub]; rfl

end Cert.MergeIdeal.Pay
-- ==== Proof.MergeRefRun.lean ====
/- The merge's reference as a list of its host operations, and its run read back: the rows after the merge, and the
   normalised rows in two rounded parts. -/
module

public import proofs.«01_k».proof.Proof.Gen.MergeRefIdeal
public import Idealize.ShloMosaic.Lib.StableHlo.Run

@[expose] public section

noncomputable section

namespace Cert.MergeRefIdeal.Plain

open Cert.MergeRefIdeal Cert.MergeRefIdeal.Gen Idealize.ShloMosaic Idealize.ShloMosaic.TcCoe Idealize.SL.Sem Idealize.ShloMosaic.StableHlo

variable {F : FTy → Type} [FloatOps F]

/-- `main_v0`, named so that its operands are plain arguments. -/
def fn_main_v0 : (⟨S16384x512, .f32⟩ : BufTy).Contents (Elt F) → (⟨S1024x512, .f32⟩ : BufTy).Contents (Elt F) → (⟨S17408x512, .f32⟩ : BufTy).Contents (Elt F) :=
  (fun a b => concatenate S17408x512 0 [⟨S16384x512, a⟩, ⟨S1024x512, b⟩] concatenates_S16384x512_S1024x512_S17408x512_d0)

/-- `main_v1`, named so that its operands are plain arguments. -/
def fn_main_v1 : (⟨S16384x1536, .f32⟩ : BufTy).Contents (Elt F) → (⟨S1024x1536, .f32⟩ : BufTy).Contents (Elt F) → (⟨S17408x1536, .f32⟩ : BufTy).Contents (Elt F) :=
  (fun a b => concatenate S17408x1536 0 [⟨S16384x1536, a⟩, ⟨S1024x1536, b⟩] concatenates_S16384x1536_S1024x1536_S17408x1536_d0)

/-- `main_v2`, named so that its operands are plain arguments. -/
def fn_main_v2 : (⟨S16384x256, .f32⟩ : BufTy).Contents (Elt F) → (⟨S1024x256, .f32⟩ : BufTy).Contents (Elt F) → (⟨S17408x256, .f32⟩ : BufTy).Contents (Elt F) :=
  (fun a b => concatenate S17408x256 0 [⟨S16384x256, a⟩, ⟨S1024x256, b⟩] concatenates_S16384x256_S1024x256_S17408x256_d0)

/-- `main_v4`, named so that its operands are plain arguments. -/
def fn_main_v4 : (⟨S16384x256, .f32⟩ : BufTy).Contents (Elt F) → (⟨S1024x256, .f32⟩ : BufTy).Contents (Elt F) → (⟨S17408x256, .f32⟩ : BufTy).Contents (Elt F) :=
  (fun a b => concatenate S17408x256 0 [⟨S16384x256, a⟩, ⟨S1024x256, b⟩] concatenates_S16384x256_S1024x256_S17408x256_d0)

/-- `main_v6`, named so that its operands are plain arguments. -/
def fn_main_v6 : (⟨S16384x256, .f32⟩ : BufTy).Contents (Elt F) → (⟨S1024x256, .f32⟩ : BufTy).Contents (Elt F) → (⟨S17408x256, .f32⟩ : BufTy).Contents (Elt F) :=
  (fun a b => concatenate S17408x256 0 [⟨S16384x256, a⟩, ⟨S1024x256, b⟩] concatenates_S16384x256_S1024x256_S17408x256_d0)

/-- `main_v8`, named so that its operands are plain arguments. -/
def fn_main_v8 : (⟨S16384x4x2, .f32⟩ : BufTy).Contents (Elt F) → (⟨S1024x4x2, .f32⟩ : BufTy).Contents (Elt F) → (⟨S17408x4x2, .f32⟩ : BufTy).Contents (Elt F) :=
  (fun a b => concatenate S17408x4x2 0 [⟨S16384x4x2, a⟩, ⟨S1024x4x2, b⟩] concatenates_S16384x4x2_S1024x4x2_S17408x4x2_d0)

/-- `main_v9`, named so that its operands are plain arguments. -/
def fn_main_v9 : (⟨S16384x4x2, .f32⟩ : BufTy).Contents (Elt F) → (⟨S1024x4x2, .f32⟩ : BufTy).Contents (Elt F) → (⟨S17408x4x2, .f32⟩ : BufTy).Contents (Elt F) :=
  (fun a b => concatenate S17408x4x2 0 [⟨S16384x4x2, a⟩, ⟨S1024x4x2, b⟩] concatenates_S16384x4x2_S1024x4x2_S17408x4x2_d0)

/-- `main_v10`, named so that its operands are plain arguments. -/
def fn_main_v10 : (⟨S16384x4x2, .f32⟩ : BufTy).Contents (Elt F) → (⟨S1024x4x2, .f32⟩ : BufTy).Contents (Elt F) → (⟨S17408x4x2, .f32⟩ : BufTy).Contents (Elt F) :=
  (fun a b => concatenate S17408x4x2 0 [⟨S16384x4x2, a⟩, ⟨S1024x4x2, b⟩] concatenates_S16384x4x2_S1024x4x2_S17408x4x2_d0)

/-- @main's 86 operations, in order. -/
abbrev ops : List (HloOp τ sig (Elt F)) :=
  [ binary main_arg2 main_arg10 main_v0 (fn_main_v0 (F := F)),
    binary main_arg9 main_arg17 main_v1 (fn_main_v1 (F := F)),
    binary main_arg3 main_arg11 main_v2 (fn_main_v2 (F := F)),
    reshape main_v2 main_v3 (rfl : (.f32 : EltTy) = .f32) shapeCasts_S17408x256_S17408x4x64,
    binary main_arg5 main_arg13 main_v4 (fn_main_v4 (F := F)),
    reshape main_v4 main_v5 (rfl : (.f32 : EltTy) = .f32) shapeCasts_S17408x256_S17408x4x64,
    binary main_arg7 main_arg15 main_v6 (fn_main_v6 (F := F)),
    reshape main_v6 main_v7 (rfl : (.f32 : EltTy) = .f32) shapeCasts_S17408x256_S17408x4x64,
    binary main_arg4 main_arg12 main_v8 (fn_main_v8 (F := F)),
    binary main_arg6 main_arg14 main_v9 (fn_main_v9 (F := F)),
    binary main_arg8 main_arg16 main_v10 (fn_main_v10 (F := F)),
    unary main_v8 main_v11 ((extractStridedSlice S17408x4x1 ![0, 0, 0] · slices_S17408x4x2_S17408x4x1_0_0_0) : (⟨S17408x4x2, .f32⟩ : BufTy).Contents (Elt F) → (⟨S17408x4x1, .f32⟩ : BufTy).Contents (Elt F)),
    unary main_v9 main_v12 ((extractStridedSlice S17408x4x1 ![0, 0, 0] · slices_S17408x4x2_S17408x4x1_0_0_0) : (⟨S17408x4x2, .f32⟩ : BufTy).Contents (Elt F) → (⟨S17408x4x1, .f32⟩ : BufTy).Contents (Elt F)),
    unary main_v10 main_v13 ((extractStridedSlice S17408x4x1 ![0, 0, 0] · slices_S17408x4x2_S17408x4x1_0_0_0) : (⟨S17408x4x2, .f32⟩ : BufTy).Contents (Elt F) → (⟨S17408x4x1, .f32⟩ : BufTy).Contents (Elt F)),
    unary main_v8 main_v14 ((extractStridedSlice S17408x4x1 ![0, 0, 1] · slices_S17408x4x2_S17408x4x1_0_0_1) : (⟨S17408x4x2, .f32⟩ : BufTy).Contents (Elt F) → (⟨S17408x4x1, .f32⟩ : BufTy).Contents (Elt F)),
    unary main_v9 main_v15 ((extractStridedSlice S17408x4x1 ![0, 0, 1] · slices_S17408x4x2_S17408x4x1_0_0_1) : (⟨S17408x4x2, .f32⟩ : BufTy).Contents (Elt F) → (⟨S17408x4x1, .f32⟩ : BufTy).Contents (Elt F)),
    unary main_v10 main_v16 ((extractStridedSlice S17408x4x1 ![0, 0, 1] · slices_S17408x4x2_S17408x4x1_0_0_1) : (⟨S17408x4x2, .f32⟩ : BufTy).Contents (Elt F) → (⟨S17408x4x1, .f32⟩ : BufTy).Contents (Elt F)),
    binary main_v11 main_v12 main_v17 (maximumf : (⟨S17408x4x1, .f32⟩ : BufTy).Contents (Elt F) → (⟨S17408x4x1, .f32⟩ : BufTy).Contents (Elt F) → (⟨S17408x4x1, .f32⟩ : BufTy).Contents (Elt F)),
    binary main_v17 main_v13 main_v18 (maximumf : (⟨S17408x4x1, .f32⟩ : BufTy).Contents (Elt F) → (⟨S17408x4x1, .f32⟩ : BufTy).Contents (Elt F) → (⟨S17408x4x1, .f32⟩ : BufTy).Contents (Elt F)),
    binary main_v11 main_v18 main_v19 (subf : (⟨S17408x4x1, .f32⟩ : BufTy).Contents (Elt F) → (⟨S17408x4x1, .f32⟩ : BufTy).Contents (Elt F) → (⟨S17408x4x1, .f32⟩ : BufTy).Contents (Elt F)),
    unary main_v19 main_v20 (Host.exp : (⟨S17408x4x1, .f32⟩ : BufTy).Contents (Elt F) → (⟨S17408x4x1, .f32⟩ : BufTy).Contents (Elt F)),
    binary main_v12 main_v18 main_v21 (subf : (⟨S17408x4x1, .f32⟩ : BufTy).Contents (Elt F) → (⟨S17408x4x1, .f32⟩ : BufTy).Contents (Elt F) → (⟨S17408x4x1, .f32⟩ : BufTy).Contents (Elt F)),
    unary main_v21 main_v22 (Host.exp : (⟨S17408x4x1, .f32⟩ : BufTy).Contents (Elt F) → (⟨S17408x4x1, .f32⟩ : BufTy).Contents (Elt F)),
    binary main_v13 main_v18 main_v23 (subf : (⟨S17408x4x1, .f32⟩ : BufTy).Contents (Elt F) → (⟨S17408x4x1, .f32⟩ : BufTy).Contents (Elt F) → (⟨S17408x4x1, .f32⟩ : BufTy).Contents (Elt F)),
    unary main_v23 main_v24 (Host.exp : (⟨S17408x4x1, .f32⟩ : BufTy).Contents (Elt F) → (⟨S17408x4x1, .f32⟩ : BufTy).Contents (Elt F)),
    unary main_v20 main_v25 (broadcastInDim S17408x4x64 ![0, 1, 2] bcast_S17408x4x1_S17408x4x64_0_1_2 : (⟨S17408x4x1, .f32⟩ : BufTy).Contents (Elt F) → (⟨S17408x4x64, .f32⟩ : BufTy).Contents (Elt F)),
    binary main_v25 main_v3 main_v26 (mulf : (⟨S17408x4x64, .f32⟩ : BufTy).Contents (Elt F) → (⟨S17408x4x64, .f32⟩ : BufTy).Contents (Elt F) → (⟨S17408x4x64, .f32⟩ : BufTy).Contents (Elt F)),
    unary main_v22 main_v27 (broadcastInDim S17408x4x64 ![0, 1, 2] bcast_S17408x4x1_S17408x4x64_0_1_2 : (⟨S17408x4x1, .f32⟩ : BufTy).Contents (Elt F) → (⟨S17408x4x64, .f32⟩ : BufTy).Contents (Elt F)),
    binary main_v27 main_v5 main_v28 (mulf : (⟨S17408x4x64, .f32⟩ : BufTy).Contents (Elt F) → (⟨S17408x4x64, .f32⟩ : BufTy).Contents (Elt F) → (⟨S17408x4x64, .f32⟩ : BufTy).Contents (Elt F)),
    binary main_v26 main_v28 main_v29 (addf : (⟨S17408x4x64, .f32⟩ : BufTy).Contents (Elt F) → (⟨S17408x4x64, .f32⟩ : BufTy).Contents (Elt F) → (⟨S17408x4x64, .f32⟩ : BufTy).Contents (Elt F)),
    unary main_v24 main_v30 (broadcastInDim S17408x4x64 ![0, 1, 2] bcast_S17408x4x1_S17408x4x64_0_1_2 : (⟨S17408x4x1, .f32⟩ : BufTy).Contents (Elt F) → (⟨S17408x4x64, .f32⟩ : BufTy).Contents (Elt F)),
    binary main_v30 main_v7 main_v31 (mulf : (⟨S17408x4x64, .f32⟩ : BufTy).Contents (Elt F) → (⟨S17408x4x64, .f32⟩ : BufTy).Contents (Elt F) → (⟨S17408x4x64, .f32⟩ : BufTy).Contents (Elt F)),
    binary main_v29 main_v31 main_v32 (addf : (⟨S17408x4x64, .f32⟩ : BufTy).Contents (Elt F) → (⟨S17408x4x64, .f32⟩ : BufTy).Contents (Elt F) → (⟨S17408x4x64, .f32⟩ : BufTy).Contents (Elt F)),
    binary main_v20 main_v14 main_v33 (mulf : (⟨S17408x4x1, .f32⟩ : BufTy).Contents (Elt F) → (⟨S17408x4x1, .f32⟩ : BufTy).Contents (Elt F) → (⟨S17408x4x1, .f32⟩ : BufTy).Contents (Elt F)),
    binary main_v22 main_v15 main_v34 (mulf : (⟨S17408x4x1, .f32⟩ : BufTy).Contents (Elt F) → (⟨S17408x4x1, .f32⟩ : BufTy).Contents (Elt F) → (⟨S17408x4x1, .f32⟩ : BufTy).Contents (Elt F)),
    binary main_v33 main_v34 main_v35 (addf : (⟨S17408x4x1, .f32⟩ : BufTy).Contents (Elt F) → (⟨S17408x4x1, .f32⟩ : BufTy).Contents (Elt F) → (⟨S17408x4x1, .f32⟩ : BufTy).Contents (Elt F)),
    binary main_v24 main_v16 main_v36 (mulf : (⟨S17408x4x1, .f32⟩ : BufTy).Contents (Elt F) → (⟨S17408x4x1, .f32⟩ : BufTy).Contents (Elt F) → (⟨S17408x4x1, .f32⟩ : BufTy).Contents (Elt F)),
    binary main_v35 main_v36 main_v37 (addf : (⟨S17408x4x1, .f32⟩ : BufTy).Contents (Elt F) → (⟨S17408x4x1, .f32⟩ : BufTy).Contents (Elt F) → (⟨S17408x4x1, .f32⟩ : BufTy).Contents (Elt F)),
    unary main_v37 main_v38 (broadcastInDim S17408x4x64 ![0, 1, 2] bcast_S17408x4x1_S17408x4x64_0_1_2 : (⟨S17408x4x1, .f32⟩ : BufTy).Contents (Elt F) → (⟨S17408x4x64, .f32⟩ : BufTy).Contents (Elt F)),
    binary main_v32 main_v38 main_v39 (Host.divf : (⟨S17408x4x64, .f32⟩ : BufTy).Contents (Elt F) → (⟨S17408x4x64, .f32⟩ : BufTy).Contents (Elt F) → (⟨S17408x4x64, .f32⟩ : BufTy).Contents (Elt F)),
    reshape main_v39 main_v40 (rfl : (.f32 : EltTy) = .f32) shapeCasts_S17408x4x64_S17408x256,
    unary main_arg1 main_v41 ((extractStridedSlice S17408x3072 ![0, 3072] · slices_S17408x9216_S17408x3072_0_3072) : (⟨S17408x9216, .f32⟩ : BufTy).Contents (Elt F) → (⟨S17408x3072, .f32⟩ : BufTy).Contents (Elt F)),
    unary main_v41 main_v42 (Host.negf : (⟨S17408x3072, .f32⟩ : BufTy).Contents (Elt F) → (⟨S17408x3072, .f32⟩ : BufTy).Contents (Elt F)),
    unary main_v42 main_v43 (Host.exp : (⟨S17408x3072, .f32⟩ : BufTy).Contents (Elt F) → (⟨S17408x3072, .f32⟩ : BufTy).Contents (Elt F)),
    nullary main_cst (constant S_ .f32 0x3F800000#32),
    unary main_cst main_v44 (broadcastInDim S17408x3072 ![] bcast_S_S17408x3072 : (⟨S_, .f32⟩ : BufTy).Contents (Elt F) → (⟨S17408x3072, .f32⟩ : BufTy).Contents (Elt F)),
    binary main_v44 main_v43 main_v45 (addf : (⟨S17408x3072, .f32⟩ : BufTy).Contents (Elt F) → (⟨S17408x3072, .f32⟩ : BufTy).Contents (Elt F) → (⟨S17408x3072, .f32⟩ : BufTy).Contents (Elt F)),
    nullary main_cst_0 (constant S_ .f32 0x3F800000#32),
    unary main_cst_0 main_v46 (broadcastInDim S17408x3072 ![] bcast_S_S17408x3072 : (⟨S_, .f32⟩ : BufTy).Contents (Elt F) → (⟨S17408x3072, .f32⟩ : BufTy).Contents (Elt F)),
    binary main_v46 main_v45 main_v47 (Host.divf : (⟨S17408x3072, .f32⟩ : BufTy).Contents (Elt F) → (⟨S17408x3072, .f32⟩ : BufTy).Contents (Elt F) → (⟨S17408x3072, .f32⟩ : BufTy).Contents (Elt F)),
    unary main_v47 main_v48 ((extractStridedSlice S17408x1024 ![0, 0] · slices_S17408x3072_S17408x1024_0_0) : (⟨S17408x3072, .f32⟩ : BufTy).Contents (Elt F) → (⟨S17408x1024, .f32⟩ : BufTy).Contents (Elt F)),
    unary main_arg18 main_v49 ((extractStridedSlice S512x1024 ![0, 0] · slices_S2304x1024_S512x1024_0_0) : (⟨S2304x1024, .f32⟩ : BufTy).Contents (Elt F) → (⟨S512x1024, .f32⟩ : BufTy).Contents (Elt F)),
    binary main_v0 main_v49 main_v50 ((fun l r => Host.dotGeneral dot_S17408x512_S512x1024_S17408x1024_1_0_0_1_n_n none l r) : (⟨S17408x512, .f32⟩ : BufTy).Contents (Elt F) → (⟨S512x1024, .f32⟩ : BufTy).Contents (Elt F) → (⟨S17408x1024, .f32⟩ : BufTy).Contents (Elt F)),
    binary main_v48 main_v50 main_v51 (mulf : (⟨S17408x1024, .f32⟩ : BufTy).Contents (Elt F) → (⟨S17408x1024, .f32⟩ : BufTy).Contents (Elt F) → (⟨S17408x1024, .f32⟩ : BufTy).Contents (Elt F)),
    unary main_v47 main_v52 ((extractStridedSlice S17408x1024 ![0, 1024] · slices_S17408x3072_S17408x1024_0_1024) : (⟨S17408x3072, .f32⟩ : BufTy).Contents (Elt F) → (⟨S17408x1024, .f32⟩ : BufTy).Contents (Elt F)),
    unary main_arg18 main_v53 ((extractStridedSlice S256x1024 ![512, 0] · slices_S2304x1024_S256x1024_512_0) : (⟨S2304x1024, .f32⟩ : BufTy).Contents (Elt F) → (⟨S256x1024, .f32⟩ : BufTy).Contents (Elt F)),
    binary main_v40 main_v53 main_v54 ((fun l r => Host.dotGeneral dot_S17408x256_S256x1024_S17408x1024_1_0_0_1_n_n none l r) : (⟨S17408x256, .f32⟩ : BufTy).Contents (Elt F) → (⟨S256x1024, .f32⟩ : BufTy).Contents (Elt F) → (⟨S17408x1024, .f32⟩ : BufTy).Contents (Elt F)),
    binary main_v52 main_v54 main_v55 (mulf : (⟨S17408x1024, .f32⟩ : BufTy).Contents (Elt F) → (⟨S17408x1024, .f32⟩ : BufTy).Contents (Elt F) → (⟨S17408x1024, .f32⟩ : BufTy).Contents (Elt F)),
    binary main_v51 main_v55 main_v56 (addf : (⟨S17408x1024, .f32⟩ : BufTy).Contents (Elt F) → (⟨S17408x1024, .f32⟩ : BufTy).Contents (Elt F) → (⟨S17408x1024, .f32⟩ : BufTy).Contents (Elt F)),
    unary main_v47 main_v57 ((extractStridedSlice S17408x1024 ![0, 2048] · slices_S17408x3072_S17408x1024_0_2048) : (⟨S17408x3072, .f32⟩ : BufTy).Contents (Elt F) → (⟨S17408x1024, .f32⟩ : BufTy).Contents (Elt F)),
    unary main_arg18 main_v58 ((extractStridedSlice S1536x1024 ![768, 0] · slices_S2304x1024_S1536x1024_768_0) : (⟨S2304x1024, .f32⟩ : BufTy).Contents (Elt F) → (⟨S1536x1024, .f32⟩ : BufTy).Contents (Elt F)),
    binary main_v1 main_v58 main_v59 ((fun l r => Host.dotGeneral dot_S17408x1536_S1536x1024_S17408x1024_1_0_0_1_n_n none l r) : (⟨S17408x1536, .f32⟩ : BufTy).Contents (Elt F) → (⟨S1536x1024, .f32⟩ : BufTy).Contents (Elt F) → (⟨S17408x1024, .f32⟩ : BufTy).Contents (Elt F)),
    binary main_v57 main_v59 main_v60 (mulf : (⟨S17408x1024, .f32⟩ : BufTy).Contents (Elt F) → (⟨S17408x1024, .f32⟩ : BufTy).Contents (Elt F) → (⟨S17408x1024, .f32⟩ : BufTy).Contents (Elt F)),
    binary main_v56 main_v60 main_v61 (addf : (⟨S17408x1024, .f32⟩ : BufTy).Contents (Elt F) → (⟨S17408x1024, .f32⟩ : BufTy).Contents (Elt F) → (⟨S17408x1024, .f32⟩ : BufTy).Contents (Elt F)),
    binary main_v61 main_arg19 main_v62 ((fun l r => Host.dotGeneral dot_S17408x1024_S1024x1024_S17408x1024_1_0_0_1_n_n none l r) : (⟨S17408x1024, .f32⟩ : BufTy).Contents (Elt F) → (⟨S1024x1024, .f32⟩ : BufTy).Contents (Elt F) → (⟨S17408x1024, .f32⟩ : BufTy).Contents (Elt F)),
    binary main_arg0 main_v62 main_v63 (addf : (⟨S17408x1024, .f32⟩ : BufTy).Contents (Elt F) → (⟨S17408x1024, .f32⟩ : BufTy).Contents (Elt F) → (⟨S17408x1024, .f32⟩ : BufTy).Contents (Elt F)),
    binary main_v63 main_v63 main_v64 (mulf : (⟨S17408x1024, .f32⟩ : BufTy).Contents (Elt F) → (⟨S17408x1024, .f32⟩ : BufTy).Contents (Elt F) → (⟨S17408x1024, .f32⟩ : BufTy).Contents (Elt F)),
    nullary main_cst_1 (constant S_ .f32 0x00000000#32),
    binary main_v64 main_cst_1 main_v65 ((fun x v => Host.reduceAdd x v reducesTo_S17408x1024_S17408_d1 h_S_) : (⟨S17408x1024, .f32⟩ : BufTy).Contents (Elt F) → (⟨S_, .f32⟩ : BufTy).Contents (Elt F) → (⟨S17408, .f32⟩ : BufTy).Contents (Elt F)),
    unary main_v65 main_v66 (broadcastInDim S17408x1 ![0] bcast_S17408_S17408x1_0 : (⟨S17408, .f32⟩ : BufTy).Contents (Elt F) → (⟨S17408x1, .f32⟩ : BufTy).Contents (Elt F)),
    nullary main_cst_2 (constant S_ .f32 0x44800000#32),
    unary main_cst_2 main_v67 (broadcastInDim S17408x1 ![] bcast_S_S17408x1 : (⟨S_, .f32⟩ : BufTy).Contents (Elt F) → (⟨S17408x1, .f32⟩ : BufTy).Contents (Elt F)),
    binary main_v66 main_v67 main_v68 (Host.divf : (⟨S17408x1, .f32⟩ : BufTy).Contents (Elt F) → (⟨S17408x1, .f32⟩ : BufTy).Contents (Elt F) → (⟨S17408x1, .f32⟩ : BufTy).Contents (Elt F)),
    nullary main_cst_3 (constant S_ .f32 0x358637BD#32),
    unary main_cst_3 main_v69 (broadcastInDim S17408x1 ![] bcast_S_S17408x1 : (⟨S_, .f32⟩ : BufTy).Contents (Elt F) → (⟨S17408x1, .f32⟩ : BufTy).Contents (Elt F)),
    binary main_v68 main_v69 main_v70 (addf : (⟨S17408x1, .f32⟩ : BufTy).Contents (Elt F) → (⟨S17408x1, .f32⟩ : BufTy).Contents (Elt F) → (⟨S17408x1, .f32⟩ : BufTy).Contents (Elt F)),
    unary main_v70 main_v71 (Host.rsqrt : (⟨S17408x1, .f32⟩ : BufTy).Contents (Elt F) → (⟨S17408x1, .f32⟩ : BufTy).Contents (Elt F)),
    unary main_v71 main_v72 (broadcastInDim S17408x1024 ![0, 1] bcast_S17408x1_S17408x1024_0_1 : (⟨S17408x1, .f32⟩ : BufTy).Contents (Elt F) → (⟨S17408x1024, .f32⟩ : BufTy).Contents (Elt F)),
    binary main_v63 main_v72 main_v73 (mulf : (⟨S17408x1024, .f32⟩ : BufTy).Contents (Elt F) → (⟨S17408x1024, .f32⟩ : BufTy).Contents (Elt F) → (⟨S17408x1024, .f32⟩ : BufTy).Contents (Elt F)),
    unary main_arg20 main_v74 (broadcastInDim S1x1024 ![1] bcast_S1024_S1x1024_1 : (⟨S1024, .f32⟩ : BufTy).Contents (Elt F) → (⟨S1x1024, .f32⟩ : BufTy).Contents (Elt F)),
    unary main_v74 main_v75 (broadcastInDim S17408x1024 ![0, 1] bcast_S1x1024_S17408x1024_0_1 : (⟨S1x1024, .f32⟩ : BufTy).Contents (Elt F) → (⟨S17408x1024, .f32⟩ : BufTy).Contents (Elt F)),
    binary main_v73 main_v75 main_v76 (mulf : (⟨S17408x1024, .f32⟩ : BufTy).Contents (Elt F) → (⟨S17408x1024, .f32⟩ : BufTy).Contents (Elt F) → (⟨S17408x1024, .f32⟩ : BufTy).Contents (Elt F)),
    unary main_v76 main_v77 ((truncf .bf16 · bitsLt_bf16_f32) : (⟨S17408x1024, .f32⟩ : BufTy).Contents (Elt F) → (⟨S17408x1024, .bf16⟩ : BufTy).Contents (Elt F)),
    unary main_v77 main_v78 ((extf .f32 · bitsLt_bf16_f32) : (⟨S17408x1024, .bf16⟩ : BufTy).Contents (Elt F) → (⟨S17408x1024, .f32⟩ : BufTy).Contents (Elt F)),
    binary main_v76 main_v78 main_v79 (subf : (⟨S17408x1024, .f32⟩ : BufTy).Contents (Elt F) → (⟨S17408x1024, .f32⟩ : BufTy).Contents (Elt F) → (⟨S17408x1024, .f32⟩ : BufTy).Contents (Elt F)),
    unary main_v79 main_v80 ((truncf .bf16 · bitsLt_bf16_f32) : (⟨S17408x1024, .f32⟩ : BufTy).Contents (Elt F) → (⟨S17408x1024, .bf16⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., binary_bufs_sub .., binary_bufs_sub .., reshape_bufs_sub .., binary_bufs_sub .., reshape_bufs_sub .., binary_bufs_sub .., reshape_bufs_sub .., binary_bufs_sub .., binary_bufs_sub .., binary_bufs_sub .., unary_bufs_sub .., unary_bufs_sub .., unary_bufs_sub .., unary_bufs_sub .., unary_bufs_sub .., unary_bufs_sub .., binary_bufs_sub .., binary_bufs_sub .., binary_bufs_sub .., unary_bufs_sub .., binary_bufs_sub .., unary_bufs_sub .., binary_bufs_sub .., unary_bufs_sub .., unary_bufs_sub .., binary_bufs_sub .., unary_bufs_sub .., binary_bufs_sub .., binary_bufs_sub .., unary_bufs_sub .., binary_bufs_sub .., binary_bufs_sub .., binary_bufs_sub .., binary_bufs_sub .., binary_bufs_sub .., binary_bufs_sub .., binary_bufs_sub .., unary_bufs_sub .., binary_bufs_sub .., reshape_bufs_sub .., unary_bufs_sub .., unary_bufs_sub .., unary_bufs_sub .., nullary_bufs_sub .., unary_bufs_sub .., binary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., binary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub ..⟩

/-! ## The results, written over one another -/

section
variable (P : FVec F S17408x9216 .f32) (M0 M1 M2 : FVec F S17408x4x2 .f32) (O0 O1 O2 : FVec F S17408x256 .f32)

/-- The groups' common maximum. -/
def top : FVec F S17408x4x1 .f32 := maximumf (maximumf (extractStridedSlice S17408x4x1 ![0, 0, 0] M0 slices_S17408x4x2_S17408x4x1_0_0_0) (extractStridedSlice S17408x4x1 ![0, 0, 0] M1 slices_S17408x4x2_S17408x4x1_0_0_0)) (extractStridedSlice S17408x4x1 ![0, 0, 0] M2 slices_S17408x4x2_S17408x4x1_0_0_0)

/-- A group's weight under the maximum `T`. -/
def weight (M : FVec F S17408x4x2 .f32) (T : FVec F S17408x4x1 .f32) : FVec F S17408x4x1 .f32 := Host.exp (subf (extractStridedSlice S17408x4x1 ![0, 0, 0] M slices_S17408x4x2_S17408x4x1_0_0_0) T)

/-- A group's weighted output. -/
def part (E : FVec F S17408x4x1 .f32) (O : FVec F S17408x256 .f32) : FVec F S17408x4x64 .f32 :=
  mulf (broadcastInDim S17408x4x64 ![0, 1, 2] bcast_S17408x4x1_S17408x4x64_0_1_2 E) (shapeCast _ O shapeCasts_S17408x256_S17408x4x64)

/-- A group's weighted sum. -/
def mass (E : FVec F S17408x4x1 .f32) (M : FVec F S17408x4x2 .f32) : FVec F S17408x4x1 .f32 :=
  mulf E (extractStridedSlice S17408x4x1 ![0, 0, 1] M slices_S17408x4x2_S17408x4x1_0_0_1)

/-- The three groups as one output. -/
def combined : FVec F S17408x256 .f32 :=
  shapeCast _ (Host.divf (addf (addf (part (weight M0 (top M0 M1 M2)) O0) (part (weight M1 (top M0 M1 M2)) O1)) (part (weight M2 (top M0 M1 M2)) O2))
    (broadcastInDim S17408x4x64 ![0, 1, 2] bcast_S17408x4x1_S17408x4x64_0_1_2 (addf (addf (mass (weight M0 (top M0 M1 M2)) M0) (mass (weight M1 (top M0 M1 M2)) M1)) (mass (weight M2 (top M0 M1 M2)) M2)))) shapeCasts_S17408x4x64_S17408x256

/-- The three gates. -/
def gates : FVec F S17408x3072 .f32 :=
  Host.divf (broadcastInDim S17408x3072 ![] bcast_S_S17408x3072 (constant S_ .f32 0x3F800000#32)) (addf (broadcastInDim S17408x3072 ![] bcast_S_S17408x3072 (constant S_ .f32 0x3F800000#32)) (Host.exp (Host.negf (extractStridedSlice S17408x3072 ![0, 3072] P slices_S17408x9216_S17408x3072_0_3072))))

/-- The gated sum of the three branches' products. -/
def merged (A : FVec F S17408x512 .f32) (B : FVec F S17408x256 .f32) (C : FVec F S17408x1536 .f32) (W : FVec F S2304x1024 .f32) : FVec F S17408x1024 .f32 :=
  addf (addf (mulf (extractStridedSlice S17408x1024 ![0, 0] (gates P) slices_S17408x3072_S17408x1024_0_0) (Host.dotGeneral dot_S17408x512_S512x1024_S17408x1024_1_0_0_1_n_n none A (extractStridedSlice S512x1024 ![0, 0] W slices_S2304x1024_S512x1024_0_0)))
    (mulf (extractStridedSlice S17408x1024 ![0, 1024] (gates P) slices_S17408x3072_S17408x1024_0_1024) (Host.dotGeneral dot_S17408x256_S256x1024_S17408x1024_1_0_0_1_n_n none B (extractStridedSlice S256x1024 ![512, 0] W slices_S2304x1024_S256x1024_512_0))))
    (mulf (extractStridedSlice S17408x1024 ![0, 2048] (gates P) slices_S17408x3072_S17408x1024_0_2048) (Host.dotGeneral dot_S17408x1536_S1536x1024_S17408x1024_1_0_0_1_n_n none C (extractStridedSlice S1536x1024 ![768, 0] W slices_S2304x1024_S1536x1024_768_0)))

/-- The row after the projection. -/
def proj (X Y : FVec F S17408x1024 .f32) (W : FVec F S1024x1024 .f32) : FVec F S17408x1024 .f32 :=
  addf X (Host.dotGeneral dot_S17408x1024_S1024x1024_S17408x1024_1_0_0_1_n_n none Y W)

/-- The row normalised and scaled. -/
def normal (X : FVec F S17408x1024 .f32) (g : FVec F S1024 .f32) : FVec F S17408x1024 .f32 :=
  mulf (mulf X (broadcastInDim S17408x1024 ![0, 1] bcast_S17408x1_S17408x1024_0_1 (Host.rsqrt (addf (Host.divf (broadcastInDim S17408x1 ![0] bcast_S17408_S17408x1_0 (Host.reduceAdd (mulf X X) (constant S_ .f32 0x00000000#32) reducesTo_S17408x1024_S17408_d1 h_S_)) (broadcastInDim S17408x1 ![] bcast_S_S17408x1 (constant S_ .f32 0x44800000#32))) (broadcastInDim S17408x1 ![] bcast_S_S17408x1 (constant S_ .f32 0x358637BD#32)))))) (broadcastInDim S17408x1024 ![0, 1] bcast_S1x1024_S17408x1024_0_1 (broadcastInDim S1x1024 ![1] bcast_S1024_S1x1024_1 g))

/-- A row rounded. -/
def high (H : FVec F S17408x1024 .f32) : FVec F S17408x1024 .bf16 := truncf .bf16 H bitsLt_bf16_f32

/-- What rounding a row leaves, rounded. -/
def low (H : FVec F S17408x1024 .f32) : FVec F S17408x1024 .bf16 := truncf .bf16 (subf H (extf .f32 (high H) bitsLt_bf16_f32)) bitsLt_bf16_f32

end

section
variable (m : (ℓ : Loc nD τ sig) → Buf (Elt F) ℓ) (c : Dev nD)

/-- The first result: the rows after the merge. -/
def x1 : FVec F S17408x1024 .f32 :=
  proj (m ((c.tc : Thread nD τ).loc main_arg0))
    (merged (m ((c.tc : Thread nD τ).loc main_arg1)) (fn_main_v0 (m ((c.tc : Thread nD τ).loc main_arg2)) (m ((c.tc : Thread nD τ).loc main_arg10)))
      (combined (fn_main_v8 (m ((c.tc : Thread nD τ).loc main_arg4)) (m ((c.tc : Thread nD τ).loc main_arg12))) (fn_main_v9 (m ((c.tc : Thread nD τ).loc main_arg6)) (m ((c.tc : Thread nD τ).loc main_arg14))) (fn_main_v10 (m ((c.tc : Thread nD τ).loc main_arg8)) (m ((c.tc : Thread nD τ).loc main_arg16)))
        (fn_main_v2 (m ((c.tc : Thread nD τ).loc main_arg3)) (m ((c.tc : Thread nD τ).loc main_arg11))) (fn_main_v4 (m ((c.tc : Thread nD τ).loc main_arg5)) (m ((c.tc : Thread nD τ).loc main_arg13))) (fn_main_v6 (m ((c.tc : Thread nD τ).loc main_arg7)) (m ((c.tc : Thread nD τ).loc main_arg15))))
      (fn_main_v1 (m ((c.tc : Thread nD τ).loc main_arg9)) (m ((c.tc : Thread nD τ).loc main_arg17))) (m ((c.tc : Thread nD τ).loc main_arg18)))
    (m ((c.tc : Thread nD τ).loc main_arg19))

/-- The normalised rows. -/
def h2 : FVec F S17408x1024 .f32 := normal (x1 m c) (m ((c.tc : Thread nD τ).loc main_arg20))

end

set_option maxRecDepth 8192 in
set_option maxHeartbeats 34400000 in
/-- The reference's run: each result, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v63) = x1 m c
      ∧ r.2.mem ((c.tc : Thread nD τ).loc main_v77) = high (h2 m c)
      ∧ r.2.mem ((c.tc : Thread nD τ).loc main_v80) = low (h2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => ⟨(h c main_v63).trans (by after_results_simp <;> rfl),
      (h c main_v77).trans (by after_results_simp <;> rfl),
      (h c main_v80).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl),
      (h c main_arg14).trans (by after_results_simp <;> rfl),
      (h c main_arg15).trans (by after_results_simp <;> rfl),
      (h c main_arg16).trans (by after_results_simp <;> rfl),
      (h c main_arg17).trans (by after_results_simp <;> rfl),
      (h c main_arg18).trans (by after_results_simp <;> rfl),
      (h c main_arg19).trans (by after_results_simp <;> rfl),
      (h c main_arg20).trans (by after_results_simp <;> rfl)⟩)
    (run_seq scopedRefs_eq scopedSems_eq defs main (fun _ => ops) main_eq (fun _ => ops_sub) m ρ)

end Cert.MergeRefIdeal.Plain

end
-- ==== Proof.MergeRefValue.lean ====
/- The merge's reference at an index. -/
module

public import proofs.«01_k».proof.Proof.MergeRefRun
public import proofs.«01_k».proof.Proof.MergeSpec

@[expose] public section

set_option maxRecDepth 100000

noncomputable section

open Idealize.ShloMosaic Idealize.ShloMosaic.TcCoe Idealize.SL.Sem
open Cert.MergeSpec (comb gate gated normed)

namespace Cert.MergeRefIdeal.Plain
open Cert.MergeRefIdeal Cert.MergeRefIdeal.Gen

theorem v0_at (a : FVec Ideal S16384x512 .f32) (b : FVec Ideal S1024x512 .f32) (R : Fin 17408) (k : Fin 512) :
    fn_main_v0 (F := Ideal) a b (ix2 R k) = if h : R.val < 16384 then a (ix2 ⟨R.val, h⟩ k) else b (ix2 ⟨R.val - 16384, by omega⟩ k) := by
  pointwise [fn_main_v0]
  done

theorem v1_at (a : FVec Ideal S16384x1536 .f32) (b : FVec Ideal S1024x1536 .f32) (R : Fin 17408) (k : Fin 1536) :
    fn_main_v1 (F := Ideal) a b (ix2 R k) = if h : R.val < 16384 then a (ix2 ⟨R.val, h⟩ k) else b (ix2 ⟨R.val - 16384, by omega⟩ k) := by
  pointwise [fn_main_v1]
  done

theorem v2_at (a : FVec Ideal S16384x256 .f32) (b : FVec Ideal S1024x256 .f32) (R : Fin 17408) (k : Fin 256) :
    fn_main_v2 (F := Ideal) a b (ix2 R k) = if h : R.val < 16384 then a (ix2 ⟨R.val, h⟩ k) else b (ix2 ⟨R.val - 16384, by omega⟩ k) := by
  pointwise [fn_main_v2]
  done

theorem v4_at (a : FVec Ideal S16384x256 .f32) (b : FVec Ideal S1024x256 .f32) (R : Fin 17408) (k : Fin 256) :
    fn_main_v4 (F := Ideal) a b (ix2 R k) = if h : R.val < 16384 then a (ix2 ⟨R.val, h⟩ k) else b (ix2 ⟨R.val - 16384, by omega⟩ k) := by
  pointwise [fn_main_v4]
  done

theorem v6_at (a : FVec Ideal S16384x256 .f32) (b : FVec Ideal S1024x256 .f32) (R : Fin 17408) (k : Fin 256) :
    fn_main_v6 (F := Ideal) a b (ix2 R k) = if h : R.val < 16384 then a (ix2 ⟨R.val, h⟩ k) else b (ix2 ⟨R.val - 16384, by omega⟩ k) := by
  pointwise [fn_main_v6]
  done

theorem v8_at (a : FVec Ideal S16384x4x2 .f32) (b : FVec Ideal S1024x4x2 .f32) (R : Fin 17408) (h : Fin 4) (k : Fin 2) :
    fn_main_v8 (F := Ideal) a b (ix3 R h k) = if h' : R.val < 16384 then a (ix3 ⟨R.val, h'⟩ h k) else b (ix3 ⟨R.val - 16384, by omega⟩ h k) := by
  pointwise [fn_main_v8]
  done

theorem v9_at (a : FVec Ideal S16384x4x2 .f32) (b : FVec Ideal S1024x4x2 .f32) (R : Fin 17408) (h : Fin 4) (k : Fin 2) :
    fn_main_v9 (F := Ideal) a b (ix3 R h k) = if h' : R.val < 16384 then a (ix3 ⟨R.val, h'⟩ h k) else b (ix3 ⟨R.val - 16384, by omega⟩ h k) := by
  pointwise [fn_main_v9]
  done

theorem v10_at (a : FVec Ideal S16384x4x2 .f32) (b : FVec Ideal S1024x4x2 .f32) (R : Fin 17408) (h : Fin 4) (k : Fin 2) :
    fn_main_v10 (F := Ideal) a b (ix3 R h k) = if h' : R.val < 16384 then a (ix3 ⟨R.val, h'⟩ h k) else b (ix3 ⟨R.val - 16384, by omega⟩ h k) := by
  pointwise [fn_main_v10]
  done

theorem combined_at (M0 M1 M2 : FVec Ideal S17408x4x2 .f32) (O0 O1 O2 : FVec Ideal S17408x256 .f32) (R : Fin 17408) (j : Fin 256) (h : Fin 4) (hh : h.val = j.val / 64) :
    combined (F := Ideal) M0 M1 M2 O0 O1 O2 (ix2 R j) = comb (M0 (ix3 R h 0)) (M1 (ix3 R h 0)) (M2 (ix3 R h 0)) (M0 (ix3 R h 1)) (M1 (ix3 R h 1)) (M2 (ix3 R h 1)) (O0 (ix2 R j)) (O1 (ix2 R j)) (O2 (ix2 R j)) := by
  obtain ⟨h, _⟩ := h
  dsimp only at hh
  subst hh
  pointwise [combined, part, mass, weight, top]
  rfl

theorem merged_at (P : FVec Ideal S17408x9216 .f32) (A : FVec Ideal S17408x512 .f32) (B : FVec Ideal S17408x256 .f32) (C : FVec Ideal S17408x1536 .f32) (W : FVec Ideal S2304x1024 .f32)
    (R : Fin 17408) (d : Fin 1024) :
    merged (F := Ideal) P A B C W (ix2 R d) = gated (fun k => A (ix2 R k)) (fun k => B (ix2 R k)) (fun k => C (ix2 R k))
      (P (ix2 R ⟨3072 + d.val, by omega⟩)) (P (ix2 R ⟨4096 + d.val, by omega⟩)) (P (ix2 R ⟨5120 + d.val, by omega⟩))
      (fun k => W (ix2 ⟨k.val, by omega⟩ d)) (fun k => W (ix2 ⟨512 + k.val, by omega⟩ d)) (fun k => W (ix2 ⟨768 + k.val, by omega⟩ d)) := by
  pointwise [merged, gates]
  rw [show (⟨3072 + (1024 + d.val), by omega⟩ : Fin 9216) = ⟨4096 + d.val, by omega⟩ from Fin.ext (by dsimp only; omega),
    show (⟨3072 + (2048 + d.val), by omega⟩ : Fin 9216) = ⟨5120 + d.val, by omega⟩ from Fin.ext (by dsimp only; omega)]
  rfl

theorem proj_at (X Y : FVec Ideal S17408x1024 .f32) (W : FVec Ideal S1024x1024 .f32) (R : Fin 17408) (d : Fin 1024) :
    proj (F := Ideal) X Y W (ix2 R d) = X (ix2 R d) + ∑ j : Fin 1024, Y (ix2 R j) * W (ix2 j d) := by
  pointwise [proj]

theorem normal_at (X : FVec Ideal S17408x1024 .f32) (g : FVec Ideal S1024 .f32) (R : Fin 17408) (d : Fin 1024) :
    normal (F := Ideal) X g (ix2 R d) = normed (fun l => X (ix2 R l)) (g (ix1 d)) d := by
  pointwise [normal, normed]

end Cert.MergeRefIdeal.Plain
-- ==== Proof.MergeValue.lean ====
/- The merge call's final arrays against the reference: each grid point's blocks are read off the arguments (a point below
   sixty-four reads the prompt's arrays, a later one the sample's), and the point's stores are the reference's rows. -/
module

public import proofs.«01_k».proof.Proof.MergeIdealRun
public import proofs.«01_k».proof.Proof.MergePay
public import proofs.«01_k».proof.Proof.MergeRefValue
public import Idealize.ShloMosaic.Lib.Claim

@[expose] public section

set_option maxRecDepth 100000

noncomputable section

open Idealize.ShloMosaic Idealize.ShloMosaic.TcCoe Idealize.SL.Sem
open Idealize.ShloMosaic.Pipeline (Dat)
open Cert.MergeSpec (comb gate gated normed)

namespace Cert.MergeIdeal.Plain
open Cert.MergeIdeal Cert.MergeIdeal.Gen Cert.MergeIdeal.Call

variable (m : (ℓ : Loc nD τ sig) → Buf (Elt Ideal) ℓ)

/-- Softmax statistics laid out on the lanes. -/
def lanes_p (x : FVec Ideal S16384x4x2 .f32) : FVec Ideal S16384x256 .f32 := shapeCast S16384x256 (broadcastInDim S16384x4x2x32 ![0, 1, 2, 3] bcast_S16384x4x2x1_S16384x4x2x32_0_1_2_3 (broadcastInDim S16384x4x2x1 ![0, 1, 2] bcast_S16384x4x2_S16384x4x2x1_0_1_2 x)) shapeCasts_S16384x4x2x32_S16384x256

theorem lanes_p_at (x : FVec Ideal S16384x4x2 .f32) (R : Fin 16384) (i : Fin 256) (h : Fin 4) (k : Fin 2) (hh : h.val = i.val / 64) (hk : k.val = i.val / 32 % 2) :
    lanes_p x (ix2 R i) = x (ix3 R h k) := by
  obtain ⟨h, _⟩ := h; obtain ⟨k, _⟩ := k
  dsimp only at hh hk; subst hh hk
  pointwise [lanes_p]

/-- Softmax statistics laid out on the lanes. -/
def lanes_s (x : FVec Ideal S1024x4x2 .f32) : FVec Ideal S1024x256 .f32 := shapeCast S1024x256 (broadcastInDim S1024x4x2x32 ![0, 1, 2, 3] bcast_S1024x4x2x1_S1024x4x2x32_0_1_2_3 (broadcastInDim S1024x4x2x1 ![0, 1, 2] bcast_S1024x4x2_S1024x4x2x1_0_1_2 x)) shapeCasts_S1024x4x2x32_S1024x256

theorem lanes_s_at (x : FVec Ideal S1024x4x2 .f32) (R : Fin 1024) (i : Fin 256) (h : Fin 4) (k : Fin 2) (hh : h.val = i.val / 64) (hk : k.val = i.val / 32 % 2) :
    lanes_s x (ix2 R i) = x (ix3 R h k) := by
  obtain ⟨h, _⟩ := h; obtain ⟨k, _⟩ := k
  dsimp only at hh hk; subst hh hk
  pointwise [lanes_s]

set_option maxHeartbeats 2000000 in
theorem V_v3 (c : Dev nD) : V m c main_v3 = lanes_p (m ((c : Thread nD τ).loc main_arg4)) := by
  unfold V; after_results
  rfl

set_option maxHeartbeats 2000000 in
theorem V_v6 (c : Dev nD) : V m c main_v6 = lanes_p (m ((c : Thread nD τ).loc main_arg6)) := by
  unfold V; after_results
  rfl

set_option maxHeartbeats 2000000 in
theorem V_v9 (c : Dev nD) : V m c main_v9 = lanes_p (m ((c : Thread nD τ).loc main_arg8)) := by
  unfold V; after_results
  rfl

set_option maxHeartbeats 2000000 in
theorem V_v12 (c : Dev nD) : V m c main_v12 = lanes_s (m ((c : Thread nD τ).loc main_arg12)) := by
  unfold V; after_results
  rfl

set_option maxHeartbeats 2000000 in
theorem V_v15 (c : Dev nD) : V m c main_v15 = lanes_s (m ((c : Thread nD τ).loc main_arg14)) := by
  unfold V; after_results
  rfl

set_option maxHeartbeats 2000000 in
theorem V_v18 (c : Dev nD) : V m c main_v18 = lanes_s (m ((c : Thread nD τ).loc main_arg16)) := by
  unfold V; after_results
  rfl

def wbf (W : FVec Ideal S2304x1024 .f32) : FVec Ideal S2304x1024 .bf16 := truncf .bf16 W bitsLt_bf16_f32

set_option maxHeartbeats 2000000 in
theorem V_wa (c : Dev nD) : V m c main_v19 = extractStridedSlice S512x1024 ![0, 0] (wbf (m ((c : Thread nD τ).loc main_arg18))) slices_S2304x1024_S512x1024_0_0 := by
  unfold V; after_results
  rfl

set_option maxHeartbeats 2000000 in
theorem V_wb (c : Dev nD) : V m c main_v20 = extractStridedSlice S256x1024 ![512, 0] (wbf (m ((c : Thread nD τ).loc main_arg18))) slices_S2304x1024_S256x1024_512_0 := by
  unfold V; after_results
  rfl

set_option maxHeartbeats 2000000 in
theorem V_wc (c : Dev nD) : V m c main_v21 = extractStridedSlice S1536x1024 ![768, 0] (wbf (m ((c : Thread nD τ).loc main_arg18))) slices_S2304x1024_S1536x1024_768_0 := by
  unfold V; after_results
  rfl

def wobf (W : FVec Ideal S1024x1024 .f32) : FVec Ideal S1024x1024 .bf16 := truncf .bf16 W bitsLt_bf16_f32

set_option maxHeartbeats 2000000 in
theorem V_wo (c : Dev nD) : V m c main_v22 = wobf (m ((c : Thread nD τ).loc main_arg19)) := by
  unfold V; after_results
  rfl

set_option maxHeartbeats 2000000 in
theorem V_g (c : Dev nD) : V m c main_v23 = shapeCast S1x1024 (m ((c : Thread nD τ).loc main_arg20)) shapeCasts_S1024_S1x1024 := by
  unfold V; after_results
  rfl

theorem idx_rows : ∀ t : Fin cfg0.N, win0_0.index t = ![t.val, 0] ∧ win0_1.index t = ![t.val, 3] ∧ win0_2.index t = ![t.val, 4] ∧ win0_3.index t = ![t.val, 5]
    ∧ win0_20.index t = ![0, 0] ∧ win0_21.index t = ![0, 0] ∧ win0_22.index t = ![0, 0] ∧ win0_23.index t = ![0, 0] ∧ win0_24.index t = ![0, 0]
    ∧ win0_25.index t = ![t.val, 0] ∧ win0_26.index t = ![t.val, 0] ∧ win0_27.index t = ![t.val, 0] :=
  (by decide +kernel : ∀ t : Fin grid0.N, _)

theorem idx_p : ∀ t : Fin cfg0.N, win0_4.index t = ![min t.val 63, 0] ∧ win0_5.index t = ![min t.val 63, 0] ∧ win0_6.index t = ![min t.val 63, 0] ∧ win0_7.index t = ![min t.val 63, 0] ∧ win0_8.index t = ![min t.val 63, 0] ∧ win0_9.index t = ![min t.val 63, 0] ∧ win0_10.index t = ![min t.val 63, 0] ∧ win0_11.index t = ![min t.val 63, 0] :=
  (by decide +kernel : ∀ t : Fin grid0.N, _)

theorem idx_s : ∀ t : Fin cfg0.N, win0_12.index t = ![t.val - 64, 0] ∧ win0_13.index t = ![t.val - 64, 0] ∧ win0_14.index t = ![t.val - 64, 0] ∧ win0_15.index t = ![t.val - 64, 0] ∧ win0_16.index t = ![t.val - 64, 0] ∧ win0_17.index t = ![t.val - 64, 0] ∧ win0_18.index t = ![t.val - 64, 0] ∧ win0_19.index t = ![t.val - 64, 0] :=
  (by decide +kernel : ∀ t : Fin grid0.N, _)

theorem isPrompt : ∀ t : Fin cfg0.N, Scalar.cmpi .slt (BitVec.ofNat 32 (grid0.coords t 0).val) 64#32 = if t.val < 64 then 1#1 else 0#1 :=
  (by decide +kernel : ∀ t : Fin grid0.N, _)

theorem choose {α : Type} (t : Fin cfg0.N) (a b : α) : Scalar.select (Scalar.cmpi .slt (BitVec.ofNat 32 (grid0.coords t 0).val) 64#32) a b = if t.val < 64 then a else b := by
  rw [isPrompt]
  split_ifs <;> rfl

theorem oa_p (c : Dev nD) (t : Fin cfg0.N) (h : t.val < 64) (r : Fin 256) (k : Fin 512) (R : Fin 16384) (hR : R.val = t.val * 256 + r.val) :
    (show FVec Ideal S256x512 .f32 from iblk m c 4 t) (ix2 r k) = (show FVec Ideal S16384x512 .f32 from (m ((c : Thread nD τ).loc main_arg2))) (ix2 R k) := by
  have h' : min t.val 63 = t.val := by omega
  blk_ext [iblk, V, idx_p t, h']

theorem oa_s (c : Dev nD) (t : Fin cfg0.N) (h : ¬ t.val < 64) (r : Fin 256) (k : Fin 512) (R : Fin 1024) (hR : R.val = (t.val - 64) * 256 + r.val) :
    (show FVec Ideal S256x512 .f32 from iblk m c 12 t) (ix2 r k) = (show FVec Ideal S1024x512 .f32 from (m ((c : Thread nD τ).loc main_arg10))) (ix2 R k) := by
  blk_ext [iblk, V, idx_s t]

theorem oa_at (c : Dev nD) (t : Fin cfg0.N) (r : Fin 256) (k : Fin 512) (R : Fin 17408) (hR : R.val = t.val * 256 + r.val) :
    (show FVec Ideal S256x512 .f32 from k0_pay5 (F := Ideal) (grid0.coords t) (iblk m c 4 t) (iblk m c 12 t)) (ix2 r k)
    = Cert.MergeRefIdeal.Plain.fn_main_v0 (F := Ideal) (m ((c : Thread nD τ).loc main_arg2)) (m ((c : Thread nD τ).loc main_arg10)) (ix2 R k) := by
  refine Eq.trans ?_ (Cert.MergeRefIdeal.Plain.v0_at _ _ R k).symm
  change Scalar.select (Scalar.cmpi .slt (BitVec.ofNat 32 (grid0.coords t 0).val) 64#32) (show FVec Ideal S256x512 .f32 from iblk m c 4 t) (show FVec Ideal S256x512 .f32 from iblk m c 12 t) (ix2 r k) = _
  have hN : t.val < 68 := lt_of_lt_of_eq t.isLt N_0
  by_cases h : t.val < 64
  · rw [choose, if_pos h, dif_pos (show R.val < 16384 by omega)]
    exact oa_p m c t h r k ⟨R.val, by omega⟩ hR
  · rw [choose, if_neg h, dif_neg (show ¬ R.val < 16384 by omega)]
    exact oa_s m c t h r k ⟨R.val - 16384, by omega⟩ (by dsimp only; omega)

theorem o0_p (c : Dev nD) (t : Fin cfg0.N) (h : t.val < 64) (r : Fin 256) (k : Fin 256) (R : Fin 16384) (hR : R.val = t.val * 256 + r.val) :
    (show FVec Ideal S256x256 .f32 from iblk m c 5 t) (ix2 r k) = (show FVec Ideal S16384x256 .f32 from (m ((c : Thread nD τ).loc main_arg3))) (ix2 R k) := by
  have h' : min t.val 63 = t.val := by omega
  blk_ext [iblk, V, idx_p t, h']

theorem o0_s (c : Dev nD) (t : Fin cfg0.N) (h : ¬ t.val < 64) (r : Fin 256) (k : Fin 256) (R : Fin 1024) (hR : R.val = (t.val - 64) * 256 + r.val) :
    (show FVec Ideal S256x256 .f32 from iblk m c 13 t) (ix2 r k) = (show FVec Ideal S1024x256 .f32 from (m ((c : Thread nD τ).loc main_arg11))) (ix2 R k) := by
  blk_ext [iblk, V, idx_s t]

theorem o0_at (c : Dev nD) (t : Fin cfg0.N) (r : Fin 256) (k : Fin 256) (R : Fin 17408) (hR : R.val = t.val * 256 + r.val) :
    (show FVec Ideal S256x256 .f32 from k0_pay6 (F := Ideal) (grid0.coords t) (iblk m c 5 t) (iblk m c 13 t)) (ix2 r k)
    = Cert.MergeRefIdeal.Plain.fn_main_v2 (F := Ideal) (m ((c : Thread nD τ).loc main_arg3)) (m ((c : Thread nD τ).loc main_arg11)) (ix2 R k) := by
  refine Eq.trans ?_ (Cert.MergeRefIdeal.Plain.v2_at _ _ R k).symm
  change Scalar.select (Scalar.cmpi .slt (BitVec.ofNat 32 (grid0.coords t 0).val) 64#32) (show FVec Ideal S256x256 .f32 from iblk m c 5 t) (show FVec Ideal S256x256 .f32 from iblk m c 13 t) (ix2 r k) = _
  have hN : t.val < 68 := lt_of_lt_of_eq t.isLt N_0
  by_cases h : t.val < 64
  · rw [choose, if_pos h, dif_pos (show R.val < 16384 by omega)]
    exact o0_p m c t h r k ⟨R.val, by omega⟩ hR
  · rw [choose, if_neg h, dif_neg (show ¬ R.val < 16384 by omega)]
    exact o0_s m c t h r k ⟨R.val - 16384, by omega⟩ (by dsimp only; omega)

theorem o1_p (c : Dev nD) (t : Fin cfg0.N) (h : t.val < 64) (r : Fin 256) (k : Fin 256) (R : Fin 16384) (hR : R.val = t.val * 256 + r.val) :
    (show FVec Ideal S256x256 .f32 from iblk m c 7 t) (ix2 r k) = (show FVec Ideal S16384x256 .f32 from (m ((c : Thread nD τ).loc main_arg5))) (ix2 R k) := by
  have h' : min t.val 63 = t.val := by omega
  blk_ext [iblk, V, idx_p t, h']

theorem o1_s (c : Dev nD) (t : Fin cfg0.N) (h : ¬ t.val < 64) (r : Fin 256) (k : Fin 256) (R : Fin 1024) (hR : R.val = (t.val - 64) * 256 + r.val) :
    (show FVec Ideal S256x256 .f32 from iblk m c 15 t) (ix2 r k) = (show FVec Ideal S1024x256 .f32 from (m ((c : Thread nD τ).loc main_arg13))) (ix2 R k) := by
  blk_ext [iblk, V, idx_s t]

theorem o1_at (c : Dev nD) (t : Fin cfg0.N) (r : Fin 256) (k : Fin 256) (R : Fin 17408) (hR : R.val = t.val * 256 + r.val) :
    (show FVec Ideal S256x256 .f32 from k0_pay8 (F := Ideal) (grid0.coords t) (iblk m c 7 t) (iblk m c 15 t)) (ix2 r k)
    = Cert.MergeRefIdeal.Plain.fn_main_v4 (F := Ideal) (m ((c : Thread nD τ).loc main_arg5)) (m ((c : Thread nD τ).loc main_arg13)) (ix2 R k) := by
  refine Eq.trans ?_ (Cert.MergeRefIdeal.Plain.v4_at _ _ R k).symm
  change Scalar.select (Scalar.cmpi .slt (BitVec.ofNat 32 (grid0.coords t 0).val) 64#32) (show FVec Ideal S256x256 .f32 from iblk m c 7 t) (show FVec Ideal S256x256 .f32 from iblk m c 15 t) (ix2 r k) = _
  have hN : t.val < 68 := lt_of_lt_of_eq t.isLt N_0
  by_cases h : t.val < 64
  · rw [choose, if_pos h, dif_pos (show R.val < 16384 by omega)]
    exact o1_p m c t h r k ⟨R.val, by omega⟩ hR
  · rw [choose, if_neg h, dif_neg (show ¬ R.val < 16384 by omega)]
    exact o1_s m c t h r k ⟨R.val - 16384, by omega⟩ (by dsimp only; omega)

theorem o2_p (c : Dev nD) (t : Fin cfg0.N) (h : t.val < 64) (r : Fin 256) (k : Fin 256) (R : Fin 16384) (hR : R.val = t.val * 256 + r.val) :
    (show FVec Ideal S256x256 .f32 from iblk m c 9 t) (ix2 r k) = (show FVec Ideal S16384x256 .f32 from (m ((c : Thread nD τ).loc main_arg7))) (ix2 R k) := by
  have h' : min t.val 63 = t.val := by omega
  blk_ext [iblk, V, idx_p t, h']

theorem o2_s (c : Dev nD) (t : Fin cfg0.N) (h : ¬ t.val < 64) (r : Fin 256) (k : Fin 256) (R : Fin 1024) (hR : R.val = (t.val - 64) * 256 + r.val) :
    (show FVec Ideal S256x256 .f32 from iblk m c 17 t) (ix2 r k) = (show FVec Ideal S1024x256 .f32 from (m ((c : Thread nD τ).loc main_arg15))) (ix2 R k) := by
  blk_ext [iblk, V, idx_s t]

theorem o2_at (c : Dev nD) (t : Fin cfg0.N) (r : Fin 256) (k : Fin 256) (R : Fin 17408) (hR : R.val = t.val * 256 + r.val) :
    (show FVec Ideal S256x256 .f32 from k0_pay10 (F := Ideal) (grid0.coords t) (iblk m c 9 t) (iblk m c 17 t)) (ix2 r k)
    = Cert.MergeRefIdeal.Plain.fn_main_v6 (F := Ideal) (m ((c : Thread nD τ).loc main_arg7)) (m ((c : Thread nD τ).loc main_arg15)) (ix2 R k) := by
  refine Eq.trans ?_ (Cert.MergeRefIdeal.Plain.v6_at _ _ R k).symm
  change Scalar.select (Scalar.cmpi .slt (BitVec.ofNat 32 (grid0.coords t 0).val) 64#32) (show FVec Ideal S256x256 .f32 from iblk m c 9 t) (show FVec Ideal S256x256 .f32 from iblk m c 17 t) (ix2 r k) = _
  have hN : t.val < 68 := lt_of_lt_of_eq t.isLt N_0
  by_cases h : t.val < 64
  · rw [choose, if_pos h, dif_pos (show R.val < 16384 by omega)]
    exact o2_p m c t h r k ⟨R.val, by omega⟩ hR
  · rw [choose, if_neg h, dif_neg (show ¬ R.val < 16384 by omega)]
    exact o2_s m c t h r k ⟨R.val - 16384, by omega⟩ (by dsimp only; omega)

theorem oc_p (c : Dev nD) (t : Fin cfg0.N) (h : t.val < 64) (r : Fin 256) (k : Fin 1536) (R : Fin 16384) (hR : R.val = t.val * 256 + r.val) :
    (show FVec Ideal S256x1536 .f32 from iblk m c 11 t) (ix2 r k) = (show FVec Ideal S16384x1536 .f32 from (m ((c : Thread nD τ).loc main_arg9))) (ix2 R k) := by
  have h' : min t.val 63 = t.val := by omega
  blk_ext [iblk, V, idx_p t, h']

theorem oc_s (c : Dev nD) (t : Fin cfg0.N) (h : ¬ t.val < 64) (r : Fin 256) (k : Fin 1536) (R : Fin 1024) (hR : R.val = (t.val - 64) * 256 + r.val) :
    (show FVec Ideal S256x1536 .f32 from iblk m c 19 t) (ix2 r k) = (show FVec Ideal S1024x1536 .f32 from (m ((c : Thread nD τ).loc main_arg17))) (ix2 R k) := by
  blk_ext [iblk, V, idx_s t]

theorem oc_at (c : Dev nD) (t : Fin cfg0.N) (r : Fin 256) (k : Fin 1536) (R : Fin 17408) (hR : R.val = t.val * 256 + r.val) :
    (show FVec Ideal S256x1536 .f32 from k0_pay12 (F := Ideal) (Scalar.cmpi .slt (BitVec.ofNat 32 (grid0.coords t 0).val) 64#32) (iblk m c 11 t) (iblk m c 19 t)) (ix2 r k)
    = Cert.MergeRefIdeal.Plain.fn_main_v1 (F := Ideal) (m ((c : Thread nD τ).loc main_arg9)) (m ((c : Thread nD τ).loc main_arg17)) (ix2 R k) := by
  refine Eq.trans ?_ (Cert.MergeRefIdeal.Plain.v1_at _ _ R k).symm
  change Scalar.select (Scalar.cmpi .slt (BitVec.ofNat 32 (grid0.coords t 0).val) 64#32) (show FVec Ideal S256x1536 .f32 from iblk m c 11 t) (show FVec Ideal S256x1536 .f32 from iblk m c 19 t) (ix2 r k) = _
  have hN : t.val < 68 := lt_of_lt_of_eq t.isLt N_0
  by_cases h : t.val < 64
  · rw [choose, if_pos h, dif_pos (show R.val < 16384 by omega)]
    exact oc_p m c t h r k ⟨R.val, by omega⟩ hR
  · rw [choose, if_neg h, dif_neg (show ¬ R.val < 16384 by omega)]
    exact oc_s m c t h r k ⟨R.val - 16384, by omega⟩ (by dsimp only; omega)

theorem ml0_p (c : Dev nD) (t : Fin cfg0.N) (h : t.val < 64) (r : Fin 256) (k : Fin 256) (R : Fin 16384) (hR : R.val = t.val * 256 + r.val) :
    (show FVec Ideal S256x256 .f32 from iblk m c 6 t) (ix2 r k) = lanes_p (m ((c : Thread nD τ).loc main_arg4)) (ix2 R k) := by
  have h' : min t.val 63 = t.val := by omega
  rw [← V_v3]
  blk_ext [iblk, idx_p t, h']

theorem ml0_s (c : Dev nD) (t : Fin cfg0.N) (h : ¬ t.val < 64) (r : Fin 256) (k : Fin 256) (R : Fin 1024) (hR : R.val = (t.val - 64) * 256 + r.val) :
    (show FVec Ideal S256x256 .f32 from iblk m c 14 t) (ix2 r k) = lanes_s (m ((c : Thread nD τ).loc main_arg12)) (ix2 R k) := by
  rw [← V_v12]
  blk_ext [iblk, idx_s t]

theorem ml0_at (c : Dev nD) (t : Fin cfg0.N) (r i : Fin 256) (R : Fin 17408) (hR : R.val = t.val * 256 + r.val) (h4 : Fin 4) (k : Fin 2) (hh : h4.val = i.val / 64) (hk : k.val = i.val / 32 % 2) :
    k0_pay7 (F := Ideal) (grid0.coords t) (iblk m c 6 t) (iblk m c 14 t) (ix2 r i)
    = Cert.MergeRefIdeal.Plain.fn_main_v8 (F := Ideal) (m ((c : Thread nD τ).loc main_arg4)) (m ((c : Thread nD τ).loc main_arg12)) (ix3 R h4 k) := by
  refine Eq.trans ?_ (Cert.MergeRefIdeal.Plain.v8_at _ _ R h4 k).symm
  unfold k0_pay7
  rw [shapeCast_self, shapeCast_self]
  change Scalar.select (Scalar.cmpi .slt (BitVec.ofNat 32 (grid0.coords t 0).val) 64#32) (show FVec Ideal S256x256 .f32 from iblk m c 6 t) (show FVec Ideal S256x256 .f32 from iblk m c 14 t) (ix2 r i) = _
  have hN : t.val < 68 := lt_of_lt_of_eq t.isLt N_0
  by_cases h : t.val < 64
  · rw [choose, if_pos h, dif_pos (show R.val < 16384 by omega)]
    exact (ml0_p m c t h r i ⟨R.val, by omega⟩ hR).trans (lanes_p_at _ _ i h4 k hh hk)
  · rw [choose, if_neg h, dif_neg (show ¬ R.val < 16384 by omega)]
    exact (ml0_s m c t h r i ⟨R.val - 16384, by omega⟩ (by dsimp only; omega)).trans (lanes_s_at _ _ i h4 k hh hk)

theorem ml1_p (c : Dev nD) (t : Fin cfg0.N) (h : t.val < 64) (r : Fin 256) (k : Fin 256) (R : Fin 16384) (hR : R.val = t.val * 256 + r.val) :
    (show FVec Ideal S256x256 .f32 from iblk m c 8 t) (ix2 r k) = lanes_p (m ((c : Thread nD τ).loc main_arg6)) (ix2 R k) := by
  have h' : min t.val 63 = t.val := by omega
  rw [← V_v6]
  blk_ext [iblk, idx_p t, h']

theorem ml1_s (c : Dev nD) (t : Fin cfg0.N) (h : ¬ t.val < 64) (r : Fin 256) (k : Fin 256) (R : Fin 1024) (hR : R.val = (t.val - 64) * 256 + r.val) :
    (show FVec Ideal S256x256 .f32 from iblk m c 16 t) (ix2 r k) = lanes_s (m ((c : Thread nD τ).loc main_arg14)) (ix2 R k) := by
  rw [← V_v15]
  blk_ext [iblk, idx_s t]

theorem ml1_at (c : Dev nD) (t : Fin cfg0.N) (r i : Fin 256) (R : Fin 17408) (hR : R.val = t.val * 256 + r.val) (h4 : Fin 4) (k : Fin 2) (hh : h4.val = i.val / 64) (hk : k.val = i.val / 32 % 2) :
    k0_pay9 (F := Ideal) (grid0.coords t) (iblk m c 8 t) (iblk m c 16 t) (ix2 r i)
    = Cert.MergeRefIdeal.Plain.fn_main_v9 (F := Ideal) (m ((c : Thread nD τ).loc main_arg6)) (m ((c : Thread nD τ).loc main_arg14)) (ix3 R h4 k) := by
  refine Eq.trans ?_ (Cert.MergeRefIdeal.Plain.v9_at _ _ R h4 k).symm
  unfold k0_pay9
  rw [shapeCast_self, shapeCast_self]
  change Scalar.select (Scalar.cmpi .slt (BitVec.ofNat 32 (grid0.coords t 0).val) 64#32) (show FVec Ideal S256x256 .f32 from iblk m c 8 t) (show FVec Ideal S256x256 .f32 from iblk m c 16 t) (ix2 r i) = _
  have hN : t.val < 68 := lt_of_lt_of_eq t.isLt N_0
  by_cases h : t.val < 64
  · rw [choose, if_pos h, dif_pos (show R.val < 16384 by omega)]
    exact (ml1_p m c t h r i ⟨R.val, by omega⟩ hR).trans (lanes_p_at _ _ i h4 k hh hk)
  · rw [choose, if_neg h, dif_neg (show ¬ R.val < 16384 by omega)]
    exact (ml1_s m c t h r i ⟨R.val - 16384, by omega⟩ (by dsimp only; omega)).trans (lanes_s_at _ _ i h4 k hh hk)

theorem ml2_p (c : Dev nD) (t : Fin cfg0.N) (h : t.val < 64) (r : Fin 256) (k : Fin 256) (R : Fin 16384) (hR : R.val = t.val * 256 + r.val) :
    (show FVec Ideal S256x256 .f32 from iblk m c 10 t) (ix2 r k) = lanes_p (m ((c : Thread nD τ).loc main_arg8)) (ix2 R k) := by
  have h' : min t.val 63 = t.val := by omega
  rw [← V_v9]
  blk_ext [iblk, idx_p t, h']

theorem ml2_s (c : Dev nD) (t : Fin cfg0.N) (h : ¬ t.val < 64) (r : Fin 256) (k : Fin 256) (R : Fin 1024) (hR : R.val = (t.val - 64) * 256 + r.val) :
    (show FVec Ideal S256x256 .f32 from iblk m c 18 t) (ix2 r k) = lanes_s (m ((c : Thread nD τ).loc main_arg16)) (ix2 R k) := by
  rw [← V_v18]
  blk_ext [iblk, idx_s t]

theorem ml2_at (c : Dev nD) (t : Fin cfg0.N) (r i : Fin 256) (R : Fin 17408) (hR : R.val = t.val * 256 + r.val) (h4 : Fin 4) (k : Fin 2) (hh : h4.val = i.val / 64) (hk : k.val = i.val / 32 % 2) :
    k0_pay11 (F := Ideal) (grid0.coords t) (iblk m c 10 t) (iblk m c 18 t) (ix2 r i)
    = Cert.MergeRefIdeal.Plain.fn_main_v10 (F := Ideal) (m ((c : Thread nD τ).loc main_arg8)) (m ((c : Thread nD τ).loc main_arg16)) (ix3 R h4 k) := by
  refine Eq.trans ?_ (Cert.MergeRefIdeal.Plain.v10_at _ _ R h4 k).symm
  unfold k0_pay11
  rw [shapeCast_self, shapeCast_self]
  change Scalar.select (Scalar.cmpi .slt (BitVec.ofNat 32 (grid0.coords t 0).val) 64#32) (show FVec Ideal S256x256 .f32 from iblk m c 10 t) (show FVec Ideal S256x256 .f32 from iblk m c 18 t) (ix2 r i) = _
  have hN : t.val < 68 := lt_of_lt_of_eq t.isLt N_0
  by_cases h : t.val < 64
  · rw [choose, if_pos h, dif_pos (show R.val < 16384 by omega)]
    exact (ml2_p m c t h r i ⟨R.val, by omega⟩ hR).trans (lanes_p_at _ _ i h4 k hh hk)
  · rw [choose, if_neg h, dif_neg (show ¬ R.val < 16384 by omega)]
    exact (ml2_s m c t h r i ⟨R.val - 16384, by omega⟩ (by dsimp only; omega)).trans (lanes_s_at _ _ i h4 k hh hk)

theorem x_at (c : Dev nD) (t : Fin cfg0.N) (r : Fin 256) (k : Fin 1024) (R : Fin 17408) (hR : R.val = t.val * 256 + r.val) :
    (show FVec Ideal S256x1024 .f32 from iblk m c 0 t) (ix2 r k) = (show FVec Ideal S17408x1024 .f32 from (m ((c : Thread nD τ).loc main_arg0))) (ix2 R k) := by
  blk_ext [iblk, V, idx_rows t]

theorem ga_at (c : Dev nD) (t : Fin cfg0.N) (r : Fin 256) (k : Fin 1024) (R : Fin 17408) (hR : R.val = t.val * 256 + r.val) :
    (show FVec Ideal S256x1024 .f32 from iblk m c 1 t) (ix2 r k) = (show FVec Ideal S17408x9216 .f32 from (m ((c : Thread nD τ).loc main_arg1))) (ix2 R ⟨3072 + k.val, by omega⟩) := by
  blk_ext [iblk, V, idx_rows t]

theorem gb_at (c : Dev nD) (t : Fin cfg0.N) (r : Fin 256) (k : Fin 1024) (R : Fin 17408) (hR : R.val = t.val * 256 + r.val) :
    (show FVec Ideal S256x1024 .f32 from iblk m c 2 t) (ix2 r k) = (show FVec Ideal S17408x9216 .f32 from (m ((c : Thread nD τ).loc main_arg1))) (ix2 R ⟨4096 + k.val, by omega⟩) := by
  blk_ext [iblk, V, idx_rows t]

theorem gc_at (c : Dev nD) (t : Fin cfg0.N) (r : Fin 256) (k : Fin 1024) (R : Fin 17408) (hR : R.val = t.val * 256 + r.val) :
    (show FVec Ideal S256x1024 .f32 from iblk m c 3 t) (ix2 r k) = (show FVec Ideal S17408x9216 .f32 from (m ((c : Thread nD τ).loc main_arg1))) (ix2 R ⟨5120 + k.val, by omega⟩) := by
  blk_ext [iblk, V, idx_rows t]

theorem wa_at (c : Dev nD) (t : Fin cfg0.N) (k : Fin 512) (d : Fin 1024) :
    (show FVec Ideal S512x1024 .bf16 from iblk m c 20 t) (ix2 k d) = (show FVec Ideal S2304x1024 .f32 from (m ((c : Thread nD τ).loc main_arg18))) (ix2 ⟨k.val, by omega⟩ d) := by
  have e : (show FVec Ideal S512x1024 .bf16 from iblk m c 20 t) (ix2 k d) = (show FVec Ideal S512x1024 .bf16 from V m c main_v19) (ix2 k d) := by
    blk_ext [iblk, idx_rows t]
  rw [e, V_wa]
  pointwise [wbf]

theorem wb_at (c : Dev nD) (t : Fin cfg0.N) (k : Fin 256) (d : Fin 1024) :
    (show FVec Ideal S256x1024 .bf16 from iblk m c 21 t) (ix2 k d) = (show FVec Ideal S2304x1024 .f32 from (m ((c : Thread nD τ).loc main_arg18))) (ix2 ⟨512 + k.val, by omega⟩ d) := by
  have e : (show FVec Ideal S256x1024 .bf16 from iblk m c 21 t) (ix2 k d) = (show FVec Ideal S256x1024 .bf16 from V m c main_v20) (ix2 k d) := by
    blk_ext [iblk, idx_rows t]
  rw [e, V_wb]
  pointwise [wbf]

theorem wc_at (c : Dev nD) (t : Fin cfg0.N) (k : Fin 1536) (d : Fin 1024) :
    (show FVec Ideal S1536x1024 .bf16 from iblk m c 22 t) (ix2 k d) = (show FVec Ideal S2304x1024 .f32 from (m ((c : Thread nD τ).loc main_arg18))) (ix2 ⟨768 + k.val, by omega⟩ d) := by
  have e : (show FVec Ideal S1536x1024 .bf16 from iblk m c 22 t) (ix2 k d) = (show FVec Ideal S1536x1024 .bf16 from V m c main_v21) (ix2 k d) := by
    blk_ext [iblk, idx_rows t]
  rw [e, V_wc]
  pointwise [wbf]

theorem wo_at (c : Dev nD) (t : Fin cfg0.N) (k d : Fin 1024) :
    (show FVec Ideal S1024x1024 .bf16 from iblk m c 23 t) (ix2 k d) = (show FVec Ideal S1024x1024 .f32 from (m ((c : Thread nD τ).loc main_arg19))) (ix2 k d) := by
  have e : (show FVec Ideal S1024x1024 .bf16 from iblk m c 23 t) (ix2 k d) = (show FVec Ideal S1024x1024 .bf16 from V m c main_v22) (ix2 k d) := by
    blk_ext [iblk, idx_rows t]
  rw [e, V_wo]
  pointwise [wobf]

theorem g_at (c : Dev nD) (t : Fin cfg0.N) (k : Fin 1024) :
    (show FVec Ideal S1x1024 .f32 from iblk m c 24 t) (ix2 0 k) = (show FVec Ideal S1024 .f32 from (m ((c : Thread nD τ).loc main_arg20))) (ix1 k) := by
  have e : (show FVec Ideal S1x1024 .f32 from iblk m c 24 t) (ix2 0 k) = (show FVec Ideal S1x1024 .f32 from V m c main_v23) (ix2 0 k) := by
    blk_ext [iblk, idx_rows t]
  rw [e, V_g]
  pointwise

end Cert.MergeIdeal.Plain
-- ==== Proof.MergeFinal.lean ====
/- The merge call's stores are the reference's rows at every grid point, and its final arrays the reference's results. -/
module

public import proofs.«01_k».proof.Proof.MergeValue

@[expose] public section

set_option maxRecDepth 100000

noncomputable section

open Idealize.ShloMosaic Idealize.ShloMosaic.TcCoe Idealize.SL.Sem
open Idealize.ShloMosaic.Pipeline (Dat)
open Cert.MergeSpec (comb gate gated normed)

namespace Cert.MergeIdeal.Plain
open Cert.MergeIdeal Cert.MergeIdeal.Gen Cert.MergeIdeal.Call

variable (m : (ℓ : Loc nD τ sig) → Buf (Elt Ideal) ℓ)

/-- The first branch's rows. -/
def rowsA (c : Dev nD) : FVec Ideal Cert.MergeRefIdeal.S17408x512 .f32 := (Cert.MergeRefIdeal.Plain.fn_main_v0 (F := Ideal) (m ((c : Thread nD τ).loc main_arg2)) (m ((c : Thread nD τ).loc main_arg10)))

/-- The second branch's rows. -/
def rowsB (c : Dev nD) : FVec Ideal Cert.MergeRefIdeal.S17408x256 .f32 :=
  Cert.MergeRefIdeal.Plain.combined (F := Ideal) (Cert.MergeRefIdeal.Plain.fn_main_v8 (F := Ideal) (m ((c : Thread nD τ).loc main_arg4)) (m ((c : Thread nD τ).loc main_arg12))) (Cert.MergeRefIdeal.Plain.fn_main_v9 (F := Ideal) (m ((c : Thread nD τ).loc main_arg6)) (m ((c : Thread nD τ).loc main_arg14))) (Cert.MergeRefIdeal.Plain.fn_main_v10 (F := Ideal) (m ((c : Thread nD τ).loc main_arg8)) (m ((c : Thread nD τ).loc main_arg16)))
    (Cert.MergeRefIdeal.Plain.fn_main_v2 (F := Ideal) (m ((c : Thread nD τ).loc main_arg3)) (m ((c : Thread nD τ).loc main_arg11))) (Cert.MergeRefIdeal.Plain.fn_main_v4 (F := Ideal) (m ((c : Thread nD τ).loc main_arg5)) (m ((c : Thread nD τ).loc main_arg13))) (Cert.MergeRefIdeal.Plain.fn_main_v6 (F := Ideal) (m ((c : Thread nD τ).loc main_arg7)) (m ((c : Thread nD τ).loc main_arg15)))

/-- The third branch's rows. -/
def rowsC (c : Dev nD) : FVec Ideal Cert.MergeRefIdeal.S17408x1536 .f32 := (Cert.MergeRefIdeal.Plain.fn_main_v1 (F := Ideal) (m ((c : Thread nD τ).loc main_arg9)) (m ((c : Thread nD τ).loc main_arg17)))

/-- The rows after the merge. -/
def rowsX (c : Dev nD) : FVec Ideal S17408x1024 .f32 :=
  Cert.MergeRefIdeal.Plain.proj (F := Ideal) (m ((c : Thread nD τ).loc main_arg0)) (Cert.MergeRefIdeal.Plain.merged (F := Ideal) (m ((c : Thread nD τ).loc main_arg1)) (rowsA m c) (rowsB m c) (rowsC m c) (m ((c : Thread nD τ).loc main_arg18))) (m ((c : Thread nD τ).loc main_arg19))

/-- The normalised rows. -/
def rowsH (c : Dev nD) : FVec Ideal S17408x1024 .f32 := Cert.MergeRefIdeal.Plain.normal (F := Ideal) (rowsX m c) (m ((c : Thread nD τ).loc main_arg20))

/-- The second branch's block at a point. -/
def blkB (c : Dev nD) (t : Fin cfg0.N) : FVec Ideal S256x256 .f32 :=
  k0_pay17 (F := Ideal) (k0_pay6 (grid0.coords t) (iblk m c 5 t) (iblk m c 13 t)) (k0_pay8 (grid0.coords t) (iblk m c 7 t) (iblk m c 15 t)) (k0_pay9 (grid0.coords t) (iblk m c 8 t) (iblk m c 16 t))
    (k0_pay10 (grid0.coords t) (iblk m c 9 t) (iblk m c 17 t)) (k0_pay11 (grid0.coords t) (iblk m c 10 t) (iblk m c 18 t))
    (k0_pay14 (k0_pay7 (grid0.coords t) (iblk m c 6 t) (iblk m c 14 t))) (k0_pay15 (k0_pay7 (grid0.coords t) (iblk m c 6 t) (iblk m c 14 t))) k0_pay16

/-- The first two branches' gated products at a point. -/
def blkAB (c : Dev nD) (t : Fin cfg0.N) : FVec Ideal S256x1024 .f32 :=
  k0_pay18 (F := Ideal) (k0_pay5 (grid0.coords t) (iblk m c 4 t) (iblk m c 12 t)) (blkB m c t) (iblk m c 1 t) (iblk m c 20 t) (iblk m c 2 t) (iblk m c 21 t)

/-- The third gate at a point. -/
def blkG (c : Dev nD) (t : Fin cfg0.N) : FVec Ideal S256x1024 .f32 := k0_pay19 (F := Ideal) (iblk m c 3 t)

/-- The third branch's block at a point. -/
def blkC (c : Dev nD) (t : Fin cfg0.N) : FVec Ideal S256x1536 .bf16 :=
  k0_pay20 (F := Ideal) (k0_pay12 (Scalar.cmpi .slt (BitVec.ofNat 32 (grid0.coords t 0).val) 64#32) (iblk m c 11 t) (iblk m c 19 t))

/-- The rows stored at a point. -/
def blkX (c : Dev nD) (t : Fin cfg0.N) : FVec Ideal S256x1024 .f32 :=
  k0_pay1 (F := Ideal) (blkAB m c t) (blkG m c t) (blkC m c t) (iblk m c 22 t) (iblk m c 0 t) (iblk m c 23 t)

/-- The normalised rows at a point. -/
def blkH (c : Dev nD) (t : Fin cfg0.N) : FVec Ideal S256x1024 .f32 :=
  k0_pay2 (F := Ideal) (blkAB m c t) (blkG m c t) (blkC m c t) (iblk m c 22 t) (iblk m c 0 t) (iblk m c 23 t) (iblk m c 24 t)

theorem blkB_at (c : Dev nD) (t : Fin cfg0.N) (r j : Fin 256) (R : Fin 17408) (hR : R.val = t.val * 256 + r.val) : blkB m c t (ix2 r j) = rowsB m c (ix2 R j) := by
  have hj : j.val < 256 := j.isLt
  let im : Fin 256 := ⟨j.val / 64 * 64 + j.val % 32, by omega⟩
  let il : Fin 256 := ⟨j.val / 64 * 64 + 32 + j.val % 32, by omega⟩
  let h : Fin 4 := ⟨j.val / 64, by omega⟩
  have him : im.val = j.val / 64 * 64 + j.val % 32 := rfl
  have hil : il.val = j.val / 64 * 64 + 32 + j.val % 32 := rfl
  have hh : h.val = j.val / 64 := rfl
  have am : h.val = im.val / 64 := by omega
  have al : h.val = il.val / 64 := by omega
  have km : (0 : Fin 2).val = im.val / 32 % 2 := by change 0 = _; omega
  have kl : (1 : Fin 2).val = il.val / 32 % 2 := by change 1 = _; omega
  refine (Cert.MergeIdeal.Pay.comb_at _ _ _ _ _ _ r j im il him hil).trans ?_
  refine Eq.trans ?_ (Cert.MergeRefIdeal.Plain.combined_at _ _ _ _ _ _ R j h hh).symm
  rw [← ml0_at m c t r im R hR h 0 am km, ← ml1_at m c t r im R hR h 0 am km, ← ml2_at m c t r im R hR h 0 am km,
    ← ml0_at m c t r il R hR h 1 al kl, ← ml1_at m c t r il R hR h 1 al kl, ← ml2_at m c t r il R hR h 1 al kl,
    ← o0_at m c t r j R hR, ← o1_at m c t r j R hR, ← o2_at m c t r j R hR]

theorem gated_at (c : Dev nD) (t : Fin cfg0.N) (r : Fin 256) (d : Fin 1024) (R : Fin 17408) (hR : R.val = t.val * 256 + r.val) :
    @HAdd.hAdd EReal EReal EReal _ (blkAB m c t (ix2 r d)) (@HMul.hMul EReal EReal EReal _ (blkG m c t (ix2 r d)) (∑ k : Fin 1536, @HMul.hMul EReal EReal EReal _ (blkC m c t (ix2 r k)) ((show FVec Ideal S1536x1024 .bf16 from iblk m c 22 t) (ix2 k d))))
    = Cert.MergeRefIdeal.Plain.merged (F := Ideal) (m ((c : Thread nD τ).loc main_arg1)) (rowsA m c) (rowsB m c) (rowsC m c) (m ((c : Thread nD τ).loc main_arg18)) (ix2 R d) := by
  refine Eq.trans ?_ (Cert.MergeRefIdeal.Plain.merged_at _ _ _ _ _ R d).symm
  have eA : blkAB m c t (ix2 r d) = _ := Cert.MergeIdeal.Pay.ab_at _ _ _ _ _ _ r d
  have eG : blkG m c t (ix2 r d) = _ := Cert.MergeIdeal.Pay.gate_at _ r d
  rw [eA, eG]
  unfold gated
  refine congrArg₂ (@HAdd.hAdd EReal EReal EReal _) (congrArg₂ (@HAdd.hAdd EReal EReal EReal _) ?_ ?_) ?_
  · refine Ideal.mul_congr (congrArg gate (ga_at m c t r d R hR)) (Finset.sum_congr rfl fun k _ => ?_)
    exact Ideal.mul_congr (oa_at m c t r k R hR) (wa_at m c t k d)
  · refine Ideal.mul_congr (congrArg gate (gb_at m c t r d R hR)) (Finset.sum_congr rfl fun k _ => ?_)
    exact Ideal.mul_congr (blkB_at m c t r k R hR) (wb_at m c t k d)
  · refine Ideal.mul_congr (congrArg gate (gc_at m c t r d R hR)) (Finset.sum_congr rfl fun k _ => ?_)
    exact Ideal.mul_congr (oc_at m c t r k R hR) (wc_at m c t k d)

theorem blkX_at (c : Dev nD) (t : Fin cfg0.N) (r : Fin 256) (d : Fin 1024) (R : Fin 17408) (hR : R.val = t.val * 256 + r.val) : blkX m c t (ix2 r d) = rowsX m c (ix2 R d) := by
  refine (Cert.MergeIdeal.Pay.x1_at _ _ _ _ _ _ r d).trans ?_
  refine Eq.trans ?_ (Cert.MergeRefIdeal.Plain.proj_at _ _ _ R d).symm
  refine congrArg₂ (@HAdd.hAdd EReal EReal EReal _) (x_at m c t r d R hR) (Finset.sum_congr rfl fun j _ => ?_)
  exact Ideal.mul_congr (gated_at m c t r j R hR) (wo_at m c t j d)

theorem blkH_at (c : Dev nD) (t : Fin cfg0.N) (r : Fin 256) (d : Fin 1024) (R : Fin 17408) (hR : R.val = t.val * 256 + r.val) : blkH m c t (ix2 r d) = rowsH m c (ix2 R d) := by
  refine (Cert.MergeIdeal.Pay.h2_at _ _ _ _ _ _ _ r d).trans ?_
  refine Eq.trans ?_ (Cert.MergeRefIdeal.Plain.normal_at _ _ R d).symm
  exact congrArg₂ (fun x g => normed x g d) (funext fun l => blkX_at m c t r l R hR) (g_at m c t d)

theorem out25 (c : Dev nD) (t : Fin cfg0.N) : (dats m 0 c).after 25 t = blkX m c t := by
  rw [after0_25]
  unfold out0_25 k0_pay22 k0_pay21 k0_pay23 k0_pay24 blkX blkAB blkG blkC blkB
  frame_out

theorem out26 (c : Dev nD) (t : Fin cfg0.N) : (dats m 0 c).after 26 t = truncf .bf16 (blkH m c t) bitsLt_bf16_f32 := by
  rw [after0_26]
  unfold out0_26 k0_pay22 k0_pay21 k0_pay23 k0_pay24 k0_pay3 blkH blkAB blkG blkC blkB
  frame_out

theorem out27 (c : Dev nD) (t : Fin cfg0.N) : (dats m 0 c).after 27 t = truncf .bf16 (subf (blkH m c t) (extf .f32 (truncf .bf16 (blkH m c t) bitsLt_bf16_f32) bitsLt_bf16_f32)) bitsLt_bf16_f32 := by
  rw [after0_27]
  unfold out0_27 k0_pay22 k0_pay21 k0_pay23 k0_pay24 k0_pay4 k0_pay3 blkH blkAB blkG blkC blkB
  frame_out

theorem final25 (c : Dev nD) : (dats m 0 c).arrAt 25 (cfgs 0).N = rowsX m c := by
  refine (dats m 0 c).arrAt_eq_of_covers 25 _ (by decide +kernel) fun t hf y => ?_
  blk_simp
  rw [out25]
  have hN : t.val < 68 := lt_of_lt_of_eq t.isLt N_0
  have h0 : (y 0).val < 256 := (y 0).isLt
  have h1 : (y 1).val < 1024 := (y 1).isLt
  refine Eq.trans ?_ ((blkX_at m c t ⟨(y 0).val, h0⟩ ⟨(y 1).val, h1⟩ ⟨t.val * 256 + (y 0).val, by omega⟩ rfl).trans ?_)
  · refine congrArg _ ?_
    blk_ext
  · refine congrArg _ ?_
    blk_ext [idx_rows t]

theorem hi_at (c : Dev nD) (t : Fin cfg0.N) (r : Fin 256) (d : Fin 1024) (R : Fin 17408) (hR : R.val = t.val * 256 + r.val) :
    truncf .bf16 (blkH m c t) bitsLt_bf16_f32 (ix2 r d) = Cert.MergeRefIdeal.Plain.high (F := Ideal) (rowsH m c) (ix2 R d) := by
  pointwise [Cert.MergeRefIdeal.Plain.high]
  exact blkH_at m c t r d R hR

theorem final26 (c : Dev nD) : (dats m 0 c).arrAt 26 (cfgs 0).N = Cert.MergeRefIdeal.Plain.high (F := Ideal) (rowsH m c) := by
  refine (dats m 0 c).arrAt_eq_of_covers 26 _ (by decide +kernel) fun t hf y => ?_
  blk_simp
  rw [out26]
  have hN : t.val < 68 := lt_of_lt_of_eq t.isLt N_0
  have h0 : (y 0).val < 256 := (y 0).isLt
  have h1 : (y 1).val < 1024 := (y 1).isLt
  refine Eq.trans ?_ ((hi_at m c t ⟨(y 0).val, h0⟩ ⟨(y 1).val, h1⟩ ⟨t.val * 256 + (y 0).val, by omega⟩ rfl).trans ?_)
  · refine congrArg _ ?_
    blk_ext
  · refine congrArg _ ?_
    blk_ext [idx_rows t]

theorem lo_at (c : Dev nD) (t : Fin cfg0.N) (r : Fin 256) (d : Fin 1024) (R : Fin 17408) (hR : R.val = t.val * 256 + r.val) :
    truncf .bf16 (subf (blkH m c t) (extf .f32 (truncf .bf16 (blkH m c t) bitsLt_bf16_f32) bitsLt_bf16_f32)) bitsLt_bf16_f32 (ix2 r d) = Cert.MergeRefIdeal.Plain.low (F := Ideal) (rowsH m c) (ix2 R d) := by
  pointwise [Cert.MergeRefIdeal.Plain.low, Cert.MergeRefIdeal.Plain.high]
  exact congrArg (fun x : EReal => x - x) (blkH_at m c t r d R hR)

theorem final27 (c : Dev nD) : (dats m 0 c).arrAt 27 (cfgs 0).N = Cert.MergeRefIdeal.Plain.low (F := Ideal) (rowsH m c) := by
  refine (dats m 0 c).arrAt_eq_of_covers 27 _ (by decide +kernel) fun t hf y => ?_
  blk_simp
  rw [out27]
  have hN : t.val < 68 := lt_of_lt_of_eq t.isLt N_0
  have h0 : (y 0).val < 256 := (y 0).isLt
  have h1 : (y 1).val < 1024 := (y 1).isLt
  refine Eq.trans ?_ ((lo_at m c t ⟨(y 0).val, h0⟩ ⟨(y 1).val, h1⟩ ⟨t.val * 256 + (y 0).val, by omega⟩ rfl).trans ?_)
  · refine congrArg _ ?_
    blk_ext
  · refine congrArg _ ?_
    blk_ext [idx_rows t]

/-- The call's run: each result is the reference's, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v24_0) = rowsX m c
      ∧ r.2.mem ((c.tc : Thread nD τ).loc main_v24_1) = Cert.MergeRefIdeal.Plain.high (F := Ideal) (rowsH m c)
      ∧ r.2.mem ((c.tc : Thread nD τ).loc main_v24_2) = Cert.MergeRefIdeal.Plain.low (F := Ideal) (rowsH m c)
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))
      ∧ r.2.mem ((c.tc : Thread nD τ).loc main_arg6) = (m ((c.tc : Thread nD τ).loc main_arg6))
      ∧ r.2.mem ((c.tc : Thread nD τ).loc main_arg7) = (m ((c.tc : Thread nD τ).loc main_arg7))
      ∧ r.2.mem ((c.tc : Thread nD τ).loc main_arg8) = (m ((c.tc : Thread nD τ).loc main_arg8))
      ∧ r.2.mem ((c.tc : Thread nD τ).loc main_arg9) = (m ((c.tc : Thread nD τ).loc main_arg9))
      ∧ r.2.mem ((c.tc : Thread nD τ).loc main_arg10) = (m ((c.tc : Thread nD τ).loc main_arg10))
      ∧ r.2.mem ((c.tc : Thread nD τ).loc main_arg11) = (m ((c.tc : Thread nD τ).loc main_arg11))
      ∧ r.2.mem ((c.tc : Thread nD τ).loc main_arg12) = (m ((c.tc : Thread nD τ).loc main_arg12))
      ∧ r.2.mem ((c.tc : Thread nD τ).loc main_arg13) = (m ((c.tc : Thread nD τ).loc main_arg13))
      ∧ r.2.mem ((c.tc : Thread nD τ).loc main_arg14) = (m ((c.tc : Thread nD τ).loc main_arg14))
      ∧ r.2.mem ((c.tc : Thread nD τ).loc main_arg15) = (m ((c.tc : Thread nD τ).loc main_arg15))
      ∧ r.2.mem ((c.tc : Thread nD τ).loc main_arg16) = (m ((c.tc : Thread nD τ).loc main_arg16))
      ∧ r.2.mem ((c.tc : Thread nD τ).loc main_arg17) = (m ((c.tc : Thread nD τ).loc main_arg17))
      ∧ r.2.mem ((c.tc : Thread nD τ).loc main_arg18) = (m ((c.tc : Thread nD τ).loc main_arg18))
      ∧ r.2.mem ((c.tc : Thread nD τ).loc main_arg19) = (m ((c.tc : Thread nD τ).loc main_arg19))
      ∧ r.2.mem ((c.tc : Thread nD τ).loc main_arg20) = (m ((c.tc : Thread nD τ).loc main_arg20)) :=
  (θ_run _ _ _).mono (fun r h c => ⟨((h.1 c).1 25).trans (final25 m c), ((h.1 c).1 26).trans (final26 m c), ((h.1 c).1 27).trans (final27 m c), h.2 c⟩)
    (θ_run_and (run_main m ρ) (unchanged m ρ))

/-- Rows, from arguments that agree. -/
theorem rows_eq (m' : (ℓ : Loc Cert.MergeRefIdeal.nD Cert.MergeRefIdeal.τ Cert.MergeRefIdeal.sig) → Buf (Elt Ideal) ℓ) (c : Dev nD)
    (h : m' ((c.tc : Thread Cert.MergeRefIdeal.nD Cert.MergeRefIdeal.τ).loc Cert.MergeRefIdeal.main_arg0) = (m ((c.tc : Thread nD τ).loc main_arg0))
      ∧ m' ((c.tc : Thread Cert.MergeRefIdeal.nD Cert.MergeRefIdeal.τ).loc Cert.MergeRefIdeal.main_arg1) = (m ((c.tc : Thread nD τ).loc main_arg1))
      ∧ m' ((c.tc : Thread Cert.MergeRefIdeal.nD Cert.MergeRefIdeal.τ).loc Cert.MergeRefIdeal.main_arg2) = (m ((c.tc : Thread nD τ).loc main_arg2))
      ∧ m' ((c.tc : Thread Cert.MergeRefIdeal.nD Cert.MergeRefIdeal.τ).loc Cert.MergeRefIdeal.main_arg3) = (m ((c.tc : Thread nD τ).loc main_arg3))
      ∧ m' ((c.tc : Thread Cert.MergeRefIdeal.nD Cert.MergeRefIdeal.τ).loc Cert.MergeRefIdeal.main_arg4) = (m ((c.tc : Thread nD τ).loc main_arg4))
      ∧ m' ((c.tc : Thread Cert.MergeRefIdeal.nD Cert.MergeRefIdeal.τ).loc Cert.MergeRefIdeal.main_arg5) = (m ((c.tc : Thread nD τ).loc main_arg5))
      ∧ m' ((c.tc : Thread Cert.MergeRefIdeal.nD Cert.MergeRefIdeal.τ).loc Cert.MergeRefIdeal.main_arg6) = (m ((c.tc : Thread nD τ).loc main_arg6))
      ∧ m' ((c.tc : Thread Cert.MergeRefIdeal.nD Cert.MergeRefIdeal.τ).loc Cert.MergeRefIdeal.main_arg7) = (m ((c.tc : Thread nD τ).loc main_arg7))
      ∧ m' ((c.tc : Thread Cert.MergeRefIdeal.nD Cert.MergeRefIdeal.τ).loc Cert.MergeRefIdeal.main_arg8) = (m ((c.tc : Thread nD τ).loc main_arg8))
      ∧ m' ((c.tc : Thread Cert.MergeRefIdeal.nD Cert.MergeRefIdeal.τ).loc Cert.MergeRefIdeal.main_arg9) = (m ((c.tc : Thread nD τ).loc main_arg9))
      ∧ m' ((c.tc : Thread Cert.MergeRefIdeal.nD Cert.MergeRefIdeal.τ).loc Cert.MergeRefIdeal.main_arg10) = (m ((c.tc : Thread nD τ).loc main_arg10))
      ∧ m' ((c.tc : Thread Cert.MergeRefIdeal.nD Cert.MergeRefIdeal.τ).loc Cert.MergeRefIdeal.main_arg11) = (m ((c.tc : Thread nD τ).loc main_arg11))
      ∧ m' ((c.tc : Thread Cert.MergeRefIdeal.nD Cert.MergeRefIdeal.τ).loc Cert.MergeRefIdeal.main_arg12) = (m ((c.tc : Thread nD τ).loc main_arg12))
      ∧ m' ((c.tc : Thread Cert.MergeRefIdeal.nD Cert.MergeRefIdeal.τ).loc Cert.MergeRefIdeal.main_arg13) = (m ((c.tc : Thread nD τ).loc main_arg13))
      ∧ m' ((c.tc : Thread Cert.MergeRefIdeal.nD Cert.MergeRefIdeal.τ).loc Cert.MergeRefIdeal.main_arg14) = (m ((c.tc : Thread nD τ).loc main_arg14))
      ∧ m' ((c.tc : Thread Cert.MergeRefIdeal.nD Cert.MergeRefIdeal.τ).loc Cert.MergeRefIdeal.main_arg15) = (m ((c.tc : Thread nD τ).loc main_arg15))
      ∧ m' ((c.tc : Thread Cert.MergeRefIdeal.nD Cert.MergeRefIdeal.τ).loc Cert.MergeRefIdeal.main_arg16) = (m ((c.tc : Thread nD τ).loc main_arg16))
      ∧ m' ((c.tc : Thread Cert.MergeRefIdeal.nD Cert.MergeRefIdeal.τ).loc Cert.MergeRefIdeal.main_arg17) = (m ((c.tc : Thread nD τ).loc main_arg17))
      ∧ m' ((c.tc : Thread Cert.MergeRefIdeal.nD Cert.MergeRefIdeal.τ).loc Cert.MergeRefIdeal.main_arg18) = (m ((c.tc : Thread nD τ).loc main_arg18))
      ∧ m' ((c.tc : Thread Cert.MergeRefIdeal.nD Cert.MergeRefIdeal.τ).loc Cert.MergeRefIdeal.main_arg19) = (m ((c.tc : Thread nD τ).loc main_arg19))
      ∧ m' ((c.tc : Thread Cert.MergeRefIdeal.nD Cert.MergeRefIdeal.τ).loc Cert.MergeRefIdeal.main_arg20) = (m ((c.tc : Thread nD τ).loc main_arg20))) :
    Cert.MergeRefIdeal.Plain.x1 m' c = rowsX m c ∧ Cert.MergeRefIdeal.Plain.h2 m' c = rowsH m c := by
  obtain ⟨e0, e1, e2, e3, e4, e5, e6, e7, e8, e9, e10, e11, e12, e13, e14, e15, e16, e17, e18, e19, e20⟩ := h
  have hx : Cert.MergeRefIdeal.Plain.x1 m' c = rowsX m c := by
    unfold Cert.MergeRefIdeal.Plain.x1 rowsX rowsA rowsB rowsC
    rw [e0, e1, e2, e3, e4, e5, e6, e7, e8, e9, e10, e11, e12, e13, e14, e15, e16, e17, e18, e19]
  refine ⟨hx, ?_⟩
  unfold Cert.MergeRefIdeal.Plain.h2 rowsH
  rw [hx, e20]

end Cert.MergeIdeal.Plain
-- ==== Proof.InprojPlain.lean ====
/- The fused input projection's call against its reference, at the ideal instance: the hidden row (root-mean-square
   normalised, scaled) times the packed projection matrix is, column by column, the reference's product with its columns
   put in the packed order, the padding columns zero. -/
module

public import proofs.«01_k».proof.Proof.Gen.InprojIdeal.Frame
public import proofs.«01_k».proof.Proof.Gen.InprojRefIdeal.Run
public import Idealize.ShloMosaic.Lib.Pipeline.ValueKit
public import Idealize.ShloMosaic.Lib.Pointwise
public import Idealize.ShloMosaic.Lib.Claim

@[expose] public section

set_option maxRecDepth 100000

noncomputable section

open Idealize.ShloMosaic Idealize.ShloMosaic.TcCoe Idealize.SL.Sem
open Idealize.ShloMosaic.Pipeline (Dat)

namespace Cert.InprojRefIdeal.Plain
open Cert.InprojRefIdeal Cert.InprojRefIdeal.Gen

/-- The reference's product: normalised rows times the projection matrix. -/
def prod (X : FVec Ideal S17408x1024 .f32) (g : FVec Ideal S1024 .f32) (W : FVec Ideal S1024x8968 .f32) : FVec Ideal S17408x8968 .f32 :=
  Host.dotGeneral dot_S17408x1024_S1024x8968_S17408x8968_1_0_0_1_n_n none (mulf (mulf X (broadcastInDim S17408x1024 ![0, 1] bcast_S17408x1_S17408x1024_0_1 (Host.rsqrt (addf (Host.divf (broadcastInDim S17408x1 ![0] bcast_S17408_S17408x1_0 (Host.reduceAdd (mulf X X) (constant (F := Ideal) S_ .f32 0x00000000#32) reducesTo_S17408x1024_S17408_d1 h_S_)) (broadcastInDim S17408x1 ![] bcast_S_S17408x1 (constant (F := Ideal) S_ .f32 0x44800000#32))) (broadcastInDim S17408x1 ![] bcast_S_S17408x1 (constant (F := Ideal) S_ .f32 0x358637BD#32)))))) (broadcastInDim S17408x1024 ![0, 1] bcast_S1x1024_S17408x1024_0_1 (broadcastInDim S1x1024 ![1] bcast_S1024_S1x1024_1 g))) W

/-- The product's columns in the packed order, zeros behind. -/
def packed (p : FVec Ideal S17408x8968 .f32) : FVec Ideal S17408x9216 .f32 :=
  (concatenate S17408x9216 1 [⟨S17408x1536, ((extractStridedSlice S17408x1536 ![0, 0] p slices_S17408x8968_S17408x1536_0_0) : (⟨S17408x1536, .f32⟩ : BufTy).Contents (Elt Ideal))⟩, ⟨S17408x1536, ((extractStridedSlice S17408x1536 ![0, 4360] p slices_S17408x8968_S17408x1536_0_4360) : (⟨S17408x1536, .f32⟩ : BufTy).Contents (Elt Ideal))⟩, ⟨S17408x3072, ((extractStridedSlice S17408x3072 ![0, 5896] p slices_S17408x8968_S17408x3072_0_5896) : (⟨S17408x3072, .f32⟩ : BufTy).Contents (Elt Ideal))⟩, ⟨S17408x512, ((extractStridedSlice S17408x512 ![0, 1536] p slices_S17408x8968_S17408x512_0_1536) : (⟨S17408x512, .f32⟩ : BufTy).Contents (Elt Ideal))⟩, ⟨S17408x2304, ((shapeCast _ (transpose S17408x3x3x256 [0, 2, 1, 3] (shapeCast _ (extractStridedSlice S17408x2304 ![0, 2056] p slices_S17408x8968_S17408x2304_0_2056) shapeCasts_S17408x2304_S17408x3x3x256) transposes_S17408x3x3x256_S17408x3x3x256_0_2_1_3) shapeCasts_S17408x3x3x256_S17408x2304) : (⟨S17408x2304, .f32⟩ : BufTy).Contents (Elt Ideal))⟩, ⟨S17408x8, ((extractStridedSlice S17408x8 ![0, 2048] p slices_S17408x8968_S17408x8_0_2048) : (⟨S17408x8, .f32⟩ : BufTy).Contents (Elt Ideal))⟩, ⟨S17408x248, ((broadcastInDim S17408x248 ![] bcast_S_S17408x248 (constant (F := Ideal) S_ .f32 0x00000000#32)) : (⟨S17408x248, .f32⟩ : BufTy).Contents (Elt Ideal))⟩] concatenates_S17408x1536_S17408x1536_S17408x3072_S17408x512_S17408x2304_S17408x8_S17408x248_S17408x9216_d1 : (⟨S17408x9216, .f32⟩ : BufTy).Contents (Elt Ideal))

/-- The reference's result. -/
theorem res_eq (m : (ℓ : Loc nD τ sig) → Buf (Elt Ideal) ℓ) (c : Dev nD) :
    Value.res_out0 m c = packed (prod (m ((c.tc : Thread nD τ).loc main_arg0)) (m ((c.tc : Thread nD τ).loc main_arg1)) (m ((c.tc : Thread nD τ).loc main_arg2))) := rfl

/-- The source column of packed column `j`, none for the padding. -/
def src (j : ℕ) : ℕ :=
  if j < 1536 then j else if j < 3072 then j + 2824 else if j < 6144 then j + 2824 else if j < 6656 then j - 4608
  else if j < 8960 then 2056 + ((j - 6656) % 768 / 256 * 768 + (j - 6656) / 768 * 256 + (j - 6656) % 256)
  else j - 6912

theorem packed_at (p : FVec Ideal S17408x8968 .f32) (r : Fin 17408) (j : Fin 9216) (h : j.val < 8968) (hs : src j.val < 8968) :
    packed p (ix2 r j) = p (ix2 r ⟨src j.val, hs⟩) := by
  pointwise [packed]
  split_ifs
  all_goals first | (exfalso; omega) | (refine congrArg p ((ix2_inj ..).2 ⟨rfl, Fin.ext ?_⟩); dsimp only; unfold src; split_ifs <;> omega)

theorem packed_pad (p : FVec Ideal S17408x8968 .f32) (r : Fin 17408) (j : Fin 9216) (h : ¬ j.val < 8968) :
    packed p (ix2 r j) = 0 := by
  pointwise [packed]
  split_ifs
  all_goals first | rfl | (exfalso; omega)

theorem prod_at (X : FVec Ideal S17408x1024 .f32) (g : FVec Ideal S1024 .f32) (W : FVec Ideal S1024x8968 .f32) (r : Fin 17408) (j : Fin 8968) :
    prod X g W (ix2 r j) = ∑ k : Fin 1024, (X (ix2 r k) * Ideal.rsqrt (Ideal.div (∑ l : Fin 1024, X (ix2 r l) * X (ix2 r l)) (Ideal.ofBits FTy.f32 0x44800000#32) + Ideal.ofBits FTy.f32 0x358637BD#32) * g (ix1 k)) * W (ix2 k j) := by
  pointwise [prod]

end Cert.InprojRefIdeal.Plain

namespace Cert.InprojIdeal.Plain
open Cert.InprojIdeal Cert.InprojIdeal.Gen
open Cert.InprojRefIdeal.Plain (src)

/-- The projection matrix as the host packs it: columns in the packed order, zeros behind, rounded. -/
def wpack (W : FVec Ideal S1024x8968 .f32) : FVec Ideal S1024x9216 .bf16 :=
  truncf .bf16 (concatenate S1024x9216 1 [⟨S1024x1536, (extractStridedSlice S1024x1536 ![0, 0] W slices_S1024x8968_S1024x1536_0_0 : (⟨S1024x1536, .f32⟩ : BufTy).Contents (Elt Ideal))⟩, ⟨S1024x1536, (extractStridedSlice S1024x1536 ![0, 4360] W slices_S1024x8968_S1024x1536_0_4360 : (⟨S1024x1536, .f32⟩ : BufTy).Contents (Elt Ideal))⟩, ⟨S1024x3072, (extractStridedSlice S1024x3072 ![0, 5896] W slices_S1024x8968_S1024x3072_0_5896 : (⟨S1024x3072, .f32⟩ : BufTy).Contents (Elt Ideal))⟩, ⟨S1024x512, (extractStridedSlice S1024x512 ![0, 1536] W slices_S1024x8968_S1024x512_0_1536 : (⟨S1024x512, .f32⟩ : BufTy).Contents (Elt Ideal))⟩, ⟨S1024x2304, (shapeCast S1024x2304 (transpose S1024x3x3x256 [0, 2, 1, 3] (shapeCast S1024x3x3x256 (extractStridedSlice S1024x2304 ![0, 2056] W slices_S1024x8968_S1024x2304_0_2056) shapeCasts_S1024x2304_S1024x3x3x256) transposes_S1024x3x3x256_S1024x3x3x256_0_2_1_3) shapeCasts_S1024x3x3x256_S1024x2304 : (⟨S1024x2304, .f32⟩ : BufTy).Contents (Elt Ideal))⟩, ⟨S1024x8, (extractStridedSlice S1024x8 ![0, 2048] W slices_S1024x8968_S1024x8_0_2048 : (⟨S1024x8, .f32⟩ : BufTy).Contents (Elt Ideal))⟩, ⟨S1024x248, (broadcastInDim S1024x248 ![] bcast_S_S1024x248 (constant (F := Ideal) S_ .f32 0x00000000#32) : (⟨S1024x248, .f32⟩ : BufTy).Contents (Elt Ideal))⟩] concatenates_S1024x1536_S1024x1536_S1024x3072_S1024x512_S1024x2304_S1024x8_S1024x248_S1024x9216_d1 : (⟨S1024x9216, .f32⟩ : BufTy).Contents (Elt Ideal)) bitsLt_bf16_f32

theorem wpack_at (W : FVec Ideal S1024x8968 .f32) (k : Fin 1024) (j : Fin 9216) (h : j.val < 8968) (hs : src j.val < 8968) :
    wpack W (ix2 k j) = W (ix2 k ⟨src j.val, hs⟩) := by
  pointwise [wpack]
  split_ifs
  all_goals first | (exfalso; omega) | (refine congrArg W ((ix2_inj ..).2 ⟨rfl, Fin.ext ?_⟩); dsimp only; unfold src; split_ifs <;> omega)

theorem wpack_pad (W : FVec Ideal S1024x8968 .f32) (k : Fin 1024) (j : Fin 9216) (h : ¬ j.val < 8968) :
    wpack W (ix2 k j) = 0 := by
  pointwise [wpack]
  split_ifs
  all_goals first | rfl | (exfalso; omega)

theorem pay_at (x : FVec Ideal S1024x1024 .f32) (g : FVec Ideal S1x1024 .f32) (w : FVec Ideal S1024x2304 .bf16) (r : Fin 1024) (j : Fin 2304) :
    k0_pay2 (F := Ideal) (k0_pay1 (F := Ideal) x g) w (ix2 r j) = ∑ k : Fin 1024, (x (ix2 r k) * Ideal.rsqrt (Ideal.div (∑ l : Fin 1024, x (ix2 r l) * x (ix2 r l)) (Ideal.ofBits FTy.f32 0x44800000#32) + Ideal.ofBits FTy.f32 0x358637BD#32) * g (ix2 0 k)) * w (ix2 k j) := by
  pointwise [k0_pay2, k0_pay1]

variable (m : (ℓ : Loc nD τ sig) → Buf (Elt Ideal) ℓ)

set_option maxHeartbeats 2000000 in
theorem V_w (c : Dev nD) : V m c main_v11 = wpack (m ((c : Thread nD τ).loc main_arg2)) := by
  unfold V V0; simp only [List.flatten_cons, List.flatten_nil, List.append_nil]; after_results
  rfl

theorem V_g (c : Dev nD) : V m c main_v12 = shapeCast S1x1024 (m ((c : Thread nD τ).loc main_arg1)) shapeCasts_S1024_S1x1024 := by
  unfold V V0; simp only [List.flatten_cons, List.flatten_nil, List.append_nil]; after_results
  rfl

theorem idx : ∀ t : Fin cfg0.N, win0_0.index t = ![t.val / 4, 0] ∧ win0_1.index t = ![0, 0] ∧ win0_2.index t = ![0, t.val % 4] ∧ win0_3.index t = ![t.val / 4, t.val % 4] :=
  (by decide +kernel : ∀ t : Fin grid0.N, _)

/-- Inside a row of points the row block and the scale stay. -/
theorem carry (c : Dev nD) (k : ℕ) (hn : k + 1 < cfg0.N) (h : ¬ (k + 1) % 4 = 0) :
    iblk m c 0 ⟨k, by omega⟩ = iblk m c 0 ⟨k + 1, hn⟩ ∧ iblk m c 1 ⟨k, by omega⟩ = iblk m c 1 ⟨k + 1, hn⟩ := by
  constructor
  · blk_ext! [iblk, V, idx ⟨k, by omega⟩, idx ⟨k + 1, hn⟩]
  · blk_ext! [iblk, V, idx ⟨k, by omega⟩, idx ⟨k + 1, hn⟩]

/-- The scratch holds the point's row block, normalised and scaled. -/
theorem scratch (c : Dev nD) : ∀ (n : ℕ) (hn : n < cfg0.N), (outsAt0 m c n hn).2 = k0_pay1 (iblk m c 0 ⟨n, hn⟩) (iblk m c 1 ⟨n, hn⟩)
  | n, hn => by
    by_cases h : n % 4 = 0
    · rw [outsAt0_A m c ⟨n, hn⟩ h]; frame_out
    · obtain ⟨k, rfl⟩ : ∃ k, n = k + 1 := ⟨n - 1, by omega⟩
      rw [outsAt0_B m c ⟨k + 1, hn⟩ h]; frame_out
      refine (scratch c k (by omega)).trans ?_
      rw [(carry m c k hn h).1, (carry m c k hn h).2]

/-- What a point writes: the product of its scratch with its column block. -/
theorem out_eq (c : Dev nD) : ∀ (n : ℕ) (hn : n < cfg0.N), (outsAt0 m c n hn).1 = k0_pay2 (k0_pay1 (iblk m c 0 ⟨n, hn⟩) (iblk m c 1 ⟨n, hn⟩)) (iblk m c 2 ⟨n, hn⟩)
  | n, hn => by
    by_cases h : n % 4 = 0
    · rw [outsAt0_A m c ⟨n, hn⟩ h]; frame_out
    · obtain ⟨k, rfl⟩ : ∃ k, n = k + 1 := ⟨n - 1, by omega⟩
      rw [outsAt0_B m c ⟨k + 1, hn⟩ h]; frame_out
      refine congrArg (fun s => k0_pay2 s (iblk m c 2 ⟨k + 1, hn⟩)) (((Memref.isWhole_whole _).read_unread _).trans ((scratch m c k (by omega)).trans ?_))
      rw [(carry m c k hn h).1, (carry m c k hn h).2]

theorem x_at (c : Dev nD) (t : Fin cfg0.N) (r k : Fin 1024) (R : Fin 17408) (hR : R.val = t.val / 4 * 1024 + r.val) :
    (show FVec Ideal S1024x1024 .f32 from iblk m c 0 t) (ix2 r k) = (show FVec Ideal S17408x1024 .f32 from m ((c : Thread nD τ).loc main_arg0)) (ix2 R k) := by
  blk_ext [iblk, V, idx t]

theorem g_at (c : Dev nD) (t : Fin cfg0.N) (k : Fin 1024) :
    (show FVec Ideal S1x1024 .f32 from iblk m c 1 t) (ix2 0 k) = (show FVec Ideal S1024 .f32 from m ((c : Thread nD τ).loc main_arg1)) (ix1 k) := by
  have e : (show FVec Ideal S1x1024 .f32 from iblk m c 1 t) (ix2 0 k) = (show FVec Ideal S1x1024 .f32 from V m c main_v12) (ix2 0 k) := by
    blk_ext [iblk, idx t]
  rw [e, V_g]
  pointwise

theorem w_at (c : Dev nD) (t : Fin cfg0.N) (k : Fin 1024) (j : Fin 2304) (J : Fin 9216) (hJ : J.val = t.val % 4 * 2304 + j.val) :
    (show FVec Ideal S1024x2304 .bf16 from iblk m c 2 t) (ix2 k j) = wpack (m ((c : Thread nD τ).loc main_arg2)) (ix2 k J) := by
  rw [← V_w]
  blk_ext [iblk, idx t]

/-- A point's block at an index is the reference's result there. -/
theorem point (c : Dev nD) (t : Fin cfg0.N) (r : Fin 1024) (j : Fin 2304) (R : Fin 17408) (J : Fin 9216)
    (hR : R.val = t.val / 4 * 1024 + r.val) (hJ : J.val = t.val % 4 * 2304 + j.val) :
    k0_pay2 (F := Ideal) (k0_pay1 (F := Ideal) (iblk m c 0 t) (iblk m c 1 t)) (iblk m c 2 t) (ix2 r j)
    = Cert.InprojRefIdeal.Plain.packed (Cert.InprojRefIdeal.Plain.prod (m ((c : Thread nD τ).loc main_arg0)) (m ((c : Thread nD τ).loc main_arg1)) (m ((c : Thread nD τ).loc main_arg2))) (ix2 R J) := by
  refine (pay_at _ _ _ r j).trans ?_
  by_cases h : J.val < 8968
  · have hs : src J.val < 8968 := by unfold src; split_ifs <;> omega
    rw [Cert.InprojRefIdeal.Plain.packed_at _ R J h hs, Cert.InprojRefIdeal.Plain.prod_at]
    refine Finset.sum_congr rfl fun k _ => ?_
    refine Ideal.mul_congr ?_ ((w_at m c t k j J hJ).trans (wpack_at _ k J h hs))
    refine Ideal.mul_congr (Ideal.mul_congr (x_at m c t r k R hR) ?_) (g_at m c t k)
    refine congrArg (fun s => Ideal.rsqrt (Ideal.div s _ + _)) (Finset.sum_congr rfl fun l _ => ?_)
    exact Ideal.mul_congr (x_at m c t r l R hR) (x_at m c t r l R hR)
  · rw [Cert.InprojRefIdeal.Plain.packed_pad _ R J h]
    refine Finset.sum_eq_zero fun k _ => ?_
    refine (Ideal.mul_congr rfl ((w_at m c t k j J hJ).trans (wpack_pad _ k J h))).trans ?_
    exact mul_zero _

theorem final (c : Dev nD) : (dats m 0 c).arrAt 3 (cfgs 0).N
    = Cert.InprojRefIdeal.Plain.packed (Cert.InprojRefIdeal.Plain.prod (m ((c : Thread nD τ).loc main_arg0)) (m ((c : Thread nD τ).loc main_arg1)) (m ((c : Thread nD τ).loc main_arg2))) := by
  refine (dats m 0 c).arrAt_eq_of_covers 3 _ (by decide +kernel) fun t hf y => ?_
  blk_simp
  rw [after0_3, out_eq]
  have hN : t.val < 68 := lt_of_lt_of_eq t.isLt N_0
  have h0 : (y 0).val < 1024 := (y 0).isLt
  have h1 : (y 1).val < 2304 := (y 1).isLt
  refine Eq.trans ?_ ((point m c t ⟨(y 0).val, h0⟩ ⟨(y 1).val, h1⟩ ⟨t.val / 4 * 1024 + (y 0).val, by omega⟩ ⟨t.val % 4 * 2304 + (y 1).val, by omega⟩ rfl rfl).trans ?_)
  · refine congrArg _ ?_
    blk_ext
  · refine congrArg _ ?_
    blk_ext [idx t]

end Cert.InprojIdeal.Plain
-- ==== Proof.InprojTail.lean ====
/- What the input projection carries on: the last rows of each prompt sequence and each sample stream's state moved on by its
   new rows, cut out of the packed product, are the reference's. -/
module

public import proofs.«01_k».proof.Proof.InprojPlain

@[expose] public section

set_option maxRecDepth 100000

noncomputable section

open Idealize.ShloMosaic Idealize.ShloMosaic.TcCoe Idealize.SL.Sem Idealize.ShloMosaic.StableHlo
open Idealize.ShloMosaic.Pipeline (Dat)

namespace Cert.InprojRefIdeal.Plain
open Cert.InprojRefIdeal Cert.InprojRefIdeal.Gen

/-- The prompt sequences' last 3 rows. -/
def convP (p : FVec Ideal S17408x8968 .f32) : FVec Ideal S4x3x1536 .f32 :=
  extractStridedSlice S4x3x1536 ![0, 4093, 0] (shapeCast S4x4096x8968 (extractStridedSlice S16384x8968 ![0, 0] p slices_S17408x8968_S16384x8968_0_0) shapeCasts_S16384x8968_S4x4096x8968) slices_S4x4096x8968_S4x3x1536_0_4093_0

/-- The sample streams' last 3 rows. -/
def convS (s : FVec Ideal S128x3x1536 .f32) (p : FVec Ideal S17408x8968 .f32) : FVec Ideal S128x3x1536 .f32 :=
  extractStridedSlice S128x3x1536 ![0, 8, 0] (concatenate S128x11x1536 1 [⟨S128x3x1536, s⟩, ⟨S128x8x1536, (extractStridedSlice S128x8x1536 ![0, 0, 0] (shapeCast S128x8x8968 (extractStridedSlice S1024x8968 ![16384, 0] p slices_S17408x8968_S1024x8968_16384_0) shapeCasts_S1024x8968_S128x8x8968) slices_S128x8x8968_S128x8x1536_0_0_0)⟩] concatenates_S128x3x1536_S128x8x1536_S128x11x1536_d1) slices_S128x11x1536_S128x3x1536_0_8_0

theorem convP_at (p : FVec Ideal S17408x8968 .f32) (b : Fin 4) (r : Fin 3) (j : Fin 1536) :
    convP p (ix3 b r j) = p (ix2 ⟨b.val * 4096 + 4093 + r.val, by omega⟩ ⟨0 + j.val, by omega⟩) := by
  pointwise [convP]
  refine congrArg p ((ix2_inj ..).2 ⟨Fin.ext ?_, Fin.ext ?_⟩) <;> dsimp only <;> omega

theorem convS_at (s : FVec Ideal S128x3x1536 .f32) (p : FVec Ideal S17408x8968 .f32) (b : Fin 128) (r : Fin 3) (j : Fin 1536) :
    convS s p (ix3 b r j) = if h : r.val + 8 < 3 then s (ix3 b ⟨r.val + 8, h⟩ j) else p (ix2 ⟨16384 + b.val * 8 + (r.val + 8 - 3), by omega⟩ ⟨0 + j.val, by omega⟩) := by
  pointwise [convS]
  by_cases h : r.val + 8 < 3
  · rw [dif_pos h, dif_pos (show 8 + r.val < 3 by omega)]
    exact congrArg s ((ix3_inj ..).2 ⟨rfl, Fin.ext (Nat.add_comm ..), rfl⟩)
  · rw [dif_neg h, dif_neg (show ¬ 8 + r.val < 3 by omega)]
    exact congrArg p ((ix2_inj ..).2 ⟨Fin.ext (by dsimp only; omega), Fin.ext (by first | rfl | (dsimp only; omega))⟩)

/-- The prompt sequences' last 15 rows. -/
def poolP (p : FVec Ideal S17408x8968 .f32) : FVec Ideal S4x15x1536 .f32 :=
  extractStridedSlice S4x15x1536 ![0, 4081, 4360] (shapeCast S4x4096x8968 (extractStridedSlice S16384x8968 ![0, 0] p slices_S17408x8968_S16384x8968_0_0) shapeCasts_S16384x8968_S4x4096x8968) slices_S4x4096x8968_S4x15x1536_0_4081_4360

/-- The sample streams' last 15 rows. -/
def poolS (s : FVec Ideal S128x15x1536 .f32) (p : FVec Ideal S17408x8968 .f32) : FVec Ideal S128x15x1536 .f32 :=
  extractStridedSlice S128x15x1536 ![0, 8, 0] (concatenate S128x23x1536 1 [⟨S128x15x1536, s⟩, ⟨S128x8x1536, (extractStridedSlice S128x8x1536 ![0, 0, 4360] (shapeCast S128x8x8968 (extractStridedSlice S1024x8968 ![16384, 0] p slices_S17408x8968_S1024x8968_16384_0) shapeCasts_S1024x8968_S128x8x8968) slices_S128x8x8968_S128x8x1536_0_0_4360)⟩] concatenates_S128x15x1536_S128x8x1536_S128x23x1536_d1) slices_S128x23x1536_S128x15x1536_0_8_0

theorem poolP_at (p : FVec Ideal S17408x8968 .f32) (b : Fin 4) (r : Fin 15) (j : Fin 1536) :
    poolP p (ix3 b r j) = p (ix2 ⟨b.val * 4096 + 4081 + r.val, by omega⟩ ⟨4360 + j.val, by omega⟩) := by
  pointwise [poolP]
  refine congrArg p ((ix2_inj ..).2 ⟨Fin.ext ?_, Fin.ext ?_⟩) <;> dsimp only <;> omega

theorem poolS_at (s : FVec Ideal S128x15x1536 .f32) (p : FVec Ideal S17408x8968 .f32) (b : Fin 128) (r : Fin 15) (j : Fin 1536) :
    poolS s p (ix3 b r j) = if h : r.val + 8 < 15 then s (ix3 b ⟨r.val + 8, h⟩ j) else p (ix2 ⟨16384 + b.val * 8 + (r.val + 8 - 15), by omega⟩ ⟨4360 + j.val, by omega⟩) := by
  pointwise [poolS]
  by_cases h : r.val + 8 < 15
  · rw [dif_pos h, dif_pos (show 8 + r.val < 15 by omega)]
    exact congrArg s ((ix3_inj ..).2 ⟨rfl, Fin.ext (Nat.add_comm ..), rfl⟩)
  · rw [dif_neg h, dif_neg (show ¬ 8 + r.val < 15 by omega)]
    exact congrArg p ((ix2_inj ..).2 ⟨Fin.ext (by dsimp only; omega), Fin.ext (by first | rfl | (dsimp only; omega))⟩)

/-- The reference's run, its results by name. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = packed (prod (m ((c.tc : Thread nD τ).loc main_arg0)) (m ((c.tc : Thread nD τ).loc main_arg1)) (m ((c.tc : Thread nD τ).loc main_arg2)))
      ∧ r.2.mem ((c.tc : Thread nD τ).loc main_v29) = convP (prod (m ((c.tc : Thread nD τ).loc main_arg0)) (m ((c.tc : Thread nD τ).loc main_arg1)) (m ((c.tc : Thread nD τ).loc main_arg2)))
      ∧ r.2.mem ((c.tc : Thread nD τ).loc main_v32) = convS (m ((c.tc : Thread nD τ).loc main_arg3)) (prod (m ((c.tc : Thread nD τ).loc main_arg0)) (m ((c.tc : Thread nD τ).loc main_arg1)) (m ((c.tc : Thread nD τ).loc main_arg2)))
      ∧ r.2.mem ((c.tc : Thread nD τ).loc main_v33) = poolP (prod (m ((c.tc : Thread nD τ).loc main_arg0)) (m ((c.tc : Thread nD τ).loc main_arg1)) (m ((c.tc : Thread nD τ).loc main_arg2)))
      ∧ r.2.mem ((c.tc : Thread nD τ).loc main_v36) = poolS (m ((c.tc : Thread nD τ).loc main_arg4)) (prod (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun r h c => ⟨(h c).1.trans (res_eq m c), (h c).2.1, (h c).2.2.1, (h c).2.2.2.1, (h c).2.2.2.2.1, (h c).2.2.2.2.2⟩) (Value.run m ρ)

end Cert.InprojRefIdeal.Plain

namespace Cert.InprojIdeal.Plain
open Cert.InprojIdeal Cert.InprojIdeal.Gen

/-- The prompt sequences' last 3 rows, cut out of the packed product. -/
def convP (P : FVec Ideal S17408x9216 .f32) : FVec Ideal S4x3x1536 .f32 :=
  concatenate S4x3x1536 0 [⟨S1x3x1536, (broadcastInDim S1x3x1536 ![1, 2] bcast_S3x1536_S1x3x1536_1_2 (extractStridedSlice S3x1536 ![4093, 0] P slices_S17408x9216_S3x1536_4093_0))⟩, ⟨S1x3x1536, (broadcastInDim S1x3x1536 ![1, 2] bcast_S3x1536_S1x3x1536_1_2 (extractStridedSlice S3x1536 ![8189, 0] P slices_S17408x9216_S3x1536_8189_0))⟩, ⟨S1x3x1536, (broadcastInDim S1x3x1536 ![1, 2] bcast_S3x1536_S1x3x1536_1_2 (extractStridedSlice S3x1536 ![12285, 0] P slices_S17408x9216_S3x1536_12285_0))⟩, ⟨S1x3x1536, (broadcastInDim S1x3x1536 ![1, 2] bcast_S3x1536_S1x3x1536_1_2 (extractStridedSlice S3x1536 ![16381, 0] P slices_S17408x9216_S3x1536_16381_0))⟩] concatenates_S1x3x1536_S1x3x1536_S1x3x1536_S1x3x1536_S4x3x1536_d0

/-- The sample streams' last 3 rows. -/
def convS (s : FVec Ideal S128x3x1536 .f32) (P : FVec Ideal S17408x9216 .f32) : FVec Ideal S128x3x1536 .f32 :=
  extractStridedSlice S128x3x1536 ![0, 8, 0] (concatenate S128x11x1536 1 [⟨S128x3x1536, s⟩, ⟨S128x8x1536, (extractStridedSlice S128x8x1536 ![0, 0, 0] (shapeCast S128x8x9216 (extractStridedSlice S1024x9216 ![16384, 0] P slices_S17408x9216_S1024x9216_16384_0) shapeCasts_S1024x9216_S128x8x9216) slices_S128x8x9216_S128x8x1536_0_0_0)⟩] concatenates_S128x3x1536_S128x8x1536_S128x11x1536_d1) slices_S128x11x1536_S128x3x1536_0_8_0

theorem convP_at (P : FVec Ideal S17408x9216 .f32) (b : Fin 4) (r : Fin 3) (j : Fin 1536) :
    convP P (ix3 b r j) = P (ix2 ⟨b.val * 4096 + 4093 + r.val, by omega⟩ ⟨0 + j.val, by omega⟩) := by
  pointwise [convP]
  split_ifs
  all_goals refine congrArg P ((ix2_inj ..).2 ⟨Fin.ext ?_, Fin.ext ?_⟩) <;> dsimp only <;> omega

theorem convS_at (s : FVec Ideal S128x3x1536 .f32) (P : FVec Ideal S17408x9216 .f32) (b : Fin 128) (r : Fin 3) (j : Fin 1536) :
    convS s P (ix3 b r j) = if h : r.val + 8 < 3 then s (ix3 b ⟨r.val + 8, h⟩ j) else P (ix2 ⟨16384 + b.val * 8 + (r.val + 8 - 3), by omega⟩ ⟨0 + j.val, by omega⟩) := by
  pointwise [convS]
  by_cases h : r.val + 8 < 3
  · rw [dif_pos h, dif_pos (show 8 + r.val < 3 by omega)]
    exact congrArg s ((ix3_inj ..).2 ⟨rfl, Fin.ext (Nat.add_comm ..), rfl⟩)
  · rw [dif_neg h, dif_neg (show ¬ 8 + r.val < 3 by omega)]
    exact congrArg P ((ix2_inj ..).2 ⟨Fin.ext (by dsimp only; omega), Fin.ext (by first | rfl | (dsimp only; omega))⟩)

/-- The prompt sequences' last 15 rows, cut out of the packed product. -/
def poolP (P : FVec Ideal S17408x9216 .f32) : FVec Ideal S4x15x1536 .f32 :=
  concatenate S4x15x1536 0 [⟨S1x15x1536, (broadcastInDim S1x15x1536 ![1, 2] bcast_S15x1536_S1x15x1536_1_2 (extractStridedSlice S15x1536 ![4081, 1536] P slices_S17408x9216_S15x1536_4081_1536))⟩, ⟨S1x15x1536, (broadcastInDim S1x15x1536 ![1, 2] bcast_S15x1536_S1x15x1536_1_2 (extractStridedSlice S15x1536 ![8177, 1536] P slices_S17408x9216_S15x1536_8177_1536))⟩, ⟨S1x15x1536, (broadcastInDim S1x15x1536 ![1, 2] bcast_S15x1536_S1x15x1536_1_2 (extractStridedSlice S15x1536 ![12273, 1536] P slices_S17408x9216_S15x1536_12273_1536))⟩, ⟨S1x15x1536, (broadcastInDim S1x15x1536 ![1, 2] bcast_S15x1536_S1x15x1536_1_2 (extractStridedSlice S15x1536 ![16369, 1536] P slices_S17408x9216_S15x1536_16369_1536))⟩] concatenates_S1x15x1536_S1x15x1536_S1x15x1536_S1x15x1536_S4x15x1536_d0

/-- The sample streams' last 15 rows. -/
def poolS (s : FVec Ideal S128x15x1536 .f32) (P : FVec Ideal S17408x9216 .f32) : FVec Ideal S128x15x1536 .f32 :=
  extractStridedSlice S128x15x1536 ![0, 8, 0] (concatenate S128x23x1536 1 [⟨S128x15x1536, s⟩, ⟨S128x8x1536, (extractStridedSlice S128x8x1536 ![0, 0, 1536] (shapeCast S128x8x9216 (extractStridedSlice S1024x9216 ![16384, 0] P slices_S17408x9216_S1024x9216_16384_0) shapeCasts_S1024x9216_S128x8x9216) slices_S128x8x9216_S128x8x1536_0_0_1536)⟩] concatenates_S128x15x1536_S128x8x1536_S128x23x1536_d1) slices_S128x23x1536_S128x15x1536_0_8_0

theorem poolP_at (P : FVec Ideal S17408x9216 .f32) (b : Fin 4) (r : Fin 15) (j : Fin 1536) :
    poolP P (ix3 b r j) = P (ix2 ⟨b.val * 4096 + 4081 + r.val, by omega⟩ ⟨1536 + j.val, by omega⟩) := by
  pointwise [poolP]
  split_ifs
  all_goals refine congrArg P ((ix2_inj ..).2 ⟨Fin.ext ?_, Fin.ext ?_⟩) <;> dsimp only <;> omega

theorem poolS_at (s : FVec Ideal S128x15x1536 .f32) (P : FVec Ideal S17408x9216 .f32) (b : Fin 128) (r : Fin 15) (j : Fin 1536) :
    poolS s P (ix3 b r j) = if h : r.val + 8 < 15 then s (ix3 b ⟨r.val + 8, h⟩ j) else P (ix2 ⟨16384 + b.val * 8 + (r.val + 8 - 15), by omega⟩ ⟨1536 + j.val, by omega⟩) := by
  pointwise [poolS]
  by_cases h : r.val + 8 < 15
  · rw [dif_pos h, dif_pos (show 8 + r.val < 15 by omega)]
    exact congrArg s ((ix3_inj ..).2 ⟨rfl, Fin.ext (Nat.add_comm ..), rfl⟩)
  · rw [dif_neg h, dif_neg (show ¬ 8 + r.val < 15 by omega)]
    exact congrArg P ((ix2_inj ..).2 ⟨Fin.ext (by dsimp only; omega), Fin.ext (by first | rfl | (dsimp only; omega))⟩)

theorem conv_col (p : FVec Ideal Cert.InprojRefIdeal.S17408x8968 .f32) (R : Fin 17408) (j : Fin 1536) :
    Cert.InprojRefIdeal.Plain.packed p (ix2 R ⟨0 + j.val, by omega⟩) = p (ix2 R ⟨0 + j.val, by omega⟩) := by
  have hs : Cert.InprojRefIdeal.Plain.src (0 + j.val) = 0 + j.val := by unfold Cert.InprojRefIdeal.Plain.src; split_ifs <;> omega
  rw [Cert.InprojRefIdeal.Plain.packed_at p R ⟨0 + j.val, by omega⟩ (by dsimp only; omega) (by dsimp only; omega)]
  exact congrArg p ((ix2_inj ..).2 ⟨rfl, Fin.ext hs⟩)

theorem convP_eq (p : FVec Ideal Cert.InprojRefIdeal.S17408x8968 .f32) : convP (Cert.InprojRefIdeal.Plain.packed p) = Cert.InprojRefIdeal.Plain.convP p := by
  funext i
  rw [eq_ix3 i]
  exact (convP_at _ _ _ _).trans ((conv_col p _ _).trans (Cert.InprojRefIdeal.Plain.convP_at p _ _ _).symm)

theorem convS_eq (s : FVec Ideal S128x3x1536 .f32) (p : FVec Ideal Cert.InprojRefIdeal.S17408x8968 .f32) : convS s (Cert.InprojRefIdeal.Plain.packed p) = Cert.InprojRefIdeal.Plain.convS s p := by
  funext i
  rw [eq_ix3 i]
  refine (convS_at _ _ _ _ _).trans (Eq.trans ?_ (Cert.InprojRefIdeal.Plain.convS_at s p _ _ _).symm)
  split_ifs
  · rfl
  · exact conv_col p _ _

theorem pool_col (p : FVec Ideal Cert.InprojRefIdeal.S17408x8968 .f32) (R : Fin 17408) (j : Fin 1536) :
    Cert.InprojRefIdeal.Plain.packed p (ix2 R ⟨1536 + j.val, by omega⟩) = p (ix2 R ⟨4360 + j.val, by omega⟩) := by
  have hs : Cert.InprojRefIdeal.Plain.src (1536 + j.val) = 4360 + j.val := by unfold Cert.InprojRefIdeal.Plain.src; split_ifs <;> omega
  rw [Cert.InprojRefIdeal.Plain.packed_at p R ⟨1536 + j.val, by omega⟩ (by dsimp only; omega) (by dsimp only; omega)]
  exact congrArg p ((ix2_inj ..).2 ⟨rfl, Fin.ext hs⟩)

theorem poolP_eq (p : FVec Ideal Cert.InprojRefIdeal.S17408x8968 .f32) : poolP (Cert.InprojRefIdeal.Plain.packed p) = Cert.InprojRefIdeal.Plain.poolP p := by
  funext i
  rw [eq_ix3 i]
  exact (poolP_at _ _ _ _).trans ((pool_col p _ _).trans (Cert.InprojRefIdeal.Plain.poolP_at p _ _ _).symm)

theorem poolS_eq (s : FVec Ideal S128x15x1536 .f32) (p : FVec Ideal Cert.InprojRefIdeal.S17408x8968 .f32) : poolS s (Cert.InprojRefIdeal.Plain.packed p) = Cert.InprojRefIdeal.Plain.poolS s p := by
  funext i
  rw [eq_ix3 i]
  refine (poolS_at _ _ _ _ _).trans (Eq.trans ?_ (Cert.InprojRefIdeal.Plain.poolS_at s p _ _ _).symm)
  split_ifs
  · rfl
  · exact pool_col p _ _

/-! ## The operations after the region -/

section
variable (W : Valuation τ sig (Elt Ideal))

set_option maxHeartbeats 2000000 in
theorem tail_v30 : StableHlo.after (List.flatten [hostOps1]) W (Proc.devRef .tc main_v30) = convP (W (Proc.devRef .tc main_v13)) := by
  simp only [List.flatten_cons, List.flatten_nil, List.append_nil]
  after_results_simp <;> (try dsimp only [Matrix.cons_val]) <;> (try after_results_simp) <;> rfl

set_option maxHeartbeats 2000000 in
theorem tail_v18 : StableHlo.after (List.flatten [hostOps1]) W (Proc.devRef .tc main_v18) = convS (W (Proc.devRef .tc main_arg3)) (W (Proc.devRef .tc main_v13)) := by
  simp only [List.flatten_cons, List.flatten_nil, List.append_nil]
  after_results_simp <;> (try dsimp only [Matrix.cons_val]) <;> (try after_results_simp) <;> rfl

set_option maxHeartbeats 2000000 in
theorem tail_v39 : StableHlo.after (List.flatten [hostOps1]) W (Proc.devRef .tc main_v39) = poolP (W (Proc.devRef .tc main_v13)) := by
  simp only [List.flatten_cons, List.flatten_nil, List.append_nil]
  after_results_simp <;> (try dsimp only [Matrix.cons_val]) <;> (try after_results_simp) <;> rfl

set_option maxHeartbeats 2000000 in
theorem tail_v21 : StableHlo.after (List.flatten [hostOps1]) W (Proc.devRef .tc main_v21) = poolS (W (Proc.devRef .tc main_arg4)) (W (Proc.devRef .tc main_v13)) := by
  simp only [List.flatten_cons, List.flatten_nil, List.append_nil]
  after_results_simp <;> (try dsimp only [Matrix.cons_val]) <;> (try after_results_simp) <;> rfl

end

variable (m : (ℓ : Loc nD τ sig) → Buf (Elt Ideal) ℓ)

/-- What the region leaves, as the operations after it find it. -/
def exitV (c : Dev nD) : Valuation τ sig (Elt Ideal) := Pipeline.withArrays (cfgs 0).spec c (V0 m c) fun w => (dats m 0 c).arrAt w (cfgs 0).N

theorem exit_v13 (c : Dev nD) : exitV m c (Proc.devRef .tc main_v13) = (dats m 0 c).arrAt 3 (cfgs 0).N :=
  Pipeline.withArrays_arr (cfgs 0).spec (by decide) c (V0 m c) (fun w => (dats m 0 c).arrAt w (cfgs 0).N) 3

theorem exit_arg3 (c : Dev nD) : exitV m c (Proc.devRef .tc main_arg3) = m ((c : Thread nD τ).loc main_arg3) :=
  (Pipeline.withArrays_of_ne _ c (V0 m c) _ main_arg3 (by exact (by decide : ∀ w, Pipeline.arrRef spec0 w ≠ main_arg3))).trans (V_main_arg3 m c)

theorem exit_arg4 (c : Dev nD) : exitV m c (Proc.devRef .tc main_arg4) = m ((c : Thread nD τ).loc main_arg4) :=
  (Pipeline.withArrays_of_ne _ c (V0 m c) _ main_arg4 (by exact (by decide : ∀ w, Pipeline.arrRef spec0 w ≠ main_arg4))).trans (V_main_arg4 m c)

/-- The call's run: each result is the reference's, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v13) = Cert.InprojRefIdeal.Plain.packed (Cert.InprojRefIdeal.Plain.prod (m ((c.tc : Thread nD τ).loc main_arg0)) (m ((c.tc : Thread nD τ).loc main_arg1)) (m ((c.tc : Thread nD τ).loc main_arg2)))
      ∧ r.2.mem ((c.tc : Thread nD τ).loc main_v30) = Cert.InprojRefIdeal.Plain.convP (Cert.InprojRefIdeal.Plain.prod (m ((c.tc : Thread nD τ).loc main_arg0)) (m ((c.tc : Thread nD τ).loc main_arg1)) (m ((c.tc : Thread nD τ).loc main_arg2)))
      ∧ r.2.mem ((c.tc : Thread nD τ).loc main_v18) = Cert.InprojRefIdeal.Plain.convS (m ((c.tc : Thread nD τ).loc main_arg3)) (Cert.InprojRefIdeal.Plain.prod (m ((c.tc : Thread nD τ).loc main_arg0)) (m ((c.tc : Thread nD τ).loc main_arg1)) (m ((c.tc : Thread nD τ).loc main_arg2)))
      ∧ r.2.mem ((c.tc : Thread nD τ).loc main_v39) = Cert.InprojRefIdeal.Plain.poolP (Cert.InprojRefIdeal.Plain.prod (m ((c.tc : Thread nD τ).loc main_arg0)) (m ((c.tc : Thread nD τ).loc main_arg1)) (m ((c.tc : Thread nD τ).loc main_arg2)))
      ∧ r.2.mem ((c.tc : Thread nD τ).loc main_v21) = Cert.InprojRefIdeal.Plain.poolS (m ((c.tc : Thread nD τ).loc main_arg4)) (Cert.InprojRefIdeal.Plain.prod (m ((c.tc : Thread nD τ).loc main_arg0)) (m ((c.tc : Thread nD τ).loc main_arg1)) (m ((c.tc : Thread nD τ).loc main_arg2)))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4)) := by
  refine (θ_run _ _ _).mono (fun r h c => ?_) (θ_run_and (run_main m ρ) (unchanged m ρ))
  have hP := (exit_v13 m c).trans (final m c)
  refine ⟨((h.1 c).1 3).trans (final m c), ?_, ?_, ?_, ?_, h.2 c⟩
  · refine ((h.1 c).2 main_v30 (by decide)).trans ((tail_v30 (exitV m c)).trans ?_)
    rw [hP]; exact convP_eq _
  · refine ((h.1 c).2 main_v18 (by decide)).trans ((tail_v18 (exitV m c)).trans ?_)
    rw [hP, exit_arg3]; exact convS_eq _ _
  · refine ((h.1 c).2 main_v39 (by decide)).trans ((tail_v39 (exitV m c)).trans ?_)
    rw [hP]; exact poolP_eq _
  · refine ((h.1 c).2 main_v21 (by decide)).trans ((tail_v21 (exitV m c)).trans ?_)
    rw [hP, exit_arg4]; exact poolS_eq _ _

end Cert.InprojIdeal.Plain
-- ==== Proof.KernelDownRuns.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄" => MT nD τ sig Unit (Elt F) ℕ (UR sig nD τ) ℕ

/-! The second call, `peer_down`: its body over the three kinds of grid point (the first, a middle, the last expert block
    of a row block). -/

/-- The point is the first of its row block: the accumulator is to be cleared. -/
abbrev first (i : grid1.Coords) : Prop := (Scalar.cmpi .ne (Scalar.extui (Scalar.cmpi .eq (BitVec.ofNat 32 (i 1).val) 0#32)) 0#32) = 1#1
/-- The point is the last of its row block: the output is to be written. -/
abbrev last (i : grid1.Coords) : Prop := k1_cond2 i = 1#1

theorem first_iff : ∀ t : Fin cfg1.N, first (grid1.coords t) ↔ t.val % 16 = 0 :=
  (fun t => by
    have ht : t.val < 272 := Nat.lt_of_lt_of_eq t.isLt N_1
    have e1 : (grid1.coords t 1).val = t.val / 1 % 16 := Pipeline.Grid.coords_val t 1 (by decide) rfl
    simp only [first, e1]
    word_cmp
   : ∀ t : Fin grid1.N, first (grid1.coords t) ↔ t.val % 16 = 0)
theorem last_iff : ∀ t : Fin cfg1.N, last (grid1.coords t) ↔ t.val % 16 = 15 :=
  (fun t => by
    have ht : t.val < 272 := Nat.lt_of_lt_of_eq t.isLt N_1
    have e1 : (grid1.coords t 1).val = t.val / 1 % 16 := Pipeline.Grid.coords_val t 1 (by decide) rfl
    simp only [last, k1_cond2, e1]
    word_cmp
   : ∀ t : Fin grid1.N, last (grid1.coords t) ↔ t.val % 16 = 15)

set_option maxHeartbeats 1000000 in
/-- At the first expert block of a row block: the accumulator is cleared, then added to; the output is left alone. -/
noncomputable def runA (c : Dev nD) (i : grid1.Coords) (arg2 : Memref sig .tc .vmem S512x8x128 .i32) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole)
    (hc0 : first i) (hc1 : ¬last i) (x0 : Vec F S512x8x128 .i32) (x1 : Vec F S1024x1024 .bf16) (x2 : Vec F S1024x1024 .f32) (x3 : Vec F S1x1024 .f32) :
    { LS : List (View.Piece (Elt F) S1024x1024 .f32) //
      ∀ (y : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y ∗ (∃ f, arg7.view.loc (c : Thread nD τ) ↦[arg7.view.set]{fullShare} arg7.view.writes (Elt F) f LS)) -∗ K ⟨⟩))
          ⊢ wp frame (wpE (defs₀ (F := F)) Variants.none c none) E (cc1_peer_down i arg2 harg2 arg3 harg3 arg4 harg4 arg5 harg5 arg6 harg6 arg7 harg7) K } := by
  refine ⟨?_, fun y E K => ?run⟩
  case run =>
    simp only [cc1_peer_down_eq_skeleton]; unfold cc1_peer_down_skel
    simp only [k1_part1_eq_skeleton, k1_part2_eq_skeleton, k1_part3_eq_skeleton, k1_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 1000000 in
/-- At a middle expert block: the accumulator is added to; the output is left alone. -/
noncomputable def runB (c : Dev nD) (i : grid1.Coords) (arg2 : Memref sig .tc .vmem S512x8x128 .i32) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole)
    (hc0 : ¬first i) (hc1 : ¬last i) (x0 : Vec F S512x8x128 .i32) (x1 : Vec F S1024x1024 .bf16) (x2 : Vec F S1024x1024 .f32) (x3 : Vec F S1x1024 .f32) (xs : Vec F S1024x1024 .f32) :
    { LS : List (View.Piece (Elt F) S1024x1024 .f32) //
      ∀ (y : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y ∗ (∃ f, arg7.view.loc (c : Thread nD τ) ↦[arg7.view.set]{fullShare} arg7.view.writes (Elt F) f LS)) -∗ K ⟨⟩))
          ⊢ wp frame (wpE (defs₀ (F := F)) Variants.none c none) E (cc1_peer_down i arg2 harg2 arg3 harg3 arg4 harg4 arg5 harg5 arg6 harg6 arg7 harg7) K } := by
  refine ⟨?_, fun y E K => ?run⟩
  case run =>
    simp only [cc1_peer_down_eq_skeleton]; unfold cc1_peer_down_skel
    simp only [k1_part1_eq_skeleton, k1_part2_eq_skeleton, k1_part3_eq_skeleton, k1_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 1000000 in
/-- At the last expert block: the accumulator is added to and the output written from it. -/
noncomputable def runC (c : Dev nD) (i : grid1.Coords) (arg2 : Memref sig .tc .vmem S512x8x128 .i32) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole)
    (hc0 : ¬first i) (hc1 : last i) (x0 : Vec F S512x8x128 .i32) (x1 : Vec F S1024x1024 .bf16) (x2 : Vec F S1024x1024 .f32) (x3 : Vec F S1x1024 .f32) (xs : Vec F S1024x1024 .f32) :
    Σ' (L4 : List (View.Piece (Elt F) S1024x1024 .f32)), { LS : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc1_peer_down i arg2 harg2 arg3 harg3 arg4 harg4 arg5 harg5 arg6 harg6 arg7 harg7) K } := by
  refine ⟨?_, ?_, fun E K => ?run⟩
  case run =>
    simp only [cc1_peer_down_eq_skeleton]; unfold cc1_peer_down_skel
    simp only [k1_part1_eq_skeleton, k1_part2_eq_skeleton, k1_part3_eq_skeleton, k1_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.Kernel.Chain

end
-- ==== Proof.KernelIdealSelect.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! The first call, `peer_select`: its body's triple and the data of its pipeline, at any contents `V` of the
    buffers at entry. -/

section Regions
variable (V : (c : Dev nD) → (b : Ref sig .tc) → Buf (Elt F) ((c : Thread nD τ).loc b))

/-- Window `w`'s block at point `t`, as the array stands at entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev VO0_4 : View sig .tc .vmem S64x128x2x128 .bf16 := (Memref.whole cc0_stg4_0 : Memref sig .tc .vmem S64x128x2x128 .bf16).view
abbrev ms0_0 (t : Fin cfg0.N) : Memref sig .tc .vmem S64x128x128 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x128x2x128 .bf16 := win0_4.stage (cfg0.slots t 4)
abbrev hs0_4 (t : Fin cfg0.N) : (ms0_4 t).IsWhole := hstage0_4 ((cfg0.slots t 4).cast nbuf0_4)

set_option maxHeartbeats 1000000 in
/-- The body of the selection: run on whole staging buffers it returns the inputs as they were and its output with the
    pieces of the witness written over it. -/
noncomputable def kernelRun0_A (c : Dev nD) (i : grid0.Coords) (arg1 : Memref sig .tc .vmem S64x128x128 .i32) (harg1 : arg1.IsWhole) (arg2 : Memref sig .tc .vmem S128x128 .i32) (harg2 : arg2.IsWhole) (arg3 : Memref sig .tc .vmem S128x128 .i32) (harg3 : arg3.IsWhole) (arg4 : Memref sig .tc .vmem S128x128 .f32) (harg4 : arg4.IsWhole) (arg5 : Memref sig .tc .vmem S64x128x2x128 .bf16) (harg5 : arg5.IsWhole)
    (x0 : Vec F S64x128x128 .i32) (x1 : Vec F S128x128 .i32) (x2 : Vec F S128x128 .i32) (x3 : Vec F S128x128 .f32) :
    { L4 : List (View.Piece (Elt F) S64x128x2x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)) -∗ K ⟨⟩))
          ⊢ wp frame (wpE (defs₀ (F := F)) Variants.none c none) E (cc0_peer_select i arg1 harg1 arg2 harg2 arg3 harg3 arg4 harg4 arg5 harg5) K } := by
  refine ⟨?_, fun E K => ?run⟩
  case run =>
    simp only [cc0_peer_select_eq_skeleton]; unfold cc0_peer_select_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

/-- The pieces, one row pair each, fill the output block. -/
theorem cover0_A_4 (c : Dev nD) (i : grid0.Coords) (arg1 : Memref sig .tc .vmem S64x128x128 .i32) (harg1 : arg1.IsWhole) (arg2 : Memref sig .tc .vmem S128x128 .i32) (harg2 : arg2.IsWhole) (arg3 : Memref sig .tc .vmem S128x128 .i32) (harg3 : arg3.IsWhole) (arg4 : Memref sig .tc .vmem S128x128 .f32) (harg4 : arg4.IsWhole) (arg5 : Memref sig .tc .vmem S64x128x2x128 .bf16) (harg5 : arg5.IsWhole)
    (x0 : Vec F S64x128x128 .i32) (x1 : Vec F S128x128 .i32) (x2 : Vec F S128x128 .i32) (x3 : Vec F S128x128 .f32) (y : S64x128x2x128.Idx) :
    ∃ pc ∈ (kernelRun0_A c i arg1 harg1 arg2 harg2 arg3 harg3 arg4 harg4 arg5 harg5 x0 x1 x2 x3).1, y ∈ pc.1.set :=
  View.cover_of_tiledL (kernelRun0_A c i arg1 harg1 arg2 harg2 arg3 harg3 arg4 harg4 arg5 harg5 x0 x1 x2 x3).1 S1x128x2x128.size (by sl_kernel_rfl) y

def out0_A_4 (c : Dev nD) (i : grid0.Coords) (arg1 : Memref sig .tc .vmem S64x128x128 .i32) (harg1 : arg1.IsWhole) (arg2 : Memref sig .tc .vmem S128x128 .i32) (harg2 : arg2.IsWhole) (arg3 : Memref sig .tc .vmem S128x128 .i32) (harg3 : arg3.IsWhole) (arg4 : Memref sig .tc .vmem S128x128 .f32) (harg4 : arg4.IsWhole) (arg5 : Memref sig .tc .vmem S64x128x2x128 .bf16) (harg5 : arg5.IsWhole)
    (x0 : Vec F S64x128x128 .i32) (x1 : Vec F S128x128 .i32) (x2 : Vec F S128x128 .i32) (x3 : Vec F S128x128 .f32) : Vec F S64x128x2x128 .bf16 :=
  VO0_4.read (Elt F) (VO0_4.writes (Elt F) VO0_4.junk (kernelRun0_A c i arg1 harg1 arg2 harg2 arg3 harg3 arg4 harg4 arg5 harg5 x0 x1 x2 x3).1)

/-- The output block after point `t`. -/
def outsAt0 (c : Dev nD) (t : Fin cfg0.N) : Vec F S64x128x2x128 .bf16 :=
  out0_A_4 c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t) (iblk0 V c 2 t) (iblk0 V c 3 t)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

/-- The body at a generic point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  unfold outsAt0
  unfold out0_A_4
  iintro ⟨HΦ, Ho, ⟨%d0, H0⟩, ⟨%d1, H1⟩, ⟨%d2, H2⟩, ⟨%d3, H3⟩, ⟨%d4, H4⟩⟩
  iapply ((kernelRun0_A c (grid0.coords t) _ _ _ _ _ _ _ _ _ _ (iblk0 V c 0 t) (iblk0 V c 1 t) (iblk0 V c 2 t) (iblk0 V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0_A_4 c _ _ _ _ _ _ _ _ _ _ _ _ _ _ _)

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Chain

end
-- ==== Proof.KernelIdealDownRuns.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! The second call, `peer_down`: its body over the three kinds of grid point (the first, a middle, the last expert block
    of a row block). -/

/-- The point is the first of its row block: the accumulator is to be cleared. -/
abbrev first (i : grid1.Coords) : Prop := (Scalar.cmpi .ne (Scalar.extui (Scalar.cmpi .eq (BitVec.ofNat 32 (i 1).val) 0#32)) 0#32) = 1#1
/-- The point is the last of its row block: the output is to be written. -/
abbrev last (i : grid1.Coords) : Prop := k1_cond2 i = 1#1

theorem first_iff : ∀ t : Fin cfg1.N, first (grid1.coords t) ↔ t.val % 16 = 0 :=
  (fun t => by
    have ht : t.val < 272 := Nat.lt_of_lt_of_eq t.isLt N_1
    have e1 : (grid1.coords t 1).val = t.val / 1 % 16 := Pipeline.Grid.coords_val t 1 (by decide) rfl
    simp only [first, e1]
    word_cmp
   : ∀ t : Fin grid1.N, first (grid1.coords t) ↔ t.val % 16 = 0)
theorem last_iff : ∀ t : Fin cfg1.N, last (grid1.coords t) ↔ t.val % 16 = 15 :=
  (fun t => by
    have ht : t.val < 272 := Nat.lt_of_lt_of_eq t.isLt N_1
    have e1 : (grid1.coords t 1).val = t.val / 1 % 16 := Pipeline.Grid.coords_val t 1 (by decide) rfl
    simp only [last, k1_cond2, e1]
    word_cmp
   : ∀ t : Fin grid1.N, last (grid1.coords t) ↔ t.val % 16 = 15)

set_option maxHeartbeats 1000000 in
/-- At the first expert block of a row block: the accumulator is cleared, then added to; the output is left alone. -/
noncomputable def runA (c : Dev nD) (i : grid1.Coords) (arg2 : Memref sig .tc .vmem S512x8x2x128 .bf16) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole)
    (hc0 : first i) (hc1 : ¬last i) (x0 : Vec F S512x8x2x128 .bf16) (x1 : Vec F S1024x1024 .bf16) (x2 : Vec F S1024x1024 .f32) (x3 : Vec F S1x1024 .f32) :
    { LS : List (View.Piece (Elt F) S1024x1024 .f32) //
      ∀ (y : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y ∗ (∃ f, arg7.view.loc (c : Thread nD τ) ↦[arg7.view.set]{fullShare} arg7.view.writes (Elt F) f LS)) -∗ K ⟨⟩))
          ⊢ wp frame (wpE (defs₀ (F := F)) Variants.none c none) E (cc1_peer_down i arg2 harg2 arg3 harg3 arg4 harg4 arg5 harg5 arg6 harg6 arg7 harg7) K } := by
  refine ⟨?_, fun y E K => ?run⟩
  case run =>
    simp only [cc1_peer_down_eq_skeleton]; unfold cc1_peer_down_skel
    simp only [k1_part1_eq_skeleton, k1_part2_eq_skeleton, k1_part3_eq_skeleton, k1_part4_eq_skeleton, k1_part5_eq_skeleton, k1_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 1000000 in
/-- At a middle expert block: the accumulator is added to; the output is left alone. -/
noncomputable def runB (c : Dev nD) (i : grid1.Coords) (arg2 : Memref sig .tc .vmem S512x8x2x128 .bf16) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole)
    (hc0 : ¬first i) (hc1 : ¬last i) (x0 : Vec F S512x8x2x128 .bf16) (x1 : Vec F S1024x1024 .bf16) (x2 : Vec F S1024x1024 .f32) (x3 : Vec F S1x1024 .f32) (xs : Vec F S1024x1024 .f32) :
    { LS : List (View.Piece (Elt F) S1024x1024 .f32) //
      ∀ (y : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y ∗ (∃ f, arg7.view.loc (c : Thread nD τ) ↦[arg7.view.set]{fullShare} arg7.view.writes (Elt F) f LS)) -∗ K ⟨⟩))
          ⊢ wp frame (wpE (defs₀ (F := F)) Variants.none c none) E (cc1_peer_down i arg2 harg2 arg3 harg3 arg4 harg4 arg5 harg5 arg6 harg6 arg7 harg7) K } := by
  refine ⟨?_, fun y E K => ?run⟩
  case run =>
    simp only [cc1_peer_down_eq_skeleton]; unfold cc1_peer_down_skel
    simp only [k1_part1_eq_skeleton, k1_part2_eq_skeleton, k1_part3_eq_skeleton, k1_part4_eq_skeleton, k1_part5_eq_skeleton, k1_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

set_option maxHeartbeats 1000000 in
/-- At the last expert block: the accumulator is added to and the output written from it. -/
noncomputable def runC (c : Dev nD) (i : grid1.Coords) (arg2 : Memref sig .tc .vmem S512x8x2x128 .bf16) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole)
    (hc0 : ¬first i) (hc1 : last i) (x0 : Vec F S512x8x2x128 .bf16) (x1 : Vec F S1024x1024 .bf16) (x2 : Vec F S1024x1024 .f32) (x3 : Vec F S1x1024 .f32) (xs : Vec F S1024x1024 .f32) :
    Σ' (L4 : List (View.Piece (Elt F) S1024x1024 .f32)), { LS : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc1_peer_down i arg2 harg2 arg3 harg3 arg4 harg4 arg5 harg5 arg6 harg6 arg7 harg7) K } := by
  refine ⟨?_, ?_, fun E K => ?run⟩
  case run =>
    simp only [cc1_peer_down_eq_skeleton]; unfold cc1_peer_down_skel
    simp only [k1_part1_eq_skeleton, k1_part2_eq_skeleton, k1_part3_eq_skeleton, k1_part4_eq_skeleton, k1_part5_eq_skeleton, k1_part6_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.Chain

end
-- ==== Proof.KernelIdealDown.lean ====
module

public import proofs.«01_k».proof.Proof.KernelIdealDownRuns
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! The second call, `peer_down`: the contents of its accumulator and output from point to point, and the data of its
    pipeline, at any contents `V` of the buffers at entry. -/

section Regions
variable (V : (c : Dev nD) → (b : Ref sig .tc) → Buf (Elt F) ((c : Thread nD τ).loc b))

/-- Window `w`'s block at point `t`, as the array stands at entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev ms1_0 (t : Fin cfg1.N) : Memref sig .tc .vmem S512x8x2x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .f32 := win1_4.stage (cfg1.slots t 4)
abbrev hs1_4 (t : Fin cfg1.N) : (ms1_4 t).IsWhole := hstage1_4 ((cfg1.slots t 4).cast nbuf1_4)
/-- The accumulator. -/
abbrev scM : Memref sig .tc .vmem S1024x1024 .f32 := Memref.whole cc1_scratch0
/-- A buffer of the output's shape, through which pieces are read back. -/
abbrev VO : View sig .tc .vmem S1024x1024 .f32 := (Memref.whole cc1_stg4_0 : Memref sig .tc .vmem S1024x1024 .f32).view

theorem idleFirst : ∀ t : Fin cfg1.N, first (grid1.coords t) → ¬last (grid1.coords t) → cfg1.idle 4 (grid1.coords t) = true := by decide +kernel
theorem keepFirst : ∀ t : Fin cfg1.N, first (grid1.coords t) → ¬last (grid1.coords t) → (cfg1.win 4).flush t = false := by decide +kernel
theorem idleMid : ∀ t : Fin cfg1.N, ¬first (grid1.coords t) → ¬last (grid1.coords t) → cfg1.idle 4 (grid1.coords t) = true := by decide +kernel
theorem keepMid : ∀ t : Fin cfg1.N, ¬first (grid1.coords t) → ¬last (grid1.coords t) → (cfg1.win 4).flush t = false := by decide +kernel
theorem liveLast : ∀ t : Fin cfg1.N, ¬first (grid1.coords t) → last (grid1.coords t) → cfg1.idle 4 (grid1.coords t) = false := by decide +kernel

theorem isFirst (t : Fin cfg1.N) (h : t.val % 16 = 0) : first (grid1.coords t) := (first_iff t).mpr h
theorem notFirst (t : Fin cfg1.N) (h : ¬t.val % 16 = 0) : ¬first (grid1.coords t) := fun h' => h ((first_iff t).mp h')
theorem isLast (t : Fin cfg1.N) (h : t.val % 16 = 15) : last (grid1.coords t) := (last_iff t).mpr h
theorem notLast (t : Fin cfg1.N) (h : ¬t.val % 16 = 15) : ¬last (grid1.coords t) := fun h' => h ((last_iff t).mp h')

/-- The three runs at point `t` on its own staging buffers and blocks. -/
abbrev atA (c : Dev nD) (t : Fin cfg1.N) (h0 : t.val % 16 = 0) (h1 : ¬t.val % 16 = 15) :=
  runA (F := F) c (grid1.coords t) (ms1_0 t) (hs1_0 t) (ms1_1 t) (hs1_1 t) (ms1_2 t) (hs1_2 t) (ms1_3 t) (hs1_3 t) (ms1_4 t) (hs1_4 t) scM (Memref.isWhole_whole _) (isFirst t h0) (notLast t h1) (iblk1 V c 0 t) (iblk1 V c 1 t) (iblk1 V c 2 t) (iblk1 V c 3 t)
abbrev atB (c : Dev nD) (t : Fin cfg1.N) (h0 : ¬t.val % 16 = 0) (h1 : ¬t.val % 16 = 15) (xs : Vec F S1024x1024 .f32) :=
  runB (F := F) c (grid1.coords t) (ms1_0 t) (hs1_0 t) (ms1_1 t) (hs1_1 t) (ms1_2 t) (hs1_2 t) (ms1_3 t) (hs1_3 t) (ms1_4 t) (hs1_4 t) scM (Memref.isWhole_whole _) (notFirst t h0) (notLast t h1) (iblk1 V c 0 t) (iblk1 V c 1 t) (iblk1 V c 2 t) (iblk1 V c 3 t) xs
abbrev atC (c : Dev nD) (t : Fin cfg1.N) (h0 : ¬t.val % 16 = 0) (h1 : t.val % 16 = 15) (xs : Vec F S1024x1024 .f32) :=
  runC (F := F) c (grid1.coords t) (ms1_0 t) (hs1_0 t) (ms1_1 t) (hs1_1 t) (ms1_2 t) (hs1_2 t) (ms1_3 t) (hs1_3 t) (ms1_4 t) (hs1_4 t) scM (Memref.isWhole_whole _) (notFirst t h0) (isLast t h1) (iblk1 V c 0 t) (iblk1 V c 1 t) (iblk1 V c 2 t) (iblk1 V c 3 t) xs

theorem coverA (c : Dev nD) (t : Fin cfg1.N) (h0) (h1) (y : S1024x1024.Idx) : ∃ pc ∈ (atA V c t h0 h1).1, y ∈ pc.1.set :=
  View.cover_of_wholeMem (atA V c t h0 h1).1 (by sl_whole_mem) y
theorem coverB (c : Dev nD) (t : Fin cfg1.N) (h0) (h1) (xs) (y : S1024x1024.Idx) : ∃ pc ∈ (atB V c t h0 h1 xs).1, y ∈ pc.1.set :=
  View.cover_of_tiledL (atB V c t h0 h1 xs).1 S256x1024.size (by sl_kernel_rfl) y
theorem coverC (c : Dev nD) (t : Fin cfg1.N) (h0) (h1) (xs) (y : S1024x1024.Idx) : ∃ pc ∈ (atC V c t h0 h1 xs).2.1, y ∈ pc.1.set :=
  View.cover_of_tiledL (atC V c t h0 h1 xs).2.1 S256x1024.size (by sl_kernel_rfl) y
theorem coverOut (c : Dev nD) (t : Fin cfg1.N) (h0) (h1) (xs) (y : S1024x1024.Idx) : ∃ pc ∈ (atC V c t h0 h1 xs).1, y ∈ pc.1.set :=
  View.cover_of_tiledL (atC V c t h0 h1 xs).1 S1024x1024.size (by sl_kernel_rfl) y

/-- Pieces read back as the contents of a buffer they fill. -/
def back (L : List (View.Piece (Elt F) S1024x1024 .f32)) : Vec F S1024x1024 .f32 :=
  VO.read (Elt F) (VO.writes (Elt F) VO.junk L)
/-- The same through the accumulator. -/
def backS (L : List (View.Piece (Elt F) S1024x1024 .f32)) : Vec F S1024x1024 .f32 :=
  scM.view.read (Elt F) (scM.view.writes (Elt F) scM.view.junk L)

/-- The accumulator after point `n`, over the points before it. -/
def accAt (c : Dev nD) : (n : ℕ) → n < cfg1.N → Vec F S1024x1024 .f32
  | 0, hn => backS (atA V c ⟨0, hn⟩ (Nat.zero_mod _) (by dsimp only; omega)).1
  | n + 1, hn =>
    if h0 : (n + 1) % 16 = 0 then backS (atA V c ⟨n + 1, hn⟩ h0 (by dsimp only; omega)).1
    else if h1 : (n + 1) % 16 = 15 then backS (atC V c ⟨n + 1, hn⟩ h0 h1 (accAt c n (Nat.lt_of_succ_lt hn))).2.1
    else backS (atB V c ⟨n + 1, hn⟩ h0 h1 (accAt c n (Nat.lt_of_succ_lt hn))).1

/-- The accumulator the point before `t` left. -/
abbrev accBefore (c : Dev nD) (t : Fin cfg1.N) : Vec F S1024x1024 .f32 :=
  accAt V c (t.val - 1) (Nat.lt_of_le_of_lt (Nat.sub_le _ _) t.isLt)

theorem accAt_A (c : Dev nD) (t : Fin cfg1.N) (h0 : t.val % 16 = 0) (h1 : ¬t.val % 16 = 15) :
    accAt V c t.val t.isLt = backS (atA V c t h0 h1).1 := by
  obtain ⟨n, hn⟩ := t
  cases n with
  | zero => rfl
  | succ n => exact dif_pos h0
theorem accAt_B (c : Dev nD) (t : Fin cfg1.N) (h0 : ¬t.val % 16 = 0) (h1 : ¬t.val % 16 = 15) :
    accAt V c t.val t.isLt = backS (atB V c t h0 h1 (accBefore V c t)).1 := by
  obtain ⟨n, hn⟩ := t
  cases n with
  | zero => exact absurd (Nat.zero_mod _) h0
  | succ n => exact (dif_neg h0).trans (dif_neg h1)
theorem accAt_C (c : Dev nD) (t : Fin cfg1.N) (h0 : ¬t.val % 16 = 0) (h1 : t.val % 16 = 15) :
    accAt V c t.val t.isLt = backS (atC V c t h0 h1 (accBefore V c t)).2.1 := by
  obtain ⟨n, hn⟩ := t
  cases n with
  | zero => exact absurd (Nat.zero_mod _) h0
  | succ n => exact (dif_neg h0).trans (dif_pos h1)

/-- The output's buffer after point `t`; what stands at a point that does not write it is never read. -/
def outAt (c : Dev nD) (t : Fin cfg1.N) : Vec F S1024x1024 .f32 :=
  if h0 : t.val % 16 = 0 then back []
  else if h1 : t.val % 16 = 15 then back (atC V c t h0 h1 (accBefore V c t)).1 else back []
theorem outAt_C (c : Dev nD) (t : Fin cfg1.N) (h0 : ¬t.val % 16 = 0) (h1 : t.val % 16 = 15) :
    outAt V c t = back (atC V c t h0 h1 (accBefore V c t)).1 := (dif_neg h0).trans (dif_pos h1)

/-- A buffer of the first call, whole, at some contents. -/
abbrev some_ (c : Dev nD) (b : Ref sig .tc) : sProp 𝕄 := iprop(∃ f : Buf (Elt F) ((c : Thread nD τ).loc b), ((c : Thread nD τ).loc b) ↦{fullShare} f)
/-- The staging buffers of the first call, which this one leaves alone. -/
def Rest (c : Dev nD) : sProp 𝕄 :=
  iprop(some_ (F := F) c cc0_stg0_0 ∗ some_ (F := F) c cc0_stg0_1 ∗ some_ (F := F) c cc0_stg1_0 ∗ some_ (F := F) c cc0_stg1_1 ∗ some_ (F := F) c cc0_stg2_0
    ∗ some_ (F := F) c cc0_stg2_1 ∗ some_ (F := F) c cc0_stg3_0 ∗ some_ (F := F) c cc0_stg3_1 ∗ some_ (F := F) c cc0_stg4_0 ∗ some_ (F := F) c cc0_stg4_1)
/-- What the body never touches: those buffers and the generator register. -/
def Keep (c : Dev nD) : sProp 𝕄 := iprop(Rest (F := F) c ∗ ∃ r, prngReg c r)

theorem rest_in (c : Dev nD) : (Pipeline.scopedRest (Ix := Unit) (Name := ℕ) (U := UR sig nD τ) (Lvl := ℕ) (Val := Elt F) spec1 c : sProp 𝕄)
    ⊢ iprop((∃ d, owns (c : Thread nD τ) scM fullShare d) ∗ Rest (F := F) c) := by
  rw [scopedRest1_eq]; simp only [scM, owns_whole]; unfold Rest
  iintro ⟨H0, H1, H2, H3, H4, H5, H6, H7, H8, H9, HS⟩
  isplitl [HS]; · iexact HS
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9
theorem rest_out (c : Dev nD) : iprop((∃ d, owns (c : Thread nD τ) scM fullShare d) ∗ Rest (F := F) c)
    ⊢ (Pipeline.scopedRest (Ix := Unit) (Name := ℕ) (U := UR sig nD τ) (Lvl := ℕ) (Val := Elt F) spec1 c : sProp 𝕄) := by
  rw [scopedRest1_eq]; simp only [scM, owns_whole]; unfold Rest
  iintro ⟨HS, H0, H1, H2, H3, H4, H5, H6, H7, H8, H9⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact HS

/-- The invariant before position `n`: the accumulator at what the point before left (at anything before the first). -/
def PhiS (c : Dev nD) : (n : ℕ) → n ≤ cfg1.N → sProp 𝕄
  | 0, _ => iprop((∃ d, owns (c : Thread nD τ) scM fullShare d) ∗ Keep (F := F) c)
  | n + 1, hn => iprop(owns (c : Thread nD τ) scM fullShare (accAt V c n hn) ∗ Keep (F := F) c)
theorem PhiS_zero (c : Dev nD) (n : ℕ) (h : n ≤ cfg1.N) (hz : n = 0) :
    PhiS V c n h = iprop((∃ d, owns (c : Thread nD τ) scM fullShare d) ∗ Keep (F := F) c) := by
  subst hz; rfl
theorem PhiS_succ (c : Dev nD) (n : ℕ) (hn : n < cfg1.N) :
    PhiS V c (n + 1) hn = iprop(owns (c : Thread nD τ) scM fullShare (accAt V c n hn) ∗ Keep (F := F) c) := rfl
theorem PhiS_pos (c : Dev nD) (n : ℕ) (h : n ≤ cfg1.N) (hz : n ≠ 0) :
    PhiS V c n h = iprop(owns (c : Thread nD τ) scM fullShare (accAt V c (n - 1) (by omega)) ∗ Keep (F := F) c) := by
  cases n with
  | zero => exact absurd rfl hz
  | succ n => rfl

/-- The data of the second pipeline. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outAt V c t
  Φ t := PhiS V c t.val (Nat.le_of_lt_succ t.isLt)
  q _ := fullShare
  owed _ := 0

theorem A_eq1 (c : Dev nD) (w : Fin cfg1.W) : (dat1 V c).A w = V c (Pipeline.arrRef spec1 w) := by dsimp only [dat1]
theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outAt V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

theorem leaves1_0 (c : Dev nD) (t : Fin cfg1.N) : (dat1 V c).leavesExact 0 t = owns (c : Thread nD τ) (ms1_0 t) fullShare (iblk1 V c 0 t) := by
  rw [show (dat1 V c).leavesExact 0 t = owns (c : Thread nD τ) (ms1_0 t) fullShare ((dat1 V c).after 0 t) from by
    unfold Dat.leavesExact; rw [show cfg1.idle 0 (grid1.coords t) = false from rfl], after1_0]
theorem leaves1_1 (c : Dev nD) (t : Fin cfg1.N) : (dat1 V c).leavesExact 1 t = owns (c : Thread nD τ) (ms1_1 t) fullShare (iblk1 V c 1 t) := by
  rw [show (dat1 V c).leavesExact 1 t = owns (c : Thread nD τ) (ms1_1 t) fullShare ((dat1 V c).after 1 t) from by
    unfold Dat.leavesExact; rw [show cfg1.idle 1 (grid1.coords t) = false from rfl], after1_1]
theorem leaves1_2 (c : Dev nD) (t : Fin cfg1.N) : (dat1 V c).leavesExact 2 t = owns (c : Thread nD τ) (ms1_2 t) fullShare (iblk1 V c 2 t) := by
  rw [show (dat1 V c).leavesExact 2 t = owns (c : Thread nD τ) (ms1_2 t) fullShare ((dat1 V c).after 2 t) from by
    unfold Dat.leavesExact; rw [show cfg1.idle 2 (grid1.coords t) = false from rfl], after1_2]
theorem leaves1_3 (c : Dev nD) (t : Fin cfg1.N) : (dat1 V c).leavesExact 3 t = owns (c : Thread nD τ) (ms1_3 t) fullShare (iblk1 V c 3 t) := by
  rw [show (dat1 V c).leavesExact 3 t = owns (c : Thread nD τ) (ms1_3 t) fullShare ((dat1 V c).after 3 t) from by
    unfold Dat.leavesExact; rw [show cfg1.idle 3 (grid1.coords t) = false from rfl], after1_3]

set_option maxHeartbeats 4800000 in
/-- The body at a generic point, by the three cases. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3]
  by_cases h0 : t.val % 16 = 0
  · have h1 : ¬t.val % 16 = 15 := by omega
    rw [Dat.leavesExact_idle (dat1 V c) 4 t (idleFirst t (isFirst t h0) (notLast t h1)) (keepFirst t (isFirst t h0) (notLast t h1)),
      accAt_A V c t h0 h1]
    unfold backS
    by_cases hz : t.val = 0
    · rw [PhiS_castSucc V c t, PhiS_zero V c _ _ hz]
      iintro ⟨⟨HS, Hg⟩, Ho, ⟨%d0, H0⟩, ⟨%d1, H1⟩, ⟨%d2, H2⟩, ⟨%d3, H3⟩, ⟨%d4, H4⟩⟩
      iapply ((atA V c t h0 h1).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hg]
      · isplitl [HS]
        · unfold owns; iexists _; isplitr
          swap; · iexact HS
          ipureintro; exact View.read_writes_of_cover _ _ _ _ _ (coverA V c t h0 h1)
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨HS, Hg⟩, Ho, ⟨%d0, H0⟩, ⟨%d1, H1⟩, ⟨%d2, H2⟩, ⟨%d3, H3⟩, ⟨%d4, H4⟩⟩
      iapply ((atA V c t h0 h1).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hg]
      · isplitl [HS]
        · unfold owns; iexists _; isplitr
          swap; · iexact HS
          ipureintro; exact View.read_writes_of_cover _ _ _ _ _ (coverA V c t h0 h1)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := by omega
    rw [PhiS_castSucc V c t, PhiS_pos V c _ _ hz]
    by_cases h1 : t.val % 16 = 15
    · rw [show (dat1 V c).leavesExact 4 t = owns (c : Thread nD τ) (ms1_4 t) fullShare ((dat1 V c).after 4 t) from by
        unfold Dat.leavesExact; rw [liveLast t (notFirst t h0) (isLast t h1)], after1_4, outAt_C V c t h0 h1, accAt_C V c t h0 h1]
      unfold back backS
      iintro ⟨⟨HS, Hg⟩, Ho, ⟨%d0, H0⟩, ⟨%d1, H1⟩, ⟨%d2, H2⟩, ⟨%d3, H3⟩, ⟨%d4, H4⟩⟩
      iapply ((atC V c t h0 h1 (accBefore V c t)).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hg]
      · isplitl [HS]
        · unfold owns; iexists _; isplitr
          swap; · iexact HS
          ipureintro; exact View.read_writes_of_cover _ _ _ _ _ (coverC V c t h0 h1 _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverOut V c t h0 h1 _)
    · rw [Dat.leavesExact_idle (dat1 V c) 4 t (idleMid t (notFirst t h0) (notLast t h1)) (keepMid t (notFirst t h0) (notLast t h1)),
        accAt_B V c t h0 h1]
      unfold backS
      iintro ⟨⟨HS, Hg⟩, Ho, ⟨%d0, H0⟩, ⟨%d1, H1⟩, ⟨%d2, H2⟩, ⟨%d3, H3⟩, ⟨%d4, H4⟩⟩
      iapply ((atB V c t h0 h1 (accBefore V c t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hg]
      · isplitl [HS]
        · unfold owns; iexists _; isplitr
          swap; · iexact HS
          ipureintro; exact View.read_writes_of_cover _ _ _ _ _ (coverB V c t h0 h1 _)
        iexact Hg
      isplitl [Ho]; · iexact Ho
      isplitl [H0]; · iexact H0
      isplitl [H1]; · iexact H1
      isplitl [H2]; · iexact H2
      isplitl [H3]; · iexact H3
      iexists _; iexact H4

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What is left over on entering the call establishes the invariant, -/
theorem hin1 (c : Dev nD) : iprop((∃ r, prngReg c r) ∗ Pipeline.scopedRest (Ix := Unit) (Name := ℕ) (U := UR sig nD τ) (Lvl := ℕ) (Val := Elt F) spec1 c) ⊢ (dat1 V c).Φ 0 := by
  rw [show (dat1 V c).Φ 0 = PhiS V c 0 (Nat.zero_le _) from rfl, PhiS_zero V c 0 _ rfl]; unfold Keep
  iintro ⟨Hp, Hr⟩
  ihave H := (rest_in (F := F) c) $$ Hr
  icases H with ⟨HS, HR⟩
  isplitl [HS]; · iexact HS
  isplitl [HR]; · iexact HR
  iexact Hp
/-- and after the last point the invariant gives it back. -/
theorem hout1 (c : Dev nD) : (dat1 V c).Φ (Fin.last cfg1.N) ⊢ iprop((∃ r, prngReg c r) ∗ Pipeline.scopedRest (Ix := Unit) (Name := ℕ) (U := UR sig nD τ) (Lvl := ℕ) (Val := Elt F) spec1 c) := by
  have hN : cfg1.N = 272 := N_1
  rw [show (dat1 V c).Φ (Fin.last cfg1.N) = PhiS V c (Fin.last cfg1.N).val (Nat.le_of_lt_succ (Fin.last cfg1.N).isLt) from rfl,
    PhiS_pos V c _ _ (by rw [Fin.val_last]; omega)]; unfold Keep
  iintro ⟨HS, HR, Hp⟩
  isplitl [Hp]; · iexact Hp
  iapply (rest_out (F := F) c)
  isplitl [HS]; · iexists _; iexact HS
  iexact HR

end Regions

end Cert.KernelIdeal.Chain

end
-- ==== Proof.KernelIdealRun.lean ====
module

public import proofs.«01_k».proof.Proof.Gen.KernelIdeal.Launch
public import proofs.«01_k».proof.Proof.KernelIdealSelect
public import proofs.«01_k».proof.Proof.KernelIdealDown
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! The two calls in a row: the buffers from one to the next, and the run of the whole program. -/

variable (m : (ℓ : Loc nD τ sig) → Buf (Elt F) ℓ) (ρ : Dev nD → PrngReg)

/-- The argument arrays. -/
abbrev argRefs : List (Ref sig .tc) := [main_arg0, main_arg1, main_arg2, main_arg3, main_arg4, main_arg5, main_arg6]

theorem hostOps1_fresh : (hostOps1 : List (HloOp τ sig (Elt F))).Forall fun op => op.fresh = ∅ := by
  simp only [List.Forall]; repeat' constructor
/-- What the host operations between the calls write. -/
abbrev hostOps1_W : List (Ref sig .tc) := [main_v1, main_v2]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

/-- The buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev V0 : (c : Dev nD) → (b : Ref sig .tc) → Buf (Elt F) ((c : Thread nD τ).loc b) := fun c b => W0 m ρ c b
/-- The buffers after the first call. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host operations. -/
abbrev W2 : Dev nD → Valuation τ sig (Elt F) := fun c => StableHlo.after hostOps1 (W1 m ρ c)
theorem W2_of (c : Dev nD) (r : Ref sig .tc) (h : r ∉ hostOps1_W) : W2 m ρ c (Proc.devRef .tc r) = W1 m ρ c (Proc.devRef .tc r) :=
  StableHlo.after_of_writes_sub hostOps1 _ hostOps1_writes h
theorem W2_args (c : Dev nD) : ∀ a ∈ argRefs, W2 m ρ c (Proc.devRef .tc a) = m ((c : Thread nD τ).loc a) :=
  fun a ha => (W2_of m ρ c a (hostOps1_args a ha)).trans (W1_args m ρ c a ha)
abbrev V2 : (c : Dev nD) → (b : Ref sig .tc) → Buf (Elt F) ((c : Thread nD τ).loc b) := fun c b => W2 m ρ c b
/-- After the second call. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

abbrev adm : (p : Fin 2) → (pcfgs (F := F) p).Adm := fun p => (cfgs p).toPCfg_adm
/-- The data of both pipelines. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What travels beside the buffers. -/
abbrev R (c : Dev nD) : sProp 𝕄 := iprop((∃ r, prngReg c r) ∗ ∃ W, owes (c : Thread nD τ) (0 : CellTallies nD τ sig Unit) W)
/-- Host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The state at the end. -/
abbrev Tₙ (c : Dev nD) : sProp 𝕄 := iprop(StableHlo.held (c : Thread nD τ) (Pipeline.ucRefs τ sig) (W3 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    iintro ⟨Hp, -, Hr⟩
    iapply (hin1 (V2 m ρ) c)
    isplitl [Hp] <;> iassumption
  hout c := by
    rw [Pipeline.ownSems0_none, show (pdats m ρ 1 c).Φ (Fin.last _) = (dat1 (V2 m ρ) c).Φ (Fin.last cfg1.N) from rfl]
    iintro H
    ihave H := (hout1 (V2 m ρ) c) $$ H
    icases H with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program as segments. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- From any memory the program ends with its arguments as they were, the counters at zero and its result the output
    array of the second pipeline. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_v3) = (dat1 (V2 m ρ) c).arrAt 4 cfg1.N)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨(fun c =>
      ⟨(h c _ (mem_uc main_arg0 (by decide))).trans (W3_args m ρ c main_arg0 (by decide)),
       (h c _ (mem_uc main_arg1 (by decide))).trans (W3_args m ρ c main_arg1 (by decide)),
       (h c _ (mem_uc main_arg2 (by decide))).trans (W3_args m ρ c main_arg2 (by decide)),
       (h c _ (mem_uc main_arg3 (by decide))).trans (W3_args m ρ c main_arg3 (by decide)),
       (h c _ (mem_uc main_arg4 (by decide))).trans (W3_args m ρ c main_arg4 (by decide)),
       (h c _ (mem_uc main_arg5 (by decide))).trans (W3_args m ρ c main_arg5 (by decide)),
       (h c _ (mem_uc main_arg6 (by decide))).trans (W3_args m ρ c main_arg6 (by decide)),
       (h c _ (mem_uc main_v3 (by decide))).trans (W3_arr m ρ c 4)⟩), funext fun g => hz g (.inr (no_unscoped g.2))⟩)

/-- The arguments end as launched. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c).1, (h.1 c).2.1, (h.1 c).2.2.1, (h.1 c).2.2.2.1, (h.1 c).2.2.2.2.1, (h.1 c).2.2.2.2.2.1,
    (h.1 c).2.2.2.2.2.2.1⟩, h.2⟩) (run_main m ρ)

end Cert.KernelIdeal.Chain

end
-- ==== Proof.SelectValue.lean ====
/- What the first call writes: pair row by pair row, the two tokens' activations put back at their experts. -/
module

public import proofs.«01_k».proof.Proof.KernelIdealSelect
public import Idealize.ShloMosaic.Lib.Pipeline.ValueKit
public import Idealize.ShloMosaic.Lib.Pointwise
public import Idealize.ShloMosaic.Lib.Claim
public import Idealize.ShloMosaic.Lib.WholeRead
public import Idealize.ShloMosaic.Lib.Writes

@[expose] public section

set_option maxRecDepth 16384

noncomputable section

namespace Cert.KernelIdeal.Chain

open Idealize.ShloMosaic Idealize.ShloMosaic.TcCoe Idealize.ShloMosaic.Tactic
open Idealize.ShloMosaic.Pipeline (Dat)
open Cert.KernelIdeal.Gen

section Uniform
variable {F : FTy → Type} [FloatOps F]

/-- One token's selected scores: the half `h` of the words, its rows and columns picked by the masks of `ra` and `rb`. -/
def picked (v0 : IVec S128x128 32) (w : Vec F S1x128x128 .i32) (ra rb : Vec F S1x128 .i32) (h : ℕ) (hh : h < 2) : FVec F S1x128 .f32 :=
  shapeCast S1x128 (multiReduction .add [0] S128 (select (cmpi .eq v0 (broadcastTo S128x128 ra broadcasts_S1x128_S128x128)) (matmul dot_S128x128_S128x128_S128x128_1_0_0_1_n_n none (truncf .bf16 (unpackElementwise h (shapeCast S128x128 w shapeCasts_S1x128x128_S128x128) hh) bitsLt_bf16_f32) (truncf .bf16 (select (cmpi .eq v0 (broadcastTo S128x128 rb broadcasts_S1x128_S128x128)) (broadcast S128x128 (Scalar.ofBits .f32 0x3F800000#32)) (broadcast S128x128 (Scalar.ofBits .f32 0x00000000#32))) bitsLt_bf16_f32) (constant S128x128 .f32 0x00000000#32)) (broadcast S128x128 (Scalar.ofBits .f32 0x00000000#32))) 0x00000000#32 reduces_S128x128_S128 (.inl rfl) rfl) shapeCasts_S128_S1x128

/-- The gated activations of scores `x`. -/
def acted (g x : FVec F S1x128 .f32) : FVec F S1x128 .f32 :=
  mulf g (mulf (mulf (broadcast S1x128 (Scalar.ofBits .f32 0x3F000000#32)) x) (addf (broadcast S1x128 (Scalar.ofBits .f32 0x3F800000#32)) (erf (mulf x (broadcast S1x128 (Scalar.ofBits .f32 0x3F3504F3#32))))))

/-- The activations `a` put back at row `ra`, column `rb`. -/
def placed (v0 : IVec S128x128 32) (a : FVec F S1x128 .f32) (ra rb : Vec F S1x128 .i32) : FVec F S128x128 .f32 :=
  matmul dot_S128x128_S128x128_S128x128_1_1_0_0_n_n none (truncf .bf16 (select (cmpi .eq v0 (broadcastTo S128x128 ra broadcasts_S1x128_S128x128)) (broadcastTo S128x128 (shapeCast S1x128 a shapeCasts_S1x128_S1x128) broadcasts_S1x128_S128x128) (broadcast S128x128 (Scalar.ofBits .f32 0x00000000#32))) bitsLt_bf16_f32) (truncf .bf16 (select (cmpi .eq v0 (broadcastTo S128x128 rb broadcasts_S1x128_S128x128)) (broadcast S128x128 (Scalar.ofBits .f32 0x3F800000#32)) (broadcast S128x128 (Scalar.ofBits .f32 0x00000000#32))) bitsLt_bf16_f32) (constant S128x128 .f32 0x00000000#32)

/-- A pair row of the output. -/
def pairBlock (v0 : IVec S128x128 32) (w : Vec F S1x128x128 .i32) (ra0 rb0 : Vec F S1x128 .i32) (g0 : Vec F S1x128 .f32) (ra1 rb1 : Vec F S1x128 .i32) (g1 : Vec F S1x128 .f32) : Vec F S1x128x2x128 .bf16 :=
  interleaveRows S1x128x2x128 (shapeCast S1x128x1x128 (shapeCast S1x128x128 (truncf .bf16 (placed v0 (acted g0 (picked v0 w ra0 rb0 0 (by decide))) ra0 rb0) bitsLt_bf16_f32) shapeCasts_S128x128_S1x128x128) shapeCasts_S1x128x128_S1x128x1x128) (shapeCast S1x128x1x128 (shapeCast S1x128x128 (truncf .bf16 (placed v0 (acted g1 (picked v0 w ra1 rb1 1 (by decide))) ra1 rb1) bitsLt_bf16_f32) shapeCasts_S128x128_S1x128x128) shapeCasts_S1x128x128_S1x128x1x128) bitcasts_S1x128x2x128_w16_S1x128x1x128_w32

set_option maxHeartbeats 4000000 in
/-- The eight pair rows a trip stores, all of one form. -/
theorem trip_pieces (𝒱 : Variants) (c : Dev nD) (bd : Option 𝒱.V) (i : grid0.Coords) (arg1 : Memref sig .tc .vmem S64x128x128 .i32) (harg1 : arg1.IsWhole) (arg2 : Memref sig .tc .vmem S128x128 .i32) (harg2 : arg2.IsWhole) (arg3 : Memref sig .tc .vmem S128x128 .i32) (harg3 : arg3.IsWhole) (arg4 : Memref sig .tc .vmem S128x128 .f32) (harg4 : arg4.IsWhole) (arg5 : Memref sig .tc .vmem S64x128x2x128 .bf16) (harg5 : arg5.IsWhole) (v0 : IVec S128x128 32) (X1 : BufTy.Contents (Elt F) arg1.view.ty) (X2 : BufTy.Contents (Elt F) arg2.view.ty) (X3 : BufTy.Contents (Elt F) arg3.view.ty) (X4 : BufTy.Contents (Elt F) arg4.view.ty) (k : Fin k0_t1_loop.trips) :
    tripL_k0_t1 (F := F) 𝒱 c bd i arg1 harg1 arg2 harg2 arg3 harg3 arg4 harg4 arg5 harg5 v0 X1 X2 X3 X4 k =
     [⟨Rect.unit (s := S64x128x2x128) (k0_off3 k 7#32) S1x128x2x128.size (k0_off3_inb k 7), pairBlock v0 (View.readAt (Elt F) arg1.view (Rect.unit (s := S64x128x128) (k0_off2 k 7#32) S1x128x128.size (k0_off2_inb k 7)).toLoadRect X1)
        (View.readAt (Elt F) arg2.view (Rect.unit (s := S128x128) (k0_off1 k 7#32 0#32) S1x128.size (k0_off1_inb k 7 0)).toLoadRect X2) (View.readAt (Elt F) arg3.view (Rect.unit (s := S128x128) (k0_off1 k 7#32 0#32) S1x128.size (k0_off1_inb k 7 0)).toLoadRect X3) (View.readAt (Elt F) arg4.view (Rect.unit (s := S128x128) (k0_off1 k 7#32 0#32) S1x128.size (k0_off1_inb k 7 0)).toLoadRect X4) (View.readAt (Elt F) arg2.view (Rect.unit (s := S128x128) (k0_off1 k 7#32 1#32) S1x128.size (k0_off1_inb k 7 1)).toLoadRect X2) (View.readAt (Elt F) arg3.view (Rect.unit (s := S128x128) (k0_off1 k 7#32 1#32) S1x128.size (k0_off1_inb k 7 1)).toLoadRect X3) (View.readAt (Elt F) arg4.view (Rect.unit (s := S128x128) (k0_off1 k 7#32 1#32) S1x128.size (k0_off1_inb k 7 1)).toLoadRect X4)⟩,
      ⟨Rect.unit (s := S64x128x2x128) (k0_off3 k 6#32) S1x128x2x128.size (k0_off3_inb k 6), pairBlock v0 (View.readAt (Elt F) arg1.view (Rect.unit (s := S64x128x128) (k0_off2 k 6#32) S1x128x128.size (k0_off2_inb k 6)).toLoadRect X1)
        (View.readAt (Elt F) arg2.view (Rect.unit (s := S128x128) (k0_off1 k 6#32 0#32) S1x128.size (k0_off1_inb k 6 0)).toLoadRect X2) (View.readAt (Elt F) arg3.view (Rect.unit (s := S128x128) (k0_off1 k 6#32 0#32) S1x128.size (k0_off1_inb k 6 0)).toLoadRect X3) (View.readAt (Elt F) arg4.view (Rect.unit (s := S128x128) (k0_off1 k 6#32 0#32) S1x128.size (k0_off1_inb k 6 0)).toLoadRect X4) (View.readAt (Elt F) arg2.view (Rect.unit (s := S128x128) (k0_off1 k 6#32 1#32) S1x128.size (k0_off1_inb k 6 1)).toLoadRect X2) (View.readAt (Elt F) arg3.view (Rect.unit (s := S128x128) (k0_off1 k 6#32 1#32) S1x128.size (k0_off1_inb k 6 1)).toLoadRect X3) (View.readAt (Elt F) arg4.view (Rect.unit (s := S128x128) (k0_off1 k 6#32 1#32) S1x128.size (k0_off1_inb k 6 1)).toLoadRect X4)⟩,
      ⟨Rect.unit (s := S64x128x2x128) (k0_off3 k 5#32) S1x128x2x128.size (k0_off3_inb k 5), pairBlock v0 (View.readAt (Elt F) arg1.view (Rect.unit (s := S64x128x128) (k0_off2 k 5#32) S1x128x128.size (k0_off2_inb k 5)).toLoadRect X1)
        (View.readAt (Elt F) arg2.view (Rect.unit (s := S128x128) (k0_off1 k 5#32 0#32) S1x128.size (k0_off1_inb k 5 0)).toLoadRect X2) (View.readAt (Elt F) arg3.view (Rect.unit (s := S128x128) (k0_off1 k 5#32 0#32) S1x128.size (k0_off1_inb k 5 0)).toLoadRect X3) (View.readAt (Elt F) arg4.view (Rect.unit (s := S128x128) (k0_off1 k 5#32 0#32) S1x128.size (k0_off1_inb k 5 0)).toLoadRect X4) (View.readAt (Elt F) arg2.view (Rect.unit (s := S128x128) (k0_off1 k 5#32 1#32) S1x128.size (k0_off1_inb k 5 1)).toLoadRect X2) (View.readAt (Elt F) arg3.view (Rect.unit (s := S128x128) (k0_off1 k 5#32 1#32) S1x128.size (k0_off1_inb k 5 1)).toLoadRect X3) (View.readAt (Elt F) arg4.view (Rect.unit (s := S128x128) (k0_off1 k 5#32 1#32) S1x128.size (k0_off1_inb k 5 1)).toLoadRect X4)⟩,
      ⟨Rect.unit (s := S64x128x2x128) (k0_off3 k 4#32) S1x128x2x128.size (k0_off3_inb k 4), pairBlock v0 (View.readAt (Elt F) arg1.view (Rect.unit (s := S64x128x128) (k0_off2 k 4#32) S1x128x128.size (k0_off2_inb k 4)).toLoadRect X1)
        (View.readAt (Elt F) arg2.view (Rect.unit (s := S128x128) (k0_off1 k 4#32 0#32) S1x128.size (k0_off1_inb k 4 0)).toLoadRect X2) (View.readAt (Elt F) arg3.view (Rect.unit (s := S128x128) (k0_off1 k 4#32 0#32) S1x128.size (k0_off1_inb k 4 0)).toLoadRect X3) (View.readAt (Elt F) arg4.view (Rect.unit (s := S128x128) (k0_off1 k 4#32 0#32) S1x128.size (k0_off1_inb k 4 0)).toLoadRect X4) (View.readAt (Elt F) arg2.view (Rect.unit (s := S128x128) (k0_off1 k 4#32 1#32) S1x128.size (k0_off1_inb k 4 1)).toLoadRect X2) (View.readAt (Elt F) arg3.view (Rect.unit (s := S128x128) (k0_off1 k 4#32 1#32) S1x128.size (k0_off1_inb k 4 1)).toLoadRect X3) (View.readAt (Elt F) arg4.view (Rect.unit (s := S128x128) (k0_off1 k 4#32 1#32) S1x128.size (k0_off1_inb k 4 1)).toLoadRect X4)⟩,
      ⟨Rect.unit (s := S64x128x2x128) (k0_off3 k 3#32) S1x128x2x128.size (k0_off3_inb k 3), pairBlock v0 (View.readAt (Elt F) arg1.view (Rect.unit (s := S64x128x128) (k0_off2 k 3#32) S1x128x128.size (k0_off2_inb k 3)).toLoadRect X1)
        (View.readAt (Elt F) arg2.view (Rect.unit (s := S128x128) (k0_off1 k 3#32 0#32) S1x128.size (k0_off1_inb k 3 0)).toLoadRect X2) (View.readAt (Elt F) arg3.view (Rect.unit (s := S128x128) (k0_off1 k 3#32 0#32) S1x128.size (k0_off1_inb k 3 0)).toLoadRect X3) (View.readAt (Elt F) arg4.view (Rect.unit (s := S128x128) (k0_off1 k 3#32 0#32) S1x128.size (k0_off1_inb k 3 0)).toLoadRect X4) (View.readAt (Elt F) arg2.view (Rect.unit (s := S128x128) (k0_off1 k 3#32 1#32) S1x128.size (k0_off1_inb k 3 1)).toLoadRect X2) (View.readAt (Elt F) arg3.view (Rect.unit (s := S128x128) (k0_off1 k 3#32 1#32) S1x128.size (k0_off1_inb k 3 1)).toLoadRect X3) (View.readAt (Elt F) arg4.view (Rect.unit (s := S128x128) (k0_off1 k 3#32 1#32) S1x128.size (k0_off1_inb k 3 1)).toLoadRect X4)⟩,
      ⟨Rect.unit (s := S64x128x2x128) (k0_off3 k 2#32) S1x128x2x128.size (k0_off3_inb k 2), pairBlock v0 (View.readAt (Elt F) arg1.view (Rect.unit (s := S64x128x128) (k0_off2 k 2#32) S1x128x128.size (k0_off2_inb k 2)).toLoadRect X1)
        (View.readAt (Elt F) arg2.view (Rect.unit (s := S128x128) (k0_off1 k 2#32 0#32) S1x128.size (k0_off1_inb k 2 0)).toLoadRect X2) (View.readAt (Elt F) arg3.view (Rect.unit (s := S128x128) (k0_off1 k 2#32 0#32) S1x128.size (k0_off1_inb k 2 0)).toLoadRect X3) (View.readAt (Elt F) arg4.view (Rect.unit (s := S128x128) (k0_off1 k 2#32 0#32) S1x128.size (k0_off1_inb k 2 0)).toLoadRect X4) (View.readAt (Elt F) arg2.view (Rect.unit (s := S128x128) (k0_off1 k 2#32 1#32) S1x128.size (k0_off1_inb k 2 1)).toLoadRect X2) (View.readAt (Elt F) arg3.view (Rect.unit (s := S128x128) (k0_off1 k 2#32 1#32) S1x128.size (k0_off1_inb k 2 1)).toLoadRect X3) (View.readAt (Elt F) arg4.view (Rect.unit (s := S128x128) (k0_off1 k 2#32 1#32) S1x128.size (k0_off1_inb k 2 1)).toLoadRect X4)⟩,
      ⟨Rect.unit (s := S64x128x2x128) (k0_off3 k 1#32) S1x128x2x128.size (k0_off3_inb k 1), pairBlock v0 (View.readAt (Elt F) arg1.view (Rect.unit (s := S64x128x128) (k0_off2 k 1#32) S1x128x128.size (k0_off2_inb k 1)).toLoadRect X1)
        (View.readAt (Elt F) arg2.view (Rect.unit (s := S128x128) (k0_off1 k 1#32 0#32) S1x128.size (k0_off1_inb k 1 0)).toLoadRect X2) (View.readAt (Elt F) arg3.view (Rect.unit (s := S128x128) (k0_off1 k 1#32 0#32) S1x128.size (k0_off1_inb k 1 0)).toLoadRect X3) (View.readAt (Elt F) arg4.view (Rect.unit (s := S128x128) (k0_off1 k 1#32 0#32) S1x128.size (k0_off1_inb k 1 0)).toLoadRect X4) (View.readAt (Elt F) arg2.view (Rect.unit (s := S128x128) (k0_off1 k 1#32 1#32) S1x128.size (k0_off1_inb k 1 1)).toLoadRect X2) (View.readAt (Elt F) arg3.view (Rect.unit (s := S128x128) (k0_off1 k 1#32 1#32) S1x128.size (k0_off1_inb k 1 1)).toLoadRect X3) (View.readAt (Elt F) arg4.view (Rect.unit (s := S128x128) (k0_off1 k 1#32 1#32) S1x128.size (k0_off1_inb k 1 1)).toLoadRect X4)⟩,
      ⟨Rect.unit (s := S64x128x2x128) (k0_off3 k 0#32) S1x128x2x128.size (k0_off3_inb k 0), pairBlock v0 (View.readAt (Elt F) arg1.view (Rect.unit (s := S64x128x128) (k0_off2 k 0#32) S1x128x128.size (k0_off2_inb k 0)).toLoadRect X1)
        (View.readAt (Elt F) arg2.view (Rect.unit (s := S128x128) (k0_off1 k 0#32 0#32) S1x128.size (k0_off1_inb k 0 0)).toLoadRect X2) (View.readAt (Elt F) arg3.view (Rect.unit (s := S128x128) (k0_off1 k 0#32 0#32) S1x128.size (k0_off1_inb k 0 0)).toLoadRect X3) (View.readAt (Elt F) arg4.view (Rect.unit (s := S128x128) (k0_off1 k 0#32 0#32) S1x128.size (k0_off1_inb k 0 0)).toLoadRect X4) (View.readAt (Elt F) arg2.view (Rect.unit (s := S128x128) (k0_off1 k 0#32 1#32) S1x128.size (k0_off1_inb k 0 1)).toLoadRect X2) (View.readAt (Elt F) arg3.view (Rect.unit (s := S128x128) (k0_off1 k 0#32 1#32) S1x128.size (k0_off1_inb k 0 1)).toLoadRect X3) (View.readAt (Elt F) arg4.view (Rect.unit (s := S128x128) (k0_off1 k 0#32 1#32) S1x128.size (k0_off1_inb k 0 1)).toLoadRect X4)⟩] := by
  unfold tripL_k0_t1 trip_k0_t1
  rfl

end Uniform

/-- The score a half of the word at `(i, j)` stands for. -/
def score (w : BitVec 32) (h : ℕ) : EReal := Ideal.ofBits .bf16 (w.extractLsb' (h * 16) 16)

/-- The gated activation of a score. -/
def act (g x : EReal) : EReal :=
  g * (Ideal.ofBits .f32 0x3F000000#32 * x * (Ideal.ofBits .f32 0x3F800000#32 + Ideal.erf (x * Ideal.ofBits .f32 0x3F3504F3#32)))

theorem select_eq {α : Type} (a b : BitVec 32) (x y : α) : Scalar.select (IntOp.cmpi CmpIPredicate.eq a b) x y = if a = b then x else y := by
  by_cases h : a = b
  · subst h; simp [Scalar.select, IntOp.cmpi]
  · have e : (a == b) = false := by simpa using h
    simp [Scalar.select, IntOp.cmpi, h, e]

theorem picked_at (v0 : IVec S128x128 32) (w : Vec Ideal S1x128x128 .i32) (ra rb : Vec Ideal S1x128 .i32) (h : ℕ) (hh : h < 2) (k : Fin 128) :
    picked (F := Ideal) v0 w ra rb h hh (ix2 0 k) = ∑ i : Fin 128, if v0 (ix2 i k) = ra (ix2 0 k) then ∑ j : Fin 128, (if v0 (ix2 j k) = rb (ix2 0 k) then score (w (ix3 0 i j)) h else 0) else 0 := by
  pointwise [picked, score]
  simp only [select_eq]

theorem acted_at (g x : FVec Ideal S1x128 .f32) (k : Fin 128) :
    acted (F := Ideal) g x (ix2 0 k) = act (g (ix2 0 k)) (x (ix2 0 k)) := by
  pointwise [acted, act]
  rfl

theorem placed_at (v0 : IVec S128x128 32) (a : FVec Ideal S1x128 .f32) (ra rb : Vec Ideal S1x128 .i32) (i j : Fin 128) :
    placed (F := Ideal) v0 a ra rb (ix2 i j) = ∑ k : Fin 128, if v0 (ix2 j k) = rb (ix2 0 k) then (if v0 (ix2 i k) = ra (ix2 0 k) then a (ix2 0 k) else 0) else 0 := by
  pointwise [placed]
  simp only [select_eq]

theorem pairBlock_at (v0 : IVec S128x128 32) (w : Vec Ideal S1x128x128 .i32) (ra0 rb0 : Vec Ideal S1x128 .i32) (g0 : Vec Ideal S1x128 .f32) (ra1 rb1 : Vec Ideal S1x128 .i32) (g1 : Vec Ideal S1x128 .f32) (i : Fin 128) (h : Fin 2) (j : Fin 128) :
    pairBlock (F := Ideal) v0 w ra0 rb0 g0 ra1 rb1 g1 (ix4 0 i h j) = if h.val % 2 = 0 then placed (F := Ideal) v0 (acted g0 (picked v0 w ra0 rb0 0 (by decide))) ra0 rb0 (ix2 i j) else placed (F := Ideal) v0 (acted g1 (picked v0 w ra1 rb1 1 (by decide))) ra1 rb1 (ix2 i j) := by
  pointwise [pairBlock]

/-- Row numbers down a column. -/
def rowIx : IVec S128x128 32 := iota .tc S128x128 32 [0]

theorem rowIx_at (i k : Fin 128) : rowIx (ix2 i k) = BitVec.ofNat 32 i.val := by
  pointwise [rowIx]

/-- Entry `(i, j)` of a token's activations: what is selected of its scores `w` (half `h`) at the pairs `(ra, rb)`, gated. -/
def spread (w : Fin 128 → Fin 128 → BitVec 32) (h : ℕ) (ra rb : Fin 128 → BitVec 32) (g : Fin 128 → EReal) (i j : Fin 128) : EReal :=
  ∑ k : Fin 128, if BitVec.ofNat 32 j.val = rb k then (if BitVec.ofNat 32 i.val = ra k then
    act (g k) (∑ i' : Fin 128, if BitVec.ofNat 32 i'.val = ra k then ∑ j' : Fin 128, (if BitVec.ofNat 32 j'.val = rb k then score (w i' j') h else 0) else 0) else 0) else 0

theorem spread_congr {w w' : Fin 128 → Fin 128 → BitVec 32} {h : ℕ} {ra ra' rb rb' : Fin 128 → BitVec 32} {g g' : Fin 128 → EReal} {i j : Fin 128}
    (hw : w = w') (ha : ra = ra') (hb : rb = rb') (hg : g = g') : spread w h ra rb g i j = spread w' h ra' rb' g' i j := by
  rw [hw, ha, hb, hg]

theorem placed_rowIx (w : Vec Ideal S1x128x128 .i32) (ra rb : Vec Ideal S1x128 .i32) (g : Vec Ideal S1x128 .f32) (h : ℕ) (hh : h < 2) (i j : Fin 128) :
    placed (F := Ideal) rowIx (acted g (picked rowIx w ra rb h hh)) ra rb (ix2 i j)
      = spread (fun i j => w (ix3 0 i j)) h (fun k => ra (ix2 0 k)) (fun k => rb (ix2 0 k)) (fun k => g (ix2 0 k)) i j := by
  rw [placed_at]
  simp only [rowIx_at, acted_at, picked_at, spread]

/-- The block a point writes, at pair row `p`, expert `(i, j)`, token `h` of the pair. -/
def blockG (x0 : Vec Ideal S64x128x128 .i32) (x1 x2 : Vec Ideal S128x128 .i32) (x3 : Vec Ideal S128x128 .f32) (y : S64x128x2x128.Idx) : EReal :=
  spread (fun i j => x0 (ix3 (y 0) i j)) (y 2).val (fun k => x1 (ix2 ⟨2 * (y 0).val + (y 2).val, by have h0 : (y 0).val < 64 := (y 0).isLt; have h2 : (y 2).val < 2 := (y 2).isLt; show _ < 128; omega⟩ k))
    (fun k => x2 (ix2 ⟨2 * (y 0).val + (y 2).val, by have h0 : (y 0).val < 64 := (y 0).isLt; have h2 : (y 2).val < 2 := (y 2).isLt; show _ < 128; omega⟩ k))
    (fun k => x3 (ix2 ⟨2 * (y 0).val + (y 2).val, by have h0 : (y 0).val < 64 := (y 0).isLt; have h2 : (y 2).val < 2 := (y 2).isLt; show _ < 128; omega⟩ k)) (y 1) (y 3)

theorem off1_eq (k : Fin k0_t1_loop.trips) (u par : Fin 8) : k0_off1 k (BitVec.ofNat 32 u.val) (BitVec.ofNat 32 par.val) = ![2 * (8 * k.val + u.val) + par.val, 0] := by
  revert k u par; decide +kernel
theorem off2_eq (k : Fin k0_t1_loop.trips) (u : Fin 8) : k0_off2 k (BitVec.ofNat 32 u.val) = ![8 * k.val + u.val, 0, 0] := by
  revert k u; decide +kernel
theorem off3_eq (k : Fin k0_t1_loop.trips) (u : Fin 8) : k0_off3 k (BitVec.ofNat 32 u.val) = ![8 * k.val + u.val, 0, 0, 0] := by
  revert k u; decide +kernel

/-- A stored pair row agrees with `blockG` where it lies. -/
theorem piece_at (arg1 : Memref sig .tc .vmem S64x128x128 .i32) (harg1 : arg1.IsWhole) (arg2 : Memref sig .tc .vmem S128x128 .i32) (harg2 : arg2.IsWhole) (arg3 : Memref sig .tc .vmem S128x128 .i32) (harg3 : arg3.IsWhole) (arg4 : Memref sig .tc .vmem S128x128 .f32) (harg4 : arg4.IsWhole)
    (x0 : Vec Ideal S64x128x128 .i32) (x1 x2 : Vec Ideal S128x128 .i32) (x3 : Vec Ideal S128x128 .f32) (P : ℕ)
    (r0 r1 : Fin 2 → ℕ) (hr0 : r0 = ![2 * P, 0]) (hr1 : r1 = ![2 * P + 1, 0]) (ib0 : ∀ a, r0 a + S1x128.size a ≤ S128x128.size a) (ib1 : ∀ a, r1 a + S1x128.size a ≤ S128x128.size a)
    (o2 : Fin 3 → ℕ) (ho2 : o2 = ![P, 0, 0]) (ib2 : ∀ a, o2 a + S1x128x128.size a ≤ S64x128x128.size a)
    (o3 : Fin 4 → ℕ) (ho3 : o3 = ![P, 0, 0, 0]) (ib3 : ∀ a, o3 a + S1x128x2x128.size a ≤ S64x128x2x128.size a) (x : S1x128x2x128.Idx) :
    pairBlock (F := Ideal) rowIx (View.readAt (Elt Ideal) arg1.view (Rect.unit (s := S64x128x128) o2 S1x128x128.size ib2).toLoadRect (harg1.unread x0))
        (View.readAt (Elt Ideal) arg2.view (Rect.unit (s := S128x128) r0 S1x128.size ib0).toLoadRect (harg2.unread x1)) (View.readAt (Elt Ideal) arg3.view (Rect.unit (s := S128x128) r0 S1x128.size ib0).toLoadRect (harg3.unread x2)) (View.readAt (Elt Ideal) arg4.view (Rect.unit (s := S128x128) r0 S1x128.size ib0).toLoadRect (harg4.unread x3))
        (View.readAt (Elt Ideal) arg2.view (Rect.unit (s := S128x128) r1 S1x128.size ib1).toLoadRect (harg2.unread x1)) (View.readAt (Elt Ideal) arg3.view (Rect.unit (s := S128x128) r1 S1x128.size ib1).toLoadRect (harg3.unread x2)) (View.readAt (Elt Ideal) arg4.view (Rect.unit (s := S128x128) r1 S1x128.size ib1).toLoadRect (harg4.unread x3)) x
      = blockG x0 x1 x2 x3 ((Rect.unit (s := S64x128x2x128) o3 S1x128x2x128.size ib3).emb x) := by
  subst hr0 hr1 ho2 ho3
  obtain ⟨z, i, h, j, rfl⟩ : ∃ (z : Fin 1) (i : Fin 128) (h : Fin 2) (j : Fin 128), x = ix4 z i h j := ⟨x 0, x 1, x 2, x 3, funext fun a => by fin_cases a <;> rfl⟩
  obtain rfl : z = 0 := Subsingleton.elim _ _
  rw [pairBlock_at, placed_rowIx, placed_rowIx]
  have hP : P < 64 := by have := ib2 0; simpa using this
  have e0 : ((Rect.unit (s := S64x128x2x128) ![P, 0, 0, 0] S1x128x2x128.size ib3).emb (ix4 0 i h j)) = ix4 ⟨P, hP⟩ i h j := by
    funext a; fin_cases a <;> exact Fin.ext (by simp [Rect.emb, Rect.unit, ix4])
  have ew : ∀ i j : Fin 128, View.readAt (Elt Ideal) arg1.view (Rect.unit (s := S64x128x128) ![P, 0, 0] S1x128x128.size ib2).toLoadRect (harg1.unread x0) (ix3 0 i j) = x0 (ix3 ⟨P, hP⟩ i j) := fun i j => by
    rw [harg1.readAt_unread]
    refine congrArg x0 (funext fun a => ?_)
    fin_cases a <;> exact Fin.ext (by simp [Rect.toLoadRect, LoadRect.idx, Rect.unit, ix3])
  have eR : ∀ {e : EltTy} (a : Memref sig .tc .vmem S128x128 e) (ha : a.IsWhole) (X : Vec Ideal S128x128 e) (q : ℕ) (hq : q < 128) (ib : ∀ a, (![q, 0] : Fin 2 → ℕ) a + S1x128.size a ≤ S128x128.size a) (k : Fin 128),
      View.readAt (Elt Ideal) a.view (Rect.unit (s := S128x128) ![q, 0] S1x128.size ib).toLoadRect (ha.unread X) (ix2 0 k) = X (ix2 ⟨q, hq⟩ k) := fun a ha X q hq ib k => by
    rw [ha.readAt_unread]
    refine congrArg X (funext fun a => ?_)
    fin_cases a <;> exact Fin.ext (by simp [Rect.toLoadRect, LoadRect.idx, Rect.unit, ix2])
  rw [e0]
  have h0 : 2 * P < 128 := by omega
  have h1 : 2 * P + 1 < 128 := by omega
  simp only [ew, eR _ harg2 x1 _ h0, eR _ harg3 x2 _ h0, eR _ harg4 x3 _ h0, eR _ harg2 x1 _ h1, eR _ harg3 x2 _ h1, eR _ harg4 x3 _ h1]
  fin_cases h
  · rfl
  · rfl

/-- The trips' pieces all agree with `blockG`. -/
theorem pb_at (𝒱 : Variants) (c : Dev nD) (bd : Option 𝒱.V) (i : grid0.Coords) (arg1 : Memref sig .tc .vmem S64x128x128 .i32) (harg1 : arg1.IsWhole) (arg2 : Memref sig .tc .vmem S128x128 .i32) (harg2 : arg2.IsWhole) (arg3 : Memref sig .tc .vmem S128x128 .i32) (harg3 : arg3.IsWhole) (arg4 : Memref sig .tc .vmem S128x128 .f32) (harg4 : arg4.IsWhole) (arg5 : Memref sig .tc .vmem S64x128x2x128 .bf16) (harg5 : arg5.IsWhole)
    (x0 : Vec Ideal S64x128x128 .i32) (x1 x2 : Vec Ideal S128x128 .i32) (x3 : Vec Ideal S128x128 .f32) :
    ∀ n : ℕ, n ≤ k0_t1_loop.trips → ∀ p ∈ pb_k0_t1 (F := Ideal) 𝒱 c bd i arg1 harg1 arg2 harg2 arg3 harg3 arg4 harg4 arg5 harg5 rowIx (harg1.unread x0) (harg2.unread x1) (harg3.unread x2) (harg4.unread x3) n,
      ∀ x : p.1.shape.Idx, p.2 x = blockG x0 x1 x2 x3 (p.1.emb x)
  | 0, _, p, hp => absurd hp List.not_mem_nil
  | n + 1, hn, p, hp => by
    rw [pb_k0_t1_succ 𝒱 c bd i arg1 harg1 arg2 harg2 arg3 harg3 arg4 harg4 arg5 harg5 rowIx _ _ _ _ ⟨n, hn⟩, trip_pieces] at hp
    rcases List.mem_append.1 hp with hp | hp
    · simp only [List.mem_cons, List.not_mem_nil, or_false] at hp
      rcases hp with rfl | rfl | rfl | rfl | rfl | rfl | rfl | rfl <;> intro x
      · exact piece_at arg1 harg1 arg2 harg2 arg3 harg3 arg4 harg4 x0 x1 x2 x3 (8 * n + 7) _ _ (off1_eq ⟨n, hn⟩ 7 0) (off1_eq ⟨n, hn⟩ 7 1) (k0_off1_inb ⟨n, hn⟩ 7 0) (k0_off1_inb ⟨n, hn⟩ 7 1) _ (off2_eq ⟨n, hn⟩ 7) (k0_off2_inb ⟨n, hn⟩ 7) _ (off3_eq ⟨n, hn⟩ 7) (k0_off3_inb ⟨n, hn⟩ 7) x
      · exact piece_at arg1 harg1 arg2 harg2 arg3 harg3 arg4 harg4 x0 x1 x2 x3 (8 * n + 6) _ _ (off1_eq ⟨n, hn⟩ 6 0) (off1_eq ⟨n, hn⟩ 6 1) (k0_off1_inb ⟨n, hn⟩ 6 0) (k0_off1_inb ⟨n, hn⟩ 6 1) _ (off2_eq ⟨n, hn⟩ 6) (k0_off2_inb ⟨n, hn⟩ 6) _ (off3_eq ⟨n, hn⟩ 6) (k0_off3_inb ⟨n, hn⟩ 6) x
      · exact piece_at arg1 harg1 arg2 harg2 arg3 harg3 arg4 harg4 x0 x1 x2 x3 (8 * n + 5) _ _ (off1_eq ⟨n, hn⟩ 5 0) (off1_eq ⟨n, hn⟩ 5 1) (k0_off1_inb ⟨n, hn⟩ 5 0) (k0_off1_inb ⟨n, hn⟩ 5 1) _ (off2_eq ⟨n, hn⟩ 5) (k0_off2_inb ⟨n, hn⟩ 5) _ (off3_eq ⟨n, hn⟩ 5) (k0_off3_inb ⟨n, hn⟩ 5) x
      · exact piece_at arg1 harg1 arg2 harg2 arg3 harg3 arg4 harg4 x0 x1 x2 x3 (8 * n + 4) _ _ (off1_eq ⟨n, hn⟩ 4 0) (off1_eq ⟨n, hn⟩ 4 1) (k0_off1_inb ⟨n, hn⟩ 4 0) (k0_off1_inb ⟨n, hn⟩ 4 1) _ (off2_eq ⟨n, hn⟩ 4) (k0_off2_inb ⟨n, hn⟩ 4) _ (off3_eq ⟨n, hn⟩ 4) (k0_off3_inb ⟨n, hn⟩ 4) x
      · exact piece_at arg1 harg1 arg2 harg2 arg3 harg3 arg4 harg4 x0 x1 x2 x3 (8 * n + 3) _ _ (off1_eq ⟨n, hn⟩ 3 0) (off1_eq ⟨n, hn⟩ 3 1) (k0_off1_inb ⟨n, hn⟩ 3 0) (k0_off1_inb ⟨n, hn⟩ 3 1) _ (off2_eq ⟨n, hn⟩ 3) (k0_off2_inb ⟨n, hn⟩ 3) _ (off3_eq ⟨n, hn⟩ 3) (k0_off3_inb ⟨n, hn⟩ 3) x
      · exact piece_at arg1 harg1 arg2 harg2 arg3 harg3 arg4 harg4 x0 x1 x2 x3 (8 * n + 2) _ _ (off1_eq ⟨n, hn⟩ 2 0) (off1_eq ⟨n, hn⟩ 2 1) (k0_off1_inb ⟨n, hn⟩ 2 0) (k0_off1_inb ⟨n, hn⟩ 2 1) _ (off2_eq ⟨n, hn⟩ 2) (k0_off2_inb ⟨n, hn⟩ 2) _ (off3_eq ⟨n, hn⟩ 2) (k0_off3_inb ⟨n, hn⟩ 2) x
      · exact piece_at arg1 harg1 arg2 harg2 arg3 harg3 arg4 harg4 x0 x1 x2 x3 (8 * n + 1) _ _ (off1_eq ⟨n, hn⟩ 1 0) (off1_eq ⟨n, hn⟩ 1 1) (k0_off1_inb ⟨n, hn⟩ 1 0) (k0_off1_inb ⟨n, hn⟩ 1 1) _ (off2_eq ⟨n, hn⟩ 1) (k0_off2_inb ⟨n, hn⟩ 1) _ (off3_eq ⟨n, hn⟩ 1) (k0_off3_inb ⟨n, hn⟩ 1) x
      · exact piece_at arg1 harg1 arg2 harg2 arg3 harg3 arg4 harg4 x0 x1 x2 x3 (8 * n + 0) _ _ (off1_eq ⟨n, hn⟩ 0 0) (off1_eq ⟨n, hn⟩ 0 1) (k0_off1_inb ⟨n, hn⟩ 0 0) (k0_off1_inb ⟨n, hn⟩ 0 1) _ (off2_eq ⟨n, hn⟩ 0) (k0_off2_inb ⟨n, hn⟩ 0) _ (off3_eq ⟨n, hn⟩ 0) (k0_off3_inb ⟨n, hn⟩ 0) x
    · exact pb_at 𝒱 c bd i arg1 harg1 arg2 harg2 arg3 harg3 arg4 harg4 arg5 harg5 x0 x1 x2 x3 n (Nat.le_of_succ_le hn) p hp

/-- The block a point writes. -/
theorem out0_at (c : Dev nD) (i : grid0.Coords) (arg1 : Memref sig .tc .vmem S64x128x128 .i32) (harg1 : arg1.IsWhole) (arg2 : Memref sig .tc .vmem S128x128 .i32) (harg2 : arg2.IsWhole) (arg3 : Memref sig .tc .vmem S128x128 .i32) (harg3 : arg3.IsWhole) (arg4 : Memref sig .tc .vmem S128x128 .f32) (harg4 : arg4.IsWhole) (arg5 : Memref sig .tc .vmem S64x128x2x128 .bf16) (harg5 : arg5.IsWhole)
    (x0 : Vec Ideal S64x128x128 .i32) (x1 x2 : Vec Ideal S128x128 .i32) (x3 : Vec Ideal S128x128 .f32) (y : S64x128x2x128.Idx) :
    out0_A_4 (F := Ideal) c i arg1 harg1 arg2 harg2 arg3 harg3 arg4 harg4 arg5 harg5 x0 x1 x2 x3 y = blockG x0 x1 x2 x3 y := by
  unfold out0_A_4
  refine View.read_writes_apply_of_pieces _ _ (blockG x0 x1 x2 x3) _ (fun p hp => ?_) y (cover0_A_4 c i arg1 harg1 arg2 harg2 arg3 harg3 arg4 harg4 arg5 harg5 x0 x1 x2 x3 y)
  refine pb_at Variants.none c none i arg1 harg1 arg2 harg2 arg3 harg3 arg4 harg4 arg5 harg5 x0 x1 x2 x3 k0_t1_loop.trips le_rfl p ?_
  unfold kernelRun0_A at hp
  dsimp only at hp
  exact hp

/-- What the first call leaves: at pair row `P`, expert `(i, j)`, token `h` of the pair. -/
def selG (s : Vec Ideal S8704x128x128 .i32) (ia ib : Vec Ideal S17408x128 .i32) (g : Vec Ideal S17408x128 .f32) (y : S8704x128x2x128.Idx) : EReal :=
  spread (fun i j => s (ix3 (y 0) i j)) (y 2).val (fun k => ia (ix2 ⟨2 * (y 0).val + (y 2).val, by have h0 : (y 0).val < 8704 := (y 0).isLt; have h2 : (y 2).val < 2 := (y 2).isLt; show _ < 17408; omega⟩ k))
    (fun k => ib (ix2 ⟨2 * (y 0).val + (y 2).val, by have h0 : (y 0).val < 8704 := (y 0).isLt; have h2 : (y 2).val < 2 := (y 2).isLt; show _ < 17408; omega⟩ k))
    (fun k => g (ix2 ⟨2 * (y 0).val + (y 2).val, by have h0 : (y 0).val < 8704 := (y 0).isLt; have h2 : (y 2).val < 2 := (y 2).isLt; show _ < 17408; omega⟩ k)) (y 1) (y 3)

theorem idx0 : ∀ t : Fin cfg0.N, win0_0.index t = ![t.val, 0, 0] ∧ win0_1.index t = ![t.val, 0] ∧ win0_2.index t = ![t.val, 0] ∧ win0_3.index t = ![t.val, 0] ∧ win0_4.index t = ![t.val, 0, 0, 0] :=
  (by decide +kernel : ∀ t : Fin grid0.N, _)

section Array
variable (V : (c : Dev nD) → (b : Ref sig .tc) → Buf (Elt Ideal) ((c : Thread nD τ).loc b))

theorem s_at (c : Dev nD) (t : Fin cfg0.N) (p : Fin 64) (i j : Fin 128) (P : Fin 8704) (hP : P.val = t.val * 64 + p.val) :
    (show Vec Ideal S64x128x128 .i32 from iblk0 V c 0 t) (ix3 p i j) = (show Vec Ideal S8704x128x128 .i32 from V c main_arg0) (ix3 P i j) := by
  blk_ext [iblk0, idx0 t]
theorem ia_at (c : Dev nD) (t : Fin cfg0.N) (r k : Fin 128) (R : Fin 17408) (hR : R.val = t.val * 128 + r.val) :
    (show Vec Ideal S128x128 .i32 from iblk0 V c 1 t) (ix2 r k) = (show Vec Ideal S17408x128 .i32 from V c main_arg1) (ix2 R k) := by
  blk_ext [iblk0, idx0 t]
theorem ib_at (c : Dev nD) (t : Fin cfg0.N) (r k : Fin 128) (R : Fin 17408) (hR : R.val = t.val * 128 + r.val) :
    (show Vec Ideal S128x128 .i32 from iblk0 V c 2 t) (ix2 r k) = (show Vec Ideal S17408x128 .i32 from V c main_arg2) (ix2 R k) := by
  blk_ext [iblk0, idx0 t]
theorem gate_at (c : Dev nD) (t : Fin cfg0.N) (r k : Fin 128) (R : Fin 17408) (hR : R.val = t.val * 128 + r.val) :
    (show Vec Ideal S128x128 .f32 from iblk0 V c 3 t) (ix2 r k) = (show Vec Ideal S17408x128 .f32 from V c main_arg3) (ix2 R k) := by
  blk_ext [iblk0, idx0 t]

theorem select_final (c : Dev nD) : (dat0 (F := Ideal) V c).arrAt 4 cfg0.N = selG (V c main_arg0) (V c main_arg1) (V c main_arg2) (V c main_arg3) := by
  refine (dat0 (F := Ideal) V c).arrAt_eq_of_covers 4 _ (by decide +kernel) fun t hf y => ?_
  blk_simp
  rw [after0_4]
  unfold outsAt0
  rw [out0_at]
  have hN : t.val < 136 := lt_of_lt_of_eq t.isLt N_0
  have h0 : (y 0).val < 64 := (y 0).isLt
  have h2 : (y 2).val < 2 := (y 2).isLt
  have h1 : (y 1).val < 128 := (y 1).isLt
  have h3 : (y 3).val < 128 := (y 3).isLt
  have e : (win0_4.blk t).view.emb y = ix4 (⟨t.val * 64 + (y 0).val, by omega⟩ : Fin 8704) (⟨(y 1).val, h1⟩ : Fin 128) (⟨(y 2).val, h2⟩ : Fin 2) (⟨(y 3).val, h3⟩ : Fin 128) := by
    blk_ext [idx0 t]
  rw [e]
  unfold blockG selG
  have hs : ∀ i j : Fin 128, (show Vec Ideal S64x128x128 .i32 from iblk0 V c 0 t) (ix3 (⟨(y 0).val, h0⟩ : Fin 64) i j) = (show Vec Ideal S8704x128x128 .i32 from V c main_arg0) (ix3 (⟨t.val * 64 + (y 0).val, by omega⟩ : Fin 8704) i j) :=
    fun i j => s_at V c t _ i j _ rfl
  have hr : t.val * 64 + (y 0).val < 8704 := by omega
  refine spread_congr (funext fun i => funext fun j => hs i j) (funext fun k => ?_) (funext fun k => ?_) (funext fun k => ?_)
  · exact ia_at V c t _ k _ (by show 2 * (t.val * 64 + (y 0).val) + (y 2).val = t.val * 128 + (2 * (y 0).val + (y 2).val); omega)
  · exact ib_at V c t _ k _ (by show 2 * (t.val * 64 + (y 0).val) + (y 2).val = t.val * 128 + (2 * (y 0).val + (y 2).val); omega)
  · exact gate_at V c t _ k _ (by show 2 * (t.val * 64 + (y 0).val) + (y 2).val = t.val * 128 + (2 * (y 0).val + (y 2).val); omega)

end Array

end Cert.KernelIdeal.Chain
-- ==== Proof.DownPieces.lean ====
/- What the points of the second call store, as chunks of 256 tokens. -/
module

public import proofs.«01_k».proof.Proof.KernelIdealDown
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.WholeRead
public import Idealize.ShloMosaic.Lib.Writes

@[expose] public section

set_option maxRecDepth 16384

noncomputable section

namespace Cert.KernelIdeal.Chain

open Idealize.ShloMosaic Idealize.ShloMosaic.TcCoe Idealize.ShloMosaic.Tactic
open Idealize.ShloMosaic.Pipeline (Dat)
open Cert.KernelIdeal.Gen

section Uniform
variable {F : FTy → Type} [FloatOps F]

/-- One row of expert keys of a chunk of pair rows, token by token. -/
def tokens (a : Vec F S128x1x2x128 .bf16) : FVec F S256x128 .bf16 :=
  interleaveRows S256x128 (shapeCast S128x128 (shapeCast S128x1x128 (rowsOfParity 0 S128x1x1x128 a bitcasts_S128x1x2x128_w16_S128x1x1x128_w32) shapeCasts_S128x1x1x128_S128x1x128) shapeCasts_S128x1x128_S128x128)
    (shapeCast S128x128 (shapeCast S128x1x128 (rowsOfParity 1 S128x1x1x128 a bitcasts_S128x1x2x128_w16_S128x1x1x128_w32) shapeCasts_S128x1x1x128_S128x1x128) shapeCasts_S128x1x128_S128x128) bitcasts_S256x128_w16_S128x128_w32

/-- A chunk's activations, token by token. -/
def lhs (a0 a1 a2 a3 a4 a5 a6 a7 : Vec F S128x1x2x128 .bf16) : FVec F S256x1024 .bf16 :=
  concatenate S256x1024 1 [⟨S256x128, tokens a0⟩, ⟨S256x128, tokens a1⟩, ⟨S256x128, tokens a2⟩, ⟨S256x128, tokens a3⟩, ⟨S256x128, tokens a4⟩, ⟨S256x128, tokens a5⟩, ⟨S256x128, tokens a6⟩, ⟨S256x128, tokens a7⟩] concatenates_S256x128_S256x128_S256x128_S256x128_S256x128_S256x128_S256x128_S256x128_S256x1024_d1

/-- A chunk's rows of the accumulator after a point. -/
def chunk (a0 a1 a2 a3 a4 a5 a6 a7 : Vec F S128x1x2x128 .bf16) (acc : Vec F S256x1024 .f32) (w : Vec F S1024x1024 .bf16) : FVec F S256x1024 .f32 :=
  shapeCast S256x1024 (addf acc (matmul dot_S256x1024_S1024x1024_S256x1024_1_0_0_1_n_n none (lhs a0 a1 a2 a3 a4 a5 a6 a7) (shapeCast S1024x1024 w shapeCasts_S1024x1024_S1024x1024) (constant S256x1024 .f32 0x00000000#32))) shapeCasts_S256x1024_S256x1024

variable (V : (c : Dev nD) → (b : Ref sig .tc) → Buf (Elt F) ((c : Thread nD τ).loc b))

/-- The rows 0 to 255 of the accumulator after a point, from what they held. -/
abbrev piece0 (c : Dev nD) (t : Fin cfg1.N) (acc : Vec F S256x1024 .f32) : View.Piece (Elt F) S1024x1024 .f32 :=
  ⟨Rect.unit (s := S1024x1024) ![0, 0] S256x1024.size inb_S1024x1024_S256x1024_0_0, chunk (View.readAt (Elt F) (ms1_0 t).view (Rect.unit (s := S512x8x2x128) ![0, 0, 0, 0] S128x1x2x128.size inb_S512x8x2x128_S128x1x2x128_0_0_0_0).toLoadRect ((hs1_0 t).unread (iblk1 V c 0 t)))
        (View.readAt (Elt F) (ms1_0 t).view (Rect.unit (s := S512x8x2x128) ![0, 1, 0, 0] S128x1x2x128.size inb_S512x8x2x128_S128x1x2x128_0_1_0_0).toLoadRect ((hs1_0 t).unread (iblk1 V c 0 t)))
        (View.readAt (Elt F) (ms1_0 t).view (Rect.unit (s := S512x8x2x128) ![0, 2, 0, 0] S128x1x2x128.size inb_S512x8x2x128_S128x1x2x128_0_2_0_0).toLoadRect ((hs1_0 t).unread (iblk1 V c 0 t)))
        (View.readAt (Elt F) (ms1_0 t).view (Rect.unit (s := S512x8x2x128) ![0, 3, 0, 0] S128x1x2x128.size inb_S512x8x2x128_S128x1x2x128_0_3_0_0).toLoadRect ((hs1_0 t).unread (iblk1 V c 0 t)))
        (View.readAt (Elt F) (ms1_0 t).view (Rect.unit (s := S512x8x2x128) ![0, 4, 0, 0] S128x1x2x128.size inb_S512x8x2x128_S128x1x2x128_0_4_0_0).toLoadRect ((hs1_0 t).unread (iblk1 V c 0 t)))
        (View.readAt (Elt F) (ms1_0 t).view (Rect.unit (s := S512x8x2x128) ![0, 5, 0, 0] S128x1x2x128.size inb_S512x8x2x128_S128x1x2x128_0_5_0_0).toLoadRect ((hs1_0 t).unread (iblk1 V c 0 t)))
        (View.readAt (Elt F) (ms1_0 t).view (Rect.unit (s := S512x8x2x128) ![0, 6, 0, 0] S128x1x2x128.size inb_S512x8x2x128_S128x1x2x128_0_6_0_0).toLoadRect ((hs1_0 t).unread (iblk1 V c 0 t)))
        (View.readAt (Elt F) (ms1_0 t).view (Rect.unit (s := S512x8x2x128) ![0, 7, 0, 0] S128x1x2x128.size inb_S512x8x2x128_S128x1x2x128_0_7_0_0).toLoadRect ((hs1_0 t).unread (iblk1 V c 0 t)))
        acc (View.readAt (Elt F) (ms1_1 t).view (Rect.unit (s := S1024x1024) ![0, 0] S1024x1024.size inb_S1024x1024_S1024x1024_0_0).toLoadRect ((hs1_1 t).unread (iblk1 V c 1 t)))⟩

/-- The rows 256 to 511 of the accumulator after a point, from what they held. -/
abbrev piece1 (c : Dev nD) (t : Fin cfg1.N) (acc : Vec F S256x1024 .f32) : View.Piece (Elt F) S1024x1024 .f32 :=
  ⟨Rect.unit (s := S1024x1024) ![256, 0] S256x1024.size inb_S1024x1024_S256x1024_256_0, chunk (View.readAt (Elt F) (ms1_0 t).view (Rect.unit (s := S512x8x2x128) ![128, 0, 0, 0] S128x1x2x128.size inb_S512x8x2x128_S128x1x2x128_128_0_0_0).toLoadRect ((hs1_0 t).unread (iblk1 V c 0 t)))
        (View.readAt (Elt F) (ms1_0 t).view (Rect.unit (s := S512x8x2x128) ![128, 1, 0, 0] S128x1x2x128.size inb_S512x8x2x128_S128x1x2x128_128_1_0_0).toLoadRect ((hs1_0 t).unread (iblk1 V c 0 t)))
        (View.readAt (Elt F) (ms1_0 t).view (Rect.unit (s := S512x8x2x128) ![128, 2, 0, 0] S128x1x2x128.size inb_S512x8x2x128_S128x1x2x128_128_2_0_0).toLoadRect ((hs1_0 t).unread (iblk1 V c 0 t)))
        (View.readAt (Elt F) (ms1_0 t).view (Rect.unit (s := S512x8x2x128) ![128, 3, 0, 0] S128x1x2x128.size inb_S512x8x2x128_S128x1x2x128_128_3_0_0).toLoadRect ((hs1_0 t).unread (iblk1 V c 0 t)))
        (View.readAt (Elt F) (ms1_0 t).view (Rect.unit (s := S512x8x2x128) ![128, 4, 0, 0] S128x1x2x128.size inb_S512x8x2x128_S128x1x2x128_128_4_0_0).toLoadRect ((hs1_0 t).unread (iblk1 V c 0 t)))
        (View.readAt (Elt F) (ms1_0 t).view (Rect.unit (s := S512x8x2x128) ![128, 5, 0, 0] S128x1x2x128.size inb_S512x8x2x128_S128x1x2x128_128_5_0_0).toLoadRect ((hs1_0 t).unread (iblk1 V c 0 t)))
        (View.readAt (Elt F) (ms1_0 t).view (Rect.unit (s := S512x8x2x128) ![128, 6, 0, 0] S128x1x2x128.size inb_S512x8x2x128_S128x1x2x128_128_6_0_0).toLoadRect ((hs1_0 t).unread (iblk1 V c 0 t)))
        (View.readAt (Elt F) (ms1_0 t).view (Rect.unit (s := S512x8x2x128) ![128, 7, 0, 0] S128x1x2x128.size inb_S512x8x2x128_S128x1x2x128_128_7_0_0).toLoadRect ((hs1_0 t).unread (iblk1 V c 0 t)))
        acc (View.readAt (Elt F) (ms1_1 t).view (Rect.unit (s := S1024x1024) ![0, 0] S1024x1024.size inb_S1024x1024_S1024x1024_0_0).toLoadRect ((hs1_1 t).unread (iblk1 V c 1 t)))⟩

/-- The rows 512 to 767 of the accumulator after a point, from what they held. -/
abbrev piece2 (c : Dev nD) (t : Fin cfg1.N) (acc : Vec F S256x1024 .f32) : View.Piece (Elt F) S1024x1024 .f32 :=
  ⟨Rect.unit (s := S1024x1024) ![512, 0] S256x1024.size inb_S1024x1024_S256x1024_512_0, chunk (View.readAt (Elt F) (ms1_0 t).view (Rect.unit (s := S512x8x2x128) ![256, 0, 0, 0] S128x1x2x128.size inb_S512x8x2x128_S128x1x2x128_256_0_0_0).toLoadRect ((hs1_0 t).unread (iblk1 V c 0 t)))
        (View.readAt (Elt F) (ms1_0 t).view (Rect.unit (s := S512x8x2x128) ![256, 1, 0, 0] S128x1x2x128.size inb_S512x8x2x128_S128x1x2x128_256_1_0_0).toLoadRect ((hs1_0 t).unread (iblk1 V c 0 t)))
        (View.readAt (Elt F) (ms1_0 t).view (Rect.unit (s := S512x8x2x128) ![256, 2, 0, 0] S128x1x2x128.size inb_S512x8x2x128_S128x1x2x128_256_2_0_0).toLoadRect ((hs1_0 t).unread (iblk1 V c 0 t)))
        (View.readAt (Elt F) (ms1_0 t).view (Rect.unit (s := S512x8x2x128) ![256, 3, 0, 0] S128x1x2x128.size inb_S512x8x2x128_S128x1x2x128_256_3_0_0).toLoadRect ((hs1_0 t).unread (iblk1 V c 0 t)))
        (View.readAt (Elt F) (ms1_0 t).view (Rect.unit (s := S512x8x2x128) ![256, 4, 0, 0] S128x1x2x128.size inb_S512x8x2x128_S128x1x2x128_256_4_0_0).toLoadRect ((hs1_0 t).unread (iblk1 V c 0 t)))
        (View.readAt (Elt F) (ms1_0 t).view (Rect.unit (s := S512x8x2x128) ![256, 5, 0, 0] S128x1x2x128.size inb_S512x8x2x128_S128x1x2x128_256_5_0_0).toLoadRect ((hs1_0 t).unread (iblk1 V c 0 t)))
        (View.readAt (Elt F) (ms1_0 t).view (Rect.unit (s := S512x8x2x128) ![256, 6, 0, 0] S128x1x2x128.size inb_S512x8x2x128_S128x1x2x128_256_6_0_0).toLoadRect ((hs1_0 t).unread (iblk1 V c 0 t)))
        (View.readAt (Elt F) (ms1_0 t).view (Rect.unit (s := S512x8x2x128) ![256, 7, 0, 0] S128x1x2x128.size inb_S512x8x2x128_S128x1x2x128_256_7_0_0).toLoadRect ((hs1_0 t).unread (iblk1 V c 0 t)))
        acc (View.readAt (Elt F) (ms1_1 t).view (Rect.unit (s := S1024x1024) ![0, 0] S1024x1024.size inb_S1024x1024_S1024x1024_0_0).toLoadRect ((hs1_1 t).unread (iblk1 V c 1 t)))⟩

/-- The rows 768 to 1023 of the accumulator after a point, from what they held. -/
abbrev piece3 (c : Dev nD) (t : Fin cfg1.N) (acc : Vec F S256x1024 .f32) : View.Piece (Elt F) S1024x1024 .f32 :=
  ⟨Rect.unit (s := S1024x1024) ![768, 0] S256x1024.size inb_S1024x1024_S256x1024_768_0, chunk (View.readAt (Elt F) (ms1_0 t).view (Rect.unit (s := S512x8x2x128) ![384, 0, 0, 0] S128x1x2x128.size inb_S512x8x2x128_S128x1x2x128_384_0_0_0).toLoadRect ((hs1_0 t).unread (iblk1 V c 0 t)))
        (View.readAt (Elt F) (ms1_0 t).view (Rect.unit (s := S512x8x2x128) ![384, 1, 0, 0] S128x1x2x128.size inb_S512x8x2x128_S128x1x2x128_384_1_0_0).toLoadRect ((hs1_0 t).unread (iblk1 V c 0 t)))
        (View.readAt (Elt F) (ms1_0 t).view (Rect.unit (s := S512x8x2x128) ![384, 2, 0, 0] S128x1x2x128.size inb_S512x8x2x128_S128x1x2x128_384_2_0_0).toLoadRect ((hs1_0 t).unread (iblk1 V c 0 t)))
        (View.readAt (Elt F) (ms1_0 t).view (Rect.unit (s := S512x8x2x128) ![384, 3, 0, 0] S128x1x2x128.size inb_S512x8x2x128_S128x1x2x128_384_3_0_0).toLoadRect ((hs1_0 t).unread (iblk1 V c 0 t)))
        (View.readAt (Elt F) (ms1_0 t).view (Rect.unit (s := S512x8x2x128) ![384, 4, 0, 0] S128x1x2x128.size inb_S512x8x2x128_S128x1x2x128_384_4_0_0).toLoadRect ((hs1_0 t).unread (iblk1 V c 0 t)))
        (View.readAt (Elt F) (ms1_0 t).view (Rect.unit (s := S512x8x2x128) ![384, 5, 0, 0] S128x1x2x128.size inb_S512x8x2x128_S128x1x2x128_384_5_0_0).toLoadRect ((hs1_0 t).unread (iblk1 V c 0 t)))
        (View.readAt (Elt F) (ms1_0 t).view (Rect.unit (s := S512x8x2x128) ![384, 6, 0, 0] S128x1x2x128.size inb_S512x8x2x128_S128x1x2x128_384_6_0_0).toLoadRect ((hs1_0 t).unread (iblk1 V c 0 t)))
        (View.readAt (Elt F) (ms1_0 t).view (Rect.unit (s := S512x8x2x128) ![384, 7, 0, 0] S128x1x2x128.size inb_S512x8x2x128_S128x1x2x128_384_7_0_0).toLoadRect ((hs1_0 t).unread (iblk1 V c 0 t)))
        acc (View.readAt (Elt F) (ms1_1 t).view (Rect.unit (s := S1024x1024) ![0, 0] S1024x1024.size inb_S1024x1024_S1024x1024_0_0).toLoadRect ((hs1_1 t).unread (iblk1 V c 1 t)))⟩

/-- The four chunks a point adds to the accumulator, from four readings of it. -/
abbrev chunks (c : Dev nD) (t : Fin cfg1.N) (acc0 acc1 acc2 acc3 : Vec F S256x1024 .f32) : List (View.Piece (Elt F) S1024x1024 .f32) :=
  [piece3 V c t acc3, piece2 V c t acc2, piece1 V c t acc1, piece0 V c t acc0]

/-- A chunk's rows of what the accumulator held. -/
abbrev held0 (xs : Vec F S1024x1024 .f32) : Vec F S256x1024 .f32 := (View.readAt (Elt F) scM.view (Rect.unit (s := S1024x1024) ![0, 0] S256x1024.size inb_S1024x1024_S256x1024_0_0).toLoadRect ((Memref.isWhole_whole _ : scM.IsWhole).unread xs))
abbrev held1 (xs : Vec F S1024x1024 .f32) : Vec F S256x1024 .f32 := (View.readAt (Elt F) scM.view (Rect.unit (s := S1024x1024) ![256, 0] S256x1024.size inb_S1024x1024_S256x1024_256_0).toLoadRect ((Memref.isWhole_whole _ : scM.IsWhole).unread xs))
abbrev held2 (xs : Vec F S1024x1024 .f32) : Vec F S256x1024 .f32 := (View.readAt (Elt F) scM.view (Rect.unit (s := S1024x1024) ![512, 0] S256x1024.size inb_S1024x1024_S256x1024_512_0).toLoadRect ((Memref.isWhole_whole _ : scM.IsWhole).unread xs))
abbrev held3 (xs : Vec F S1024x1024 .f32) : Vec F S256x1024 .f32 := (View.readAt (Elt F) scM.view (Rect.unit (s := S1024x1024) ![768, 0] S256x1024.size inb_S1024x1024_S256x1024_768_0).toLoadRect ((Memref.isWhole_whole _ : scM.IsWhole).unread xs))

set_option maxHeartbeats 4000000 in
theorem pieces_B (c : Dev nD) (t : Fin cfg1.N) (h0) (h1) (xs) : (atB V c t h0 h1 xs).1 = chunks V c t (held0 xs) (held1 xs) (held2 xs) (held3 xs) := by
  unfold atB runB
  rfl

set_option maxHeartbeats 4000000 in
theorem pieces_C (c : Dev nD) (t : Fin cfg1.N) (h0) (h1) (xs) : (atC V c t h0 h1 xs).2.1 = chunks V c t (held0 xs) (held1 xs) (held2 xs) (held3 xs) := by
  unfold atC runC
  rfl

/-- The accumulator's clearing. -/
abbrev clear : View.Piece (Elt F) S1024x1024 .f32 := ⟨Rect.unit ![0, 0] S1024x1024.size inb_S1024x1024_S1024x1024_0_0, k1_pay3⟩

/-- A cleared accumulator's rows. -/
abbrev zero0 : Vec F S256x1024 .f32 := View.ld (k1_pay3 (F := F)) (Rect.unit (s := S1024x1024) ![0, 0] S256x1024.size inb_S1024x1024_S256x1024_0_0)
abbrev zero1 : Vec F S256x1024 .f32 := View.ld (k1_pay3 (F := F)) (Rect.unit (s := S1024x1024) ![256, 0] S256x1024.size inb_S1024x1024_S256x1024_256_0)
abbrev zero2 : Vec F S256x1024 .f32 := View.ld (k1_pay3 (F := F)) (Rect.unit (s := S1024x1024) ![512, 0] S256x1024.size inb_S1024x1024_S256x1024_512_0)
abbrev zero3 : Vec F S256x1024 .f32 := View.ld (k1_pay3 (F := F)) (Rect.unit (s := S1024x1024) ![768, 0] S256x1024.size inb_S1024x1024_S256x1024_768_0)

/-- What is stored over the cleared accumulator, chunk by chunk. -/
abbrev stored1 (c : Dev nD) (t : Fin cfg1.N) : List (View.Piece (Elt F) S1024x1024 .f32) := piece0 V c t (scM.view.readCov [clear] (Rect.unit (s := S1024x1024) ![0, 0] S256x1024.size inb_S1024x1024_S256x1024_0_0).toLoadRect) :: [clear]
abbrev stored2 (c : Dev nD) (t : Fin cfg1.N) : List (View.Piece (Elt F) S1024x1024 .f32) := piece1 V c t (scM.view.readCov (stored1 V c t) (Rect.unit (s := S1024x1024) ![256, 0] S256x1024.size inb_S1024x1024_S256x1024_256_0).toLoadRect) :: stored1 V c t
abbrev stored3 (c : Dev nD) (t : Fin cfg1.N) : List (View.Piece (Elt F) S1024x1024 .f32) := piece2 V c t (scM.view.readCov (stored2 V c t) (Rect.unit (s := S1024x1024) ![512, 0] S256x1024.size inb_S1024x1024_S256x1024_512_0).toLoadRect) :: stored2 V c t
abbrev stored4 (c : Dev nD) (t : Fin cfg1.N) : List (View.Piece (Elt F) S1024x1024 .f32) := piece3 V c t (scM.view.readCov (stored3 V c t) (Rect.unit (s := S1024x1024) ![768, 0] S256x1024.size inb_S1024x1024_S256x1024_768_0).toLoadRect) :: stored3 V c t

set_option maxHeartbeats 4000000 in
theorem pieces_A_stored (c : Dev nD) (t : Fin cfg1.N) (h0) (h1) : (atA V c t h0 h1).1 = stored4 V c t := by
  unfold atA runA
  rfl

theorem cleared0 : scM.view.readCov [clear (F := F)] (Rect.unit (s := S1024x1024) ![0, 0] S256x1024.size inb_S1024x1024_S256x1024_0_0).toLoadRect = zero0 :=
  View.readCov_fill _ _ _ _ _ (fun a => by fin_cases a <;> rfl)
theorem cleared1 (c : Dev nD) (t : Fin cfg1.N) : scM.view.readCov (stored1 V c t) (Rect.unit (s := S1024x1024) ![256, 0] S256x1024.size inb_S1024x1024_S256x1024_256_0).toLoadRect = zero1 :=
  (View.readCov_skip _ _ _ _ _ (by decide)).trans (View.readCov_fill _ _ _ _ _ (fun a => by fin_cases a <;> rfl))
theorem cleared2 (c : Dev nD) (t : Fin cfg1.N) : scM.view.readCov (stored2 V c t) (Rect.unit (s := S1024x1024) ![512, 0] S256x1024.size inb_S1024x1024_S256x1024_512_0).toLoadRect = zero2 :=
  (View.readCov_skip _ _ _ _ _ (by decide)).trans ((View.readCov_skip _ _ _ _ _ (by decide)).trans (View.readCov_fill _ _ _ _ _ (fun a => by fin_cases a <;> rfl)))
theorem cleared3 (c : Dev nD) (t : Fin cfg1.N) : scM.view.readCov (stored3 V c t) (Rect.unit (s := S1024x1024) ![768, 0] S256x1024.size inb_S1024x1024_S256x1024_768_0).toLoadRect = zero3 :=
  (View.readCov_skip _ _ _ _ _ (by decide)).trans ((View.readCov_skip _ _ _ _ _ (by decide)).trans ((View.readCov_skip _ _ _ _ _ (by decide)).trans (View.readCov_fill _ _ _ _ _ (fun a => by fin_cases a <;> rfl))))

theorem pieces_A (c : Dev nD) (t : Fin cfg1.N) (h0) (h1) : (atA V c t h0 h1).1 = chunks V c t zero0 zero1 zero2 zero3 ++ [clear] := by
  rw [pieces_A_stored, show stored4 V c t = piece3 V c t (scM.view.readCov (stored3 V c t) (Rect.unit (s := S1024x1024) ![768, 0] S256x1024.size inb_S1024x1024_S256x1024_768_0).toLoadRect) :: piece2 V c t (scM.view.readCov (stored2 V c t) (Rect.unit (s := S1024x1024) ![512, 0] S256x1024.size inb_S1024x1024_S256x1024_512_0).toLoadRect) ::
    piece1 V c t (scM.view.readCov (stored1 V c t) (Rect.unit (s := S1024x1024) ![256, 0] S256x1024.size inb_S1024x1024_S256x1024_256_0).toLoadRect) :: piece0 V c t (scM.view.readCov [clear] (Rect.unit (s := S1024x1024) ![0, 0] S256x1024.size inb_S1024x1024_S256x1024_0_0).toLoadRect) :: [clear] from rfl, cleared0, cleared1, cleared2, cleared3]
  rfl

set_option maxHeartbeats 4000000 in
theorem pieces_out (c : Dev nD) (t : Fin cfg1.N) (h0) (h1) (xs) : (atC V c t h0 h1 xs).1 =
    [⟨Rect.unit ![0, 0] S1024x1024.size inb_S1024x1024_S1024x1024_0_0, k1_pay2
          (View.readAt (Elt F) (ms1_2 t).view (Rect.unit (s := S1024x1024) ![0, 0] S1024x1024.size inb_S1024x1024_S1024x1024_0_0).toLoadRect ((hs1_2 t).unread (iblk1 V c 2 t)))
          (scM.view.readCov (chunks V c t (held0 xs) (held1 xs) (held2 xs) (held3 xs)) (Rect.unit (s := S1024x1024) ![0, 0] S1024x1024.size inb_S1024x1024_S1024x1024_0_0).toLoadRect)
          (View.readAt (Elt F) (ms1_3 t).view (Rect.unit (s := S1x1024) ![0, 0] S1x1024.size inb_S1x1024_S1x1024_0_0).toLoadRect ((hs1_3 t).unread (iblk1 V c 3 t)))⟩] := by
  unfold atC runC
  rfl

end Uniform

end Cert.KernelIdeal.Chain
-- ==== Proof.DownValue.lean ====
/- What the second call leaves: the residual plus the activations times the experts' rows, root-mean-square normalised and
   scaled. -/
module

public import proofs.«01_k».proof.Proof.DownPieces
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.WholeRead
public import Idealize.ShloMosaic.Lib.Writes

@[expose] public section

set_option maxRecDepth 16384

noncomputable section

namespace Cert.KernelIdeal.Chain

open Idealize.ShloMosaic Idealize.ShloMosaic.TcCoe Idealize.ShloMosaic.Tactic
open Idealize.ShloMosaic.Pipeline (Dat)
open Cert.KernelIdeal.Gen

section AtIdeal

theorem tokens_at (a : Vec Ideal S128x1x2x128 .bf16) (r : Fin 256) (j : Fin 128) :
    tokens (F := Ideal) a (ix2 r j) = a (ix4 (⟨r.val / 2, by omega⟩ : Fin 128) 0 (⟨r.val % 2, by omega⟩ : Fin 2) j) := by
  pointwise [tokens]
  rcases Nat.mod_two_eq_zero_or_one r.val with h | h
  · rw [if_pos h]; congr 2; exact Fin.ext h.symm
  · rw [if_neg (by omega)]; congr 2; exact Fin.ext h.symm

/-- Eight loads that read `X` at chunk `q`, one after the other, read it token by token. -/
theorem lhs_at (X : Vec Ideal S512x8x2x128 .bf16) (q : Fin 4) (a0 a1 a2 a3 a4 a5 a6 a7 : Vec Ideal S128x1x2x128 .bf16)
    (h0 : ∀ (p : Fin 128) (h : Fin 2) (j : Fin 128), a0 (ix4 p 0 h j) = X (ix4 (⟨128 * q.val + p.val, by omega⟩ : Fin 512) (0 : Fin 8) h j))
    (h1 : ∀ (p : Fin 128) (h : Fin 2) (j : Fin 128), a1 (ix4 p 0 h j) = X (ix4 (⟨128 * q.val + p.val, by omega⟩ : Fin 512) (1 : Fin 8) h j))
    (h2 : ∀ (p : Fin 128) (h : Fin 2) (j : Fin 128), a2 (ix4 p 0 h j) = X (ix4 (⟨128 * q.val + p.val, by omega⟩ : Fin 512) (2 : Fin 8) h j))
    (h3 : ∀ (p : Fin 128) (h : Fin 2) (j : Fin 128), a3 (ix4 p 0 h j) = X (ix4 (⟨128 * q.val + p.val, by omega⟩ : Fin 512) (3 : Fin 8) h j))
    (h4 : ∀ (p : Fin 128) (h : Fin 2) (j : Fin 128), a4 (ix4 p 0 h j) = X (ix4 (⟨128 * q.val + p.val, by omega⟩ : Fin 512) (4 : Fin 8) h j))
    (h5 : ∀ (p : Fin 128) (h : Fin 2) (j : Fin 128), a5 (ix4 p 0 h j) = X (ix4 (⟨128 * q.val + p.val, by omega⟩ : Fin 512) (5 : Fin 8) h j))
    (h6 : ∀ (p : Fin 128) (h : Fin 2) (j : Fin 128), a6 (ix4 p 0 h j) = X (ix4 (⟨128 * q.val + p.val, by omega⟩ : Fin 512) (6 : Fin 8) h j))
    (h7 : ∀ (p : Fin 128) (h : Fin 2) (j : Fin 128), a7 (ix4 p 0 h j) = X (ix4 (⟨128 * q.val + p.val, by omega⟩ : Fin 512) (7 : Fin 8) h j))
    (r : Fin 256) (e : Fin 1024) :
    lhs (F := Ideal) a0 a1 a2 a3 a4 a5 a6 a7 (ix2 r e) = X (ix4 (⟨128 * q.val + r.val / 2, by omega⟩ : Fin 512) (⟨e.val / 128, by omega⟩ : Fin 8) (⟨r.val % 2, by omega⟩ : Fin 2) (⟨e.val % 128, by omega⟩ : Fin 128)) := by
  pointwise [lhs]
  simp only [tokens_at, h0, h1, h2, h3, h4, h5, h6, h7]
  have he := e.isLt
  split_ifs <;> (congr 2 <;> (apply Fin.ext; simp; omega))

theorem chunk_at (a0 a1 a2 a3 a4 a5 a6 a7 : Vec Ideal S128x1x2x128 .bf16) (acc : Vec Ideal S256x1024 .f32) (w : Vec Ideal S1024x1024 .bf16) (r : Fin 256) (d : Fin 1024) :
    chunk (F := Ideal) a0 a1 a2 a3 a4 a5 a6 a7 acc w (ix2 r d) = acc (ix2 r d) + ∑ e : Fin 1024, lhs (F := Ideal) a0 a1 a2 a3 a4 a5 a6 a7 (ix2 r e) * w (ix2 e d) := by
  pointwise [chunk]

variable (V : (c : Dev nD) → (b : Ref sig .tc) → Buf (Elt Ideal) ((c : Thread nD τ).loc b))

/-- A chunk's contribution at an entry: a token's activations of the point's experts times their rows. -/
def dotAt (X : Vec Ideal S512x8x2x128 .bf16) (w : Vec Ideal S1024x1024 .bf16) (R d : Fin 1024) : EReal :=
  ∑ e : Fin 1024, X (ix4 (⟨R.val / 2, by omega⟩ : Fin 512) (⟨e.val / 128, by omega⟩ : Fin 8) (⟨R.val % 2, by omega⟩ : Fin 2) (⟨e.val % 128, by omega⟩ : Fin 128)) * w (ix2 e d)

theorem whole1_at (c : Dev nD) (t : Fin cfg1.N) (e d : Fin 1024) :
    (View.readAt (Elt Ideal) (ms1_1 t).view (Rect.unit (s := S1024x1024) ![0, 0] S1024x1024.size inb_S1024x1024_S1024x1024_0_0).toLoadRect ((hs1_1 t).unread (iblk1 V c 1 t))) (ix2 e d) = iblk1 V c 1 t (ix2 e d) := by
  rw [Memref.IsWhole.readAt_unread]
  congr 1
  funext a
  fin_cases a <;> simp [Rect.toLoadRect, LoadRect.idx, Rect.unit, ix2] <;> rfl

theorem key_at (c : Dev nD) (t : Fin cfg1.N) (q : Fin 4) (k : Fin 8) (off : Fin 4 → ℕ) (ho : off = ![128 * q.val, k.val, 0, 0]) (inb : ∀ a, off a + S128x1x2x128.size a ≤ S512x8x2x128.size a) (p : Fin 128) (h : Fin 2) (j : Fin 128) :
    (View.readAt (Elt Ideal) (ms1_0 t).view (Rect.unit (s := S512x8x2x128) off S128x1x2x128.size inb).toLoadRect ((hs1_0 t).unread (iblk1 V c 0 t))) (ix4 p 0 h j) = iblk1 V c 0 t (ix4 (⟨128 * q.val + p.val, by omega⟩ : Fin 512) k h j) := by
  subst ho
  rw [Memref.IsWhole.readAt_unread]
  congr 1
  funext a
  fin_cases a <;> simp [Rect.toLoadRect, LoadRect.idx, Rect.unit, ix4] <;> rfl

theorem rows_emb (q : Fin 4) (off : Fin 2 → ℕ) (ho : off = ![256 * q.val, 0]) (inb : ∀ a, off a + S256x1024.size a ≤ S1024x1024.size a) (r : Fin 256) (d : Fin 1024) :
    (Rect.unit (s := S1024x1024) off S256x1024.size inb).emb (ix2 r d) = ix2 (⟨256 * q.val + r.val, by omega⟩ : Fin 1024) d := by
  subst ho
  funext a
  fin_cases a <;> (apply Fin.ext; simp [Rect.emb, Rect.unit, ix2])

theorem held_at (q : Fin 4) (off : Fin 2 → ℕ) (ho : off = ![256 * q.val, 0]) (inb : ∀ a, off a + S256x1024.size a ≤ S1024x1024.size a) (xs : Vec Ideal S1024x1024 .f32) (r : Fin 256) (d : Fin 1024) :
    (View.readAt (Elt Ideal) scM.view (Rect.unit (s := S1024x1024) off S256x1024.size inb).toLoadRect ((Memref.isWhole_whole _ : scM.IsWhole).unread xs)) (ix2 r d) = xs (ix2 (⟨256 * q.val + r.val, by omega⟩ : Fin 1024) d) := by
  subst ho
  rw [Memref.IsWhole.readAt_unread]
  congr 1
  funext a
  fin_cases a <;> simp [Rect.toLoadRect, LoadRect.idx, Rect.unit, ix2] <;> rfl

theorem rows_ix (x : S256x1024.Idx) : ∃ (r : Fin 256) (d : Fin 1024), x = ix2 r d := ⟨x 0, x 1, by funext a; fin_cases a <;> rfl⟩

theorem dotAt_rows (X : Vec Ideal S512x8x2x128 .bf16) (w : Vec Ideal S1024x1024 .bf16) (q : Fin 4) (r : Fin 256) (d : Fin 1024) :
    dotAt X w (⟨256 * q.val + r.val, by omega⟩ : Fin 1024) d =
      ∑ e : Fin 1024, X (ix4 (⟨128 * q.val + r.val / 2, by omega⟩ : Fin 512) (⟨e.val / 128, by omega⟩ : Fin 8) (⟨r.val % 2, by omega⟩ : Fin 2) (⟨e.val % 128, by omega⟩ : Fin 128)) * w (ix2 e d) := by
  have e1 : (256 * q.val + r.val) / 2 = 128 * q.val + r.val / 2 := by omega
  have e2 : (256 * q.val + r.val) % 2 = r.val % 2 := by omega
  simp only [dotAt, e1, e2]

/-- The accumulator after a point, from what it held. -/
def stepped (X : Vec Ideal S512x8x2x128 .bf16) (w : Vec Ideal S1024x1024 .bf16) (G : Vec Ideal S1024x1024 .f32) : Vec Ideal S1024x1024 .f32 :=
  fun y => G y + dotAt X w (y 0) (y 1)

theorem piece0_at (c : Dev nD) (t : Fin cfg1.N) (acc : Vec Ideal S256x1024 .f32) (G : Vec Ideal S1024x1024 .f32) (hG : ∀ (r : Fin 256) (d : Fin 1024), acc (ix2 r d) = G (ix2 (⟨256 * (0 : Fin 4).val + r.val, by omega⟩ : Fin 1024) d)) (x : S256x1024.Idx) :
    (piece0 V c t acc).2 x = stepped (iblk1 V c 0 t) (iblk1 V c 1 t) G ((piece0 V c t acc).1.emb x) := by
  obtain ⟨r, d, rfl⟩ := rows_ix x
  refine Eq.trans ?_ (congrArg (stepped (iblk1 V c 0 t) (iblk1 V c 1 t) G) (rows_emb 0 _ rfl inb_S1024x1024_S256x1024_0_0 r d)).symm
  refine (chunk_at _ _ _ _ _ _ _ _ _ _ r d).trans ?_
  rw [hG]
  refine congrArg _ (Eq.trans ?_ (dotAt_rows (iblk1 V c 0 t) (iblk1 V c 1 t) 0 r d).symm)
  refine Finset.sum_congr rfl fun e _ => ?_
  rw [whole1_at]
  refine congrArg (· * (iblk1 V c 1 t) (ix2 e d)) (lhs_at (iblk1 V c 0 t) 0 _ _ _ _ _ _ _ _ ?_ ?_ ?_ ?_ ?_ ?_ ?_ ?_ r e)
  · exact key_at V c t 0 0 _ rfl _
  · exact key_at V c t 0 1 _ rfl _
  · exact key_at V c t 0 2 _ rfl _
  · exact key_at V c t 0 3 _ rfl _
  · exact key_at V c t 0 4 _ rfl _
  · exact key_at V c t 0 5 _ rfl _
  · exact key_at V c t 0 6 _ rfl _
  · exact key_at V c t 0 7 _ rfl _

theorem piece1_at (c : Dev nD) (t : Fin cfg1.N) (acc : Vec Ideal S256x1024 .f32) (G : Vec Ideal S1024x1024 .f32) (hG : ∀ (r : Fin 256) (d : Fin 1024), acc (ix2 r d) = G (ix2 (⟨256 * (1 : Fin 4).val + r.val, by omega⟩ : Fin 1024) d)) (x : S256x1024.Idx) :
    (piece1 V c t acc).2 x = stepped (iblk1 V c 0 t) (iblk1 V c 1 t) G ((piece1 V c t acc).1.emb x) := by
  obtain ⟨r, d, rfl⟩ := rows_ix x
  refine Eq.trans ?_ (congrArg (stepped (iblk1 V c 0 t) (iblk1 V c 1 t) G) (rows_emb 1 _ rfl inb_S1024x1024_S256x1024_256_0 r d)).symm
  refine (chunk_at _ _ _ _ _ _ _ _ _ _ r d).trans ?_
  rw [hG]
  refine congrArg _ (Eq.trans ?_ (dotAt_rows (iblk1 V c 0 t) (iblk1 V c 1 t) 1 r d).symm)
  refine Finset.sum_congr rfl fun e _ => ?_
  rw [whole1_at]
  refine congrArg (· * (iblk1 V c 1 t) (ix2 e d)) (lhs_at (iblk1 V c 0 t) 1 _ _ _ _ _ _ _ _ ?_ ?_ ?_ ?_ ?_ ?_ ?_ ?_ r e)
  · exact key_at V c t 1 0 _ rfl _
  · exact key_at V c t 1 1 _ rfl _
  · exact key_at V c t 1 2 _ rfl _
  · exact key_at V c t 1 3 _ rfl _
  · exact key_at V c t 1 4 _ rfl _
  · exact key_at V c t 1 5 _ rfl _
  · exact key_at V c t 1 6 _ rfl _
  · exact key_at V c t 1 7 _ rfl _

theorem piece2_at (c : Dev nD) (t : Fin cfg1.N) (acc : Vec Ideal S256x1024 .f32) (G : Vec Ideal S1024x1024 .f32) (hG : ∀ (r : Fin 256) (d : Fin 1024), acc (ix2 r d) = G (ix2 (⟨256 * (2 : Fin 4).val + r.val, by omega⟩ : Fin 1024) d)) (x : S256x1024.Idx) :
    (piece2 V c t acc).2 x = stepped (iblk1 V c 0 t) (iblk1 V c 1 t) G ((piece2 V c t acc).1.emb x) := by
  obtain ⟨r, d, rfl⟩ := rows_ix x
  refine Eq.trans ?_ (congrArg (stepped (iblk1 V c 0 t) (iblk1 V c 1 t) G) (rows_emb 2 _ rfl inb_S1024x1024_S256x1024_512_0 r d)).symm
  refine (chunk_at _ _ _ _ _ _ _ _ _ _ r d).trans ?_
  rw [hG]
  refine congrArg _ (Eq.trans ?_ (dotAt_rows (iblk1 V c 0 t) (iblk1 V c 1 t) 2 r d).symm)
  refine Finset.sum_congr rfl fun e _ => ?_
  rw [whole1_at]
  refine congrArg (· * (iblk1 V c 1 t) (ix2 e d)) (lhs_at (iblk1 V c 0 t) 2 _ _ _ _ _ _ _ _ ?_ ?_ ?_ ?_ ?_ ?_ ?_ ?_ r e)
  · exact key_at V c t 2 0 _ rfl _
  · exact key_at V c t 2 1 _ rfl _
  · exact key_at V c t 2 2 _ rfl _
  · exact key_at V c t 2 3 _ rfl _
  · exact key_at V c t 2 4 _ rfl _
  · exact key_at V c t 2 5 _ rfl _
  · exact key_at V c t 2 6 _ rfl _
  · exact key_at V c t 2 7 _ rfl _

theorem piece3_at (c : Dev nD) (t : Fin cfg1.N) (acc : Vec Ideal S256x1024 .f32) (G : Vec Ideal S1024x1024 .f32) (hG : ∀ (r : Fin 256) (d : Fin 1024), acc (ix2 r d) = G (ix2 (⟨256 * (3 : Fin 4).val + r.val, by omega⟩ : Fin 1024) d)) (x : S256x1024.Idx) :
    (piece3 V c t acc).2 x = stepped (iblk1 V c 0 t) (iblk1 V c 1 t) G ((piece3 V c t acc).1.emb x) := by
  obtain ⟨r, d, rfl⟩ := rows_ix x
  refine Eq.trans ?_ (congrArg (stepped (iblk1 V c 0 t) (iblk1 V c 1 t) G) (rows_emb 3 _ rfl inb_S1024x1024_S256x1024_768_0 r d)).symm
  refine (chunk_at _ _ _ _ _ _ _ _ _ _ r d).trans ?_
  rw [hG]
  refine congrArg _ (Eq.trans ?_ (dotAt_rows (iblk1 V c 0 t) (iblk1 V c 1 t) 3 r d).symm)
  refine Finset.sum_congr rfl fun e _ => ?_
  rw [whole1_at]
  refine congrArg (· * (iblk1 V c 1 t) (ix2 e d)) (lhs_at (iblk1 V c 0 t) 3 _ _ _ _ _ _ _ _ ?_ ?_ ?_ ?_ ?_ ?_ ?_ ?_ r e)
  · exact key_at V c t 3 0 _ rfl _
  · exact key_at V c t 3 1 _ rfl _
  · exact key_at V c t 3 2 _ rfl _
  · exact key_at V c t 3 3 _ rfl _
  · exact key_at V c t 3 4 _ rfl _
  · exact key_at V c t 3 5 _ rfl _
  · exact key_at V c t 3 6 _ rfl _
  · exact key_at V c t 3 7 _ rfl _

theorem chunks_of (c : Dev nD) (t : Fin cfg1.N) (acc0 acc1 acc2 acc3 : Vec Ideal S256x1024 .f32) (G : Vec Ideal S1024x1024 .f32)
    (h0 : ∀ (r : Fin 256) (d : Fin 1024), acc0 (ix2 r d) = G (ix2 (⟨256 * (0 : Fin 4).val + r.val, by omega⟩ : Fin 1024) d))
    (h1 : ∀ (r : Fin 256) (d : Fin 1024), acc1 (ix2 r d) = G (ix2 (⟨256 * (1 : Fin 4).val + r.val, by omega⟩ : Fin 1024) d))
    (h2 : ∀ (r : Fin 256) (d : Fin 1024), acc2 (ix2 r d) = G (ix2 (⟨256 * (2 : Fin 4).val + r.val, by omega⟩ : Fin 1024) d))
    (h3 : ∀ (r : Fin 256) (d : Fin 1024), acc3 (ix2 r d) = G (ix2 (⟨256 * (3 : Fin 4).val + r.val, by omega⟩ : Fin 1024) d)) :
    View.PiecesOf (stepped (iblk1 V c 0 t) (iblk1 V c 1 t) G) (chunks V c t acc0 acc1 acc2 acc3) :=
  ⟨piece3_at V c t acc3 G h3, piece2_at V c t acc2 G h2, piece1_at V c t acc1 G h1, piece0_at V c t acc0 G h0, trivial⟩

theorem chunks_cover (c : Dev nD) (t : Fin cfg1.N) (acc0 acc1 acc2 acc3 : Vec Ideal S256x1024 .f32) (y : S1024x1024.Idx) : ∃ pc ∈ chunks V c t acc0 acc1 acc2 acc3, y ∈ pc.1.set :=
  View.cover_of_tiledL (chunks V c t acc0 acc1 acc2 acc3) S256x1024.size (by sl_kernel_rfl) y

theorem held_of (c : Dev nD) (t : Fin cfg1.N) (xs : Vec Ideal S1024x1024 .f32) :
    View.PiecesOf (stepped (iblk1 V c 0 t) (iblk1 V c 1 t) xs) (chunks V c t (held0 xs) (held1 xs) (held2 xs) (held3 xs)) :=
  chunks_of V c t _ _ _ _ xs (held_at 0 _ rfl _ xs) (held_at 1 _ rfl _ xs) (held_at 2 _ rfl _ xs) (held_at 3 _ rfl _ xs)

theorem backS_held (c : Dev nD) (t : Fin cfg1.N) (xs : Vec Ideal S1024x1024 .f32) :
    backS (chunks V c t (held0 xs) (held1 xs) (held2 xs) (held3 xs)) = stepped (iblk1 V c 0 t) (iblk1 V c 1 t) xs := by
  unfold backS
  rw [View.read_writes_junk_eq_canon]
  funext y
  exact View.canon_apply_of_pieces _ _ (held_of V c t xs).mem y (chunks_cover V c t _ _ _ _ y)

theorem backS_clear (c : Dev nD) (t : Fin cfg1.N) :
    backS (chunks V c t zero0 zero1 zero2 zero3 ++ [clear]) = stepped (iblk1 V c 0 t) (iblk1 V c 1 t) (fun _ => 0) := by
  unfold backS
  rw [View.read_writes_junk_eq_canon]
  funext y
  exact View.canon_append_of_piecesOf _ _ _ (chunks_of V c t _ _ _ _ (fun _ => 0) (by intro r d; exact Idealize.ShloMosaic.Ideal.ofBits_zero_f32) (by intro r d; exact Idealize.ShloMosaic.Ideal.ofBits_zero_f32) (by intro r d; exact Idealize.ShloMosaic.Ideal.ofBits_zero_f32) (by intro r d; exact Idealize.ShloMosaic.Ideal.ofBits_zero_f32)) y (chunks_cover V c t _ _ _ _ y)

theorem acc_first (c : Dev nD) (t : Fin cfg1.N) (h0 : t.val % 16 = 0) : accAt V c t.val t.isLt = stepped (iblk1 V c 0 t) (iblk1 V c 1 t) (fun _ => 0) := by
  rw [accAt_A V c t h0 (by omega), pieces_A, backS_clear]

theorem acc_next (c : Dev nD) (t : Fin cfg1.N) (h0 : ¬t.val % 16 = 0) : accAt V c t.val t.isLt = stepped (iblk1 V c 0 t) (iblk1 V c 1 t) (accBefore V c t) := by
  by_cases h1 : t.val % 16 = 15
  · rw [accAt_C V c t h0 h1, pieces_C, backS_held]
  · rw [accAt_B V c t h0 h1, pieces_B, backS_held]

/-- A row, root-mean-square normalised and scaled, at one place. -/
def normed (z : Fin 1024 → EReal) (g : EReal) (d : Fin 1024) : EReal :=
  z d * Ideal.rsqrt (Ideal.div (∑ x : Fin 1024, z x * z x) (Ideal.ofBits .f32 0x44800000#32) + Ideal.ofBits .f32 0x358637BD#32) * g

theorem pay2_at (x acc : Vec Ideal S1024x1024 .f32) (g : Vec Ideal S1x1024 .f32) (R d : Fin 1024) :
    k1_pay2 (F := Ideal) x acc g (ix2 R d) = normed (fun d => x (ix2 R d) + acc (ix2 R d)) (g (ix2 0 d)) d := by
  pointwise [k1_pay2, normed]

theorem out_last (c : Dev nD) (t : Fin cfg1.N) (h1 : t.val % 16 = 15) : outAt V c t = k1_pay2 (F := Ideal) (iblk1 V c 2 t) (accAt V c t.val t.isLt) (iblk1 V c 3 t) := by
  have h0 : ¬t.val % 16 = 0 := by omega
  rw [outAt_C V c t h0 h1, pieces_out]
  unfold back
  rw [View.read_writes_junk_eq_canon, View.canon_cons_unit_lit _ _ _ (fun a => by fin_cases a <;> rfl)]
  congr 1
  · funext y
    rw [Memref.IsWhole.readAt_unread]
    congr 1
    funext a
    fin_cases a <;> (apply Fin.ext; simp [Rect.toLoadRect, LoadRect.idx, Rect.unit])
  · rw [View.readCov_eq_canon', acc_next V c t h0]
    funext y
    refine (congrArg _ ?_).trans (View.canon_apply_of_pieces _ _ (held_of V c t (accBefore V c t)).mem y (chunks_cover V c t _ _ _ _ y))
    funext a
    fin_cases a <;> (apply Fin.ext; simp [Rect.toLoadRect, LoadRect.idx, Rect.unit])
  · funext y
    rw [Memref.IsWhole.readAt_unread]
    congr 1
    funext a
    fin_cases a <;> (apply Fin.ext; simp [Rect.toLoadRect, LoadRect.idx, Rect.unit])

theorem idx1 : ∀ t : Fin cfg1.N, win1_0.index t = ![t.val / 16, t.val % 16, 0, 0] ∧ win1_1.index t = ![t.val % 16, 0] ∧ win1_2.index t = ![t.val / 16, 0] ∧ win1_3.index t = ![0, 0] ∧ win1_4.index t = ![t.val / 16, 0] :=
  (by decide +kernel : ∀ t : Fin grid1.N, _)

theorem keys_at (c : Dev nD) (t : Fin cfg1.N) (p : Fin 512) (k : Fin 8) (h : Fin 2) (j : Fin 128) (P : Fin 8704) (K : Fin 128) (hP : P.val = t.val / 16 * 512 + p.val) (hK : K.val = t.val % 16 * 8 + k.val) :
    (show Vec Ideal S512x8x2x128 .bf16 from iblk1 V c 0 t) (ix4 p k h j) = (show Vec Ideal S8704x128x2x128 .bf16 from V c main_v0) (ix4 P K h j) := by
  blk_ext [iblk1, idx1 t]
theorem rows_at (c : Dev nD) (t : Fin cfg1.N) (e d : Fin 1024) (E : Fin 16384) (hE : E.val = t.val % 16 * 1024 + e.val) :
    (show Vec Ideal S1024x1024 .bf16 from iblk1 V c 1 t) (ix2 e d) = (show Vec Ideal S16384x1024 .bf16 from V c main_v1) (ix2 E d) := by
  blk_ext [iblk1, idx1 t]
theorem resid_at (c : Dev nD) (t : Fin cfg1.N) (r d : Fin 1024) (R : Fin 17408) (hR : R.val = t.val / 16 * 1024 + r.val) :
    (show Vec Ideal S1024x1024 .f32 from iblk1 V c 2 t) (ix2 r d) = (show Vec Ideal S17408x1024 .f32 from V c main_arg4) (ix2 R d) := by
  blk_ext [iblk1, idx1 t]
theorem scale_at (c : Dev nD) (t : Fin cfg1.N) (d : Fin 1024) :
    (show Vec Ideal S1x1024 .f32 from iblk1 V c 3 t) (ix2 0 d) = (show Vec Ideal S1x1024 .f32 from V c main_v2) (ix2 0 d) := by
  blk_ext [iblk1, idx1 t]

/-- The contribution of block `k` of 1024 experts to token `R`. -/
def blockSum (A : Vec Ideal S8704x128x2x128 .bf16) (w : Vec Ideal S16384x1024 .bf16) (R : Fin 17408) (d : Fin 1024) (k : ℕ) : EReal :=
  ∑ e : Fin 1024, A (ix4 (⟨R.val / 2, by omega⟩ : Fin 8704) (Fin.ofNat 128 (k * 8 + e.val / 128)) (⟨R.val % 2, by omega⟩ : Fin 2) (⟨e.val % 128, by omega⟩ : Fin 128)) * w (ix2 (Fin.ofNat 16384 (k * 1024 + e.val)) d)

theorem dot_block (c : Dev nD) (t : Fin cfg1.N) (r d : Fin 1024) (R : Fin 17408) (hR : R.val = t.val / 16 * 1024 + r.val) :
    dotAt (iblk1 V c 0 t) (iblk1 V c 1 t) r d = blockSum (V c main_v0) (V c main_v1) R d (t.val % 16) := by
  unfold dotAt blockSum
  refine Finset.sum_congr rfl fun e _ => ?_
  have hm : R.val % 2 = r.val % 2 := by omega
  have hq : R.val / 2 = t.val / 16 * 512 + r.val / 2 := by omega
  have he := e.isLt
  have hk : t.val % 16 < 16 := Nat.mod_lt _ (by decide)
  have h1 : (⟨r.val % 2, by omega⟩ : Fin 2) = ⟨R.val % 2, by omega⟩ := Fin.ext hm.symm
  have h2 := keys_at V c t (⟨r.val / 2, by omega⟩ : Fin 512) (⟨e.val / 128, by omega⟩ : Fin 8) (⟨r.val % 2, by omega⟩ : Fin 2) (⟨e.val % 128, by omega⟩ : Fin 128)
    (⟨R.val / 2, by omega⟩ : Fin 8704) (Fin.ofNat 128 (t.val % 16 * 8 + e.val / 128)) hq (Nat.mod_eq_of_lt (by omega))
  have h3 := rows_at V c t e d (Fin.ofNat 16384 (t.val % 16 * 1024 + e.val)) (Nat.mod_eq_of_lt (by omega))
  rw [← h1]
  exact congrArg₂ (fun a b : EReal => a * b) h2 h3

theorem acc_at (c : Dev nD) : ∀ (n : ℕ) (hn : n < cfg1.N) (r d : Fin 1024) (R : Fin 17408), R.val = n / 16 * 1024 + r.val →
    accAt V c n hn (ix2 r d) = ∑ k ∈ Finset.range (n % 16 + 1), blockSum (V c main_v0) (V c main_v1) R d k
  | n, hn, r, d, R, hR => by
    by_cases h0 : n % 16 = 0
    · rw [acc_first V c ⟨n, hn⟩ h0]
      show (0 : EReal) + dotAt (iblk1 V c 0 ⟨n, hn⟩) (iblk1 V c 1 ⟨n, hn⟩) r d = _
      rw [dot_block V c ⟨n, hn⟩ r d R hR, zero_add, h0]
      simp [h0]
    · rw [acc_next V c ⟨n, hn⟩ h0]
      show accAt V c (n - 1) _ (ix2 r d) + dotAt (iblk1 V c 0 ⟨n, hn⟩) (iblk1 V c 1 ⟨n, hn⟩) r d = _
      have e1 : (n - 1) % 16 + 1 = n % 16 := by omega
      rw [acc_at c (n - 1) _ r d R (by omega), dot_block V c ⟨n, hn⟩ r d R hR, e1, Finset.sum_range_succ]
  termination_by n => n
  decreasing_by omega

/-- A token's activations times the experts' rows. -/
def mixed (A : Vec Ideal S8704x128x2x128 .bf16) (w : Vec Ideal S16384x1024 .bf16) (R : Fin 17408) (d : Fin 1024) : EReal :=
  ∑ E : Fin 16384, A (ix4 (⟨R.val / 2, by omega⟩ : Fin 8704) (⟨E.val / 128, by omega⟩ : Fin 128) (⟨R.val % 2, by omega⟩ : Fin 2) (⟨E.val % 128, by omega⟩ : Fin 128)) * w (ix2 E d)

theorem blocks_mixed (A : Vec Ideal S8704x128x2x128 .bf16) (w : Vec Ideal S16384x1024 .bf16) (R : Fin 17408) (d : Fin 1024) :
    ∑ k ∈ Finset.range 16, blockSum A w R d k = mixed A w R d := by
  rw [Finset.sum_range]
  unfold blockSum mixed
  rw [← Fintype.sum_prod_type', ← (finProdFinEquiv (m := 16) (n := 1024)).sum_comp]
  refine Finset.sum_congr rfl fun x _ => ?_
  obtain ⟨k, e⟩ := x
  have hk := k.isLt
  have he := e.isLt
  have hv : (finProdFinEquiv (m := 16) (n := 1024) (k, e)).val = e.val + 1024 * k.val := rfl
  have e1 : Fin.ofNat 128 (k.val * 8 + e.val / 128) = (⟨(finProdFinEquiv (m := 16) (n := 1024) (k, e)).val / 128, by omega⟩ : Fin 128) :=
    Fin.ext (by show (k.val * 8 + e.val / 128) % 128 = _; simp only [hv]; omega)
  have e2 : (⟨e.val % 128, by omega⟩ : Fin 128) = ⟨(finProdFinEquiv (m := 16) (n := 1024) (k, e)).val % 128, by omega⟩ :=
    Fin.ext (by simp only [hv]; omega)
  have e3 : Fin.ofNat 16384 (k.val * 1024 + e.val) = (finProdFinEquiv (m := 16) (n := 1024) (k, e) : Fin 16384) :=
    Fin.ext (by show (k.val * 1024 + e.val) % 16384 = _; rw [hv]; omega)
  simp only [e1, e2, e3]

/-- What the second call leaves, as one function of its operands. -/
def downG (A : Vec Ideal S8704x128x2x128 .bf16) (w : Vec Ideal S16384x1024 .bf16) (x : Vec Ideal S17408x1024 .f32) (g : Vec Ideal S1x1024 .f32) (R : Fin 17408) (d : Fin 1024) : EReal :=
  normed (fun d => x (ix2 R d) + mixed A w R d) (g (ix2 0 d)) d

theorem down_final (c : Dev nD) : (dat1 (F := Ideal) V c).arrAt 4 cfg1.N = fun y : S17408x1024.Idx => downG (V c main_v0) (V c main_v1) (V c main_arg4) (V c main_v2) (y 0) (y 1) := by
  refine (dat1 (F := Ideal) V c).arrAt_eq_of_covers 4 _ (by decide +kernel) fun t hf y => ?_
  blk_simp
  have h15 : t.val % 16 = 15 := (flush1_4 t).mp hf
  have hN : t.val < 272 := lt_of_lt_of_eq t.isLt N_1
  have h0 : (y 0).val < 1024 := (y 0).isLt
  have h1 : (y 1).val < 1024 := (y 1).isLt
  have e : (win1_4.blk t).view.emb y = ix2 (⟨t.val / 16 * 1024 + (y 0).val, by omega⟩ : Fin 17408) (⟨(y 1).val, h1⟩ : Fin 1024) := by
    blk_ext [idx1 t]
  have ey : y = ix2 (⟨(y 0).val, h0⟩ : Fin 1024) (⟨(y 1).val, h1⟩ : Fin 1024) := by funext a; fin_cases a <;> rfl
  rw [after1_4, out_last V c t h15, e]
  refine (congrArg _ ey).trans ?_
  rw [pay2_at]
  show _ = downG _ _ _ _ (⟨t.val / 16 * 1024 + (y 0).val, by omega⟩ : Fin 17408) (⟨(y 1).val, h1⟩ : Fin 1024)
  unfold downG
  have hz : ∀ d : Fin 1024, (show Vec Ideal S1024x1024 .f32 from iblk1 V c 2 t) (ix2 (⟨(y 0).val, h0⟩ : Fin 1024) d) + accAt V c t.val t.isLt (ix2 (⟨(y 0).val, h0⟩ : Fin 1024) d) =
      (show Vec Ideal S17408x1024 .f32 from V c main_arg4) (ix2 (⟨t.val / 16 * 1024 + (y 0).val, by omega⟩ : Fin 17408) d) + mixed (V c main_v0) (V c main_v1) (⟨t.val / 16 * 1024 + (y 0).val, by omega⟩ : Fin 17408) d := fun d => by
    have ha := acc_at V c t.val t.isLt (⟨(y 0).val, h0⟩ : Fin 1024) d (⟨t.val / 16 * 1024 + (y 0).val, by omega⟩ : Fin 17408) rfl
    rw [h15, blocks_mixed] at ha
    exact congrArg₂ (fun a b : EReal => a + b) (resid_at V c t _ d _ rfl) ha
  exact congrArg₂ (fun (z : Fin 1024 → EReal) (g : EReal) => normed z g (⟨(y 1).val, h1⟩ : Fin 1024)) (funext hz) (scale_at V c t _)

end AtIdeal

end Cert.KernelIdeal.Chain
-- ==== Proof.RefValue.lean ====
/- What the reference computes: the residual plus a sum over a token's selected experts, root-mean-square normalised and scaled. -/
module

public import proofs.«01_k».proof.Proof.Gen.ReferenceIdeal.Run
public import Idealize.ShloMosaic.Lib.Pipeline.ValueKit
public import Idealize.ShloMosaic.Lib.Pointwise
public import Idealize.ShloMosaic.Lib.BitcastConvert
public import Idealize.ShloMosaic.Lib.ValueIdx
public import Idealize.ShloMosaic.Lib.Claim

@[expose] public section

set_option maxRecDepth 100000

noncomputable section

namespace Cert.ReferenceIdeal.Plain

open Idealize.ShloMosaic Idealize.ShloMosaic.TcCoe Idealize.ShloMosaic.Tactic Idealize.SL.Sem
open Cert.ReferenceIdeal Cert.ReferenceIdeal.Gen

/-- A selected expert's number, read as the gathers read it. -/
def clip (b : BitVec 32) : Fin 16384 := ⟨min b.toInt.toNat 16383, by omega⟩

/-- One score per selected expert: the gather along a token's row. -/
theorem along_row (x : Vec Ideal S17408x16384 .f32) (idx : IVec S17408x128x1 32) (R : Fin 17408) (k : Fin 128) :
    Host.gather gather_S17408x16384_S17408x128x1_S17408x128_n_1_0_0_1_2_11 x idx (ix2 R k) = x (ix2 R (clip (idx (ix3 R k 0)))) := by
  unfold Host.gather
  refine congrArg x (funext fun a => Fin.ext ?_)
  show GatherDims.start gather_S17408x16384_S17408x128x1_S17408x128_n_1_0_0_1_2_11 (ix2 R k) idx a + GatherDims.batchCoord gather_S17408x16384_S17408x128x1_S17408x128_n_1_0_0_1_2_11 (ix2 R k) a
      + GatherDims.offCoord gather_S17408x16384_S17408x128x1_S17408x128_n_1_0_0_1_2_11 (ix2 R k) a = _
  have h01 : a = (0 : Fin 2) ∨ a = (1 : Fin 2) := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S17408x16384_S17408x128x1_S17408x128_n_1_0_0_1_2_11.operandBatchingDims from List.mem_singleton.mpr rfl)]
    rfl
  · rw [GatherDims.batchCoord_eq_zero _ _ _ (fun h => by simp [gather_S17408x16384_S17408x128x1_S17408x128_n_1_0_0_1_2_11] at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S17408x16384_S17408x128x1_S17408x128_n_1_0_0_1_2_11.startIndexMap from List.mem_singleton.mpr rfl)]
    have hsi : GatherDims.siIdx gather_S17408x16384_S17408x128x1_S17408x128_n_1_0_0_1_2_11 (ix2 R k) ⟨List.idxOf (1 : Fin 2) gather_S17408x16384_S17408x128x1_S17408x128_n_1_0_0_1_2_11.startIndexMap,
        List.idxOf_lt_length_iff.2 (List.mem_singleton.mpr rfl)⟩ = ix3 R k 0 := by
      funext b; refine Fin.ext ?_
      match b with
      | ⟨0, _⟩ => rfl
      | ⟨1, _⟩ => rfl
      | ⟨2, _⟩ => rfl
    exact congrArg (fun q => min (idx q).toInt.toNat 16383) hsi

/-- One row per selected expert: the gather of the experts' rows. -/
theorem rows_of (x : Vec Ideal S16384x1024 .f32) (idx : IVec S17408x128x1 32) (R : Fin 17408) (k : Fin 128) (d : Fin 1024) :
    Host.gather gather_S16384x1024_S17408x128x1_S17408x128x1024_2_0_n_n_0_2_11024 x idx (ix3 R k d) = x (ix2 (clip (idx (ix3 R k 0))) d) := by
  unfold Host.gather
  refine congrArg x (funext fun a => Fin.ext ?_)
  show GatherDims.start gather_S16384x1024_S17408x128x1_S17408x128x1024_2_0_n_n_0_2_11024 (ix3 R k d) idx a + GatherDims.batchCoord gather_S16384x1024_S17408x128x1_S17408x128x1024_2_0_n_n_0_2_11024 (ix3 R k d) a
      + GatherDims.offCoord gather_S16384x1024_S17408x128x1_S17408x128x1024_2_0_n_n_0_2_11024 (ix3 R k d) a = _
  rw [GatherDims.batchCoord_eq_zero _ _ _ (fun h => by simp [gather_S16384x1024_S17408x128x1_S17408x128x1024_2_0_n_n_0_2_11024] at h)]
  have h01 : a = (0 : Fin 2) ∨ a = (1 : Fin 2) := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S16384x1024_S17408x128x1_S17408x128x1024_2_0_n_n_0_2_11024.startIndexMap from List.mem_singleton.mpr rfl)]
    have hsi : GatherDims.siIdx gather_S16384x1024_S17408x128x1_S17408x128x1024_2_0_n_n_0_2_11024 (ix3 R k d) ⟨List.idxOf (0 : Fin 2) gather_S16384x1024_S17408x128x1_S17408x128x1024_2_0_n_n_0_2_11024.startIndexMap,
        List.idxOf_lt_length_iff.2 (List.mem_singleton.mpr rfl)⟩ = ix3 R k 0 := by
      funext b; refine Fin.ext ?_
      match b with
      | ⟨0, _⟩ => rfl
      | ⟨1, _⟩ => rfl
      | ⟨2, _⟩ => rfl
    exact congrArg (fun q => min (idx q).toInt.toNat 16383) hsi
  · unfold GatherDims.start GatherDims.offCoord
    rw [dif_neg (show ¬((1 : Fin 2) ∈ gather_S16384x1024_S17408x128x1_S17408x128x1024_2_0_n_n_0_2_11024.startIndexMap) by decide)]
    rw [dif_pos (show (1 : Fin 2) ∈ gather_S16384x1024_S17408x128x1_S17408x128x1024_2_0_n_n_0_2_11024.sKept by decide)]
    simp only [Nat.zero_add]
    rfl

/-- The scores, a token's 16384 in a row, out of the packed pairs. -/
def scores (s : IVec S8704x128x128 32) : FVec Ideal S17408x16384 .f32 :=
  shapeCast S17408x16384 (transpose S8704x2x128x128 [0, 3, 1, 2] (extf (F := Ideal) .f32 (bitcastToFloat (F := Ideal) .bf16 (Host.bitcastConvertNarrow S8704x128x128x2 16 s splits_S8704x128x128_w32_S8704x128x128x2_w16)) bitsLt_bf16_f32) transposes_S8704x128x128x2_S8704x2x128x128_0_3_1_2) shapeCasts_S8704x2x128x128_S17408x16384

theorem scores_at (s : IVec S8704x128x128 32) (R : Fin 17408) (E : Fin 16384) :
    scores s (ix2 R E) = Ideal.ofBits .bf16 ((s (ix3 (⟨R.val / 2, by omega⟩ : Fin 8704) (⟨E.val / 128, by omega⟩ : Fin 128) (⟨E.val % 128, by omega⟩ : Fin 128))).extractLsb' (R.val % 2 * 16) 16) := by
  pointwise [scores]
  congr 3
  funext a
  fin_cases a <;> rfl

/-- The selected experts' numbers. -/
def expert (ia ib : IVec S17408x128 32) : IVec S17408x128 32 :=
  addi (muli ia (broadcastInDim S17408x128 ![] bcast_S_S17408x128 (constantI S_ 32 128#32))) ib

/-- The numbers the first gather reads: one below zero counts from the end. -/
def wrapped (ia ib : IVec S17408x128 32) : IVec S17408x128x1 32 :=
  shapeCast S17408x128x1 (select (cmpi .slt (expert ia ib) (broadcastInDim S17408x128 ![] bcast_S_S17408x128 (constantI S_ 32 0#32))) (addi (expert ia ib) (broadcastInDim S17408x128 ![] bcast_S_S17408x128 (constantI S_ 32 16384#32))) (expert ia ib)) shapeCasts_S17408x128_S17408x128x1

/-- The gated activations of the selected experts. -/
def acts (s : IVec S8704x128x128 32) (ia ib : IVec S17408x128 32) (g : FVec Ideal S17408x128 .f32) : FVec Ideal S17408x128 .f32 :=
  mulf g (mulf (mulf (broadcastInDim S17408x128 ![] bcast_S_S17408x128 (constant S_ .f32 0x3F000000#32)) (Host.gather gather_S17408x16384_S17408x128x1_S17408x128_n_1_0_0_1_2_11 (scores s) (wrapped ia ib)))
    (addf (broadcastInDim S17408x128 ![] bcast_S_S17408x128 (constant S_ .f32 0x3F800000#32)) (Host.erf (mulf (Host.gather gather_S17408x16384_S17408x128x1_S17408x128_n_1_0_0_1_2_11 (scores s) (wrapped ia ib)) (broadcastInDim S17408x128 ![] bcast_S_S17408x128 (constant S_ .f32 0x3F3504F3#32))))))

/-- The residual with the experts' rows added. -/
def total (s : IVec S8704x128x128 32) (ia ib : IVec S17408x128 32) (g : FVec Ideal S17408x128 .f32) (x : FVec Ideal S17408x1024 .f32) (pd : FVec Ideal S16384x1024 .f32) : FVec Ideal S17408x1024 .f32 :=
  addf x (Host.dotGeneral dot_S17408x128_S17408x128x1024_S17408x1024_1_1_n_2_0_0 none (acts s ia ib g) (Host.gather gather_S16384x1024_S17408x128x1_S17408x128x1024_2_0_n_n_0_2_11024 pd (broadcastInDim S17408x128x1 ![0, 1] bcast_S17408x128_S17408x128x1_0_1 (expert ia ib))))

theorem expert_at (ia ib : IVec S17408x128 32) (R : Fin 17408) (k : Fin 128) : expert ia ib (ix2 R k) = ia (ix2 R k) * 128#32 + ib (ix2 R k) := by
  pointwise [expert]
  rfl

theorem wrapped_at (ia ib : IVec S17408x128 32) (R : Fin 17408) (k : Fin 128) (h : (expert ia ib (ix2 R k)).slt 0#32 = false) : wrapped ia ib (ix3 R k 0) = expert ia ib (ix2 R k) := by
  pointwise [wrapped]
  unfold Scalar.select IntOp.cmpi
  simp [h]

theorem acts_at (s : IVec S8704x128x128 32) (ia ib : IVec S17408x128 32) (g : FVec Ideal S17408x128 .f32) (R : Fin 17408) (k : Fin 128) :
    acts s ia ib g (ix2 R k) = g (ix2 R k) * (Ideal.ofBits .f32 0x3F000000#32 * scores s (ix2 R (clip (wrapped ia ib (ix3 R k 0)))) * (Ideal.ofBits .f32 0x3F800000#32 + Ideal.erf (scores s (ix2 R (clip (wrapped ia ib (ix3 R k 0)))) * Ideal.ofBits .f32 0x3F3504F3#32))) := by
  pointwise [acts]
  rw [along_row]

theorem total_at (s : IVec S8704x128x128 32) (ia ib : IVec S17408x128 32) (g : FVec Ideal S17408x128 .f32) (x : FVec Ideal S17408x1024 .f32) (pd : FVec Ideal S16384x1024 .f32) (R : Fin 17408) (d : Fin 1024) :
    total s ia ib g x pd (ix2 R d) = x (ix2 R d) + ∑ k : Fin 128, acts s ia ib g (ix2 R k) * pd (ix2 (clip (expert ia ib (ix2 R k))) d) := by
  pointwise [total]
  refine congrArg _ (Finset.sum_congr rfl fun k _ => ?_)
  rw [rows_of]
  pointwise

/-- The whole reference, stage by stage. -/
def whole (z : FVec Ideal S17408x1024 .f32) (gn : FVec Ideal S1024 .f32) : FVec Ideal S17408x1024 .f32 :=
  mulf (mulf z (broadcastInDim S17408x1024 ![0, 1] bcast_S17408x1_S17408x1024_0_1 (Host.rsqrt (addf (Host.divf (broadcastInDim S17408x1 ![0] bcast_S17408_S17408x1_0 (Host.reduceAdd (mulf z z) (constant S_ .f32 0x00000000#32) reducesTo_S17408x1024_S17408_d1 h_S_))
    (broadcastInDim S17408x1 ![] bcast_S_S17408x1 (constant S_ .f32 0x44800000#32))) (broadcastInDim S17408x1 ![] bcast_S_S17408x1 (constant S_ .f32 0x358637BD#32))))))
    (broadcastInDim S17408x1024 ![0, 1] bcast_S1x1024_S17408x1024_0_1 (broadcastInDim S1x1024 ![1] bcast_S1024_S1x1024_1 gn))

theorem res_whole (m : (ℓ : Loc nD τ sig) → Buf (Elt Ideal) ℓ) (c : Dev nD) :
    Cert.ReferenceIdeal.Value.res_main_v32 m c = whole (total (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg6)) := by
  unfold Cert.ReferenceIdeal.Value.res_main_v32 whole total acts wrapped expert scores
  rfl

theorem whole_at (z : FVec Ideal S17408x1024 .f32) (gn : FVec Ideal S1024 .f32) (R : Fin 17408) (d : Fin 1024) :
    whole z gn (ix2 R d) = z (ix2 R d) * Ideal.rsqrt (Ideal.div (∑ x : Fin 1024, z (ix2 R x) * z (ix2 R x)) (Ideal.ofBits .f32 0x44800000#32) + Ideal.ofBits .f32 0x358637BD#32) * gn (ix1 d) := by
  pointwise [whole]

end Cert.ReferenceIdeal.Plain

end
-- ==== Proof.Answer.lean ====
/- The two programs' results are equal: over finite scores, gates and expert rows, and expert keys in range, spreading a
   token's activations over all the experts and multiplying by all their rows is the sum over the selected ones. -/
module

public import proofs.«01_k».proof.Defs
public import proofs.«01_k».proof.Proof.Gen.Pre_tame
public import proofs.«01_k».proof.Proof.SelectValue
public import proofs.«01_k».proof.Proof.DownValue
public import proofs.«01_k».proof.Proof.RefValue
public import proofs.«01_k».proof.Proof.KernelIdealRun
public import Idealize.ShloMosaic.Lib.ReduceAll
public import Idealize.ShloMosaic.Lib.StableHlo.Predicate
public import Idealize.ShloMosaic.Lib.Claim

@[expose] public section

set_option maxRecDepth 100000

noncomputable section

namespace Cert.Answer

open Idealize.ShloMosaic Idealize.ShloMosaic.TcCoe Idealize.ShloMosaic.Tactic Idealize.SL.Sem
open Cert.KernelIdeal.Chain (act score spread selG mixed downG normed)

/-! ## Finite values -/

/-- A value that is a real number. -/
def Real' (x : EReal) : Prop := ∃ r : ℝ, x = (r : EReal)

theorem Real'.mul {x y : EReal} : Real' x → Real' y → Real' (x * y)
  | ⟨a, ha⟩, ⟨b, hb⟩ => ⟨a * b, by rw [ha, hb, EReal.coe_mul]⟩
theorem Real'.add {x y : EReal} : Real' x → Real' y → Real' (x + y)
  | ⟨a, ha⟩, ⟨b, hb⟩ => ⟨a + b, by rw [ha, hb, EReal.coe_add]⟩
theorem real_erf (x : EReal) (hx : Real' x) : Real' (Ideal.erf x) := by
  obtain ⟨r, rfl⟩ := hx
  exact ⟨_, rfl⟩

theorem half_real : Real' (Ideal.ofBits .f32 0x3F000000#32) := by
  simp [Ideal.ofBits, Ideal.ieee]
  exact Real'.mul ⟨_, rfl⟩ ⟨_, rfl⟩
theorem one_real : Real' (Ideal.ofBits .f32 0x3F800000#32) := by
  simp [Ideal.ofBits, Ideal.ieee]
  exact Real'.mul ⟨_, rfl⟩ ⟨_, rfl⟩
theorem root_real : Real' (Ideal.ofBits .f32 0x3F3504F3#32) := by
  simp [Ideal.ofBits, Ideal.ieee]
  exact Real'.mul ⟨_, rfl⟩ ⟨_, rfl⟩

theorem act_real {g x : EReal} (hg : Real' g) (hx : Real' x) : Real' (act g x) :=
  hg.mul ((half_real.mul hx).mul (one_real.add (real_erf _ (hx.mul root_real))))

theorem real_of_abs_lt {x : EReal} (h : max x (-x) < ⊤) : Real' x := by
  induction x with
  | bot => simp at h
  | top => simp at h
  | coe r => exact ⟨r, rfl⟩

theorem inf_top : Ideal.ofBits .f32 0x7F800000#32 = ⊤ := by simp [Ideal.ofBits, Ideal.ieee]

theorem real_of_olt {x : EReal} (h : Ideal.cmp .olt (max x (-x)) (Ideal.ofBits .f32 0x7F800000#32) = 1#1) : Real' x := by
  rw [inf_top] at h
  refine real_of_abs_lt ?_
  by_contra hn
  simp [Ideal.cmp, hn] at h

/-! ## The sum over the selected experts -/

theorem coe_sum' {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- Real values spread over the places they select, then weighted and summed: the sum of the values times the weights of
    the places they select. -/
theorem spread_sum {n K : ℕ} (p : Fin K → Fin n) (v : Fin K → EReal) (w : Fin n → EReal) (hv : ∀ k, Real' (v k)) (hw : ∀ e, Real' (w e)) :
    ∑ e : Fin n, (∑ k : Fin K, if e = p k then v k else 0) * w e = ∑ k : Fin K, v k * w (p k) := by
  choose a ha using hv
  choose b hb using hw
  have e1 : ∀ (e : Fin n) (k : Fin K), (if e = p k then v k else 0) = ((if e = p k then a k else 0 : ℝ) : EReal) := fun e k => by split_ifs <;> simp [ha]
  simp only [e1]
  simp only [ha, hb]
  have e2 : ∀ (e : Fin n), (∑ k : Fin K, ((if e = p k then a k else 0 : ℝ) : EReal)) * (b e : EReal) = (((∑ k : Fin K, if e = p k then a k else 0) * b e : ℝ) : EReal) := fun e => by
    rw [EReal.coe_mul, coe_sum']
  have e3 : ∀ k : Fin K, (a k : EReal) * (b (p k) : EReal) = ((a k * b (p k) : ℝ) : EReal) := fun k => (EReal.coe_mul _ _).symm
  refine (Finset.sum_congr rfl fun e _ => e2 e).trans ?_
  refine Eq.trans ?_ (Finset.sum_congr rfl fun k _ => e3 k).symm
  rw [← coe_sum', ← coe_sum']
  congr 1
  simp only [Finset.sum_mul]
  rw [Finset.sum_comm]
  refine Finset.sum_congr rfl fun k _ => ?_
  simp [ite_mul]

theorem ofNat_inj (i j : Fin 128) : BitVec.ofNat 32 i.val = BitVec.ofNat 32 j.val ↔ i = j := by
  constructor
  · intro h
    have := congrArg BitVec.toNat h
    simp only [BitVec.toNat_ofNat] at this
    rw [Nat.mod_eq_of_lt (by omega), Nat.mod_eq_of_lt (by omega)] at this
    exact Fin.ext this
  · rintro rfl; rfl

/-- Two keys below 128 as one expert's number. -/
def num (a b : Fin 128) : Fin 16384 := ⟨a.val * 128 + b.val, by omega⟩

theorem spread_at (w : Fin 128 → Fin 128 → BitVec 32) (h : ℕ) (a b : Fin 128 → Fin 128) (g : Fin 128 → EReal) (E : Fin 16384) :
    spread w h (fun k => BitVec.ofNat 32 (a k).val) (fun k => BitVec.ofNat 32 (b k).val) g (⟨E.val / 128, by omega⟩ : Fin 128) (⟨E.val % 128, by omega⟩ : Fin 128) =
      ∑ k : Fin 128, if E = num (a k) (b k) then act (g k) (score (w (a k) (b k)) h) else 0 := by
  unfold spread
  refine Finset.sum_congr rfl fun k _ => ?_
  simp only [ofNat_inj, Finset.sum_ite_eq', Finset.mem_univ, if_true]
  have hb : BitVec.ofNat 32 (E.val % 128) = BitVec.ofNat 32 (b k).val ↔ (⟨E.val % 128, by omega⟩ : Fin 128) = b k := ofNat_inj ⟨E.val % 128, by omega⟩ (b k)
  have ha : BitVec.ofNat 32 (E.val / 128) = BitVec.ofNat 32 (a k).val ↔ (⟨E.val / 128, by omega⟩ : Fin 128) = a k := ofNat_inj ⟨E.val / 128, by omega⟩ (a k)
  have hE : E = num (a k) (b k) ↔ ((⟨E.val % 128, by omega⟩ : Fin 128) = b k ∧ (⟨E.val / 128, by omega⟩ : Fin 128) = a k) := by
    simp only [num, Fin.ext_iff]
    have := (a k).isLt
    have := (b k).isLt
    omega
  simp only [hb, ha, hE, ite_and]

/-! ## The two results, at keys in range -/

/-- What the first call leaves, times the experts' rows: a sum over the selected experts. -/
theorem mixed_select (s : IVec ⟨3, ![8704, 128, 128]⟩ 32) (ia ib : IVec ⟨2, ![17408, 128]⟩ 32) (g : FVec Ideal ⟨2, ![17408, 128]⟩ .f32) (w : FVec Ideal ⟨2, ![16384, 1024]⟩ .bf16)
    (a b : Fin 17408 → Fin 128 → Fin 128) (ha : ∀ R k, ia (ix2 R k) = BitVec.ofNat 32 (a R k).val) (hb : ∀ R k, ib (ix2 R k) = BitVec.ofNat 32 (b R k).val)
    (hs : ∀ (p : Fin 8704) (i j : Fin 128) (h : Fin 2), Real' (score (s (ix3 p i j)) h.val)) (hg : ∀ R k, Real' (g (ix2 R k))) (hw : ∀ E d, Real' (w (ix2 E d)))
    (R : Fin 17408) (d : Fin 1024) :
    mixed (selG s ia ib g) w R d = ∑ k : Fin 128, act (g (ix2 R k)) (score (s (ix3 (⟨R.val / 2, by omega⟩ : Fin 8704) (a R k) (b R k))) (R.val % 2)) * w (ix2 (num (a R k) (b R k)) d) := by
  unfold mixed
  refine Eq.trans (Finset.sum_congr rfl fun E _ => ?_) (spread_sum (fun k => num (a R k) (b R k)) (fun k => act (g (ix2 R k)) (score (s (ix3 (⟨R.val / 2, by omega⟩ : Fin 8704) (a R k) (b R k))) (R.val % 2)))
    (fun E => w (ix2 E d)) (fun k => act_real (hg R k) (hs _ _ _ ⟨R.val % 2, by omega⟩)) (fun E => hw E d))
  refine congrArg (· * w (ix2 E d)) ?_
  rw [← spread_at (fun i j => s (ix3 (⟨R.val / 2, by omega⟩ : Fin 8704) i j)) (R.val % 2) (a R) (b R) (fun k => g (ix2 R k)) E]
  have hR : ∀ h, (⟨2 * (R.val / 2) + R.val % 2, h⟩ : Fin 17408) = R := fun h => Fin.ext (by show 2 * (R.val / 2) + R.val % 2 = R.val; omega)
  unfold selG
  refine Cert.KernelIdeal.Chain.spread_congr rfl (funext fun k => ?_) (funext fun k => ?_) (funext fun k => ?_)
  · exact (congrArg (fun r : Fin 17408 => ia (ix2 r k)) (hR _)).trans (ha R k)
  · exact (congrArg (fun r : Fin 17408 => ib (ix2 r k)) (hR _)).trans (hb R k)
  · exact congrArg (fun r : Fin 17408 => g (ix2 r k)) (hR _)

open Cert.ReferenceIdeal.Plain (clip expert expert_at wrapped wrapped_at acts acts_at scores scores_at total total_at whole whole_at res_whole)

/-- The reference's sum, at keys in range. -/
theorem total_select (s : IVec ⟨3, ![8704, 128, 128]⟩ 32) (ia ib : IVec ⟨2, ![17408, 128]⟩ 32) (g : FVec Ideal ⟨2, ![17408, 128]⟩ .f32) (x : FVec Ideal ⟨2, ![17408, 1024]⟩ .f32) (w : FVec Ideal ⟨2, ![16384, 1024]⟩ .f32)
    (a b : Fin 17408 → Fin 128 → Fin 128) (ha : ∀ R k, ia (ix2 R k) = BitVec.ofNat 32 (a R k).val) (hb : ∀ R k, ib (ix2 R k) = BitVec.ofNat 32 (b R k).val)
    (R : Fin 17408) (d : Fin 1024) :
    total s ia ib g x w (ix2 R d) = x (ix2 R d) + ∑ k : Fin 128, act (g (ix2 R k)) (score (s (ix3 (⟨R.val / 2, by omega⟩ : Fin 8704) (a R k) (b R k))) (R.val % 2)) * w (ix2 (num (a R k) (b R k)) d) := by
  rw [total_at]
  refine congrArg _ (Finset.sum_congr rfl fun k _ => ?_)
  have he : expert ia ib (ix2 R k) = BitVec.ofNat 32 (num (a R k) (b R k)).val := by
    rw [expert_at, ha, hb]
    simp [num, BitVec.ofNat_add, BitVec.ofNat_mul]
  have hlt := (num (a R k) (b R k)).isLt
  have hi : (BitVec.ofNat 32 (num (a R k) (b R k)).val).toInt = (num (a R k) (b R k)).val := StableHlo.Predicate.toInt_ofNat_small _ (by omega)
  have hc : clip (BitVec.ofNat 32 (num (a R k) (b R k)).val) = num (a R k) (b R k) := by
    apply Fin.ext
    show min _ 16383 = _
    rw [hi, Int.toNat_natCast]
    omega
  have hw : wrapped ia ib (ix3 R k 0) = BitVec.ofNat 32 (num (a R k) (b R k)).val := by
    rw [wrapped_at _ _ _ _ (by rw [he, BitVec.slt, hi]; simp), he]
  have hd : (⟨(num (a R k) (b R k)).val / 128, by omega⟩ : Fin 128) = a R k := Fin.ext (by simp only [num]; omega)
  have hm : (⟨(num (a R k) (b R k)).val % 128, by omega⟩ : Fin 128) = b R k := Fin.ext (by simp only [num]; omega)
  rw [he, hc, acts_at, hw, hc, scores_at, hd, hm]
  rfl

end Cert.Answer

end
-- ==== Proof.Result.lean ====
/- The two programs' results are equal: over finite scores, gates and expert rows, and expert keys in range, spreading a
   token's activations over all the experts and multiplying by all their rows is the sum over the selected ones. -/
module

public import proofs.«01_k».proof.Defs
public import proofs.«01_k».proof.Proof.Gen.Pre_tame
public import proofs.«01_k».proof.Proof.Answer
public import proofs.«01_k».proof.Proof.SelectValue
public import proofs.«01_k».proof.Proof.DownValue
public import proofs.«01_k».proof.Proof.RefValue
public import proofs.«01_k».proof.Proof.KernelIdealRun
public import Idealize.ShloMosaic.Lib.ReduceAll
public import Idealize.ShloMosaic.Lib.StableHlo.Predicate
public import Idealize.ShloMosaic.Lib.Claim

@[expose] public section

set_option maxRecDepth 100000

noncomputable section

namespace Cert.Answer

open Idealize.ShloMosaic Idealize.ShloMosaic.TcCoe Idealize.ShloMosaic.Tactic
open Cert.KernelIdeal.Chain (score act mixed selG downG normed)

/-! ## The precondition, read at one index -/

theorem fin_of_range {x : BitVec 32} (h0 : IntOp.cmpi .sge x 0#32 = 1#1) (h1 : IntOp.cmpi .slt x 128#32 = 1#1) : ∃ a : Fin 128, x = BitVec.ofNat 32 a.val := by
  simp only [IntOp.cmpi, StableHlo.Predicate.ofBool_eq_one_iff, BitVec.sle, BitVec.slt, decide_eq_true_eq] at h0 h1
  have e0 : (0#32 : BitVec 32).toInt = 0 := by decide
  have e1 : (128#32 : BitVec 32).toInt = 128 := by decide
  rw [e0] at h0
  rw [e1] at h1
  refine ⟨⟨x.toInt.toNat, by omega⟩, ?_⟩
  apply BitVec.eq_of_toInt_eq
  show x.toInt = (BitVec.ofNat 32 x.toInt.toNat).toInt
  rw [StableHlo.Predicate.toInt_ofNat_small _ (by omega)]
  omega

theorem halves_at [Cert.Pre_tame.Facts] (s : IVec ⟨3, ![8704, 128, 128]⟩ 32) (p : Fin 8704) (i j : Fin 128) (h : Fin 2) :
    bitcastToFloat (F := Ideal) .bf16 (Host.bitcastConvertNarrow Cert.Pre_tame.S8704x128x128x2 16 s Cert.Pre_tame.Facts.splits_S8704x128x128_w32_S8704x128x128x2_w16) (ix4 p i j h)
      = score (s (ix3 p i j)) h.val := by
  pointwise []
  unfold score
  congr 3
  funext a
  fin_cases a <;> rfl

variable [Cert.Pre_tame.Facts]

theorem tame_read (s : IVec ⟨3, ![8704, 128, 128]⟩ 32) (ia ib : IVec ⟨2, ![17408, 128]⟩ 32) (g : FVec Ideal ⟨2, ![17408, 128]⟩ .f32) (x : FVec Ideal ⟨2, ![17408, 1024]⟩ .f32) (w : FVec Ideal ⟨2, ![16384, 1024]⟩ .f32) (n : FVec Ideal ⟨1, ![1024]⟩ .f32)
    (h : Cert.Pre_tame.fn (F := Ideal) s ia ib g x w n = fun _ => 1#1) :
    (∀ (p : Fin 8704) (i j : Fin 128) (h : Fin 2), Real' (score (s (ix3 p i j)) h.val)) ∧ (∀ (R : Fin 17408) (k : Fin 128), Real' (g (ix2 R k)))
      ∧ (∀ (E : Fin 16384) (d : Fin 1024), Real' (w (ix2 E d)))
      ∧ (∀ (R : Fin 17408) (k : Fin 128), ∃ a : Fin 128, ia (ix2 R k) = BitVec.ofNat 32 a.val) ∧ (∀ (R : Fin 17408) (k : Fin 128), ∃ a : Fin 128, ib (ix2 R k) = BitVec.ofNat 32 a.val) := by
  have hsub : Subsingleton Cert.Pre_tame.S_.Idx := ⟨fun a b => funext fun d => d.elim0⟩
  have e := congrFun h (fun d => d.elim0)
  unfold Cert.Pre_tame.fn Cert.Pre_tame.fn_part1 at e
  obtain ⟨e1, e2⟩ := IntOp.andi_eq_one.1 e
  obtain ⟨e3, e4⟩ := IntOp.andi_eq_one.1 e1
  obtain ⟨e5, e6⟩ := IntOp.andi_eq_one.1 e3
  obtain ⟨e7, b1⟩ := IntOp.andi_eq_one.1 e2
  obtain ⟨e8, b0⟩ := IntOp.andi_eq_one.1 e7
  obtain ⟨a0, a1⟩ := IntOp.andi_eq_one.1 e8
  refine ⟨fun p i j h => ?_, fun R k => ?_, fun E d => ?_, fun R k => fin_of_range (Host.reduce_andi_all _ _ _ _ _ a0 (ix2 R k)) (Host.reduce_andi_all _ _ _ _ _ a1 (ix2 R k)),
    fun R k => fin_of_range (Host.reduce_andi_all _ _ _ _ _ b0 (ix2 R k)) (Host.reduce_andi_all _ _ _ _ _ b1 (ix2 R k))⟩
  · rw [← halves_at s p i j h]
    exact real_of_olt (Host.reduce_andi_all _ _ _ _ _ e5 (ix4 p i j h))
  · exact real_of_olt (Host.reduce_andi_all _ _ _ _ _ e6 (ix2 R k))
  · exact real_of_olt (Host.reduce_andi_all _ _ _ _ _ e4 (ix2 E d))

/-! ## The buffers between the two calls -/

section
open Cert.KernelIdeal Cert.KernelIdeal.Gen Cert.KernelIdeal.Chain
variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

theorem V2_main_v0 : V2 (F := Ideal) m ρ c main_v0 = selG (m ((c.tc : Thread nD τ).loc main_arg0)) (m ((c.tc : Thread nD τ).loc main_arg1)) (m ((c.tc : Thread nD τ).loc main_arg2)) (m ((c.tc : Thread nD τ).loc main_arg3)) :=
  (W2_of m ρ c main_v0 (by decide)).trans ((W1_arr m ρ c 4).trans (select_final (V0 m ρ) c))

theorem V2_main_arg4 : V2 (F := Ideal) m ρ c main_arg4 = m ((c.tc : Thread nD τ).loc main_arg4) := W2_args m ρ c main_arg4 (by decide)

theorem V2_main_v1 (E : Fin 16384) (d : Fin 1024) : V2 (F := Ideal) m ρ c main_v1 (ix2 E d) = m ((c.tc : Thread nD τ).loc main_arg5) (ix2 E d) := by
  have e : V2 (F := Ideal) m ρ c main_v1 = (truncf (F := Ideal) (φ := .f32) (s := S16384x1024) .bf16 (W1 m ρ c (Proc.devRef .tc main_arg5)) bitsLt_bf16_f32 : FVec Ideal S16384x1024 .bf16) := by
    show W2 m ρ c (Proc.devRef .tc main_v1) = _
    after_results
  rw [e, W1_args m ρ c main_arg5 (by decide)]
  rfl

theorem V2_main_v2 (d : Fin 1024) : V2 (F := Ideal) m ρ c main_v2 (ix2 (0 : Fin 1) d) = m ((c.tc : Thread nD τ).loc main_arg6) (ix1 d) := by
  have e : V2 (F := Ideal) m ρ c main_v2 = shapeCast S1x1024 (W1 m ρ c (Proc.devRef .tc main_arg6)) shapeCasts_S1024_S1x1024 := by
    show W2 m ρ c (Proc.devRef .tc main_v2) = _
    after_results
    rfl
  rw [e, W1_args m ρ c main_arg6 (by decide)]
  pointwise []

/-- The array the two calls leave is the reference's. -/
theorem final_eq
    (h : Cert.Pre_tame.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = fun _ => 1#1) :
    (dat1 (V2 (F := Ideal) m ρ) c).arrAt 4 cfg1.N = Cert.ReferenceIdeal.Plain.whole (Cert.ReferenceIdeal.Plain.total (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg6)) := by
  obtain ⟨hs, hg, hw, ha, hb⟩ := tame_read _ _ _ _ _ _ _ h
  choose a ha using ha
  choose b hb using hb
  rw [down_final]
  funext y
  obtain ⟨R, d, rfl⟩ : ∃ (R : Fin 17408) (d : Fin 1024), y = ix2 R d := ⟨y 0, y 1, eq_ix2 y⟩
  rw [Cert.ReferenceIdeal.Plain.whole_at]
  show downG _ _ _ _ R d = _
  unfold downG
  have hz : ∀ d : Fin 1024, @HAdd.hAdd EReal EReal EReal _ (V2 (F := Ideal) m ρ c main_arg4 (ix2 R d)) (mixed (V2 (F := Ideal) m ρ c main_v0) (V2 (F := Ideal) m ρ c main_v1) R d)
      = Cert.ReferenceIdeal.Plain.total (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix2 R d) := fun d => by
    rw [total_select _ _ _ _ _ _ a b ha hb R d, V2_main_v0, V2_main_arg4, mixed_select _ _ _ _ _ a b ha hb hs hg (fun E d => by rw [V2_main_v1]; exact hw E d) R d]
    refine congrArg _ (Finset.sum_congr rfl fun k _ => ?_)
    rw [V2_main_v1]
  exact congrArg₂ (fun f q => normed f q d) (funext hz) (V2_main_v2 m ρ c d)
end

end Cert.Answer

end
-- ==== Proof.RotarySpec.lean ====
/- A row of four heads turned by its position's angles, on the values themselves, and the reading of a matrix at two
   numbers. -/
module

public import Idealize.ShloMosaic.Lib.Pipeline.ValueKit
public import Idealize.ShloMosaic.Lib.Pointwise

@[expose] public section

noncomputable section

open Idealize.ShloMosaic

namespace Cert.RotarySpec

/-- A matrix at two numbers: zero outside. -/
def at2 {a b : ℕ} (A : (⟨2, ![a, b]⟩ : Shape).Idx → EReal) (i j : ℕ) : EReal :=
  if h : i < a ∧ j < b then A (ix2 ⟨i, h.1⟩ ⟨j, h.2⟩) else 0

theorem at2_ix2 {a b : ℕ} (A : (⟨2, ![a, b]⟩ : Shape).Idx → EReal) (i : Fin a) (j : Fin b) : A (ix2 i j) = at2 A i.val j.val := by
  unfold at2
  rw [dif_pos ⟨i.isLt, j.isLt⟩]

theorem at2_of {a b : ℕ} (A : (⟨2, ![a, b]⟩ : Shape).Idx → EReal) (i : Fin a) (j : Fin b) (i' j' : ℕ) (hi : i.val = i') (hj : j.val = j') :
    A (ix2 i j) = at2 A i' j' := by
  subst hi hj
  exact at2_ix2 A i j

/-- Column `j` of a row of heads of 64 columns turned: the first half of a head is `x₁ cos − x₂ sin`, the second
    `x₁ sin + x₂ cos`. -/
def turned (x cos sin : ℕ → EReal) (j : ℕ) : EReal :=
  if j % 64 < 32 then x j * cos (j % 32) - x (j + 32) * sin (j % 32) else x (j - 32) * sin (j % 32) + x j * cos (j % 32)

/-- The same with the half turn's sign on the value. -/
theorem turned_low {x cos sin : ℕ → EReal} {j : ℕ} {a b c s : EReal} (h : j % 64 < 32) (ha : a = x j) (hb : b = x (j + 32))
    (hc : c = cos (j % 32)) (hs : s = sin (j % 32)) : a * c + -b * s = turned x cos sin j := by
  rw [turned, if_pos h, ha, hb, hc, hs, EReal.neg_mul, sub_eq_add_neg]

theorem turned_high {x cos sin : ℕ → EReal} {j : ℕ} {a b c s : EReal} (h : ¬ j % 64 < 32) (ha : a = x j) (hb : b = x (j - 32))
    (hc : c = cos (j % 32)) (hs : s = sin (j % 32)) : a * c + b * s = turned x cos sin j := by
  rw [turned, if_neg h, ha, hb, hc, hs, add_comm]

theorem turned_low' {x cos sin : ℕ → EReal} {j : ℕ} {a b c s : EReal} (h : j % 64 < 32) (ha : a = x j) (hc : c = cos (j % 32))
    (hb : b = x (j + 32)) (hs : s = sin (j % 32)) : a * c - b * s = turned x cos sin j := by
  rw [turned, if_pos h, ha, hb, hc, hs]

theorem turned_high' {x cos sin : ℕ → EReal} {j : ℕ} {a b c s : EReal} (h : ¬ j % 64 < 32) (hb : b = x (j - 32)) (hs : s = sin (j % 32))
    (ha : a = x j) (hc : c = cos (j % 32)) : b * s + a * c = turned x cos sin j := by
  rw [turned, if_neg h, ha, hb, hc, hs]

/-- The lanes of the first half of each head, as remainders of the lane's number. -/
theorem half_lane (j : Fin 256) (a b : EReal) :
    Scalar.select
          (IntOp.cmpi CmpIPredicate.slt
            (Scalar.select
              (IntOp.andi
                (IntOp.xori
                  (IntOp.cmpi CmpIPredicate.slt
                    (IntOp.remsi ArithUnit.vector (BitVec.ofNat 32 j.val)
                      (Scalar.select (Scalar.cmpi CmpIPredicate.eq 64#32 0#32) 1#32 64#32))
                    0#32)
                  (Scalar.cmpi CmpIPredicate.slt (Scalar.select (Scalar.cmpi CmpIPredicate.eq 64#32 0#32) 1#32 64#32)
                    0#32))
                (IntOp.cmpi CmpIPredicate.ne
                  (IntOp.remsi ArithUnit.vector (BitVec.ofNat 32 j.val)
                    (Scalar.select (Scalar.cmpi CmpIPredicate.eq 64#32 0#32) 1#32 64#32))
                  0#32))
              (IntOp.addi
                (IntOp.remsi ArithUnit.vector (BitVec.ofNat 32 j.val)
                  (Scalar.select (Scalar.cmpi CmpIPredicate.eq 64#32 0#32) 1#32 64#32))
                (Scalar.select (Scalar.cmpi CmpIPredicate.eq 64#32 0#32) 1#32 64#32))
              (IntOp.remsi ArithUnit.vector (BitVec.ofNat 32 j.val)
                (Scalar.select (Scalar.cmpi CmpIPredicate.eq 64#32 0#32) 1#32 64#32)))
            32#32) a b = if j.val % 64 < 32 then a else b := by
  refine Eq.trans (b := Scalar.select (if j.val % 64 < 32 then 1#1 else 0#1) a b) (congrArg (Scalar.select · a b) ?_) ?_
  · revert j
    decide +kernel
  · split_ifs <;> rfl

end Cert.RotarySpec
-- ==== Proof.Prompt0Rows.lean ====
/- The prompt cache of the reference at an index: the turned keys of each sequence's last rows, and the values. -/
module

public import proofs.«01_k».proof.Proof.Gen.Prompt0RefIdeal.Run
public import proofs.«01_k».proof.Proof.RotarySpec

@[expose] public section

set_option maxRecDepth 100000

noncomputable section

open Idealize.ShloMosaic Idealize.ShloMosaic.TcCoe Idealize.SL.Sem
open Cert.RotarySpec

namespace Cert.Prompt0RefIdeal.Rows
open Cert.Prompt0RefIdeal Cert.Prompt0RefIdeal.Gen Cert.Prompt0RefIdeal.Value

/-- Every position's angles. -/
def angT : FVec Ideal S4096x32 .f32 := (mulf (broadcastInDim S4096x32 ![0, 1] bcast_S4096x1_S4096x32_0_1 (broadcastInDim S4096x1 ![0] bcast_S4096_S4096x1_0 (sitofp .f32 (iotaInDim S4096 32 0)))) (broadcastInDim S4096x32 ![0, 1] bcast_S1x32_S4096x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))

/-- Their cosines and sines. -/
def cosT : FVec Ideal S4096x32 .f32 := Host.cos angT
def sinT : FVec Ideal S4096x32 .f32 := Host.sin angT

/-- The reference's result from the projected rows. -/
def cache (P : FVec Ideal S17408x9216 .f32) : FVec Ideal S4x128x2x4x64 .f32 :=
  extractStridedSlice S4x128x2x4x64 ![0, 3968, 0, 0, 0] (concatenate S4x4096x2x4x64 2 [⟨S4x4096x1x4x64, (broadcastInDim S4x4096x1x4x64 ![0, 1, 3, 4] bcast_S4x4096x4x64_S4x4096x1x4x64_0_1_3_4 (concatenate S4x4096x4x64 3 [⟨S4x4096x4x32, (subf (mulf (extractStridedSlice S4x4096x4x32 ![0, 0, 0, 0] (shapeCast _ (extractStridedSlice S16384x256 ![0, 6912] P slices_S17408x9216_S16384x256_0_6912) shapeCasts_S16384x256_S4x4096x4x64) slices_S4x4096x4x64_S4x4096x4x32_0_0_0_0) (broadcastInDim S4x4096x4x32 ![0, 1, 2, 3] bcast_S1x4096x1x32_S4x4096x4x32_0_1_2_3 (broadcastInDim S1x4096x1x32 ![1, 3] bcast_S4096x32_S1x4096x1x32_1_3 cosT))) (mulf (extractStridedSlice S4x4096x4x32 ![0, 0, 0, 32] (shapeCast _ (extractStridedSlice S16384x256 ![0, 6912] P slices_S17408x9216_S16384x256_0_6912) shapeCasts_S16384x256_S4x4096x4x64) slices_S4x4096x4x64_S4x4096x4x32_0_0_0_32) (broadcastInDim S4x4096x4x32 ![0, 1, 2, 3] bcast_S1x4096x1x32_S4x4096x4x32_0_1_2_3 (broadcastInDim S1x4096x1x32 ![1, 3] bcast_S4096x32_S1x4096x1x32_1_3 sinT))))⟩, ⟨S4x4096x4x32, (addf (mulf (extractStridedSlice S4x4096x4x32 ![0, 0, 0, 0] (shapeCast _ (extractStridedSlice S16384x256 ![0, 6912] P slices_S17408x9216_S16384x256_0_6912) shapeCasts_S16384x256_S4x4096x4x64) slices_S4x4096x4x64_S4x4096x4x32_0_0_0_0) (broadcastInDim S4x4096x4x32 ![0, 1, 2, 3] bcast_S1x4096x1x32_S4x4096x4x32_0_1_2_3 (broadcastInDim S1x4096x1x32 ![1, 3] bcast_S4096x32_S1x4096x1x32_1_3 sinT))) (mulf (extractStridedSlice S4x4096x4x32 ![0, 0, 0, 32] (shapeCast _ (extractStridedSlice S16384x256 ![0, 6912] P slices_S17408x9216_S16384x256_0_6912) shapeCasts_S16384x256_S4x4096x4x64) slices_S4x4096x4x64_S4x4096x4x32_0_0_0_32) (broadcastInDim S4x4096x4x32 ![0, 1, 2, 3] bcast_S1x4096x1x32_S4x4096x4x32_0_1_2_3 (broadcastInDim S1x4096x1x32 ![1, 3] bcast_S4096x32_S1x4096x1x32_1_3 cosT))))⟩] concatenates_S4x4096x4x32_S4x4096x4x32_S4x4096x4x64_d3))⟩, ⟨S4x4096x1x4x64, (broadcastInDim S4x4096x1x4x64 ![0, 1, 3, 4] bcast_S4x4096x4x64_S4x4096x1x4x64_0_1_3_4 (shapeCast _ (extractStridedSlice S16384x256 ![0, 7168] P slices_S17408x9216_S16384x256_0_7168) shapeCasts_S16384x256_S4x4096x4x64))⟩] concatenates_S4x4096x1x4x64_S4x4096x1x4x64_S4x4096x2x4x64_d2) slices_S4x4096x2x4x64_S4x128x2x4x64_0_3968_0_0_0

theorem cache_eq (m : (ℓ : Loc nD τ sig) → Buf (Elt Ideal) ℓ) (c : Dev nD) : res_out0 m c = cache (m (c.tc.loc main_arg0)) := rfl

theorem cache_key (P : FVec Ideal S17408x9216 .f32) (b : Fin 4) (r : Fin 128) (h : Fin 4) (d : Fin 64) :
    cache P (ix5 b r 0 h d) = turned (fun j => at2 P (b.val * 4096 + (3968 + r.val)) (6912 + j))
      (at2 cosT (3968 + r.val)) (at2 sinT (3968 + r.val)) (h.val * 64 + d.val) := by
  pointwise [cache]
  split_ifs with h1
  · refine turned_low' (by omega) (at2_of _ _ _ _ _ ?_ ?_) (at2_of _ _ _ _ _ ?_ ?_) (at2_of _ _ _ _ _ ?_ ?_) (at2_of _ _ _ _ _ ?_ ?_)
    all_goals (first | rfl | omega | (dsimp only; omega))
  all_goals
    refine turned_high' (by omega) (at2_of _ _ _ _ _ ?_ ?_) (at2_of _ _ _ _ _ ?_ ?_) (at2_of _ _ _ _ _ ?_ ?_) (at2_of _ _ _ _ _ ?_ ?_)
    all_goals (first | rfl | omega | (dsimp only; omega))

theorem cache_value (P : FVec Ideal S17408x9216 .f32) (b : Fin 4) (r : Fin 128) (h : Fin 4) (d : Fin 64) :
    cache P (ix5 b r 1 h d) = at2 P (b.val * 4096 + (3968 + r.val)) (7168 + (h.val * 64 + d.val)) := by
  pointwise [cache]
  refine at2_of _ _ _ _ _ ?_ ?_ <;> (first | rfl | omega | (dsimp only; omega))

end Cert.Prompt0RefIdeal.Rows
-- ==== Proof.Prompt0Value.lean ====
/- The prompt call's key rows against their reference at the ideal instance: a block's rows are the projected rows' key
   columns turned by their positions' angles, and the cache the host makes of them is the reference's. -/
module

public import proofs.«01_k».proof.Proof.Gen.Prompt0Ideal.Frame
public import proofs.«01_k».proof.Proof.Prompt0Rows
public import Idealize.ShloMosaic.Lib.Claim

@[expose] public section

set_option maxRecDepth 100000

noncomputable section

open Idealize.ShloMosaic Idealize.ShloMosaic.TcCoe Idealize.SL.Sem Idealize.ShloMosaic.StableHlo
open Idealize.ShloMosaic.Pipeline (Dat)
open Cert.RotarySpec

namespace Cert.Prompt0Ideal.Plain
open Cert.Prompt0Ideal Cert.Prompt0Ideal.Gen
open Cert.Prompt0RefIdeal.Rows (cosT sinT)

/-- A block of turned keys at an index. -/
theorem keys_at (k c s : FVec Ideal S512x256 .f32) (r : Fin 512) (j : Fin 256) (x cos sin : ℕ → EReal) (hx : ∀ i : Fin 256, k (ix2 r i) = x i.val)
    (hc : c (ix2 r j) = cos (j.val % 32)) (hs : s (ix2 r j) = sin (j.val % 32)) :
    k0_pay4 (F := Ideal) k (k0_pay3 (F := Ideal) c) s (ix2 r j) = turned x cos sin j.val := by
  pointwise [k0_pay4, k0_pay3]
  rw [half_lane]
  by_cases h : j.val % 64 < 32
  · rw [if_pos h]
    refine (congrArg (k (ix2 r j) * c (ix2 r j) + · * s (ix2 r j)) (zero_sub _)).trans (turned_low h (hx j) ((hx _).trans (congrArg x ?_)) hc hs)
    (first | rfl | omega | (dsimp only; omega))
  · rw [if_neg h]
    refine turned_high h (hx j) ((hx _).trans (congrArg x ?_)) hc hs
    (first | rfl | omega | (dsimp only; omega))

/-- The tables' rows spread over the heads. -/
def spread (T : FVec Ideal S4096x32 .f32) : FVec Ideal S4096x256 .f32 :=
  (shapeCast S4096x256 (broadcastInDim S1x4096x8x32 ![0, 1, 2, 3] bcast_S1x4096x1x32_S1x4096x8x32_0_1_2_3 (shapeCast S1x4096x1x32 T shapeCasts_S4096x32_S1x4096x1x32)) shapeCasts_S1x4096x8x32_S4096x256)

theorem spread_at (T : FVec Ideal S4096x32 .f32) (r : Fin 4096) (j : Fin 256) :
    spread T (ix2 r j) = at2 T (r.val * 1 + j.val / 256) (j.val % 32) := by
  pointwise [spread]
  refine at2_of _ _ _ _ _ ?_ ?_ <;> (first | rfl | omega | (dsimp only; omega))

variable (m : (ℓ : Loc nD τ sig) → Buf (Elt Ideal) ℓ)

theorem V_cos (c : Dev nD) : V m c main_v16 = spread cosT := by
  unfold V V0; simp only [List.flatten_cons, List.flatten_nil, List.append_nil]; after_results
  rfl

theorem V_sin (c : Dev nD) : V m c main_v20 = spread sinT := by
  unfold V V0; simp only [List.flatten_cons, List.flatten_nil, List.append_nil]; after_results
  rfl

theorem idx : ∀ t : Fin cfg0.N, win0_1.index t = ![(t.val / 8 * 8 + t.val % 8), 27] ∧ win0_5.index t = ![(t.val % 8), (t.val / 8 % 1)] ∧ win0_6.index t = ![(t.val % 8), (t.val / 8 % 1)] ∧ win0_11.index t = ![(t.val / 8 * 8 + t.val % 8), (t.val / 8 % 1)] :=
  (by decide +kernel : ∀ t : Fin grid0.N, _)

theorem key_at (c : Dev nD) (t : Fin cfg0.N) (r : Fin 512) (i : Fin 256) :
    (show FVec Ideal S512x256 .f32 from iblk m c 1 t) (ix2 r i)
    = at2 (a := 17408) (b := 9216) (m ((c : Thread nD τ).loc main_arg0)) (((t.val / 8 * 8 + t.val % 8) * 512 + r.val) * 1 + (t.val / 8 % 1)) (6912 + i.val) := by
  have ht : t.val < 32 := t.isLt
  have e : (show FVec Ideal S512x256 .f32 from iblk m c 1 t) (ix2 r i)
      = (show FVec Ideal S17408x9216 .f32 from m ((c : Thread nD τ).loc main_arg0)) (ix2 ⟨(t.val / 8 * 8 + t.val % 8) * 512 + r.val, by omega⟩ ⟨6912 + i.val, by omega⟩) := by
    blk_ext [iblk, V, idx t]
  refine e.trans (at2_of _ _ _ _ _ ?_ ?_) <;> (first | rfl | omega | (dsimp only; omega))

theorem cos_at (c : Dev nD) (t : Fin cfg0.N) (r : Fin 512) (i : Fin 256) :
    (show FVec Ideal S512x256 .f32 from iblk m c 5 t) (ix2 r i) = at2 cosT (((t.val % 8) * 512 + r.val) * 1 + (t.val / 8 % 1)) (i.val % 32) := by
  have ht : t.val < 32 := t.isLt
  have e : (show FVec Ideal S512x256 .f32 from iblk m c 5 t) (ix2 r i)
      = (show FVec Ideal S4096x256 .f32 from V m c main_v16) (ix2 ⟨(t.val % 8) * 512 + r.val, by omega⟩ ⟨(t.val / 8 % 1) * 256 + i.val, by omega⟩) := by
    blk_ext [iblk, idx t]
  refine e.trans ((congrFun (V_cos m c) _).trans ((spread_at _ _ _).trans (congrArg₂ (at2 _) ?_ ?_))) <;> (first | rfl | omega | (dsimp only; omega))

theorem sin_at (c : Dev nD) (t : Fin cfg0.N) (r : Fin 512) (i : Fin 256) :
    (show FVec Ideal S512x256 .f32 from iblk m c 6 t) (ix2 r i) = at2 sinT (((t.val % 8) * 512 + r.val) * 1 + (t.val / 8 % 1)) (i.val % 32) := by
  have ht : t.val < 32 := t.isLt
  have e : (show FVec Ideal S512x256 .f32 from iblk m c 6 t) (ix2 r i)
      = (show FVec Ideal S4096x256 .f32 from V m c main_v20) (ix2 ⟨(t.val % 8) * 512 + r.val, by omega⟩ ⟨(t.val / 8 % 1) * 256 + i.val, by omega⟩) := by
    blk_ext [iblk, idx t]
  refine e.trans ((congrFun (V_sin m c) _).trans ((spread_at _ _ _).trans (congrArg₂ (at2 _) ?_ ?_))) <;> (first | rfl | omega | (dsimp only; omega))

/-- The array of turned keys: row and phase give the position. -/
def keys (P : FVec Ideal S17408x9216 .f32) : FVec Ideal S16384x256 .f32 := fun i =>
  turned (fun j => at2 P ((i 0).val * 1 + (i 1).val / 256) (6912 + j)) (at2 cosT (((i 0).val * 1 + (i 1).val / 256) % 4096))
    (at2 sinT (((i 0).val * 1 + (i 1).val / 256) % 4096)) ((i 1).val % 256)

/-- A point's block at an index is the array there. -/
theorem point (c : Dev nD) (t : Fin cfg0.N) (r : Fin 512) (j : Fin 256) (R : Fin 16384) (J : Fin 256)
    (hR : R.val = (t.val / 8 * 8 + t.val % 8) * 512 + r.val) (hJ : J.val = (t.val / 8 % 1) * 256 + j.val) :
    k0_pay4 (F := Ideal) (iblk m c 1 t) (k0_pay3 (F := Ideal) (iblk m c 5 t)) (iblk m c 6 t) (ix2 r j) = keys (m ((c : Thread nD τ).loc main_arg0)) (ix2 R J) := by
  have ht : t.val < 32 := t.isLt
  refine (keys_at _ _ _ r j (fun i => at2 (a := 17408) (b := 9216) (m ((c : Thread nD τ).loc main_arg0)) (((t.val / 8 * 8 + t.val % 8) * 512 + r.val) * 1 + (t.val / 8 % 1)) (6912 + i)) _ _ (fun i => key_at m c t r i) (cos_at m c t r j) (sin_at m c t r j)).trans ?_
  show _ = turned (fun j => at2 _ (R.val * 1 + J.val / 256) (6912 + j)) (at2 cosT ((R.val * 1 + J.val / 256) % 4096))
    (at2 sinT ((R.val * 1 + J.val / 256) % 4096)) (J.val % 256)
  have e1 : R.val * 1 + J.val / 256 = ((t.val / 8 * 8 + t.val % 8) * 512 + r.val) * 1 + (t.val / 8 % 1) := by omega
  have e2 : (R.val * 1 + J.val / 256) % 4096 = ((t.val % 8) * 512 + r.val) * 1 + (t.val / 8 % 1) := by omega
  have e3 : J.val % 256 = j.val := by omega
  rw [e2, e1, e3]

theorem out_eq (c : Dev nD) (t : Fin cfg0.N) :
    (dats m 0 c).after 11 t = k0_pay4 (F := Ideal) (iblk m c 1 t) (k0_pay3 (F := Ideal) (iblk m c 5 t)) (iblk m c 6 t) := by
  rw [after0_11]
  unfold out0_11 k0_pay91
  frame_out

theorem final (c : Dev nD) : (dats m 0 c).arrAt 11 (cfgs 0).N = keys (m ((c : Thread nD τ).loc main_arg0)) := by
  refine (dats m 0 c).arrAt_eq_of_covers 11 _ (by decide +kernel) fun t hf y => ?_
  blk_simp
  rw [out_eq]
  have ht : t.val < 32 := t.isLt
  have h0 : (y 0).val < 512 := (y 0).isLt
  have h1 : (y 1).val < 256 := (y 1).isLt
  refine Eq.trans ?_ ((point m c t ⟨(y 0).val, h0⟩ ⟨(y 1).val, h1⟩ ⟨(t.val / 8 * 8 + t.val % 8) * 512 + (y 0).val, by omega⟩ ⟨(t.val / 8 % 1) * 256 + (y 1).val, by omega⟩ rfl rfl).trans ?_)
  · refine congrArg _ ?_
    blk_ext
  · refine congrArg _ ?_
    blk_ext [idx t]

/-- The cache from the projected rows and the array of turned keys. -/
def cache (P : FVec Ideal S17408x9216 .f32) (K : FVec Ideal S16384x256 .f32) : FVec Ideal S4x128x2x4x64 .f32 :=
  (shapeCast S4x128x2x4x64 (concatenate S4x128x2x256 2 [⟨S4x128x1x256, ((broadcastInDim S4x128x1x256 ![0, 1, 3] bcast_S4x128x256_S4x128x1x256_0_1_3 (extractStridedSlice S4x128x256 ![0, 3968, 0] (shapeCast S4x4096x256 K shapeCasts_S16384x256_S4x4096x256) slices_S4x4096x256_S4x128x256_0_3968_0)))⟩, ⟨S4x128x1x256, ((broadcastInDim S4x128x1x256 ![0, 1, 3] bcast_S4x128x256_S4x128x1x256_0_1_3 (concatenate S4x128x256 0 [⟨S1x128x256, ((broadcastInDim S1x128x256 ![1, 2] bcast_S128x256_S1x128x256_1_2 (extractStridedSlice S128x256 ![3968, 7168] P slices_S17408x9216_S128x256_3968_7168)))⟩, ⟨S1x128x256, ((broadcastInDim S1x128x256 ![1, 2] bcast_S128x256_S1x128x256_1_2 (extractStridedSlice S128x256 ![8064, 7168] P slices_S17408x9216_S128x256_8064_7168)))⟩, ⟨S1x128x256, ((broadcastInDim S1x128x256 ![1, 2] bcast_S128x256_S1x128x256_1_2 (extractStridedSlice S128x256 ![12160, 7168] P slices_S17408x9216_S128x256_12160_7168)))⟩, ⟨S1x128x256, ((broadcastInDim S1x128x256 ![1, 2] bcast_S128x256_S1x128x256_1_2 (extractStridedSlice S128x256 ![16256, 7168] P slices_S17408x9216_S128x256_16256_7168)))⟩] concatenates_S1x128x256_S1x128x256_S1x128x256_S1x128x256_S4x128x256_d0 : (⟨S4x128x256, .f32⟩ : BufTy).Contents (Elt Ideal))))⟩] concatenates_S4x128x1x256_S4x128x1x256_S4x128x2x256_d2) shapeCasts_S4x128x2x256_S4x128x2x4x64)

theorem cache_key (P : FVec Ideal S17408x9216 .f32) (K : FVec Ideal S16384x256 .f32) (b : Fin 4) (r : Fin 128) (h : Fin 4) (d : Fin 64) :
    cache P K (ix5 b r 0 h d) = at2 K ((b.val * 4096 + (3968 + r.val)) / 1) ((3968 + r.val) % 1 * 256 + (h.val * 64 + d.val)) := by
  pointwise [cache]
  refine at2_of _ _ _ _ _ ?_ ?_ <;> (first | rfl | omega | (dsimp only; omega))

theorem cache_value (P : FVec Ideal S17408x9216 .f32) (K : FVec Ideal S16384x256 .f32) (b : Fin 4) (r : Fin 128) (h : Fin 4) (d : Fin 64) :
    cache P K (ix5 b r 1 h d) = at2 P (b.val * 4096 + (3968 + r.val)) (7168 + (h.val * 64 + d.val)) := by
  pointwise [cache]
  split_ifs
  all_goals refine at2_of _ _ _ _ _ ?_ ?_ <;> (first | rfl | omega | (dsimp only; omega))

theorem cache_eq (P : FVec Ideal S17408x9216 .f32) : cache P (keys P) = Cert.Prompt0RefIdeal.Rows.cache P := by
  funext i
  rw [eq_ix5 i]
  generalize i 0 = b, i 1 = r, i 2 = s, i 3 = h, i 4 = d
  change Fin 4 at b
  change Fin 128 at r
  change Fin 2 at s
  change Fin 4 at h
  change Fin 64 at d
  obtain rfl | rfl : s = 0 ∨ s = 1 := by omega
  · refine (cache_key P _ b r h d).trans (Eq.trans ?_ (Cert.Prompt0RefIdeal.Rows.cache_key P b r h d).symm)
    unfold at2
    rw [dif_pos ⟨by omega, by omega⟩]
    show turned (fun j => at2 P ((b.val * 4096 + (3968 + r.val)) / 1 * 1 + ((3968 + r.val) % 1 * 256 + (h.val * 64 + d.val)) / 256) (6912 + j))
      (at2 cosT (((b.val * 4096 + (3968 + r.val)) / 1 * 1 + ((3968 + r.val) % 1 * 256 + (h.val * 64 + d.val)) / 256) % 4096))
      (at2 sinT (((b.val * 4096 + (3968 + r.val)) / 1 * 1 + ((3968 + r.val) % 1 * 256 + (h.val * 64 + d.val)) / 256) % 4096))
      (((3968 + r.val) % 1 * 256 + (h.val * 64 + d.val)) % 256) = _
    have e1 : (b.val * 4096 + (3968 + r.val)) / 1 * 1 + ((3968 + r.val) % 1 * 256 + (h.val * 64 + d.val)) / 256 = b.val * 4096 + (3968 + r.val) := by omega
    have e2 : (b.val * 4096 + (3968 + r.val)) % 4096 = 3968 + r.val := by omega
    have e3 : ((3968 + r.val) % 1 * 256 + (h.val * 64 + d.val)) % 256 = h.val * 64 + d.val := by omega
    rw [e1, e2, e3]
    rfl
  · exact (cache_value P _ b r h d).trans (Cert.Prompt0RefIdeal.Rows.cache_value P b r h d).symm

set_option maxHeartbeats 2000000 in
theorem tail (W : Valuation τ sig (Elt Ideal)) : StableHlo.after (List.flatten [hostOps1]) W (Proc.devRef .tc main_v36)
    = cache (W (Proc.devRef .tc main_arg0)) (W (Proc.devRef .tc main_v21_2)) := by
  simp only [List.flatten_cons, List.flatten_nil, List.append_nil]
  after_results_simp <;> (try dsimp only [Matrix.cons_val]) <;> (try after_results_simp) <;> rfl

theorem shared : ∀ w w' : Fin cfg0.W, w ≠ w' → Pipeline.arrRef (cfgs 0).spec w = Pipeline.arrRef (cfgs 0).spec w' → ((cfgs 0).win w).isOut = false := by
  decide +kernel

/-- The buffers at the region's exit. -/
def exitV (c : Dev nD) : Valuation τ sig (Elt Ideal) := Pipeline.withArrays (cfgs 0).spec c (V0 m c) fun w => (dats m 0 c).arrAt w (cfgs 0).N

theorem exit_keys (c : Dev nD) : exitV m c (Proc.devRef .tc main_v21_2) = (dats m 0 c).arrAt 11 (cfgs 0).N :=
  Pipeline.withArrays_arr_shared (cfgs 0).spec c (V0 m c) (fun w => (dats m 0 c).arrAt w (cfgs 0).N)
    (fun w w' hne e => ((dats m 0 c).arrAt_in w (shared w w' hne e) _).trans (A_eq m c w)) 11

theorem exit_arg0 (c : Dev nD) : exitV m c (Proc.devRef .tc main_arg0) = m ((c : Thread nD τ).loc main_arg0) :=
  (Pipeline.withArrays_arr_shared (cfgs 0).spec c (V0 m c) (fun w => (dats m 0 c).arrAt w (cfgs 0).N)
    (fun w w' hne e => ((dats m 0 c).arrAt_in w (shared w w' hne e) _).trans (A_eq m c w)) 1).trans
    (((dats m 0 c).arrAt_in 1 rfl _).trans ((A_eq m c 1).trans (V_main_arg0 m c)))

/-- Every run from any memory ends with the result at the reference's value of its argument, the argument unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v36) = Cert.Prompt0RefIdeal.Rows.cache (m ((c.tc : Thread nD τ).loc main_arg0))
      ∧ r.2.mem ((c.tc : Thread nD τ).loc main_arg0) = m ((c.tc : Thread nD τ).loc main_arg0) := by
  refine (θ_run _ _ _).mono (fun r h c => ?_) (θ_run_and (run_main m ρ) (unchanged m ρ))
  refine ⟨?_, h.2 c⟩
  refine ((h.1 c).2 main_v36 (by decide)).trans ((tail (exitV m c)).trans ?_)
  rw [(exit_keys m c).trans (final m c), exit_arg0 m c]
  exact cache_eq _

end Cert.Prompt0Ideal.Plain
-- ==== Proof.Prompt1Rows.lean ====
/- The prompt cache of the reference at an index: the turned keys of each sequence's last rows, and the values. -/
module

public import proofs.«01_k».proof.Proof.Gen.Prompt1RefIdeal.Run
public import proofs.«01_k».proof.Proof.RotarySpec

@[expose] public section

set_option maxRecDepth 100000

noncomputable section

open Idealize.ShloMosaic Idealize.ShloMosaic.TcCoe Idealize.SL.Sem
open Cert.RotarySpec

namespace Cert.Prompt1RefIdeal.Rows
open Cert.Prompt1RefIdeal Cert.Prompt1RefIdeal.Gen Cert.Prompt1RefIdeal.Value

/-- Every position's angles. -/
def angT : FVec Ideal S4096x32 .f32 := (mulf (broadcastInDim S4096x32 ![0, 1] bcast_S4096x1_S4096x32_0_1 (broadcastInDim S4096x1 ![0] bcast_S4096_S4096x1_0 (sitofp .f32 (iotaInDim S4096 32 0)))) (broadcastInDim S4096x32 ![0, 1] bcast_S1x32_S4096x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))

/-- Their cosines and sines. -/
def cosT : FVec Ideal S4096x32 .f32 := Host.cos angT
def sinT : FVec Ideal S4096x32 .f32 := Host.sin angT

/-- The reference's result from the projected rows. -/
def cache (P : FVec Ideal S17408x9216 .f32) : FVec Ideal S4x512x2x4x64 .f32 :=
  extractStridedSlice S4x512x2x4x64 ![0, 3584, 0, 0, 0] (concatenate S4x4096x2x4x64 2 [⟨S4x4096x1x4x64, (broadcastInDim S4x4096x1x4x64 ![0, 1, 3, 4] bcast_S4x4096x4x64_S4x4096x1x4x64_0_1_3_4 (concatenate S4x4096x4x64 3 [⟨S4x4096x4x32, (subf (mulf (extractStridedSlice S4x4096x4x32 ![0, 0, 0, 0] (shapeCast _ (extractStridedSlice S16384x256 ![0, 7680] P slices_S17408x9216_S16384x256_0_7680) shapeCasts_S16384x256_S4x4096x4x64) slices_S4x4096x4x64_S4x4096x4x32_0_0_0_0) (broadcastInDim S4x4096x4x32 ![0, 1, 2, 3] bcast_S1x4096x1x32_S4x4096x4x32_0_1_2_3 (broadcastInDim S1x4096x1x32 ![1, 3] bcast_S4096x32_S1x4096x1x32_1_3 cosT))) (mulf (extractStridedSlice S4x4096x4x32 ![0, 0, 0, 32] (shapeCast _ (extractStridedSlice S16384x256 ![0, 7680] P slices_S17408x9216_S16384x256_0_7680) shapeCasts_S16384x256_S4x4096x4x64) slices_S4x4096x4x64_S4x4096x4x32_0_0_0_32) (broadcastInDim S4x4096x4x32 ![0, 1, 2, 3] bcast_S1x4096x1x32_S4x4096x4x32_0_1_2_3 (broadcastInDim S1x4096x1x32 ![1, 3] bcast_S4096x32_S1x4096x1x32_1_3 sinT))))⟩, ⟨S4x4096x4x32, (addf (mulf (extractStridedSlice S4x4096x4x32 ![0, 0, 0, 0] (shapeCast _ (extractStridedSlice S16384x256 ![0, 7680] P slices_S17408x9216_S16384x256_0_7680) shapeCasts_S16384x256_S4x4096x4x64) slices_S4x4096x4x64_S4x4096x4x32_0_0_0_0) (broadcastInDim S4x4096x4x32 ![0, 1, 2, 3] bcast_S1x4096x1x32_S4x4096x4x32_0_1_2_3 (broadcastInDim S1x4096x1x32 ![1, 3] bcast_S4096x32_S1x4096x1x32_1_3 sinT))) (mulf (extractStridedSlice S4x4096x4x32 ![0, 0, 0, 32] (shapeCast _ (extractStridedSlice S16384x256 ![0, 7680] P slices_S17408x9216_S16384x256_0_7680) shapeCasts_S16384x256_S4x4096x4x64) slices_S4x4096x4x64_S4x4096x4x32_0_0_0_32) (broadcastInDim S4x4096x4x32 ![0, 1, 2, 3] bcast_S1x4096x1x32_S4x4096x4x32_0_1_2_3 (broadcastInDim S1x4096x1x32 ![1, 3] bcast_S4096x32_S1x4096x1x32_1_3 cosT))))⟩] concatenates_S4x4096x4x32_S4x4096x4x32_S4x4096x4x64_d3))⟩, ⟨S4x4096x1x4x64, (broadcastInDim S4x4096x1x4x64 ![0, 1, 3, 4] bcast_S4x4096x4x64_S4x4096x1x4x64_0_1_3_4 (shapeCast _ (extractStridedSlice S16384x256 ![0, 7936] P slices_S17408x9216_S16384x256_0_7936) shapeCasts_S16384x256_S4x4096x4x64))⟩] concatenates_S4x4096x1x4x64_S4x4096x1x4x64_S4x4096x2x4x64_d2) slices_S4x4096x2x4x64_S4x512x2x4x64_0_3584_0_0_0

theorem cache_eq (m : (ℓ : Loc nD τ sig) → Buf (Elt Ideal) ℓ) (c : Dev nD) : res_out0 m c = cache (m (c.tc.loc main_arg0)) := rfl

theorem cache_key (P : FVec Ideal S17408x9216 .f32) (b : Fin 4) (r : Fin 512) (h : Fin 4) (d : Fin 64) :
    cache P (ix5 b r 0 h d) = turned (fun j => at2 P (b.val * 4096 + (3584 + r.val)) (7680 + j))
      (at2 cosT (3584 + r.val)) (at2 sinT (3584 + r.val)) (h.val * 64 + d.val) := by
  pointwise [cache]
  split_ifs with h1
  · refine turned_low' (by omega) (at2_of _ _ _ _ _ ?_ ?_) (at2_of _ _ _ _ _ ?_ ?_) (at2_of _ _ _ _ _ ?_ ?_) (at2_of _ _ _ _ _ ?_ ?_)
    all_goals (first | rfl | omega | (dsimp only; omega))
  all_goals
    refine turned_high' (by omega) (at2_of _ _ _ _ _ ?_ ?_) (at2_of _ _ _ _ _ ?_ ?_) (at2_of _ _ _ _ _ ?_ ?_) (at2_of _ _ _ _ _ ?_ ?_)
    all_goals (first | rfl | omega | (dsimp only; omega))

theorem cache_value (P : FVec Ideal S17408x9216 .f32) (b : Fin 4) (r : Fin 512) (h : Fin 4) (d : Fin 64) :
    cache P (ix5 b r 1 h d) = at2 P (b.val * 4096 + (3584 + r.val)) (7936 + (h.val * 64 + d.val)) := by
  pointwise [cache]
  refine at2_of _ _ _ _ _ ?_ ?_ <;> (first | rfl | omega | (dsimp only; omega))

end Cert.Prompt1RefIdeal.Rows
-- ==== Proof.Prompt1Value.lean ====
/- The prompt call's key rows against their reference at the ideal instance: a block's rows are the projected rows' key
   columns turned by their positions' angles, and the cache the host makes of them is the reference's. -/
module

public import proofs.«01_k».proof.Proof.Gen.Prompt1Ideal.Frame
public import proofs.«01_k».proof.Proof.Prompt1Rows
public import Idealize.ShloMosaic.Lib.Claim

@[expose] public section

set_option maxRecDepth 100000

noncomputable section

open Idealize.ShloMosaic Idealize.ShloMosaic.TcCoe Idealize.SL.Sem Idealize.ShloMosaic.StableHlo
open Idealize.ShloMosaic.Pipeline (Dat)
open Cert.RotarySpec

namespace Cert.Prompt1Ideal.Plain
open Cert.Prompt1Ideal Cert.Prompt1Ideal.Gen
open Cert.Prompt1RefIdeal.Rows (cosT sinT)

/-- A block of turned keys at an index. -/
theorem keys_at (k c s : FVec Ideal S512x256 .f32) (r : Fin 512) (j : Fin 256) (x cos sin : ℕ → EReal) (hx : ∀ i : Fin 256, k (ix2 r i) = x i.val)
    (hc : c (ix2 r j) = cos (j.val % 32)) (hs : s (ix2 r j) = sin (j.val % 32)) :
    k0_pay4 (F := Ideal) (k0_pay2 (F := Ideal) k) (k0_pay3 (F := Ideal) c) s (ix2 r j) = turned x cos sin j.val := by
  pointwise [k0_pay4, k0_pay2, k0_pay3]
  rw [half_lane]
  by_cases h : j.val % 64 < 32
  · rw [if_pos h]
    refine (congrArg (k (ix2 r j) * c (ix2 r j) + · * s (ix2 r j)) (zero_sub _)).trans (turned_low h (hx j) ((hx _).trans (congrArg x ?_)) hc hs)
    (first | rfl | omega | (dsimp only; omega))
  · rw [if_neg h]
    refine turned_high h (hx j) ((hx _).trans (congrArg x ?_)) hc hs
    (first | rfl | omega | (dsimp only; omega))

/-- The tables' rows spread over the heads. -/
def spread (T : FVec Ideal S4096x32 .f32) : FVec Ideal S1024x1024 .f32 :=
  (shapeCast S1024x1024 (shapeCast S4096x256 (broadcastInDim S1x4096x8x32 ![0, 1, 2, 3] bcast_S1x4096x1x32_S1x4096x8x32_0_1_2_3 (shapeCast S1x4096x1x32 T shapeCasts_S4096x32_S1x4096x1x32)) shapeCasts_S1x4096x8x32_S4096x256) shapeCasts_S4096x256_S1024x1024)

theorem spread_at (T : FVec Ideal S4096x32 .f32) (r : Fin 1024) (j : Fin 1024) :
    spread T (ix2 r j) = at2 T (r.val * 4 + j.val / 256) (j.val % 32) := by
  pointwise [spread]
  refine at2_of _ _ _ _ _ ?_ ?_ <;> (first | rfl | omega | (dsimp only; omega))

variable (m : (ℓ : Loc nD τ sig) → Buf (Elt Ideal) ℓ)

theorem V_cos (c : Dev nD) : V m c main_v23 = spread cosT := by
  unfold V V0; simp only [List.flatten_cons, List.flatten_nil, List.append_nil]; after_results
  rfl

theorem V_sin (c : Dev nD) : V m c main_v24 = spread sinT := by
  unfold V V0; simp only [List.flatten_cons, List.flatten_nil, List.append_nil]; after_results
  rfl

/-- The group's columns, its dilation's phases side by side. -/
def phases (P : FVec Ideal S17408x9216 .f32) : FVec Ideal S4096x3072 .f32 :=
  (shapeCast S4096x3072 (extractStridedSlice S16384x768 ![0, 7424] P slices_S17408x9216_S16384x768_0_7424) shapeCasts_S16384x768_S4096x3072)

theorem phases_at (P : FVec Ideal S17408x9216 .f32) (r : Fin 4096) (j : Fin 3072) :
    phases P (ix2 r j) = at2 P (r.val * 4 + j.val / 768) (7424 + j.val % 768) := by
  pointwise [phases]
  refine at2_of _ _ _ _ _ ?_ ?_ <;> (first | rfl | omega | (dsimp only; omega))

theorem V_phases (c : Dev nD) : V m c main_v22 = phases (m ((c : Thread nD τ).loc main_arg0)) := by
  unfold V V0; simp only [List.flatten_cons, List.flatten_nil, List.append_nil]; after_results
  rfl

theorem idx : ∀ t : Fin cfg0.N, win0_1.index t = ![(t.val / 8 * 2 + t.val % 2), (t.val / 2 % 4) * 3 + 1] ∧ win0_5.index t = ![(t.val % 2), (t.val / 2 % 4)] ∧ win0_6.index t = ![(t.val % 2), (t.val / 2 % 4)] ∧ win0_11.index t = ![(t.val / 8 * 2 + t.val % 2), (t.val / 2 % 4)] :=
  (by decide +kernel : ∀ t : Fin grid0.N, _)

theorem key_at (c : Dev nD) (t : Fin cfg0.N) (r : Fin 512) (i : Fin 256) :
    (show FVec Ideal S512x256 .f32 from iblk m c 1 t) (ix2 r i)
    = at2 (a := 17408) (b := 9216) (m ((c : Thread nD τ).loc main_arg0)) (((t.val / 8 * 2 + t.val % 2) * 512 + r.val) * 4 + (t.val / 2 % 4)) (7680 + i.val) := by
  have ht : t.val < 32 := t.isLt
  have e : (show FVec Ideal S512x256 .f32 from iblk m c 1 t) (ix2 r i)
      = (show FVec Ideal S4096x3072 .f32 from V m c main_v22) (ix2 ⟨(t.val / 8 * 2 + t.val % 2) * 512 + r.val, by omega⟩ ⟨((t.val / 2 % 4) * 3 + 1) * 256 + i.val, by omega⟩) := by
    blk_ext [iblk, idx t]
  refine e.trans ((congrFun (V_phases m c) _).trans ((phases_at _ _ _).trans (congrArg₂ (at2 _) ?_ ?_))) <;> (first | rfl | omega | (dsimp only; omega))

theorem cos_at (c : Dev nD) (t : Fin cfg0.N) (r : Fin 512) (i : Fin 256) :
    (show FVec Ideal S512x256 .f32 from iblk m c 5 t) (ix2 r i) = at2 cosT (((t.val % 2) * 512 + r.val) * 4 + (t.val / 2 % 4)) (i.val % 32) := by
  have ht : t.val < 32 := t.isLt
  have e : (show FVec Ideal S512x256 .f32 from iblk m c 5 t) (ix2 r i)
      = (show FVec Ideal S1024x1024 .f32 from V m c main_v23) (ix2 ⟨(t.val % 2) * 512 + r.val, by omega⟩ ⟨(t.val / 2 % 4) * 256 + i.val, by omega⟩) := by
    blk_ext [iblk, idx t]
  refine e.trans ((congrFun (V_cos m c) _).trans ((spread_at _ _ _).trans (congrArg₂ (at2 _) ?_ ?_))) <;> (first | rfl | omega | (dsimp only; omega))

theorem sin_at (c : Dev nD) (t : Fin cfg0.N) (r : Fin 512) (i : Fin 256) :
    (show FVec Ideal S512x256 .f32 from iblk m c 6 t) (ix2 r i) = at2 sinT (((t.val % 2) * 512 + r.val) * 4 + (t.val / 2 % 4)) (i.val % 32) := by
  have ht : t.val < 32 := t.isLt
  have e : (show FVec Ideal S512x256 .f32 from iblk m c 6 t) (ix2 r i)
      = (show FVec Ideal S1024x1024 .f32 from V m c main_v24) (ix2 ⟨(t.val % 2) * 512 + r.val, by omega⟩ ⟨(t.val / 2 % 4) * 256 + i.val, by omega⟩) := by
    blk_ext [iblk, idx t]
  refine e.trans ((congrFun (V_sin m c) _).trans ((spread_at _ _ _).trans (congrArg₂ (at2 _) ?_ ?_))) <;> (first | rfl | omega | (dsimp only; omega))

/-- The array of turned keys: row and phase give the position. -/
def keys (P : FVec Ideal S17408x9216 .f32) : FVec Ideal S4096x1024 .f32 := fun i =>
  turned (fun j => at2 P ((i 0).val * 4 + (i 1).val / 256) (7680 + j)) (at2 cosT (((i 0).val * 4 + (i 1).val / 256) % 4096))
    (at2 sinT (((i 0).val * 4 + (i 1).val / 256) % 4096)) ((i 1).val % 256)

/-- A point's block at an index is the array there. -/
theorem point (c : Dev nD) (t : Fin cfg0.N) (r : Fin 512) (j : Fin 256) (R : Fin 4096) (J : Fin 1024)
    (hR : R.val = (t.val / 8 * 2 + t.val % 2) * 512 + r.val) (hJ : J.val = (t.val / 2 % 4) * 256 + j.val) :
    k0_pay4 (F := Ideal) (k0_pay2 (F := Ideal) (iblk m c 1 t)) (k0_pay3 (F := Ideal) (iblk m c 5 t)) (iblk m c 6 t) (ix2 r j) = keys (m ((c : Thread nD τ).loc main_arg0)) (ix2 R J) := by
  have ht : t.val < 32 := t.isLt
  refine (keys_at _ _ _ r j (fun i => at2 (a := 17408) (b := 9216) (m ((c : Thread nD τ).loc main_arg0)) (((t.val / 8 * 2 + t.val % 2) * 512 + r.val) * 4 + (t.val / 2 % 4)) (7680 + i)) _ _ (fun i => key_at m c t r i) (cos_at m c t r j) (sin_at m c t r j)).trans ?_
  show _ = turned (fun j => at2 _ (R.val * 4 + J.val / 256) (7680 + j)) (at2 cosT ((R.val * 4 + J.val / 256) % 4096))
    (at2 sinT ((R.val * 4 + J.val / 256) % 4096)) (J.val % 256)
  have e1 : R.val * 4 + J.val / 256 = ((t.val / 8 * 2 + t.val % 2) * 512 + r.val) * 4 + (t.val / 2 % 4) := by omega
  have e2 : (R.val * 4 + J.val / 256) % 4096 = ((t.val % 2) * 512 + r.val) * 4 + (t.val / 2 % 4) := by omega
  have e3 : J.val % 256 = j.val := by omega
  rw [e2, e1, e3]

theorem out_eq (c : Dev nD) (t : Fin cfg0.N) :
    (dats m 0 c).after 11 t = k0_pay4 (F := Ideal) (k0_pay2 (F := Ideal) (iblk m c 1 t)) (k0_pay3 (F := Ideal) (iblk m c 5 t)) (iblk m c 6 t) := by
  rw [after0_11]
  unfold out0_11 k0_pay83
  frame_out

theorem final (c : Dev nD) : (dats m 0 c).arrAt 11 (cfgs 0).N = keys (m ((c : Thread nD τ).loc main_arg0)) := by
  refine (dats m 0 c).arrAt_eq_of_covers 11 _ (by decide +kernel) fun t hf y => ?_
  blk_simp
  rw [out_eq]
  have ht : t.val < 32 := t.isLt
  have h0 : (y 0).val < 512 := (y 0).isLt
  have h1 : (y 1).val < 256 := (y 1).isLt
  refine Eq.trans ?_ ((point m c t ⟨(y 0).val, h0⟩ ⟨(y 1).val, h1⟩ ⟨(t.val / 8 * 2 + t.val % 2) * 512 + (y 0).val, by omega⟩ ⟨(t.val / 2 % 4) * 256 + (y 1).val, by omega⟩ rfl rfl).trans ?_)
  · refine congrArg _ ?_
    blk_ext
  · refine congrArg _ ?_
    blk_ext [idx t]

/-- The cache from the projected rows and the array of turned keys. -/
def cache (P : FVec Ideal S17408x9216 .f32) (K : FVec Ideal S4096x1024 .f32) : FVec Ideal S4x512x2x4x64 .f32 :=
  (shapeCast S4x512x2x4x64 (concatenate S4x512x2x256 2 [⟨S4x512x1x256, ((broadcastInDim S4x512x1x256 ![0, 1, 3] bcast_S4x512x256_S4x512x1x256_0_1_3 (extractStridedSlice S4x512x256 ![0, 3584, 0] (shapeCast S4x4096x256 (shapeCast S16384x256 K shapeCasts_S4096x1024_S16384x256) shapeCasts_S16384x256_S4x4096x256) slices_S4x4096x256_S4x512x256_0_3584_0)))⟩, ⟨S4x512x1x256, ((broadcastInDim S4x512x1x256 ![0, 1, 3] bcast_S4x512x256_S4x512x1x256_0_1_3 (concatenate S4x512x256 0 [⟨S1x512x256, ((broadcastInDim S1x512x256 ![1, 2] bcast_S512x256_S1x512x256_1_2 (extractStridedSlice S512x256 ![3584, 7936] P slices_S17408x9216_S512x256_3584_7936)))⟩, ⟨S1x512x256, ((broadcastInDim S1x512x256 ![1, 2] bcast_S512x256_S1x512x256_1_2 (extractStridedSlice S512x256 ![7680, 7936] P slices_S17408x9216_S512x256_7680_7936)))⟩, ⟨S1x512x256, ((broadcastInDim S1x512x256 ![1, 2] bcast_S512x256_S1x512x256_1_2 (extractStridedSlice S512x256 ![11776, 7936] P slices_S17408x9216_S512x256_11776_7936)))⟩, ⟨S1x512x256, ((broadcastInDim S1x512x256 ![1, 2] bcast_S512x256_S1x512x256_1_2 (extractStridedSlice S512x256 ![15872, 7936] P slices_S17408x9216_S512x256_15872_7936)))⟩] concatenates_S1x512x256_S1x512x256_S1x512x256_S1x512x256_S4x512x256_d0 : (⟨S4x512x256, .f32⟩ : BufTy).Contents (Elt Ideal))))⟩] concatenates_S4x512x1x256_S4x512x1x256_S4x512x2x256_d2) shapeCasts_S4x512x2x256_S4x512x2x4x64)

theorem cache_key (P : FVec Ideal S17408x9216 .f32) (K : FVec Ideal S4096x1024 .f32) (b : Fin 4) (r : Fin 512) (h : Fin 4) (d : Fin 64) :
    cache P K (ix5 b r 0 h d) = at2 K ((b.val * 4096 + (3584 + r.val)) / 4) ((3584 + r.val) % 4 * 256 + (h.val * 64 + d.val)) := by
  pointwise [cache]
  refine at2_of _ _ _ _ _ ?_ ?_ <;> (first | rfl | omega | (dsimp only; omega))

theorem cache_value (P : FVec Ideal S17408x9216 .f32) (K : FVec Ideal S4096x1024 .f32) (b : Fin 4) (r : Fin 512) (h : Fin 4) (d : Fin 64) :
    cache P K (ix5 b r 1 h d) = at2 P (b.val * 4096 + (3584 + r.val)) (7936 + (h.val * 64 + d.val)) := by
  pointwise [cache]
  split_ifs
  all_goals refine at2_of _ _ _ _ _ ?_ ?_ <;> (first | rfl | omega | (dsimp only; omega))

theorem cache_eq (P : FVec Ideal S17408x9216 .f32) : cache P (keys P) = Cert.Prompt1RefIdeal.Rows.cache P := by
  funext i
  rw [eq_ix5 i]
  generalize i 0 = b, i 1 = r, i 2 = s, i 3 = h, i 4 = d
  change Fin 4 at b
  change Fin 512 at r
  change Fin 2 at s
  change Fin 4 at h
  change Fin 64 at d
  obtain rfl | rfl : s = 0 ∨ s = 1 := by omega
  · refine (cache_key P _ b r h d).trans (Eq.trans ?_ (Cert.Prompt1RefIdeal.Rows.cache_key P b r h d).symm)
    unfold at2
    rw [dif_pos ⟨by omega, by omega⟩]
    show turned (fun j => at2 P ((b.val * 4096 + (3584 + r.val)) / 4 * 4 + ((3584 + r.val) % 4 * 256 + (h.val * 64 + d.val)) / 256) (7680 + j))
      (at2 cosT (((b.val * 4096 + (3584 + r.val)) / 4 * 4 + ((3584 + r.val) % 4 * 256 + (h.val * 64 + d.val)) / 256) % 4096))
      (at2 sinT (((b.val * 4096 + (3584 + r.val)) / 4 * 4 + ((3584 + r.val) % 4 * 256 + (h.val * 64 + d.val)) / 256) % 4096))
      (((3584 + r.val) % 4 * 256 + (h.val * 64 + d.val)) % 256) = _
    have e1 : (b.val * 4096 + (3584 + r.val)) / 4 * 4 + ((3584 + r.val) % 4 * 256 + (h.val * 64 + d.val)) / 256 = b.val * 4096 + (3584 + r.val) := by omega
    have e2 : (b.val * 4096 + (3584 + r.val)) % 4096 = 3584 + r.val := by omega
    have e3 : ((3584 + r.val) % 4 * 256 + (h.val * 64 + d.val)) % 256 = h.val * 64 + d.val := by omega
    rw [e1, e2, e3]
    rfl
  · exact (cache_value P _ b r h d).trans (Cert.Prompt1RefIdeal.Rows.cache_value P b r h d).symm

set_option maxHeartbeats 2000000 in
theorem tail (W : Valuation τ sig (Elt Ideal)) : StableHlo.after (List.flatten [hostOps1]) W (Proc.devRef .tc main_v43)
    = cache (W (Proc.devRef .tc main_arg0)) (W (Proc.devRef .tc main_v25_2)) := by
  simp only [List.flatten_cons, List.flatten_nil, List.append_nil]
  after_results_simp <;> (try dsimp only [Matrix.cons_val]) <;> (try after_results_simp) <;> rfl

theorem shared : ∀ w w' : Fin cfg0.W, w ≠ w' → Pipeline.arrRef (cfgs 0).spec w = Pipeline.arrRef (cfgs 0).spec w' → ((cfgs 0).win w).isOut = false := by
  decide +kernel

/-- The buffers at the region's exit. -/
def exitV (c : Dev nD) : Valuation τ sig (Elt Ideal) := Pipeline.withArrays (cfgs 0).spec c (V0 m c) fun w => (dats m 0 c).arrAt w (cfgs 0).N

theorem exit_keys (c : Dev nD) : exitV m c (Proc.devRef .tc main_v25_2) = (dats m 0 c).arrAt 11 (cfgs 0).N :=
  Pipeline.withArrays_arr_shared (cfgs 0).spec c (V0 m c) (fun w => (dats m 0 c).arrAt w (cfgs 0).N)
    (fun w w' hne e => ((dats m 0 c).arrAt_in w (shared w w' hne e) _).trans (A_eq m c w)) 11

theorem exit_arg0 (c : Dev nD) : exitV m c (Proc.devRef .tc main_arg0) = m ((c : Thread nD τ).loc main_arg0) :=
  (Pipeline.withArrays_of_ne _ c (V0 m c) _ main_arg0 (by exact (by decide : ∀ w, Pipeline.arrRef spec0 w ≠ main_arg0))).trans (V_main_arg0 m c)

/-- Every run from any memory ends with the result at the reference's value of its argument, the argument unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v43) = Cert.Prompt1RefIdeal.Rows.cache (m ((c.tc : Thread nD τ).loc main_arg0))
      ∧ r.2.mem ((c.tc : Thread nD τ).loc main_arg0) = m ((c.tc : Thread nD τ).loc main_arg0) := by
  refine (θ_run _ _ _).mono (fun r h c => ?_) (θ_run_and (run_main m ρ) (unchanged m ρ))
  refine ⟨?_, h.2 c⟩
  refine ((h.1 c).2 main_v43 (by decide)).trans ((tail (exitV m c)).trans ?_)
  rw [(exit_keys m c).trans (final m c), exit_arg0 m c]
  exact cache_eq _

end Cert.Prompt1Ideal.Plain
-- ==== Proof.Prompt2Rows.lean ====
/- The prompt cache of the reference at an index: the turned keys of each sequence's last rows, and the values. -/
module

public import proofs.«01_k».proof.Proof.Gen.Prompt2RefIdeal.Run
public import proofs.«01_k».proof.Proof.RotarySpec

@[expose] public section

set_option maxRecDepth 100000

noncomputable section

open Idealize.ShloMosaic Idealize.ShloMosaic.TcCoe Idealize.SL.Sem
open Cert.RotarySpec

namespace Cert.Prompt2RefIdeal.Rows
open Cert.Prompt2RefIdeal Cert.Prompt2RefIdeal.Gen Cert.Prompt2RefIdeal.Value

/-- Every position's angles. -/
def angT : FVec Ideal S4096x32 .f32 := (mulf (broadcastInDim S4096x32 ![0, 1] bcast_S4096x1_S4096x32_0_1 (broadcastInDim S4096x1 ![0] bcast_S4096_S4096x1_0 (sitofp .f32 (iotaInDim S4096 32 0)))) (broadcastInDim S4096x32 ![0, 1] bcast_S1x32_S4096x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))

/-- Their cosines and sines. -/
def cosT : FVec Ideal S4096x32 .f32 := Host.cos angT
def sinT : FVec Ideal S4096x32 .f32 := Host.sin angT

/-- The reference's result from the projected rows. -/
def cache (P : FVec Ideal S17408x9216 .f32) : FVec Ideal S4x2048x2x4x64 .f32 :=
  extractStridedSlice S4x2048x2x4x64 ![0, 2048, 0, 0, 0] (concatenate S4x4096x2x4x64 2 [⟨S4x4096x1x4x64, (broadcastInDim S4x4096x1x4x64 ![0, 1, 3, 4] bcast_S4x4096x4x64_S4x4096x1x4x64_0_1_3_4 (concatenate S4x4096x4x64 3 [⟨S4x4096x4x32, (subf (mulf (extractStridedSlice S4x4096x4x32 ![0, 0, 0, 0] (shapeCast _ (extractStridedSlice S16384x256 ![0, 8448] P slices_S17408x9216_S16384x256_0_8448) shapeCasts_S16384x256_S4x4096x4x64) slices_S4x4096x4x64_S4x4096x4x32_0_0_0_0) (broadcastInDim S4x4096x4x32 ![0, 1, 2, 3] bcast_S1x4096x1x32_S4x4096x4x32_0_1_2_3 (broadcastInDim S1x4096x1x32 ![1, 3] bcast_S4096x32_S1x4096x1x32_1_3 cosT))) (mulf (extractStridedSlice S4x4096x4x32 ![0, 0, 0, 32] (shapeCast _ (extractStridedSlice S16384x256 ![0, 8448] P slices_S17408x9216_S16384x256_0_8448) shapeCasts_S16384x256_S4x4096x4x64) slices_S4x4096x4x64_S4x4096x4x32_0_0_0_32) (broadcastInDim S4x4096x4x32 ![0, 1, 2, 3] bcast_S1x4096x1x32_S4x4096x4x32_0_1_2_3 (broadcastInDim S1x4096x1x32 ![1, 3] bcast_S4096x32_S1x4096x1x32_1_3 sinT))))⟩, ⟨S4x4096x4x32, (addf (mulf (extractStridedSlice S4x4096x4x32 ![0, 0, 0, 0] (shapeCast _ (extractStridedSlice S16384x256 ![0, 8448] P slices_S17408x9216_S16384x256_0_8448) shapeCasts_S16384x256_S4x4096x4x64) slices_S4x4096x4x64_S4x4096x4x32_0_0_0_0) (broadcastInDim S4x4096x4x32 ![0, 1, 2, 3] bcast_S1x4096x1x32_S4x4096x4x32_0_1_2_3 (broadcastInDim S1x4096x1x32 ![1, 3] bcast_S4096x32_S1x4096x1x32_1_3 sinT))) (mulf (extractStridedSlice S4x4096x4x32 ![0, 0, 0, 32] (shapeCast _ (extractStridedSlice S16384x256 ![0, 8448] P slices_S17408x9216_S16384x256_0_8448) shapeCasts_S16384x256_S4x4096x4x64) slices_S4x4096x4x64_S4x4096x4x32_0_0_0_32) (broadcastInDim S4x4096x4x32 ![0, 1, 2, 3] bcast_S1x4096x1x32_S4x4096x4x32_0_1_2_3 (broadcastInDim S1x4096x1x32 ![1, 3] bcast_S4096x32_S1x4096x1x32_1_3 cosT))))⟩] concatenates_S4x4096x4x32_S4x4096x4x32_S4x4096x4x64_d3))⟩, ⟨S4x4096x1x4x64, (broadcastInDim S4x4096x1x4x64 ![0, 1, 3, 4] bcast_S4x4096x4x64_S4x4096x1x4x64_0_1_3_4 (shapeCast _ (extractStridedSlice S16384x256 ![0, 8704] P slices_S17408x9216_S16384x256_0_8704) shapeCasts_S16384x256_S4x4096x4x64))⟩] concatenates_S4x4096x1x4x64_S4x4096x1x4x64_S4x4096x2x4x64_d2) slices_S4x4096x2x4x64_S4x2048x2x4x64_0_2048_0_0_0

theorem cache_eq (m : (ℓ : Loc nD τ sig) → Buf (Elt Ideal) ℓ) (c : Dev nD) : res_out0 m c = cache (m (c.tc.loc main_arg0)) := rfl

theorem cache_key (P : FVec Ideal S17408x9216 .f32) (b : Fin 4) (r : Fin 2048) (h : Fin 4) (d : Fin 64) :
    cache P (ix5 b r 0 h d) = turned (fun j => at2 P (b.val * 4096 + (2048 + r.val)) (8448 + j))
      (at2 cosT (2048 + r.val)) (at2 sinT (2048 + r.val)) (h.val * 64 + d.val) := by
  pointwise [cache]
  split_ifs with h1
  · refine turned_low' (by omega) (at2_of _ _ _ _ _ ?_ ?_) (at2_of _ _ _ _ _ ?_ ?_) (at2_of _ _ _ _ _ ?_ ?_) (at2_of _ _ _ _ _ ?_ ?_)
    all_goals (first | rfl | omega | (dsimp only; omega))
  all_goals
    refine turned_high' (by omega) (at2_of _ _ _ _ _ ?_ ?_) (at2_of _ _ _ _ _ ?_ ?_) (at2_of _ _ _ _ _ ?_ ?_) (at2_of _ _ _ _ _ ?_ ?_)
    all_goals (first | rfl | omega | (dsimp only; omega))

theorem cache_value (P : FVec Ideal S17408x9216 .f32) (b : Fin 4) (r : Fin 2048) (h : Fin 4) (d : Fin 64) :
    cache P (ix5 b r 1 h d) = at2 P (b.val * 4096 + (2048 + r.val)) (8704 + (h.val * 64 + d.val)) := by
  pointwise [cache]
  refine at2_of _ _ _ _ _ ?_ ?_ <;> (first | rfl | omega | (dsimp only; omega))

end Cert.Prompt2RefIdeal.Rows
-- ==== Proof.Prompt2Value.lean ====
/- The prompt call's key rows against their reference at the ideal instance: a block's rows are the projected rows' key
   columns turned by their positions' angles, and the cache the host makes of them is the reference's. -/
module

public import proofs.«01_k».proof.Proof.Gen.Prompt2Ideal.Frame
public import proofs.«01_k».proof.Proof.Prompt2Rows
public import Idealize.ShloMosaic.Lib.Claim

@[expose] public section

set_option maxRecDepth 100000

noncomputable section

open Idealize.ShloMosaic Idealize.ShloMosaic.TcCoe Idealize.SL.Sem Idealize.ShloMosaic.StableHlo
open Idealize.ShloMosaic.Pipeline (Dat)
open Cert.RotarySpec

namespace Cert.Prompt2Ideal.Plain
open Cert.Prompt2Ideal Cert.Prompt2Ideal.Gen
open Cert.Prompt2RefIdeal.Rows (cosT sinT)

/-- A block of turned keys at an index. -/
theorem keys_at (k c s : FVec Ideal S256x256 .f32) (r : Fin 256) (j : Fin 256) (x cos sin : ℕ → EReal) (hx : ∀ i : Fin 256, k (ix2 r i) = x i.val)
    (hc : c (ix2 r j) = cos (j.val % 32)) (hs : s (ix2 r j) = sin (j.val % 32)) :
    k0_pay4 (F := Ideal) (k0_pay2 (F := Ideal) k) (k0_pay3 (F := Ideal) c) s (ix2 r j) = turned x cos sin j.val := by
  pointwise [k0_pay4, k0_pay2, k0_pay3]
  rw [half_lane]
  by_cases h : j.val % 64 < 32
  · rw [if_pos h]
    refine (congrArg (k (ix2 r j) * c (ix2 r j) + · * s (ix2 r j)) (zero_sub _)).trans (turned_low h (hx j) ((hx _).trans (congrArg x ?_)) hc hs)
    (first | rfl | omega | (dsimp only; omega))
  · rw [if_neg h]
    refine turned_high h (hx j) ((hx _).trans (congrArg x ?_)) hc hs
    (first | rfl | omega | (dsimp only; omega))

/-- The tables' rows spread over the heads. -/
def spread (T : FVec Ideal S4096x32 .f32) : FVec Ideal S256x4096 .f32 :=
  (shapeCast S256x4096 (shapeCast S4096x256 (broadcastInDim S1x4096x8x32 ![0, 1, 2, 3] bcast_S1x4096x1x32_S1x4096x8x32_0_1_2_3 (shapeCast S1x4096x1x32 T shapeCasts_S4096x32_S1x4096x1x32)) shapeCasts_S1x4096x8x32_S4096x256) shapeCasts_S4096x256_S256x4096)

theorem spread_at (T : FVec Ideal S4096x32 .f32) (r : Fin 256) (j : Fin 4096) :
    spread T (ix2 r j) = at2 T (r.val * 16 + j.val / 256) (j.val % 32) := by
  pointwise [spread]
  refine at2_of _ _ _ _ _ ?_ ?_ <;> (first | rfl | omega | (dsimp only; omega))

variable (m : (ℓ : Loc nD τ sig) → Buf (Elt Ideal) ℓ)

theorem V_cos (c : Dev nD) : V m c main_v23 = spread cosT := by
  unfold V V0; simp only [List.flatten_cons, List.flatten_nil, List.append_nil]; after_results
  rfl

theorem V_sin (c : Dev nD) : V m c main_v24 = spread sinT := by
  unfold V V0; simp only [List.flatten_cons, List.flatten_nil, List.append_nil]; after_results
  rfl

/-- The group's columns, its dilation's phases side by side. -/
def phases (P : FVec Ideal S17408x9216 .f32) : FVec Ideal S1024x12288 .f32 :=
  (shapeCast S1024x12288 (extractStridedSlice S16384x768 ![0, 8192] P slices_S17408x9216_S16384x768_0_8192) shapeCasts_S16384x768_S1024x12288)

theorem phases_at (P : FVec Ideal S17408x9216 .f32) (r : Fin 1024) (j : Fin 12288) :
    phases P (ix2 r j) = at2 P (r.val * 16 + j.val / 768) (8192 + j.val % 768) := by
  pointwise [phases]
  refine at2_of _ _ _ _ _ ?_ ?_ <;> (first | rfl | omega | (dsimp only; omega))

theorem V_phases (c : Dev nD) : V m c main_v22 = phases (m ((c : Thread nD τ).loc main_arg0)) := by
  unfold V V0; simp only [List.flatten_cons, List.flatten_nil, List.append_nil]; after_results
  rfl

theorem idx : ∀ t : Fin cfg0.N, win0_1.index t = ![(t.val / 16 * 1 + t.val % 1), (t.val / 1 % 16) * 3 + 1] ∧ win0_5.index t = ![(t.val % 1), (t.val / 1 % 16)] ∧ win0_6.index t = ![(t.val % 1), (t.val / 1 % 16)] ∧ win0_11.index t = ![(t.val / 16 * 1 + t.val % 1), (t.val / 1 % 16)] :=
  (by decide +kernel : ∀ t : Fin grid0.N, _)

theorem key_at (c : Dev nD) (t : Fin cfg0.N) (r : Fin 256) (i : Fin 256) :
    (show FVec Ideal S256x256 .f32 from iblk m c 1 t) (ix2 r i)
    = at2 (a := 17408) (b := 9216) (m ((c : Thread nD τ).loc main_arg0)) (((t.val / 16 * 1 + t.val % 1) * 256 + r.val) * 16 + (t.val / 1 % 16)) (8448 + i.val) := by
  have ht : t.val < 64 := t.isLt
  have e : (show FVec Ideal S256x256 .f32 from iblk m c 1 t) (ix2 r i)
      = (show FVec Ideal S1024x12288 .f32 from V m c main_v22) (ix2 ⟨(t.val / 16 * 1 + t.val % 1) * 256 + r.val, by omega⟩ ⟨((t.val / 1 % 16) * 3 + 1) * 256 + i.val, by omega⟩) := by
    blk_ext [iblk, idx t]
  refine e.trans ((congrFun (V_phases m c) _).trans ((phases_at _ _ _).trans (congrArg₂ (at2 _) ?_ ?_))) <;> (first | rfl | omega | (dsimp only; omega))

theorem cos_at (c : Dev nD) (t : Fin cfg0.N) (r : Fin 256) (i : Fin 256) :
    (show FVec Ideal S256x256 .f32 from iblk m c 5 t) (ix2 r i) = at2 cosT (((t.val % 1) * 256 + r.val) * 16 + (t.val / 1 % 16)) (i.val % 32) := by
  have ht : t.val < 64 := t.isLt
  have e : (show FVec Ideal S256x256 .f32 from iblk m c 5 t) (ix2 r i)
      = (show FVec Ideal S256x4096 .f32 from V m c main_v23) (ix2 ⟨(t.val % 1) * 256 + r.val, by omega⟩ ⟨(t.val / 1 % 16) * 256 + i.val, by omega⟩) := by
    blk_ext [iblk, idx t]
  refine e.trans ((congrFun (V_cos m c) _).trans ((spread_at _ _ _).trans (congrArg₂ (at2 _) ?_ ?_))) <;> (first | rfl | omega | (dsimp only; omega))

theorem sin_at (c : Dev nD) (t : Fin cfg0.N) (r : Fin 256) (i : Fin 256) :
    (show FVec Ideal S256x256 .f32 from iblk m c 6 t) (ix2 r i) = at2 sinT (((t.val % 1) * 256 + r.val) * 16 + (t.val / 1 % 16)) (i.val % 32) := by
  have ht : t.val < 64 := t.isLt
  have e : (show FVec Ideal S256x256 .f32 from iblk m c 6 t) (ix2 r i)
      = (show FVec Ideal S256x4096 .f32 from V m c main_v24) (ix2 ⟨(t.val % 1) * 256 + r.val, by omega⟩ ⟨(t.val / 1 % 16) * 256 + i.val, by omega⟩) := by
    blk_ext [iblk, idx t]
  refine e.trans ((congrFun (V_sin m c) _).trans ((spread_at _ _ _).trans (congrArg₂ (at2 _) ?_ ?_))) <;> (first | rfl | omega | (dsimp only; omega))

/-- The array of turned keys: row and phase give the position. -/
def keys (P : FVec Ideal S17408x9216 .f32) : FVec Ideal S1024x4096 .f32 := fun i =>
  turned (fun j => at2 P ((i 0).val * 16 + (i 1).val / 256) (8448 + j)) (at2 cosT (((i 0).val * 16 + (i 1).val / 256) % 4096))
    (at2 sinT (((i 0).val * 16 + (i 1).val / 256) % 4096)) ((i 1).val % 256)

/-- A point's block at an index is the array there. -/
theorem point (c : Dev nD) (t : Fin cfg0.N) (r : Fin 256) (j : Fin 256) (R : Fin 1024) (J : Fin 4096)
    (hR : R.val = (t.val / 16 * 1 + t.val % 1) * 256 + r.val) (hJ : J.val = (t.val / 1 % 16) * 256 + j.val) :
    k0_pay4 (F := Ideal) (k0_pay2 (F := Ideal) (iblk m c 1 t)) (k0_pay3 (F := Ideal) (iblk m c 5 t)) (iblk m c 6 t) (ix2 r j) = keys (m ((c : Thread nD τ).loc main_arg0)) (ix2 R J) := by
  have ht : t.val < 64 := t.isLt
  refine (keys_at _ _ _ r j (fun i => at2 (a := 17408) (b := 9216) (m ((c : Thread nD τ).loc main_arg0)) (((t.val / 16 * 1 + t.val % 1) * 256 + r.val) * 16 + (t.val / 1 % 16)) (8448 + i)) _ _ (fun i => key_at m c t r i) (cos_at m c t r j) (sin_at m c t r j)).trans ?_
  show _ = turned (fun j => at2 _ (R.val * 16 + J.val / 256) (8448 + j)) (at2 cosT ((R.val * 16 + J.val / 256) % 4096))
    (at2 sinT ((R.val * 16 + J.val / 256) % 4096)) (J.val % 256)
  have e1 : R.val * 16 + J.val / 256 = ((t.val / 16 * 1 + t.val % 1) * 256 + r.val) * 16 + (t.val / 1 % 16) := by omega
  have e2 : (R.val * 16 + J.val / 256) % 4096 = ((t.val % 1) * 256 + r.val) * 16 + (t.val / 1 % 16) := by omega
  have e3 : J.val % 256 = j.val := by omega
  rw [e2, e1, e3]

theorem out_eq (c : Dev nD) (t : Fin cfg0.N) :
    (dats m 0 c).after 11 t = k0_pay4 (F := Ideal) (k0_pay2 (F := Ideal) (iblk m c 1 t)) (k0_pay3 (F := Ideal) (iblk m c 5 t)) (iblk m c 6 t) := by
  rw [after0_11]
  unfold out0_11 k0_pay49
  frame_out

theorem final (c : Dev nD) : (dats m 0 c).arrAt 11 (cfgs 0).N = keys (m ((c : Thread nD τ).loc main_arg0)) := by
  refine (dats m 0 c).arrAt_eq_of_covers 11 _ (by decide +kernel) fun t hf y => ?_
  blk_simp
  rw [out_eq]
  have ht : t.val < 64 := t.isLt
  have h0 : (y 0).val < 256 := (y 0).isLt
  have h1 : (y 1).val < 256 := (y 1).isLt
  refine Eq.trans ?_ ((point m c t ⟨(y 0).val, h0⟩ ⟨(y 1).val, h1⟩ ⟨(t.val / 16 * 1 + t.val % 1) * 256 + (y 0).val, by omega⟩ ⟨(t.val / 1 % 16) * 256 + (y 1).val, by omega⟩ rfl rfl).trans ?_)
  · refine congrArg _ ?_
    blk_ext
  · refine congrArg _ ?_
    blk_ext [idx t]

/-- The cache from the projected rows and the array of turned keys. -/
def cache (P : FVec Ideal S17408x9216 .f32) (K : FVec Ideal S1024x4096 .f32) : FVec Ideal S4x2048x2x4x64 .f32 :=
  (shapeCast S4x2048x2x4x64 (concatenate S4x2048x2x256 2 [⟨S4x2048x1x256, ((broadcastInDim S4x2048x1x256 ![0, 1, 3] bcast_S4x2048x256_S4x2048x1x256_0_1_3 (extractStridedSlice S4x2048x256 ![0, 2048, 0] (shapeCast S4x4096x256 (shapeCast S16384x256 K shapeCasts_S1024x4096_S16384x256) shapeCasts_S16384x256_S4x4096x256) slices_S4x4096x256_S4x2048x256_0_2048_0)))⟩, ⟨S4x2048x1x256, ((broadcastInDim S4x2048x1x256 ![0, 1, 3] bcast_S4x2048x256_S4x2048x1x256_0_1_3 (concatenate S4x2048x256 0 [⟨S1x2048x256, ((broadcastInDim S1x2048x256 ![1, 2] bcast_S2048x256_S1x2048x256_1_2 (extractStridedSlice S2048x256 ![2048, 8704] P slices_S17408x9216_S2048x256_2048_8704)))⟩, ⟨S1x2048x256, ((broadcastInDim S1x2048x256 ![1, 2] bcast_S2048x256_S1x2048x256_1_2 (extractStridedSlice S2048x256 ![6144, 8704] P slices_S17408x9216_S2048x256_6144_8704)))⟩, ⟨S1x2048x256, ((broadcastInDim S1x2048x256 ![1, 2] bcast_S2048x256_S1x2048x256_1_2 (extractStridedSlice S2048x256 ![10240, 8704] P slices_S17408x9216_S2048x256_10240_8704)))⟩, ⟨S1x2048x256, ((broadcastInDim S1x2048x256 ![1, 2] bcast_S2048x256_S1x2048x256_1_2 (extractStridedSlice S2048x256 ![14336, 8704] P slices_S17408x9216_S2048x256_14336_8704)))⟩] concatenates_S1x2048x256_S1x2048x256_S1x2048x256_S1x2048x256_S4x2048x256_d0 : (⟨S4x2048x256, .f32⟩ : BufTy).Contents (Elt Ideal))))⟩] concatenates_S4x2048x1x256_S4x2048x1x256_S4x2048x2x256_d2) shapeCasts_S4x2048x2x256_S4x2048x2x4x64)

theorem cache_key (P : FVec Ideal S17408x9216 .f32) (K : FVec Ideal S1024x4096 .f32) (b : Fin 4) (r : Fin 2048) (h : Fin 4) (d : Fin 64) :
    cache P K (ix5 b r 0 h d) = at2 K ((b.val * 4096 + (2048 + r.val)) / 16) ((2048 + r.val) % 16 * 256 + (h.val * 64 + d.val)) := by
  pointwise [cache]
  refine at2_of _ _ _ _ _ ?_ ?_ <;> (first | rfl | omega | (dsimp only; omega))

theorem cache_value (P : FVec Ideal S17408x9216 .f32) (K : FVec Ideal S1024x4096 .f32) (b : Fin 4) (r : Fin 2048) (h : Fin 4) (d : Fin 64) :
    cache P K (ix5 b r 1 h d) = at2 P (b.val * 4096 + (2048 + r.val)) (8704 + (h.val * 64 + d.val)) := by
  pointwise [cache]
  split_ifs
  all_goals refine at2_of _ _ _ _ _ ?_ ?_ <;> (first | rfl | omega | (dsimp only; omega))

theorem cache_eq (P : FVec Ideal S17408x9216 .f32) : cache P (keys P) = Cert.Prompt2RefIdeal.Rows.cache P := by
  funext i
  rw [eq_ix5 i]
  generalize i 0 = b, i 1 = r, i 2 = s, i 3 = h, i 4 = d
  change Fin 4 at b
  change Fin 2048 at r
  change Fin 2 at s
  change Fin 4 at h
  change Fin 64 at d
  obtain rfl | rfl : s = 0 ∨ s = 1 := by omega
  · refine (cache_key P _ b r h d).trans (Eq.trans ?_ (Cert.Prompt2RefIdeal.Rows.cache_key P b r h d).symm)
    unfold at2
    rw [dif_pos ⟨by omega, by omega⟩]
    show turned (fun j => at2 P ((b.val * 4096 + (2048 + r.val)) / 16 * 16 + ((2048 + r.val) % 16 * 256 + (h.val * 64 + d.val)) / 256) (8448 + j))
      (at2 cosT (((b.val * 4096 + (2048 + r.val)) / 16 * 16 + ((2048 + r.val) % 16 * 256 + (h.val * 64 + d.val)) / 256) % 4096))
      (at2 sinT (((b.val * 4096 + (2048 + r.val)) / 16 * 16 + ((2048 + r.val) % 16 * 256 + (h.val * 64 + d.val)) / 256) % 4096))
      (((2048 + r.val) % 16 * 256 + (h.val * 64 + d.val)) % 256) = _
    have e1 : (b.val * 4096 + (2048 + r.val)) / 16 * 16 + ((2048 + r.val) % 16 * 256 + (h.val * 64 + d.val)) / 256 = b.val * 4096 + (2048 + r.val) := by omega
    have e2 : (b.val * 4096 + (2048 + r.val)) % 4096 = 2048 + r.val := by omega
    have e3 : ((2048 + r.val) % 16 * 256 + (h.val * 64 + d.val)) % 256 = h.val * 64 + d.val := by omega
    rw [e1, e2, e3]
    rfl
  · exact (cache_value P _ b r h d).trans (Cert.Prompt2RefIdeal.Rows.cache_value P b r h d).symm

set_option maxHeartbeats 2000000 in
theorem tail (W : Valuation τ sig (Elt Ideal)) : StableHlo.after (List.flatten [hostOps1]) W (Proc.devRef .tc main_v43)
    = cache (W (Proc.devRef .tc main_arg0)) (W (Proc.devRef .tc main_v25_2)) := by
  simp only [List.flatten_cons, List.flatten_nil, List.append_nil]
  after_results_simp <;> (try dsimp only [Matrix.cons_val]) <;> (try after_results_simp) <;> rfl

theorem shared : ∀ w w' : Fin cfg0.W, w ≠ w' → Pipeline.arrRef (cfgs 0).spec w = Pipeline.arrRef (cfgs 0).spec w' → ((cfgs 0).win w).isOut = false := by
  decide +kernel

/-- The buffers at the region's exit. -/
def exitV (c : Dev nD) : Valuation τ sig (Elt Ideal) := Pipeline.withArrays (cfgs 0).spec c (V0 m c) fun w => (dats m 0 c).arrAt w (cfgs 0).N

theorem exit_keys (c : Dev nD) : exitV m c (Proc.devRef .tc main_v25_2) = (dats m 0 c).arrAt 11 (cfgs 0).N :=
  Pipeline.withArrays_arr_shared (cfgs 0).spec c (V0 m c) (fun w => (dats m 0 c).arrAt w (cfgs 0).N)
    (fun w w' hne e => ((dats m 0 c).arrAt_in w (shared w w' hne e) _).trans (A_eq m c w)) 11

theorem exit_arg0 (c : Dev nD) : exitV m c (Proc.devRef .tc main_arg0) = m ((c : Thread nD τ).loc main_arg0) :=
  (Pipeline.withArrays_of_ne _ c (V0 m c) _ main_arg0 (by exact (by decide : ∀ w, Pipeline.arrRef spec0 w ≠ main_arg0))).trans (V_main_arg0 m c)

/-- Every run from any memory ends with the result at the reference's value of its argument, the argument unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v43) = Cert.Prompt2RefIdeal.Rows.cache (m ((c.tc : Thread nD τ).loc main_arg0))
      ∧ r.2.mem ((c.tc : Thread nD τ).loc main_arg0) = m ((c.tc : Thread nD τ).loc main_arg0) := by
  refine (θ_run _ _ _).mono (fun r h c => ?_) (θ_run_and (run_main m ρ) (unchanged m ρ))
  refine ⟨?_, h.2 c⟩
  refine ((h.1 c).2 main_v43 (by decide)).trans ((tail (exitV m c)).trans ?_)
  rw [(exit_keys m c).trans (final m c), exit_arg0 m c]
  exact cache_eq _

end Cert.Prompt2Ideal.Plain
-- ==== Proof.Sample0Rows.lean ====
/- The sample streams' cache of the reference at an index: what stays of the old one, the new rows' turned keys, and their
   values. -/
module

public import proofs.«01_k».proof.Proof.Gen.Sample0RefIdeal.Run
public import proofs.«01_k».proof.Proof.RotarySpec

@[expose] public section

set_option maxRecDepth 100000

noncomputable section

open Idealize.ShloMosaic Idealize.ShloMosaic.TcCoe Idealize.SL.Sem
open Cert.RotarySpec

namespace Cert.Sample0RefIdeal.Rows
open Cert.Sample0RefIdeal Cert.Sample0RefIdeal.Gen Cert.Sample0RefIdeal.Value

/-- Every new position's angles. -/
def angT : FVec Ideal S8x32 .f32 := (mulf (broadcastInDim S8x32 ![0, 1] bcast_S8x1_S8x32_0_1 (broadcastInDim S8x1 ![0] bcast_S8_S8x1_0 (sitofp .f32 (addi (broadcastInDim S8 ![] bcast_S_S8 (constantI S_ 32 2048#32)) (iotaInDim S8 32 0))))) (broadcastInDim S8x32 ![0, 1] bcast_S1x32_S8x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))

/-- Their cosines and sines. -/
def cosT : FVec Ideal S8x32 .f32 := Host.cos angT
def sinT : FVec Ideal S8x32 .f32 := Host.sin angT

/-- The reference's result from the projected rows and the old cache. -/
def cache (P : FVec Ideal S17408x9216 .f32) (Cc : FVec Ideal S128x128x2x4x64 .f32) : FVec Ideal S128x128x2x4x64 .f32 :=
  extractStridedSlice S128x128x2x4x64 ![0, 8, 0, 0, 0] (concatenate S128x136x2x4x64 1 [⟨S128x128x2x4x64, Cc⟩, ⟨S128x8x2x4x64, (concatenate S128x8x2x4x64 2 [⟨S128x8x1x4x64, (broadcastInDim S128x8x1x4x64 ![0, 1, 3, 4] bcast_S128x8x4x64_S128x8x1x4x64_0_1_3_4 (concatenate S128x8x4x64 3 [⟨S128x8x4x32, (subf (mulf (extractStridedSlice S128x8x4x32 ![0, 0, 0, 0] (shapeCast _ (extractStridedSlice S1024x256 ![16384, 6912] P slices_S17408x9216_S1024x256_16384_6912) shapeCasts_S1024x256_S128x8x4x64) slices_S128x8x4x64_S128x8x4x32_0_0_0_0) (broadcastInDim S128x8x4x32 ![0, 1, 2, 3] bcast_S1x8x1x32_S128x8x4x32_0_1_2_3 (broadcastInDim S1x8x1x32 ![1, 3] bcast_S8x32_S1x8x1x32_1_3 cosT))) (mulf (extractStridedSlice S128x8x4x32 ![0, 0, 0, 32] (shapeCast _ (extractStridedSlice S1024x256 ![16384, 6912] P slices_S17408x9216_S1024x256_16384_6912) shapeCasts_S1024x256_S128x8x4x64) slices_S128x8x4x64_S128x8x4x32_0_0_0_32) (broadcastInDim S128x8x4x32 ![0, 1, 2, 3] bcast_S1x8x1x32_S128x8x4x32_0_1_2_3 (broadcastInDim S1x8x1x32 ![1, 3] bcast_S8x32_S1x8x1x32_1_3 sinT))))⟩, ⟨S128x8x4x32, (addf (mulf (extractStridedSlice S128x8x4x32 ![0, 0, 0, 0] (shapeCast _ (extractStridedSlice S1024x256 ![16384, 6912] P slices_S17408x9216_S1024x256_16384_6912) shapeCasts_S1024x256_S128x8x4x64) slices_S128x8x4x64_S128x8x4x32_0_0_0_0) (broadcastInDim S128x8x4x32 ![0, 1, 2, 3] bcast_S1x8x1x32_S128x8x4x32_0_1_2_3 (broadcastInDim S1x8x1x32 ![1, 3] bcast_S8x32_S1x8x1x32_1_3 sinT))) (mulf (extractStridedSlice S128x8x4x32 ![0, 0, 0, 32] (shapeCast _ (extractStridedSlice S1024x256 ![16384, 6912] P slices_S17408x9216_S1024x256_16384_6912) shapeCasts_S1024x256_S128x8x4x64) slices_S128x8x4x64_S128x8x4x32_0_0_0_32) (broadcastInDim S128x8x4x32 ![0, 1, 2, 3] bcast_S1x8x1x32_S128x8x4x32_0_1_2_3 (broadcastInDim S1x8x1x32 ![1, 3] bcast_S8x32_S1x8x1x32_1_3 cosT))))⟩] concatenates_S128x8x4x32_S128x8x4x32_S128x8x4x64_d3))⟩, ⟨S128x8x1x4x64, (broadcastInDim S128x8x1x4x64 ![0, 1, 3, 4] bcast_S128x8x4x64_S128x8x1x4x64_0_1_3_4 (shapeCast _ (extractStridedSlice S1024x256 ![16384, 7168] P slices_S17408x9216_S1024x256_16384_7168) shapeCasts_S1024x256_S128x8x4x64))⟩] concatenates_S128x8x1x4x64_S128x8x1x4x64_S128x8x2x4x64_d2)⟩] concatenates_S128x128x2x4x64_S128x8x2x4x64_S128x136x2x4x64_d1) slices_S128x136x2x4x64_S128x128x2x4x64_0_8_0_0_0

theorem cache_res (m : (ℓ : Loc nD τ sig) → Buf (Elt Ideal) ℓ) (c : Dev nD) : res_out0 m c = cache (m (c.tc.loc main_arg0)) (m (c.tc.loc main_arg1)) := rfl

theorem cache_old (P : FVec Ideal S17408x9216 .f32) (Cc : FVec Ideal S128x128x2x4x64 .f32) (b : Fin 128) (r : Fin 128) (s : Fin 2) (h : Fin 4) (d : Fin 64)
    (hr : 8 + r.val < 128) : cache P Cc (ix5 b r s h d) = Cc (ix5 b ⟨8 + r.val, hr⟩ s h d) := by
  pointwise [cache]
  rw [dif_pos hr]

theorem cache_key (P : FVec Ideal S17408x9216 .f32) (Cc : FVec Ideal S128x128x2x4x64 .f32) (b : Fin 128) (r : Fin 128) (h : Fin 4) (d : Fin 64)
    (hr : ¬ 8 + r.val < 128) :
    cache P Cc (ix5 b r 0 h d) = turned (fun j => at2 P (16384 + (b.val * 8 + (8 + r.val - 128))) (6912 + j))
      (at2 cosT (8 + r.val - 128)) (at2 sinT (8 + r.val - 128)) (h.val * 64 + d.val) := by
  pointwise [cache]
  rw [dif_neg hr]
  split_ifs with h1
  all_goals
    first
    | refine turned_low' (by omega) ?_ ?_ ?_ ?_
    | refine turned_high' (by omega) ?_ ?_ ?_ ?_
    all_goals
      try beta_reduce
      refine at2_of _ _ _ _ _ ?_ ?_ <;> (first | rfl | omega | (dsimp only; omega))

theorem cache_value (P : FVec Ideal S17408x9216 .f32) (Cc : FVec Ideal S128x128x2x4x64 .f32) (b : Fin 128) (r : Fin 128) (h : Fin 4) (d : Fin 64)
    (hr : ¬ 8 + r.val < 128) :
    cache P Cc (ix5 b r 1 h d) = at2 P (16384 + (b.val * 8 + (8 + r.val - 128))) (7168 + (h.val * 64 + d.val)) := by
  pointwise [cache]
  rw [dif_neg hr]
  refine at2_of _ _ _ _ _ ?_ ?_ <;> (first | rfl | omega | (dsimp only; omega))

end Cert.Sample0RefIdeal.Rows
-- ==== Proof.Sample0Value.lean ====
/- The sample call's key rows against their reference at the ideal instance: a block's rows are the new rows' key columns
   turned by their positions' angles, and the cache the host makes of them and the old one is the reference's. -/
module

public import proofs.«01_k».proof.Proof.Gen.Sample0Ideal.Frame
public import proofs.«01_k».proof.Proof.Sample0Rows
public import Idealize.ShloMosaic.Lib.Claim

@[expose] public section

set_option maxRecDepth 100000

noncomputable section

open Idealize.ShloMosaic Idealize.ShloMosaic.TcCoe Idealize.SL.Sem Idealize.ShloMosaic.StableHlo
open Idealize.ShloMosaic.Pipeline (Dat)
open Cert.RotarySpec

namespace Cert.Sample0Ideal.Plain
open Cert.Sample0Ideal Cert.Sample0Ideal.Gen
open Cert.Sample0RefIdeal.Rows (cosT sinT)

/-- The cosine table's eight rows for each stream of a block. -/
theorem stack_cos (c : FVec Ideal S8x256 .f32) (r : Fin 32) (j : Fin 256) : k0_pay2 (F := Ideal) c (ix2 r j) = at2 c (r.val % 8) j.val := by
  pointwise [k0_pay2]
  split_ifs
  all_goals refine at2_of _ _ _ _ _ ?_ ?_ <;> (first | rfl | omega | (dsimp only; omega))

theorem stack_sin (c : FVec Ideal S8x256 .f32) (r : Fin 32) (j : Fin 256) : k0_pay3 (F := Ideal) c (ix2 r j) = at2 c (r.val % 8) j.val := by
  pointwise [k0_pay3]
  split_ifs
  all_goals refine at2_of _ _ _ _ _ ?_ ?_ <;> (first | rfl | omega | (dsimp only; omega))

/-- A block of turned keys at an index. -/
theorem keys_at (k : FVec Ideal S32x256 .f32) (c s : FVec Ideal S8x256 .f32) (r : Fin 32) (j : Fin 256) (x cos sin : ℕ → EReal)
    (hx : ∀ i : Fin 256, k (ix2 r i) = x i.val) (hc : at2 c (r.val % 8) j.val = cos (j.val % 32)) (hs : at2 s (r.val % 8) j.val = sin (j.val % 32)) :
    k0_pay5 (F := Ideal) (k0_pay2 (F := Ideal) c) (k0_pay3 (F := Ideal) s) k (iota .tc S32x256 32 [1] iota_S32x256_d1_w32) (Scalar.select (Scalar.cmpi .eq 64#32 0#32) 1#32 64#32) (ix2 r j) = turned x cos sin j.val := by
  have hc' := (stack_cos c r j).trans hc
  have hs' := (stack_sin s r j).trans hs
  revert hc' hs'
  generalize k0_pay2 (F := Ideal) c = c', k0_pay3 (F := Ideal) s = s'
  intro hc' hs'
  pointwise [k0_pay5]
  rw [half_lane]
  by_cases h : j.val % 64 < 32
  · rw [if_pos h]
    refine (congrArg (k (ix2 r j) * c' (ix2 r j) + · * s' (ix2 r j)) (zero_sub _)).trans (turned_low h (hx j) ((hx _).trans (congrArg x ?_)) hc' hs')
    (first | rfl | omega | (dsimp only; omega))
  · rw [if_neg h]
    refine turned_high h (hx j) ((hx _).trans (congrArg x ?_)) hc' hs'
    (first | rfl | omega | (dsimp only; omega))

/-- The tables' rows spread over the heads. -/
def spread (T : FVec Ideal S8x32 .f32) : FVec Ideal S8x256 .f32 :=
  (shapeCast S8x256 (broadcastInDim S1x8x8x32 ![0, 1, 2, 3] bcast_S1x8x1x32_S1x8x8x32_0_1_2_3 (shapeCast S1x8x1x32 T shapeCasts_S8x32_S1x8x1x32)) shapeCasts_S1x8x8x32_S8x256)

theorem spread_at (T : FVec Ideal S8x32 .f32) (r : Fin 8) (j : Fin 256) : spread T (ix2 r j) = at2 T r.val (j.val % 32) := by
  pointwise [spread]
  refine at2_of _ _ _ _ _ ?_ ?_ <;> (first | rfl | omega | (dsimp only; omega))

variable (m : (ℓ : Loc nD τ sig) → Buf (Elt Ideal) ℓ)

theorem V_cos (c : Dev nD) : V m c main_v18 = spread cosT := by
  unfold V V0; simp only [List.flatten_cons, List.flatten_nil, List.append_nil]; after_results
  rfl

theorem V_sin (c : Dev nD) : V m c main_v22 = spread sinT := by
  unfold V V0; simp only [List.flatten_cons, List.flatten_nil, List.append_nil]; after_results
  rfl

theorem idx : ∀ t : Fin cfg0.N, win0_1.index t = ![512 + t.val, 27] ∧ win0_3.index t = ![0, 0] ∧ win0_4.index t = ![0, 0] ∧ win0_8.index t = ![t.val, 0] :=
  (by decide +kernel : ∀ t : Fin grid0.N, _)

theorem key_at (c : Dev nD) (t : Fin cfg0.N) (r : Fin 32) (i : Fin 256) :
    (show FVec Ideal S32x256 .f32 from iblk m c 1 t) (ix2 r i)
    = at2 (a := 17408) (b := 9216) (m ((c : Thread nD τ).loc main_arg0)) (16384 + (t.val * 32 + r.val)) (6912 + i.val) := by
  have ht : t.val < 32 := t.isLt
  have e : (show FVec Ideal S32x256 .f32 from iblk m c 1 t) (ix2 r i)
      = (show FVec Ideal S17408x9216 .f32 from m ((c : Thread nD τ).loc main_arg0)) (ix2 ⟨16384 + (t.val * 32 + r.val), by omega⟩ ⟨6912 + i.val, by omega⟩) := by
    blk_ext [iblk, V, idx t]
  refine e.trans (at2_of _ _ _ _ _ ?_ ?_) <;> (first | rfl | omega | (dsimp only; omega))

theorem cos_at (c : Dev nD) (t : Fin cfg0.N) (r j : ℕ) (hr : r < 8) (hj : j < 256) :
    at2 (a := 8) (b := 256) (iblk m c 3 t) r j = at2 cosT r (j % 32) := by
  have e : (show FVec Ideal S8x256 .f32 from iblk m c 3 t) (ix2 ⟨r, hr⟩ ⟨j, hj⟩) = (show FVec Ideal S8x256 .f32 from V m c main_v18) (ix2 ⟨r, hr⟩ ⟨j, hj⟩) := by
    blk_ext [iblk, idx t]
  exact (at2_ix2 (a := 8) (b := 256) (iblk m c 3 t) ⟨r, hr⟩ ⟨j, hj⟩).symm.trans (e.trans ((congrFun (V_cos m c) _).trans (spread_at _ _ _)))

theorem sin_at (c : Dev nD) (t : Fin cfg0.N) (r j : ℕ) (hr : r < 8) (hj : j < 256) :
    at2 (a := 8) (b := 256) (iblk m c 4 t) r j = at2 sinT r (j % 32) := by
  have e : (show FVec Ideal S8x256 .f32 from iblk m c 4 t) (ix2 ⟨r, hr⟩ ⟨j, hj⟩) = (show FVec Ideal S8x256 .f32 from V m c main_v22) (ix2 ⟨r, hr⟩ ⟨j, hj⟩) := by
    blk_ext [iblk, idx t]
  exact (at2_ix2 (a := 8) (b := 256) (iblk m c 4 t) ⟨r, hr⟩ ⟨j, hj⟩).symm.trans (e.trans ((congrFun (V_sin m c) _).trans (spread_at _ _ _)))

/-- The array of turned keys. -/
def keys (P : FVec Ideal S17408x9216 .f32) : FVec Ideal S1024x256 .f32 := fun i =>
  turned (fun j => at2 P (16384 + (i 0).val) (6912 + j)) (at2 cosT ((i 0).val % 8)) (at2 sinT ((i 0).val % 8)) (i 1).val

/-- A point's block at an index is the array there. -/
theorem point (c : Dev nD) (t : Fin cfg0.N) (r : Fin 32) (j : Fin 256) (R : Fin 1024) (hR : R.val = t.val * 32 + r.val) :
    k0_pay5 (F := Ideal) (k0_pay2 (F := Ideal) (iblk m c 3 t)) (k0_pay3 (F := Ideal) (iblk m c 4 t)) (iblk m c 1 t) (iota .tc S32x256 32 [1] iota_S32x256_d1_w32) (Scalar.select (Scalar.cmpi .eq 64#32 0#32) 1#32 64#32) (ix2 r j) = keys (m ((c : Thread nD τ).loc main_arg0)) (ix2 R j) := by
  have ht : t.val < 32 := t.isLt
  refine (keys_at _ _ _ r j (fun i => at2 (a := 17408) (b := 9216) (m ((c : Thread nD τ).loc main_arg0)) (16384 + (t.val * 32 + r.val)) (6912 + i)) _ _
    (fun i => key_at m c t r i) (cos_at m c t _ _ (by omega) j.isLt) (sin_at m c t _ _ (by omega) j.isLt)).trans ?_
  show _ = turned (fun j => at2 _ (16384 + R.val) (6912 + j)) (at2 cosT (R.val % 8)) (at2 sinT (R.val % 8)) j.val
  have e2 : R.val % 8 = r.val % 8 := by omega
  rw [e2, hR]

theorem out_eq (c : Dev nD) (t : Fin cfg0.N) :
    (dats m 0 c).after 8 t = k0_pay5 (F := Ideal) (k0_pay2 (F := Ideal) (iblk m c 3 t)) (k0_pay3 (F := Ideal) (iblk m c 4 t)) (iblk m c 1 t) (iota .tc S32x256 32 [1] iota_S32x256_d1_w32) (Scalar.select (Scalar.cmpi .eq 64#32 0#32) 1#32 64#32) := by
  rw [after0_8]
  unfold out0_8 k0_pay109 k0_pay110 k0_pay108
  frame_out

theorem final (c : Dev nD) : (dats m 0 c).arrAt 8 (cfgs 0).N = keys (m ((c : Thread nD τ).loc main_arg0)) := by
  refine (dats m 0 c).arrAt_eq_of_covers 8 _ (by decide +kernel) fun t hf y => ?_
  blk_simp
  rw [out_eq]
  have ht : t.val < 32 := t.isLt
  have h0 : (y 0).val < 32 := (y 0).isLt
  have h1 : (y 1).val < 256 := (y 1).isLt
  refine Eq.trans ?_ ((point m c t ⟨(y 0).val, h0⟩ ⟨(y 1).val, h1⟩ ⟨t.val * 32 + (y 0).val, by omega⟩ rfl).trans ?_)
  · refine congrArg _ ?_
    blk_ext
  · refine congrArg _ ?_
    blk_ext [idx t]

/-- The cache from the projected rows, the old cache and the array of turned keys. -/
def cache (P : FVec Ideal S17408x9216 .f32) (Cc : FVec Ideal S128x128x2x4x64 .f32) (K : FVec Ideal S1024x256 .f32) : FVec Ideal S128x128x2x4x64 .f32 :=
  (extractStridedSlice S128x128x2x4x64 ![0, 8, 0, 0, 0] (concatenate S128x136x2x4x64 1 [⟨S128x128x2x4x64, (Cc)⟩, ⟨S128x8x2x4x64, ((shapeCast S128x8x2x4x64 (concatenate S128x8x2x256 2 [⟨S128x8x1x256, ((broadcastInDim S128x8x1x256 ![0, 1, 3] bcast_S128x8x256_S128x8x1x256_0_1_3 (shapeCast S128x8x256 K shapeCasts_S1024x256_S128x8x256)))⟩, ⟨S128x8x1x256, ((broadcastInDim S128x8x1x256 ![0, 1, 3] bcast_S128x8x256_S128x8x1x256_0_1_3 (extractStridedSlice S128x8x256 ![0, 0, 7168] (shapeCast S128x8x9216 (extractStridedSlice S1024x9216 ![16384, 0] P slices_S17408x9216_S1024x9216_16384_0) shapeCasts_S1024x9216_S128x8x9216) slices_S128x8x9216_S128x8x256_0_0_7168)))⟩] concatenates_S128x8x1x256_S128x8x1x256_S128x8x2x256_d2) shapeCasts_S128x8x2x256_S128x8x2x4x64))⟩] concatenates_S128x128x2x4x64_S128x8x2x4x64_S128x136x2x4x64_d1) slices_S128x136x2x4x64_S128x128x2x4x64_0_8_0_0_0)

theorem cache_old (P : FVec Ideal S17408x9216 .f32) (Cc : FVec Ideal S128x128x2x4x64 .f32) (K : FVec Ideal S1024x256 .f32) (b : Fin 128) (r : Fin 128) (s : Fin 2) (h : Fin 4) (d : Fin 64)
    (hr : 8 + r.val < 128) : cache P Cc K (ix5 b r s h d) = Cc (ix5 b ⟨8 + r.val, hr⟩ s h d) := by
  pointwise [cache]
  rw [dif_pos hr]

theorem cache_key (P : FVec Ideal S17408x9216 .f32) (Cc : FVec Ideal S128x128x2x4x64 .f32) (K : FVec Ideal S1024x256 .f32) (b : Fin 128) (r : Fin 128) (h : Fin 4) (d : Fin 64)
    (hr : ¬ 8 + r.val < 128) : cache P Cc K (ix5 b r 0 h d) = at2 K (b.val * 8 + (8 + r.val - 128)) (h.val * 64 + d.val) := by
  pointwise [cache]
  rw [dif_neg hr]
  refine at2_of _ _ _ _ _ ?_ ?_ <;> (first | rfl | omega | (dsimp only; omega))

theorem cache_value (P : FVec Ideal S17408x9216 .f32) (Cc : FVec Ideal S128x128x2x4x64 .f32) (K : FVec Ideal S1024x256 .f32) (b : Fin 128) (r : Fin 128) (h : Fin 4) (d : Fin 64)
    (hr : ¬ 8 + r.val < 128) : cache P Cc K (ix5 b r 1 h d) = at2 P (16384 + (b.val * 8 + (8 + r.val - 128))) (7168 + (h.val * 64 + d.val)) := by
  pointwise [cache]
  rw [dif_neg hr]
  refine at2_of _ _ _ _ _ ?_ ?_ <;> (first | rfl | omega | (dsimp only; omega))

theorem cache_eq (P : FVec Ideal S17408x9216 .f32) (Cc : FVec Ideal S128x128x2x4x64 .f32) : cache P Cc (keys P) = Cert.Sample0RefIdeal.Rows.cache P Cc := by
  funext i
  rw [eq_ix5 i]
  generalize i 0 = b, i 1 = r, i 2 = s, i 3 = h, i 4 = d
  change Fin 128 at b
  change Fin 128 at r
  change Fin 2 at s
  change Fin 4 at h
  change Fin 64 at d
  by_cases hr : 8 + r.val < 128
  · exact (cache_old P Cc _ b r s h d hr).trans (Cert.Sample0RefIdeal.Rows.cache_old P Cc b r s h d hr).symm
  obtain rfl | rfl : s = 0 ∨ s = 1 := by omega
  · refine (cache_key P Cc _ b r h d hr).trans (Eq.trans ?_ (Cert.Sample0RefIdeal.Rows.cache_key P Cc b r h d hr).symm)
    unfold at2
    rw [dif_pos ⟨by omega, by omega⟩]
    show turned (fun j => at2 P (16384 + (b.val * 8 + (8 + r.val - 128))) (6912 + j)) (at2 cosT ((b.val * 8 + (8 + r.val - 128)) % 8))
      (at2 sinT ((b.val * 8 + (8 + r.val - 128)) % 8)) (h.val * 64 + d.val) = _
    have e2 : (b.val * 8 + (8 + r.val - 128)) % 8 = 8 + r.val - 128 := by omega
    rw [e2]
    rfl
  · exact (cache_value P Cc _ b r h d hr).trans (Cert.Sample0RefIdeal.Rows.cache_value P Cc b r h d hr).symm

set_option maxHeartbeats 2000000 in
theorem tail (W : Valuation τ sig (Elt Ideal)) : StableHlo.after (List.flatten [hostOps1]) W (Proc.devRef .tc main_v35)
    = cache (W (Proc.devRef .tc main_arg0)) (W (Proc.devRef .tc main_arg1)) (W (Proc.devRef .tc main_v25_2)) := by
  simp only [List.flatten_cons, List.flatten_nil, List.append_nil]
  after_results_simp <;> rfl

theorem shared : ∀ w w' : Fin cfg0.W, w ≠ w' → Pipeline.arrRef (cfgs 0).spec w = Pipeline.arrRef (cfgs 0).spec w' → ((cfgs 0).win w).isOut = false := by
  decide +kernel

/-- The buffers at the region's exit. -/
def exitV (c : Dev nD) : Valuation τ sig (Elt Ideal) := Pipeline.withArrays (cfgs 0).spec c (V0 m c) fun w => (dats m 0 c).arrAt w (cfgs 0).N

theorem exit_arr (c : Dev nD) (w : Fin cfg0.W) : exitV m c (Proc.devRef .tc (Pipeline.arrRef (cfgs 0).spec w)) = (dats m 0 c).arrAt w (cfgs 0).N :=
  Pipeline.withArrays_arr_shared (cfgs 0).spec c (V0 m c) (fun w => (dats m 0 c).arrAt w (cfgs 0).N)
    (fun w w' hne e => ((dats m 0 c).arrAt_in w (shared w w' hne e) _).trans (A_eq m c w)) w

theorem exit_keys (c : Dev nD) : exitV m c (Proc.devRef .tc main_v25_2) = (dats m 0 c).arrAt 8 (cfgs 0).N := exit_arr m c 8

theorem exit_arg0 (c : Dev nD) : exitV m c (Proc.devRef .tc main_arg0) = m ((c : Thread nD τ).loc main_arg0) :=
  (exit_arr m c 1).trans (((dats m 0 c).arrAt_in 1 rfl _).trans ((A_eq m c 1).trans (V_main_arg0 m c)))

theorem exit_arg1 (c : Dev nD) : exitV m c (Proc.devRef .tc main_arg1) = m ((c : Thread nD τ).loc main_arg1) :=
  (Pipeline.withArrays_of_ne _ c (V0 m c) _ main_arg1 (by exact (by decide : ∀ w, Pipeline.arrRef spec0 w ≠ main_arg1))).trans (V_main_arg1 m c)

/-- Every run from any memory ends with the result at the reference's value of its arguments, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v35) = Cert.Sample0RefIdeal.Rows.cache (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ?_) (θ_run_and (run_main m ρ) (unchanged m ρ))
  refine ⟨?_, h.2 c⟩
  refine ((h.1 c).2 main_v35 (by decide)).trans ((tail (exitV m c)).trans ?_)
  rw [(exit_keys m c).trans (final m c), exit_arg0 m c, exit_arg1 m c]
  exact cache_eq _ _

end Cert.Sample0Ideal.Plain
-- ==== Proof.Sample1Rows.lean ====
/- The sample streams' cache of the reference at an index: what stays of the old one, the new rows' turned keys, and their
   values. -/
module

public import proofs.«01_k».proof.Proof.Gen.Sample1RefIdeal.Run
public import proofs.«01_k».proof.Proof.RotarySpec

@[expose] public section

set_option maxRecDepth 100000

noncomputable section

open Idealize.ShloMosaic Idealize.ShloMosaic.TcCoe Idealize.SL.Sem
open Cert.RotarySpec

namespace Cert.Sample1RefIdeal.Rows
open Cert.Sample1RefIdeal Cert.Sample1RefIdeal.Gen Cert.Sample1RefIdeal.Value

/-- Every new position's angles. -/
def angT : FVec Ideal S8x32 .f32 := (mulf (broadcastInDim S8x32 ![0, 1] bcast_S8x1_S8x32_0_1 (broadcastInDim S8x1 ![0] bcast_S8_S8x1_0 (sitofp .f32 (addi (broadcastInDim S8 ![] bcast_S_S8 (constantI S_ 32 2048#32)) (iotaInDim S8 32 0))))) (broadcastInDim S8x32 ![0, 1] bcast_S1x32_S8x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))

/-- Their cosines and sines. -/
def cosT : FVec Ideal S8x32 .f32 := Host.cos angT
def sinT : FVec Ideal S8x32 .f32 := Host.sin angT

/-- The reference's result from the projected rows and the old cache. -/
def cache (P : FVec Ideal S17408x9216 .f32) (Cc : FVec Ideal S128x512x2x4x64 .f32) : FVec Ideal S128x512x2x4x64 .f32 :=
  extractStridedSlice S128x512x2x4x64 ![0, 8, 0, 0, 0] (concatenate S128x520x2x4x64 1 [⟨S128x512x2x4x64, Cc⟩, ⟨S128x8x2x4x64, (concatenate S128x8x2x4x64 2 [⟨S128x8x1x4x64, (broadcastInDim S128x8x1x4x64 ![0, 1, 3, 4] bcast_S128x8x4x64_S128x8x1x4x64_0_1_3_4 (concatenate S128x8x4x64 3 [⟨S128x8x4x32, (subf (mulf (extractStridedSlice S128x8x4x32 ![0, 0, 0, 0] (shapeCast _ (extractStridedSlice S1024x256 ![16384, 7680] P slices_S17408x9216_S1024x256_16384_7680) shapeCasts_S1024x256_S128x8x4x64) slices_S128x8x4x64_S128x8x4x32_0_0_0_0) (broadcastInDim S128x8x4x32 ![0, 1, 2, 3] bcast_S1x8x1x32_S128x8x4x32_0_1_2_3 (broadcastInDim S1x8x1x32 ![1, 3] bcast_S8x32_S1x8x1x32_1_3 cosT))) (mulf (extractStridedSlice S128x8x4x32 ![0, 0, 0, 32] (shapeCast _ (extractStridedSlice S1024x256 ![16384, 7680] P slices_S17408x9216_S1024x256_16384_7680) shapeCasts_S1024x256_S128x8x4x64) slices_S128x8x4x64_S128x8x4x32_0_0_0_32) (broadcastInDim S128x8x4x32 ![0, 1, 2, 3] bcast_S1x8x1x32_S128x8x4x32_0_1_2_3 (broadcastInDim S1x8x1x32 ![1, 3] bcast_S8x32_S1x8x1x32_1_3 sinT))))⟩, ⟨S128x8x4x32, (addf (mulf (extractStridedSlice S128x8x4x32 ![0, 0, 0, 0] (shapeCast _ (extractStridedSlice S1024x256 ![16384, 7680] P slices_S17408x9216_S1024x256_16384_7680) shapeCasts_S1024x256_S128x8x4x64) slices_S128x8x4x64_S128x8x4x32_0_0_0_0) (broadcastInDim S128x8x4x32 ![0, 1, 2, 3] bcast_S1x8x1x32_S128x8x4x32_0_1_2_3 (broadcastInDim S1x8x1x32 ![1, 3] bcast_S8x32_S1x8x1x32_1_3 sinT))) (mulf (extractStridedSlice S128x8x4x32 ![0, 0, 0, 32] (shapeCast _ (extractStridedSlice S1024x256 ![16384, 7680] P slices_S17408x9216_S1024x256_16384_7680) shapeCasts_S1024x256_S128x8x4x64) slices_S128x8x4x64_S128x8x4x32_0_0_0_32) (broadcastInDim S128x8x4x32 ![0, 1, 2, 3] bcast_S1x8x1x32_S128x8x4x32_0_1_2_3 (broadcastInDim S1x8x1x32 ![1, 3] bcast_S8x32_S1x8x1x32_1_3 cosT))))⟩] concatenates_S128x8x4x32_S128x8x4x32_S128x8x4x64_d3))⟩, ⟨S128x8x1x4x64, (broadcastInDim S128x8x1x4x64 ![0, 1, 3, 4] bcast_S128x8x4x64_S128x8x1x4x64_0_1_3_4 (shapeCast _ (extractStridedSlice S1024x256 ![16384, 7936] P slices_S17408x9216_S1024x256_16384_7936) shapeCasts_S1024x256_S128x8x4x64))⟩] concatenates_S128x8x1x4x64_S128x8x1x4x64_S128x8x2x4x64_d2)⟩] concatenates_S128x512x2x4x64_S128x8x2x4x64_S128x520x2x4x64_d1) slices_S128x520x2x4x64_S128x512x2x4x64_0_8_0_0_0

theorem cache_res (m : (ℓ : Loc nD τ sig) → Buf (Elt Ideal) ℓ) (c : Dev nD) : res_out0 m c = cache (m (c.tc.loc main_arg0)) (m (c.tc.loc main_arg1)) := rfl

theorem cache_old (P : FVec Ideal S17408x9216 .f32) (Cc : FVec Ideal S128x512x2x4x64 .f32) (b : Fin 128) (r : Fin 512) (s : Fin 2) (h : Fin 4) (d : Fin 64)
    (hr : 8 + r.val < 512) : cache P Cc (ix5 b r s h d) = Cc (ix5 b ⟨8 + r.val, hr⟩ s h d) := by
  pointwise [cache]
  rw [dif_pos hr]

theorem cache_key (P : FVec Ideal S17408x9216 .f32) (Cc : FVec Ideal S128x512x2x4x64 .f32) (b : Fin 128) (r : Fin 512) (h : Fin 4) (d : Fin 64)
    (hr : ¬ 8 + r.val < 512) :
    cache P Cc (ix5 b r 0 h d) = turned (fun j => at2 P (16384 + (b.val * 8 + (8 + r.val - 512))) (7680 + j))
      (at2 cosT (8 + r.val - 512)) (at2 sinT (8 + r.val - 512)) (h.val * 64 + d.val) := by
  pointwise [cache]
  rw [dif_neg hr]
  split_ifs with h1
  all_goals
    first
    | refine turned_low' (by omega) ?_ ?_ ?_ ?_
    | refine turned_high' (by omega) ?_ ?_ ?_ ?_
    all_goals
      try beta_reduce
      refine at2_of _ _ _ _ _ ?_ ?_ <;> (first | rfl | omega | (dsimp only; omega))

theorem cache_value (P : FVec Ideal S17408x9216 .f32) (Cc : FVec Ideal S128x512x2x4x64 .f32) (b : Fin 128) (r : Fin 512) (h : Fin 4) (d : Fin 64)
    (hr : ¬ 8 + r.val < 512) :
    cache P Cc (ix5 b r 1 h d) = at2 P (16384 + (b.val * 8 + (8 + r.val - 512))) (7936 + (h.val * 64 + d.val)) := by
  pointwise [cache]
  rw [dif_neg hr]
  refine at2_of _ _ _ _ _ ?_ ?_ <;> (first | rfl | omega | (dsimp only; omega))

end Cert.Sample1RefIdeal.Rows
-- ==== Proof.Sample1Value.lean ====
/- The sample call's key rows against their reference at the ideal instance: a block's rows are the new rows' key columns
   turned by their positions' angles, and the cache the host makes of them and the old one is the reference's. -/
module

public import proofs.«01_k».proof.Proof.Gen.Sample1Ideal.Frame
public import proofs.«01_k».proof.Proof.Sample1Rows
public import Idealize.ShloMosaic.Lib.Claim

@[expose] public section

set_option maxRecDepth 100000

noncomputable section

open Idealize.ShloMosaic Idealize.ShloMosaic.TcCoe Idealize.SL.Sem Idealize.ShloMosaic.StableHlo
open Idealize.ShloMosaic.Pipeline (Dat)
open Cert.RotarySpec

namespace Cert.Sample1Ideal.Plain
open Cert.Sample1Ideal Cert.Sample1Ideal.Gen
open Cert.Sample1RefIdeal.Rows (cosT sinT)

/-- The cosine table's eight rows for each stream of a block. -/
theorem stack_cos (c : FVec Ideal S8x256 .f32) (r : Fin 32) (j : Fin 256) : k0_pay2 (F := Ideal) c (ix2 r j) = at2 c (r.val % 8) j.val := by
  pointwise [k0_pay2]
  split_ifs
  all_goals refine at2_of _ _ _ _ _ ?_ ?_ <;> (first | rfl | omega | (dsimp only; omega))

theorem stack_sin (c : FVec Ideal S8x256 .f32) (r : Fin 32) (j : Fin 256) : k0_pay3 (F := Ideal) c (ix2 r j) = at2 c (r.val % 8) j.val := by
  pointwise [k0_pay3]
  split_ifs
  all_goals refine at2_of _ _ _ _ _ ?_ ?_ <;> (first | rfl | omega | (dsimp only; omega))

/-- A block of turned keys at an index. -/
theorem keys_at (k : FVec Ideal S32x256 .f32) (c s : FVec Ideal S8x256 .f32) (r : Fin 32) (j : Fin 256) (x cos sin : ℕ → EReal)
    (hx : ∀ i : Fin 256, k (ix2 r i) = x i.val) (hc : at2 c (r.val % 8) j.val = cos (j.val % 32)) (hs : at2 s (r.val % 8) j.val = sin (j.val % 32)) :
    k0_pay5 (F := Ideal) (k0_pay2 (F := Ideal) c) (k0_pay3 (F := Ideal) s) k (iota .tc S32x256 32 [1] iota_S32x256_d1_w32) (Scalar.select (Scalar.cmpi .eq 64#32 0#32) 1#32 64#32) (ix2 r j) = turned x cos sin j.val := by
  have hc' := (stack_cos c r j).trans hc
  have hs' := (stack_sin s r j).trans hs
  revert hc' hs'
  generalize k0_pay2 (F := Ideal) c = c', k0_pay3 (F := Ideal) s = s'
  intro hc' hs'
  pointwise [k0_pay5]
  rw [half_lane]
  by_cases h : j.val % 64 < 32
  · rw [if_pos h]
    refine (congrArg (k (ix2 r j) * c' (ix2 r j) + · * s' (ix2 r j)) (zero_sub _)).trans (turned_low h (hx j) ((hx _).trans (congrArg x ?_)) hc' hs')
    (first | rfl | omega | (dsimp only; omega))
  · rw [if_neg h]
    refine turned_high h (hx j) ((hx _).trans (congrArg x ?_)) hc' hs'
    (first | rfl | omega | (dsimp only; omega))

/-- The tables' rows spread over the heads. -/
def spread (T : FVec Ideal S8x32 .f32) : FVec Ideal S8x256 .f32 :=
  (shapeCast S8x256 (broadcastInDim S1x8x8x32 ![0, 1, 2, 3] bcast_S1x8x1x32_S1x8x8x32_0_1_2_3 (shapeCast S1x8x1x32 T shapeCasts_S8x32_S1x8x1x32)) shapeCasts_S1x8x8x32_S8x256)

theorem spread_at (T : FVec Ideal S8x32 .f32) (r : Fin 8) (j : Fin 256) : spread T (ix2 r j) = at2 T r.val (j.val % 32) := by
  pointwise [spread]
  refine at2_of _ _ _ _ _ ?_ ?_ <;> (first | rfl | omega | (dsimp only; omega))

variable (m : (ℓ : Loc nD τ sig) → Buf (Elt Ideal) ℓ)

theorem V_cos (c : Dev nD) : V m c main_v18 = spread cosT := by
  unfold V V0; simp only [List.flatten_cons, List.flatten_nil, List.append_nil]; after_results
  rfl

theorem V_sin (c : Dev nD) : V m c main_v22 = spread sinT := by
  unfold V V0; simp only [List.flatten_cons, List.flatten_nil, List.append_nil]; after_results
  rfl

theorem idx : ∀ t : Fin cfg0.N, win0_1.index t = ![512 + t.val, 30] ∧ win0_3.index t = ![0, 0] ∧ win0_4.index t = ![0, 0] ∧ win0_8.index t = ![t.val, 0] :=
  (by decide +kernel : ∀ t : Fin grid0.N, _)

theorem key_at (c : Dev nD) (t : Fin cfg0.N) (r : Fin 32) (i : Fin 256) :
    (show FVec Ideal S32x256 .f32 from iblk m c 1 t) (ix2 r i)
    = at2 (a := 17408) (b := 9216) (m ((c : Thread nD τ).loc main_arg0)) (16384 + (t.val * 32 + r.val)) (7680 + i.val) := by
  have ht : t.val < 32 := t.isLt
  have e : (show FVec Ideal S32x256 .f32 from iblk m c 1 t) (ix2 r i)
      = (show FVec Ideal S17408x9216 .f32 from m ((c : Thread nD τ).loc main_arg0)) (ix2 ⟨16384 + (t.val * 32 + r.val), by omega⟩ ⟨7680 + i.val, by omega⟩) := by
    blk_ext [iblk, V, idx t]
  refine e.trans (at2_of _ _ _ _ _ ?_ ?_) <;> (first | rfl | omega | (dsimp only; omega))

theorem cos_at (c : Dev nD) (t : Fin cfg0.N) (r j : ℕ) (hr : r < 8) (hj : j < 256) :
    at2 (a := 8) (b := 256) (iblk m c 3 t) r j = at2 cosT r (j % 32) := by
  have e : (show FVec Ideal S8x256 .f32 from iblk m c 3 t) (ix2 ⟨r, hr⟩ ⟨j, hj⟩) = (show FVec Ideal S8x256 .f32 from V m c main_v18) (ix2 ⟨r, hr⟩ ⟨j, hj⟩) := by
    blk_ext [iblk, idx t]
  exact (at2_ix2 (a := 8) (b := 256) (iblk m c 3 t) ⟨r, hr⟩ ⟨j, hj⟩).symm.trans (e.trans ((congrFun (V_cos m c) _).trans (spread_at _ _ _)))

theorem sin_at (c : Dev nD) (t : Fin cfg0.N) (r j : ℕ) (hr : r < 8) (hj : j < 256) :
    at2 (a := 8) (b := 256) (iblk m c 4 t) r j = at2 sinT r (j % 32) := by
  have e : (show FVec Ideal S8x256 .f32 from iblk m c 4 t) (ix2 ⟨r, hr⟩ ⟨j, hj⟩) = (show FVec Ideal S8x256 .f32 from V m c main_v22) (ix2 ⟨r, hr⟩ ⟨j, hj⟩) := by
    blk_ext [iblk, idx t]
  exact (at2_ix2 (a := 8) (b := 256) (iblk m c 4 t) ⟨r, hr⟩ ⟨j, hj⟩).symm.trans (e.trans ((congrFun (V_sin m c) _).trans (spread_at _ _ _)))

/-- The array of turned keys. -/
def keys (P : FVec Ideal S17408x9216 .f32) : FVec Ideal S1024x256 .f32 := fun i =>
  turned (fun j => at2 P (16384 + (i 0).val) (7680 + j)) (at2 cosT ((i 0).val % 8)) (at2 sinT ((i 0).val % 8)) (i 1).val

/-- A point's block at an index is the array there. -/
theorem point (c : Dev nD) (t : Fin cfg0.N) (r : Fin 32) (j : Fin 256) (R : Fin 1024) (hR : R.val = t.val * 32 + r.val) :
    k0_pay5 (F := Ideal) (k0_pay2 (F := Ideal) (iblk m c 3 t)) (k0_pay3 (F := Ideal) (iblk m c 4 t)) (iblk m c 1 t) (iota .tc S32x256 32 [1] iota_S32x256_d1_w32) (Scalar.select (Scalar.cmpi .eq 64#32 0#32) 1#32 64#32) (ix2 r j) = keys (m ((c : Thread nD τ).loc main_arg0)) (ix2 R j) := by
  have ht : t.val < 32 := t.isLt
  refine (keys_at _ _ _ r j (fun i => at2 (a := 17408) (b := 9216) (m ((c : Thread nD τ).loc main_arg0)) (16384 + (t.val * 32 + r.val)) (7680 + i)) _ _
    (fun i => key_at m c t r i) (cos_at m c t _ _ (by omega) j.isLt) (sin_at m c t _ _ (by omega) j.isLt)).trans ?_
  show _ = turned (fun j => at2 _ (16384 + R.val) (7680 + j)) (at2 cosT (R.val % 8)) (at2 sinT (R.val % 8)) j.val
  have e2 : R.val % 8 = r.val % 8 := by omega
  rw [e2, hR]

theorem out_eq (c : Dev nD) (t : Fin cfg0.N) :
    (dats m 0 c).after 8 t = k0_pay5 (F := Ideal) (k0_pay2 (F := Ideal) (iblk m c 3 t)) (k0_pay3 (F := Ideal) (iblk m c 4 t)) (iblk m c 1 t) (iota .tc S32x256 32 [1] iota_S32x256_d1_w32) (Scalar.select (Scalar.cmpi .eq 64#32 0#32) 1#32 64#32) := by
  rw [after0_8]
  unfold out0_8 k0_pay109 k0_pay110 k0_pay108
  frame_out

theorem final (c : Dev nD) : (dats m 0 c).arrAt 8 (cfgs 0).N = keys (m ((c : Thread nD τ).loc main_arg0)) := by
  refine (dats m 0 c).arrAt_eq_of_covers 8 _ (by decide +kernel) fun t hf y => ?_
  blk_simp
  rw [out_eq]
  have ht : t.val < 32 := t.isLt
  have h0 : (y 0).val < 32 := (y 0).isLt
  have h1 : (y 1).val < 256 := (y 1).isLt
  refine Eq.trans ?_ ((point m c t ⟨(y 0).val, h0⟩ ⟨(y 1).val, h1⟩ ⟨t.val * 32 + (y 0).val, by omega⟩ rfl).trans ?_)
  · refine congrArg _ ?_
    blk_ext
  · refine congrArg _ ?_
    blk_ext [idx t]

/-- The cache from the projected rows, the old cache and the array of turned keys. -/
def cache (P : FVec Ideal S17408x9216 .f32) (Cc : FVec Ideal S128x512x2x4x64 .f32) (K : FVec Ideal S1024x256 .f32) : FVec Ideal S128x512x2x4x64 .f32 :=
  (extractStridedSlice S128x512x2x4x64 ![0, 8, 0, 0, 0] (concatenate S128x520x2x4x64 1 [⟨S128x512x2x4x64, (Cc)⟩, ⟨S128x8x2x4x64, ((shapeCast S128x8x2x4x64 (concatenate S128x8x2x256 2 [⟨S128x8x1x256, ((broadcastInDim S128x8x1x256 ![0, 1, 3] bcast_S128x8x256_S128x8x1x256_0_1_3 (shapeCast S128x8x256 K shapeCasts_S1024x256_S128x8x256)))⟩, ⟨S128x8x1x256, ((broadcastInDim S128x8x1x256 ![0, 1, 3] bcast_S128x8x256_S128x8x1x256_0_1_3 (extractStridedSlice S128x8x256 ![0, 0, 7936] (shapeCast S128x8x9216 (extractStridedSlice S1024x9216 ![16384, 0] P slices_S17408x9216_S1024x9216_16384_0) shapeCasts_S1024x9216_S128x8x9216) slices_S128x8x9216_S128x8x256_0_0_7936)))⟩] concatenates_S128x8x1x256_S128x8x1x256_S128x8x2x256_d2) shapeCasts_S128x8x2x256_S128x8x2x4x64))⟩] concatenates_S128x512x2x4x64_S128x8x2x4x64_S128x520x2x4x64_d1) slices_S128x520x2x4x64_S128x512x2x4x64_0_8_0_0_0)

theorem cache_old (P : FVec Ideal S17408x9216 .f32) (Cc : FVec Ideal S128x512x2x4x64 .f32) (K : FVec Ideal S1024x256 .f32) (b : Fin 128) (r : Fin 512) (s : Fin 2) (h : Fin 4) (d : Fin 64)
    (hr : 8 + r.val < 512) : cache P Cc K (ix5 b r s h d) = Cc (ix5 b ⟨8 + r.val, hr⟩ s h d) := by
  pointwise [cache]
  rw [dif_pos hr]

theorem cache_key (P : FVec Ideal S17408x9216 .f32) (Cc : FVec Ideal S128x512x2x4x64 .f32) (K : FVec Ideal S1024x256 .f32) (b : Fin 128) (r : Fin 512) (h : Fin 4) (d : Fin 64)
    (hr : ¬ 8 + r.val < 512) : cache P Cc K (ix5 b r 0 h d) = at2 K (b.val * 8 + (8 + r.val - 512)) (h.val * 64 + d.val) := by
  pointwise [cache]
  rw [dif_neg hr]
  refine at2_of _ _ _ _ _ ?_ ?_ <;> (first | rfl | omega | (dsimp only; omega))

theorem cache_value (P : FVec Ideal S17408x9216 .f32) (Cc : FVec Ideal S128x512x2x4x64 .f32) (K : FVec Ideal S1024x256 .f32) (b : Fin 128) (r : Fin 512) (h : Fin 4) (d : Fin 64)
    (hr : ¬ 8 + r.val < 512) : cache P Cc K (ix5 b r 1 h d) = at2 P (16384 + (b.val * 8 + (8 + r.val - 512))) (7936 + (h.val * 64 + d.val)) := by
  pointwise [cache]
  rw [dif_neg hr]
  refine at2_of _ _ _ _ _ ?_ ?_ <;> (first | rfl | omega | (dsimp only; omega))

theorem cache_eq (P : FVec Ideal S17408x9216 .f32) (Cc : FVec Ideal S128x512x2x4x64 .f32) : cache P Cc (keys P) = Cert.Sample1RefIdeal.Rows.cache P Cc := by
  funext i
  rw [eq_ix5 i]
  generalize i 0 = b, i 1 = r, i 2 = s, i 3 = h, i 4 = d
  change Fin 128 at b
  change Fin 512 at r
  change Fin 2 at s
  change Fin 4 at h
  change Fin 64 at d
  by_cases hr : 8 + r.val < 512
  · exact (cache_old P Cc _ b r s h d hr).trans (Cert.Sample1RefIdeal.Rows.cache_old P Cc b r s h d hr).symm
  obtain rfl | rfl : s = 0 ∨ s = 1 := by omega
  · refine (cache_key P Cc _ b r h d hr).trans (Eq.trans ?_ (Cert.Sample1RefIdeal.Rows.cache_key P Cc b r h d hr).symm)
    unfold at2
    rw [dif_pos ⟨by omega, by omega⟩]
    show turned (fun j => at2 P (16384 + (b.val * 8 + (8 + r.val - 512))) (7680 + j)) (at2 cosT ((b.val * 8 + (8 + r.val - 512)) % 8))
      (at2 sinT ((b.val * 8 + (8 + r.val - 512)) % 8)) (h.val * 64 + d.val) = _
    have e2 : (b.val * 8 + (8 + r.val - 512)) % 8 = 8 + r.val - 512 := by omega
    rw [e2]
    rfl
  · exact (cache_value P Cc _ b r h d hr).trans (Cert.Sample1RefIdeal.Rows.cache_value P Cc b r h d hr).symm

set_option maxHeartbeats 2000000 in
theorem tail (W : Valuation τ sig (Elt Ideal)) : StableHlo.after (List.flatten [hostOps1]) W (Proc.devRef .tc main_v35)
    = cache (W (Proc.devRef .tc main_arg0)) (W (Proc.devRef .tc main_arg1)) (W (Proc.devRef .tc main_v25_2)) := by
  simp only [List.flatten_cons, List.flatten_nil, List.append_nil]
  after_results_simp <;> rfl

theorem shared : ∀ w w' : Fin cfg0.W, w ≠ w' → Pipeline.arrRef (cfgs 0).spec w = Pipeline.arrRef (cfgs 0).spec w' → ((cfgs 0).win w).isOut = false := by
  decide +kernel

/-- The buffers at the region's exit. -/
def exitV (c : Dev nD) : Valuation τ sig (Elt Ideal) := Pipeline.withArrays (cfgs 0).spec c (V0 m c) fun w => (dats m 0 c).arrAt w (cfgs 0).N

theorem exit_arr (c : Dev nD) (w : Fin cfg0.W) : exitV m c (Proc.devRef .tc (Pipeline.arrRef (cfgs 0).spec w)) = (dats m 0 c).arrAt w (cfgs 0).N :=
  Pipeline.withArrays_arr_shared (cfgs 0).spec c (V0 m c) (fun w => (dats m 0 c).arrAt w (cfgs 0).N)
    (fun w w' hne e => ((dats m 0 c).arrAt_in w (shared w w' hne e) _).trans (A_eq m c w)) w

theorem exit_keys (c : Dev nD) : exitV m c (Proc.devRef .tc main_v25_2) = (dats m 0 c).arrAt 8 (cfgs 0).N := exit_arr m c 8

theorem exit_arg0 (c : Dev nD) : exitV m c (Proc.devRef .tc main_arg0) = m ((c : Thread nD τ).loc main_arg0) :=
  (exit_arr m c 1).trans (((dats m 0 c).arrAt_in 1 rfl _).trans ((A_eq m c 1).trans (V_main_arg0 m c)))

theorem exit_arg1 (c : Dev nD) : exitV m c (Proc.devRef .tc main_arg1) = m ((c : Thread nD τ).loc main_arg1) :=
  (Pipeline.withArrays_of_ne _ c (V0 m c) _ main_arg1 (by exact (by decide : ∀ w, Pipeline.arrRef spec0 w ≠ main_arg1))).trans (V_main_arg1 m c)

/-- Every run from any memory ends with the result at the reference's value of its arguments, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v35) = Cert.Sample1RefIdeal.Rows.cache (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ?_) (θ_run_and (run_main m ρ) (unchanged m ρ))
  refine ⟨?_, h.2 c⟩
  refine ((h.1 c).2 main_v35 (by decide)).trans ((tail (exitV m c)).trans ?_)
  rw [(exit_keys m c).trans (final m c), exit_arg0 m c, exit_arg1 m c]
  exact cache_eq _ _

end Cert.Sample1Ideal.Plain
-- ==== Proof.Sample2Rows.lean ====
/- The sample streams' cache of the reference at an index: what stays of the old one, the new rows' turned keys, and their
   values. -/
module

public import proofs.«01_k».proof.Proof.Gen.Sample2RefIdeal.Run
public import proofs.«01_k».proof.Proof.RotarySpec

@[expose] public section

set_option maxRecDepth 100000

noncomputable section

open Idealize.ShloMosaic Idealize.ShloMosaic.TcCoe Idealize.SL.Sem
open Cert.RotarySpec

namespace Cert.Sample2RefIdeal.Rows
open Cert.Sample2RefIdeal Cert.Sample2RefIdeal.Gen Cert.Sample2RefIdeal.Value

/-- Every new position's angles. -/
def angT : FVec Ideal S8x32 .f32 := (mulf (broadcastInDim S8x32 ![0, 1] bcast_S8x1_S8x32_0_1 (broadcastInDim S8x1 ![0] bcast_S8_S8x1_0 (sitofp .f32 (addi (broadcastInDim S8 ![] bcast_S_S8 (constantI S_ 32 2048#32)) (iotaInDim S8 32 0))))) (broadcastInDim S8x32 ![0, 1] bcast_S1x32_S8x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))

/-- Their cosines and sines. -/
def cosT : FVec Ideal S8x32 .f32 := Host.cos angT
def sinT : FVec Ideal S8x32 .f32 := Host.sin angT

/-- The reference's result from the projected rows and the old cache. -/
def cache (P : FVec Ideal S17408x9216 .f32) (Cc : FVec Ideal S128x2048x2x4x64 .f32) : FVec Ideal S128x2048x2x4x64 .f32 :=
  extractStridedSlice S128x2048x2x4x64 ![0, 8, 0, 0, 0] (concatenate S128x2056x2x4x64 1 [⟨S128x2048x2x4x64, Cc⟩, ⟨S128x8x2x4x64, (concatenate S128x8x2x4x64 2 [⟨S128x8x1x4x64, (broadcastInDim S128x8x1x4x64 ![0, 1, 3, 4] bcast_S128x8x4x64_S128x8x1x4x64_0_1_3_4 (concatenate S128x8x4x64 3 [⟨S128x8x4x32, (subf (mulf (extractStridedSlice S128x8x4x32 ![0, 0, 0, 0] (shapeCast _ (extractStridedSlice S1024x256 ![16384, 8448] P slices_S17408x9216_S1024x256_16384_8448) shapeCasts_S1024x256_S128x8x4x64) slices_S128x8x4x64_S128x8x4x32_0_0_0_0) (broadcastInDim S128x8x4x32 ![0, 1, 2, 3] bcast_S1x8x1x32_S128x8x4x32_0_1_2_3 (broadcastInDim S1x8x1x32 ![1, 3] bcast_S8x32_S1x8x1x32_1_3 cosT))) (mulf (extractStridedSlice S128x8x4x32 ![0, 0, 0, 32] (shapeCast _ (extractStridedSlice S1024x256 ![16384, 8448] P slices_S17408x9216_S1024x256_16384_8448) shapeCasts_S1024x256_S128x8x4x64) slices_S128x8x4x64_S128x8x4x32_0_0_0_32) (broadcastInDim S128x8x4x32 ![0, 1, 2, 3] bcast_S1x8x1x32_S128x8x4x32_0_1_2_3 (broadcastInDim S1x8x1x32 ![1, 3] bcast_S8x32_S1x8x1x32_1_3 sinT))))⟩, ⟨S128x8x4x32, (addf (mulf (extractStridedSlice S128x8x4x32 ![0, 0, 0, 0] (shapeCast _ (extractStridedSlice S1024x256 ![16384, 8448] P slices_S17408x9216_S1024x256_16384_8448) shapeCasts_S1024x256_S128x8x4x64) slices_S128x8x4x64_S128x8x4x32_0_0_0_0) (broadcastInDim S128x8x4x32 ![0, 1, 2, 3] bcast_S1x8x1x32_S128x8x4x32_0_1_2_3 (broadcastInDim S1x8x1x32 ![1, 3] bcast_S8x32_S1x8x1x32_1_3 sinT))) (mulf (extractStridedSlice S128x8x4x32 ![0, 0, 0, 32] (shapeCast _ (extractStridedSlice S1024x256 ![16384, 8448] P slices_S17408x9216_S1024x256_16384_8448) shapeCasts_S1024x256_S128x8x4x64) slices_S128x8x4x64_S128x8x4x32_0_0_0_32) (broadcastInDim S128x8x4x32 ![0, 1, 2, 3] bcast_S1x8x1x32_S128x8x4x32_0_1_2_3 (broadcastInDim S1x8x1x32 ![1, 3] bcast_S8x32_S1x8x1x32_1_3 cosT))))⟩] concatenates_S128x8x4x32_S128x8x4x32_S128x8x4x64_d3))⟩, ⟨S128x8x1x4x64, (broadcastInDim S128x8x1x4x64 ![0, 1, 3, 4] bcast_S128x8x4x64_S128x8x1x4x64_0_1_3_4 (shapeCast _ (extractStridedSlice S1024x256 ![16384, 8704] P slices_S17408x9216_S1024x256_16384_8704) shapeCasts_S1024x256_S128x8x4x64))⟩] concatenates_S128x8x1x4x64_S128x8x1x4x64_S128x8x2x4x64_d2)⟩] concatenates_S128x2048x2x4x64_S128x8x2x4x64_S128x2056x2x4x64_d1) slices_S128x2056x2x4x64_S128x2048x2x4x64_0_8_0_0_0

theorem cache_res (m : (ℓ : Loc nD τ sig) → Buf (Elt Ideal) ℓ) (c : Dev nD) : res_out0 m c = cache (m (c.tc.loc main_arg0)) (m (c.tc.loc main_arg1)) := rfl

theorem cache_old (P : FVec Ideal S17408x9216 .f32) (Cc : FVec Ideal S128x2048x2x4x64 .f32) (b : Fin 128) (r : Fin 2048) (s : Fin 2) (h : Fin 4) (d : Fin 64)
    (hr : 8 + r.val < 2048) : cache P Cc (ix5 b r s h d) = Cc (ix5 b ⟨8 + r.val, hr⟩ s h d) := by
  pointwise [cache]
  rw [dif_pos hr]

theorem cache_key (P : FVec Ideal S17408x9216 .f32) (Cc : FVec Ideal S128x2048x2x4x64 .f32) (b : Fin 128) (r : Fin 2048) (h : Fin 4) (d : Fin 64)
    (hr : ¬ 8 + r.val < 2048) :
    cache P Cc (ix5 b r 0 h d) = turned (fun j => at2 P (16384 + (b.val * 8 + (8 + r.val - 2048))) (8448 + j))
      (at2 cosT (8 + r.val - 2048)) (at2 sinT (8 + r.val - 2048)) (h.val * 64 + d.val) := by
  pointwise [cache]
  rw [dif_neg hr]
  split_ifs with h1
  all_goals
    first
    | refine turned_low' (by omega) ?_ ?_ ?_ ?_
    | refine turned_high' (by omega) ?_ ?_ ?_ ?_
    all_goals
      try beta_reduce
      refine at2_of _ _ _ _ _ ?_ ?_ <;> (first | rfl | omega | (dsimp only; omega))

theorem cache_value (P : FVec Ideal S17408x9216 .f32) (Cc : FVec Ideal S128x2048x2x4x64 .f32) (b : Fin 128) (r : Fin 2048) (h : Fin 4) (d : Fin 64)
    (hr : ¬ 8 + r.val < 2048) :
    cache P Cc (ix5 b r 1 h d) = at2 P (16384 + (b.val * 8 + (8 + r.val - 2048))) (8704 + (h.val * 64 + d.val)) := by
  pointwise [cache]
  rw [dif_neg hr]
  refine at2_of _ _ _ _ _ ?_ ?_ <;> (first | rfl | omega | (dsimp only; omega))

end Cert.Sample2RefIdeal.Rows
-- ==== Proof.Sample2Value.lean ====
/- The sample call's key rows against their reference at the ideal instance: a block's rows are the new rows' key columns
   turned by their positions' angles, and the cache the host makes of them and the old one is the reference's. -/
module

public import proofs.«01_k».proof.Proof.Gen.Sample2Ideal.Frame
public import proofs.«01_k».proof.Proof.Sample2Rows
public import Idealize.ShloMosaic.Lib.Claim

@[expose] public section

set_option maxRecDepth 100000

noncomputable section

open Idealize.ShloMosaic Idealize.ShloMosaic.TcCoe Idealize.SL.Sem Idealize.ShloMosaic.StableHlo
open Idealize.ShloMosaic.Pipeline (Dat)
open Cert.RotarySpec

namespace Cert.Sample2Ideal.Plain
open Cert.Sample2Ideal Cert.Sample2Ideal.Gen
open Cert.Sample2RefIdeal.Rows (cosT sinT)

/-- The cosine table's eight rows for each stream of a block. -/
theorem stack_cos (c : FVec Ideal S8x256 .f32) (r : Fin 16) (j : Fin 256) : k0_pay2 (F := Ideal) c (ix2 r j) = at2 c (r.val % 8) j.val := by
  pointwise [k0_pay2]
  split_ifs
  all_goals refine at2_of _ _ _ _ _ ?_ ?_ <;> (first | rfl | omega | (dsimp only; omega))

theorem stack_sin (c : FVec Ideal S8x256 .f32) (r : Fin 16) (j : Fin 256) : k0_pay3 (F := Ideal) c (ix2 r j) = at2 c (r.val % 8) j.val := by
  pointwise [k0_pay3]
  split_ifs
  all_goals refine at2_of _ _ _ _ _ ?_ ?_ <;> (first | rfl | omega | (dsimp only; omega))

/-- A block of turned keys at an index. -/
theorem keys_at (k : FVec Ideal S16x256 .f32) (c s : FVec Ideal S8x256 .f32) (r : Fin 16) (j : Fin 256) (x cos sin : ℕ → EReal)
    (hx : ∀ i : Fin 256, k (ix2 r i) = x i.val) (hc : at2 c (r.val % 8) j.val = cos (j.val % 32)) (hs : at2 s (r.val % 8) j.val = sin (j.val % 32)) :
    k0_pay5 (F := Ideal) (k0_pay2 (F := Ideal) c) (k0_pay3 (F := Ideal) s) k (iota .tc S16x256 32 [1] iota_S16x256_d1_w32) (Scalar.select (Scalar.cmpi .eq 64#32 0#32) 1#32 64#32) (ix2 r j) = turned x cos sin j.val := by
  have hc' := (stack_cos c r j).trans hc
  have hs' := (stack_sin s r j).trans hs
  revert hc' hs'
  generalize k0_pay2 (F := Ideal) c = c', k0_pay3 (F := Ideal) s = s'
  intro hc' hs'
  pointwise [k0_pay5]
  rw [half_lane]
  by_cases h : j.val % 64 < 32
  · rw [if_pos h]
    refine (congrArg (k (ix2 r j) * c' (ix2 r j) + · * s' (ix2 r j)) (zero_sub _)).trans (turned_low h (hx j) ((hx _).trans (congrArg x ?_)) hc' hs')
    (first | rfl | omega | (dsimp only; omega))
  · rw [if_neg h]
    refine turned_high h (hx j) ((hx _).trans (congrArg x ?_)) hc' hs'
    (first | rfl | omega | (dsimp only; omega))

/-- The tables' rows spread over the heads. -/
def spread (T : FVec Ideal S8x32 .f32) : FVec Ideal S8x256 .f32 :=
  (shapeCast S8x256 (broadcastInDim S1x8x8x32 ![0, 1, 2, 3] bcast_S1x8x1x32_S1x8x8x32_0_1_2_3 (shapeCast S1x8x1x32 T shapeCasts_S8x32_S1x8x1x32)) shapeCasts_S1x8x8x32_S8x256)

theorem spread_at (T : FVec Ideal S8x32 .f32) (r : Fin 8) (j : Fin 256) : spread T (ix2 r j) = at2 T r.val (j.val % 32) := by
  pointwise [spread]
  refine at2_of _ _ _ _ _ ?_ ?_ <;> (first | rfl | omega | (dsimp only; omega))

variable (m : (ℓ : Loc nD τ sig) → Buf (Elt Ideal) ℓ)

theorem V_cos (c : Dev nD) : V m c main_v18 = spread cosT := by
  unfold V V0; simp only [List.flatten_cons, List.flatten_nil, List.append_nil]; after_results
  rfl

theorem V_sin (c : Dev nD) : V m c main_v22 = spread sinT := by
  unfold V V0; simp only [List.flatten_cons, List.flatten_nil, List.append_nil]; after_results
  rfl

theorem idx : ∀ t : Fin cfg0.N, win0_1.index t = ![1024 + t.val, 33] ∧ win0_3.index t = ![0, 0] ∧ win0_4.index t = ![0, 0] ∧ win0_8.index t = ![t.val, 0] :=
  (by decide +kernel : ∀ t : Fin grid0.N, _)

theorem key_at (c : Dev nD) (t : Fin cfg0.N) (r : Fin 16) (i : Fin 256) :
    (show FVec Ideal S16x256 .f32 from iblk m c 1 t) (ix2 r i)
    = at2 (a := 17408) (b := 9216) (m ((c : Thread nD τ).loc main_arg0)) (16384 + (t.val * 16 + r.val)) (8448 + i.val) := by
  have ht : t.val < 64 := t.isLt
  have e : (show FVec Ideal S16x256 .f32 from iblk m c 1 t) (ix2 r i)
      = (show FVec Ideal S17408x9216 .f32 from m ((c : Thread nD τ).loc main_arg0)) (ix2 ⟨16384 + (t.val * 16 + r.val), by omega⟩ ⟨8448 + i.val, by omega⟩) := by
    blk_ext [iblk, V, idx t]
  refine e.trans (at2_of _ _ _ _ _ ?_ ?_) <;> (first | rfl | omega | (dsimp only; omega))

theorem cos_at (c : Dev nD) (t : Fin cfg0.N) (r j : ℕ) (hr : r < 8) (hj : j < 256) :
    at2 (a := 8) (b := 256) (iblk m c 3 t) r j = at2 cosT r (j % 32) := by
  have e : (show FVec Ideal S8x256 .f32 from iblk m c 3 t) (ix2 ⟨r, hr⟩ ⟨j, hj⟩) = (show FVec Ideal S8x256 .f32 from V m c main_v18) (ix2 ⟨r, hr⟩ ⟨j, hj⟩) := by
    blk_ext [iblk, idx t]
  exact (at2_ix2 (a := 8) (b := 256) (iblk m c 3 t) ⟨r, hr⟩ ⟨j, hj⟩).symm.trans (e.trans ((congrFun (V_cos m c) _).trans (spread_at _ _ _)))

theorem sin_at (c : Dev nD) (t : Fin cfg0.N) (r j : ℕ) (hr : r < 8) (hj : j < 256) :
    at2 (a := 8) (b := 256) (iblk m c 4 t) r j = at2 sinT r (j % 32) := by
  have e : (show FVec Ideal S8x256 .f32 from iblk m c 4 t) (ix2 ⟨r, hr⟩ ⟨j, hj⟩) = (show FVec Ideal S8x256 .f32 from V m c main_v22) (ix2 ⟨r, hr⟩ ⟨j, hj⟩) := by
    blk_ext [iblk, idx t]
  exact (at2_ix2 (a := 8) (b := 256) (iblk m c 4 t) ⟨r, hr⟩ ⟨j, hj⟩).symm.trans (e.trans ((congrFun (V_sin m c) _).trans (spread_at _ _ _)))

/-- The array of turned keys. -/
def keys (P : FVec Ideal S17408x9216 .f32) : FVec Ideal S1024x256 .f32 := fun i =>
  turned (fun j => at2 P (16384 + (i 0).val) (8448 + j)) (at2 cosT ((i 0).val % 8)) (at2 sinT ((i 0).val % 8)) (i 1).val

/-- A point's block at an index is the array there. -/
theorem point (c : Dev nD) (t : Fin cfg0.N) (r : Fin 16) (j : Fin 256) (R : Fin 1024) (hR : R.val = t.val * 16 + r.val) :
    k0_pay5 (F := Ideal) (k0_pay2 (F := Ideal) (iblk m c 3 t)) (k0_pay3 (F := Ideal) (iblk m c 4 t)) (iblk m c 1 t) (iota .tc S16x256 32 [1] iota_S16x256_d1_w32) (Scalar.select (Scalar.cmpi .eq 64#32 0#32) 1#32 64#32) (ix2 r j) = keys (m ((c : Thread nD τ).loc main_arg0)) (ix2 R j) := by
  have ht : t.val < 64 := t.isLt
  refine (keys_at _ _ _ r j (fun i => at2 (a := 17408) (b := 9216) (m ((c : Thread nD τ).loc main_arg0)) (16384 + (t.val * 16 + r.val)) (8448 + i)) _ _
    (fun i => key_at m c t r i) (cos_at m c t _ _ (by omega) j.isLt) (sin_at m c t _ _ (by omega) j.isLt)).trans ?_
  show _ = turned (fun j => at2 _ (16384 + R.val) (8448 + j)) (at2 cosT (R.val % 8)) (at2 sinT (R.val % 8)) j.val
  have e2 : R.val % 8 = r.val % 8 := by omega
  rw [e2, hR]

theorem out_eq (c : Dev nD) (t : Fin cfg0.N) :
    (dats m 0 c).after 8 t = k0_pay5 (F := Ideal) (k0_pay2 (F := Ideal) (iblk m c 3 t)) (k0_pay3 (F := Ideal) (iblk m c 4 t)) (iblk m c 1 t) (iota .tc S16x256 32 [1] iota_S16x256_d1_w32) (Scalar.select (Scalar.cmpi .eq 64#32 0#32) 1#32 64#32) := by
  rw [after0_8]
  unfold out0_8 k0_pay54 k0_pay55 k0_pay53
  frame_out

theorem final (c : Dev nD) : (dats m 0 c).arrAt 8 (cfgs 0).N = keys (m ((c : Thread nD τ).loc main_arg0)) := by
  refine (dats m 0 c).arrAt_eq_of_covers 8 _ (by decide +kernel) fun t hf y => ?_
  blk_simp
  rw [out_eq]
  have ht : t.val < 64 := t.isLt
  have h0 : (y 0).val < 16 := (y 0).isLt
  have h1 : (y 1).val < 256 := (y 1).isLt
  refine Eq.trans ?_ ((point m c t ⟨(y 0).val, h0⟩ ⟨(y 1).val, h1⟩ ⟨t.val * 16 + (y 0).val, by omega⟩ rfl).trans ?_)
  · refine congrArg _ ?_
    blk_ext
  · refine congrArg _ ?_
    blk_ext [idx t]

/-- The cache from the projected rows, the old cache and the array of turned keys. -/
def cache (P : FVec Ideal S17408x9216 .f32) (Cc : FVec Ideal S128x2048x2x4x64 .f32) (K : FVec Ideal S1024x256 .f32) : FVec Ideal S128x2048x2x4x64 .f32 :=
  (extractStridedSlice S128x2048x2x4x64 ![0, 8, 0, 0, 0] (concatenate S128x2056x2x4x64 1 [⟨S128x2048x2x4x64, (Cc)⟩, ⟨S128x8x2x4x64, ((shapeCast S128x8x2x4x64 (concatenate S128x8x2x256 2 [⟨S128x8x1x256, ((broadcastInDim S128x8x1x256 ![0, 1, 3] bcast_S128x8x256_S128x8x1x256_0_1_3 (shapeCast S128x8x256 K shapeCasts_S1024x256_S128x8x256)))⟩, ⟨S128x8x1x256, ((broadcastInDim S128x8x1x256 ![0, 1, 3] bcast_S128x8x256_S128x8x1x256_0_1_3 (extractStridedSlice S128x8x256 ![0, 0, 8704] (shapeCast S128x8x9216 (extractStridedSlice S1024x9216 ![16384, 0] P slices_S17408x9216_S1024x9216_16384_0) shapeCasts_S1024x9216_S128x8x9216) slices_S128x8x9216_S128x8x256_0_0_8704)))⟩] concatenates_S128x8x1x256_S128x8x1x256_S128x8x2x256_d2) shapeCasts_S128x8x2x256_S128x8x2x4x64))⟩] concatenates_S128x2048x2x4x64_S128x8x2x4x64_S128x2056x2x4x64_d1) slices_S128x2056x2x4x64_S128x2048x2x4x64_0_8_0_0_0)

theorem cache_old (P : FVec Ideal S17408x9216 .f32) (Cc : FVec Ideal S128x2048x2x4x64 .f32) (K : FVec Ideal S1024x256 .f32) (b : Fin 128) (r : Fin 2048) (s : Fin 2) (h : Fin 4) (d : Fin 64)
    (hr : 8 + r.val < 2048) : cache P Cc K (ix5 b r s h d) = Cc (ix5 b ⟨8 + r.val, hr⟩ s h d) := by
  pointwise [cache]
  rw [dif_pos hr]

theorem cache_key (P : FVec Ideal S17408x9216 .f32) (Cc : FVec Ideal S128x2048x2x4x64 .f32) (K : FVec Ideal S1024x256 .f32) (b : Fin 128) (r : Fin 2048) (h : Fin 4) (d : Fin 64)
    (hr : ¬ 8 + r.val < 2048) : cache P Cc K (ix5 b r 0 h d) = at2 K (b.val * 8 + (8 + r.val - 2048)) (h.val * 64 + d.val) := by
  pointwise [cache]
  rw [dif_neg hr]
  refine at2_of _ _ _ _ _ ?_ ?_ <;> (first | rfl | omega | (dsimp only; omega))

theorem cache_value (P : FVec Ideal S17408x9216 .f32) (Cc : FVec Ideal S128x2048x2x4x64 .f32) (K : FVec Ideal S1024x256 .f32) (b : Fin 128) (r : Fin 2048) (h : Fin 4) (d : Fin 64)
    (hr : ¬ 8 + r.val < 2048) : cache P Cc K (ix5 b r 1 h d) = at2 P (16384 + (b.val * 8 + (8 + r.val - 2048))) (8704 + (h.val * 64 + d.val)) := by
  pointwise [cache]
  rw [dif_neg hr]
  refine at2_of _ _ _ _ _ ?_ ?_ <;> (first | rfl | omega | (dsimp only; omega))

theorem cache_eq (P : FVec Ideal S17408x9216 .f32) (Cc : FVec Ideal S128x2048x2x4x64 .f32) : cache P Cc (keys P) = Cert.Sample2RefIdeal.Rows.cache P Cc := by
  funext i
  rw [eq_ix5 i]
  generalize i 0 = b, i 1 = r, i 2 = s, i 3 = h, i 4 = d
  change Fin 128 at b
  change Fin 2048 at r
  change Fin 2 at s
  change Fin 4 at h
  change Fin 64 at d
  by_cases hr : 8 + r.val < 2048
  · exact (cache_old P Cc _ b r s h d hr).trans (Cert.Sample2RefIdeal.Rows.cache_old P Cc b r s h d hr).symm
  obtain rfl | rfl : s = 0 ∨ s = 1 := by omega
  · refine (cache_key P Cc _ b r h d hr).trans (Eq.trans ?_ (Cert.Sample2RefIdeal.Rows.cache_key P Cc b r h d hr).symm)
    unfold at2
    rw [dif_pos ⟨by omega, by omega⟩]
    show turned (fun j => at2 P (16384 + (b.val * 8 + (8 + r.val - 2048))) (8448 + j)) (at2 cosT ((b.val * 8 + (8 + r.val - 2048)) % 8))
      (at2 sinT ((b.val * 8 + (8 + r.val - 2048)) % 8)) (h.val * 64 + d.val) = _
    have e2 : (b.val * 8 + (8 + r.val - 2048)) % 8 = 8 + r.val - 2048 := by omega
    rw [e2]
    rfl
  · exact (cache_value P Cc _ b r h d hr).trans (Cert.Sample2RefIdeal.Rows.cache_value P Cc b r h d hr).symm

set_option maxHeartbeats 2000000 in
theorem tail (W : Valuation τ sig (Elt Ideal)) : StableHlo.after (List.flatten [hostOps1]) W (Proc.devRef .tc main_v35)
    = cache (W (Proc.devRef .tc main_arg0)) (W (Proc.devRef .tc main_arg1)) (W (Proc.devRef .tc main_v25_2)) := by
  simp only [List.flatten_cons, List.flatten_nil, List.append_nil]
  after_results_simp <;> rfl

theorem shared : ∀ w w' : Fin cfg0.W, w ≠ w' → Pipeline.arrRef (cfgs 0).spec w = Pipeline.arrRef (cfgs 0).spec w' → ((cfgs 0).win w).isOut = false := by
  decide +kernel

/-- The buffers at the region's exit. -/
def exitV (c : Dev nD) : Valuation τ sig (Elt Ideal) := Pipeline.withArrays (cfgs 0).spec c (V0 m c) fun w => (dats m 0 c).arrAt w (cfgs 0).N

theorem exit_arr (c : Dev nD) (w : Fin cfg0.W) : exitV m c (Proc.devRef .tc (Pipeline.arrRef (cfgs 0).spec w)) = (dats m 0 c).arrAt w (cfgs 0).N :=
  Pipeline.withArrays_arr_shared (cfgs 0).spec c (V0 m c) (fun w => (dats m 0 c).arrAt w (cfgs 0).N)
    (fun w w' hne e => ((dats m 0 c).arrAt_in w (shared w w' hne e) _).trans (A_eq m c w)) w

theorem exit_keys (c : Dev nD) : exitV m c (Proc.devRef .tc main_v25_2) = (dats m 0 c).arrAt 8 (cfgs 0).N := exit_arr m c 8

theorem exit_arg0 (c : Dev nD) : exitV m c (Proc.devRef .tc main_arg0) = m ((c : Thread nD τ).loc main_arg0) :=
  (exit_arr m c 1).trans (((dats m 0 c).arrAt_in 1 rfl _).trans ((A_eq m c 1).trans (V_main_arg0 m c)))

theorem exit_arg1 (c : Dev nD) : exitV m c (Proc.devRef .tc main_arg1) = m ((c : Thread nD τ).loc main_arg1) :=
  (Pipeline.withArrays_of_ne _ c (V0 m c) _ main_arg1 (by exact (by decide : ∀ w, Pipeline.arrRef spec0 w ≠ main_arg1))).trans (V_main_arg1 m c)

/-- Every run from any memory ends with the result at the reference's value of its arguments, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v35) = Cert.Sample2RefIdeal.Rows.cache (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ?_) (θ_run_and (run_main m ρ) (unchanged m ρ))
  refine ⟨?_, h.2 c⟩
  refine ((h.1 c).2 main_v35 (by decide)).trans ((tail (exitV m c)).trans ?_)
  rw [(exit_keys m c).trans (final m c), exit_arg0 m c, exit_arg1 m c]
  exact cache_eq _ _

end Cert.Sample2Ideal.Plain
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.Pre_tame
public import proofs.«01_k».proof.Proof.Gen.ReferenceIdeal.Run
public import proofs.«01_k».proof.Proof.Gen.InprojRefIdeal.Run
public import proofs.«01_k».proof.Proof.MergeRun
public import proofs.«01_k».proof.Proof.MergeFinal
public import proofs.«01_k».proof.Proof.InprojTail
public import proofs.«01_k».proof.Proof.KernelRun
public import proofs.«01_k».proof.Proof.KernelIdealRun
public import proofs.«01_k».proof.Proof.SelectValue
public import proofs.«01_k».proof.Proof.DownValue
public import proofs.«01_k».proof.Proof.Result
public import proofs.«01_k».proof.Proof.Gen.Prompt0.Frame
public import proofs.«01_k».proof.Proof.Prompt0Value
public import proofs.«01_k».proof.Proof.Gen.Prompt1.Frame
public import proofs.«01_k».proof.Proof.Prompt1Value
public import proofs.«01_k».proof.Proof.Gen.Prompt2.Frame
public import proofs.«01_k».proof.Proof.Prompt2Value
public import proofs.«01_k».proof.Proof.Gen.Sample0.Frame
public import proofs.«01_k».proof.Proof.Sample0Value
public import proofs.«01_k».proof.Proof.Gen.Sample1.Frame
public import proofs.«01_k».proof.Proof.Sample1Value
public import proofs.«01_k».proof.Proof.Gen.Sample2.Frame
public import proofs.«01_k».proof.Proof.Sample2Value
public import Idealize.ShloMosaic.Lib.Claim
public import Idealize.ShloMosaic.Lib.Bf16Pair
public import Idealize.ShloMosaic.Lib.Bf16PairInverse
public import Idealize.ShloMosaic.Adequacy
public import Idealize.ShloMosaic.Init

@[expose] public section

noncomputable section

namespace Cert.Proof

open Idealize.ShloMosaic Idealize.SL.Sem Cert.Kernel

set_option maxRecDepth 16384

theorem frame_kernel : Cert.quiescent_Kernel := fun m ρ _ => Cert.Kernel.Chain.frame m ρ

theorem frame_kernel_ideal : Cert.quiescent_KernelIdeal := fun m ρ _ => Cert.KernelIdeal.Chain.frame m ρ

theorem frame_kernel_ideal_tame : Cert.quiescent_KernelIdeal_pre_tame (hPre_tame := Cert.Pre_tame.Gen.facts) := fun m ρ _ => Cert.KernelIdeal.Chain.frame m ρ

theorem frame_reference : Cert.quiescent_ReferenceIdeal :=
  fun m g _ => (θ_run _ _ _).mono (fun r h => ⟨fun c => (h c).2, sem_eq_zero_of_no_sems rfl r.2⟩) (Cert.ReferenceIdeal.Value.run m g)

theorem frame_reference_tame : Cert.quiescent_ReferenceIdeal_pre_tame (hPre_tame := Cert.Pre_tame.Gen.facts) :=
  fun m g _ => (θ_run _ _ _).mono (fun r h => ⟨fun c => (h c).2, sem_eq_zero_of_no_sems rfl r.2⟩) (Cert.ReferenceIdeal.Value.run m g)

theorem frame_inproj : Cert.quiescent_Inproj := fun m ρ _ => Cert.Inproj.Gen.frame m ρ

theorem frame_inproj_ideal : Cert.quiescent_InprojIdeal := fun m ρ _ => Cert.InprojIdeal.Gen.frame m ρ

theorem frame_inproj_ref : Cert.quiescent_InprojRefIdeal :=
  fun m g _ => (θ_run _ _ _).mono (fun r h => ⟨fun c => (h c).2.2.2.2.2, sem_eq_zero_of_no_sems rfl r.2⟩) (Cert.InprojRefIdeal.Value.run m g)

theorem frame_merge : Cert.quiescent_Merge := fun m ρ _ => Cert.Merge.Call.frame m ρ

theorem frame_merge_ideal : Cert.quiescent_MergeIdeal := fun m ρ _ => Cert.MergeIdeal.Call.frame m ρ

theorem frame_merge_ref : Cert.quiescent_MergeRefIdeal :=
  fun m g _ => (θ_run _ _ _).mono (fun r h => ⟨fun c => (h c).2.2.2, sem_eq_zero_of_no_sems rfl r.2⟩) (Cert.MergeRefIdeal.Plain.run m g)

theorem frame_prompt0 : Cert.quiescent_Prompt0 := fun m ρ _ => Cert.Prompt0.Gen.frame m ρ

theorem frame_prompt0_ideal : Cert.quiescent_Prompt0Ideal := fun m ρ _ => Cert.Prompt0Ideal.Gen.frame m ρ

theorem frame_prompt0_ref : Cert.quiescent_Prompt0RefIdeal :=
  fun m g _ => (θ_run _ _ _).mono (fun r h => ⟨fun c => (h c).2, sem_eq_zero_of_no_sems rfl r.2⟩) (Cert.Prompt0RefIdeal.Value.run m g)

theorem frame_prompt1 : Cert.quiescent_Prompt1 := fun m ρ _ => Cert.Prompt1.Gen.frame m ρ

theorem frame_prompt1_ideal : Cert.quiescent_Prompt1Ideal := fun m ρ _ => Cert.Prompt1Ideal.Gen.frame m ρ

theorem frame_prompt1_ref : Cert.quiescent_Prompt1RefIdeal :=
  fun m g _ => (θ_run _ _ _).mono (fun r h => ⟨fun c => (h c).2, sem_eq_zero_of_no_sems rfl r.2⟩) (Cert.Prompt1RefIdeal.Value.run m g)

theorem frame_prompt2 : Cert.quiescent_Prompt2 := fun m ρ _ => Cert.Prompt2.Gen.frame m ρ

theorem frame_prompt2_ideal : Cert.quiescent_Prompt2Ideal := fun m ρ _ => Cert.Prompt2Ideal.Gen.frame m ρ

theorem frame_prompt2_ref : Cert.quiescent_Prompt2RefIdeal :=
  fun m g _ => (θ_run _ _ _).mono (fun r h => ⟨fun c => (h c).2, sem_eq_zero_of_no_sems rfl r.2⟩) (Cert.Prompt2RefIdeal.Value.run m g)

theorem frame_sample0 : Cert.quiescent_Sample0 := fun m ρ _ => Cert.Sample0.Gen.frame m ρ

theorem frame_sample0_ideal : Cert.quiescent_Sample0Ideal := fun m ρ _ => Cert.Sample0Ideal.Gen.frame m ρ

theorem frame_sample0_ref : Cert.quiescent_Sample0RefIdeal :=
  fun m g _ => (θ_run _ _ _).mono (fun r h => ⟨fun c => (h c).2, sem_eq_zero_of_no_sems rfl r.2⟩) (Cert.Sample0RefIdeal.Value.run m g)

theorem frame_sample1 : Cert.quiescent_Sample1 := fun m ρ _ => Cert.Sample1.Gen.frame m ρ

theorem frame_sample1_ideal : Cert.quiescent_Sample1Ideal := fun m ρ _ => Cert.Sample1Ideal.Gen.frame m ρ

theorem frame_sample1_ref : Cert.quiescent_Sample1RefIdeal :=
  fun m g _ => (θ_run _ _ _).mono (fun r h => ⟨fun c => (h c).2, sem_eq_zero_of_no_sems rfl r.2⟩) (Cert.Sample1RefIdeal.Value.run m g)

theorem frame_sample2 : Cert.quiescent_Sample2 := fun m ρ _ => Cert.Sample2.Gen.frame m ρ

theorem frame_sample2_ideal : Cert.quiescent_Sample2Ideal := fun m ρ _ => Cert.Sample2Ideal.Gen.frame m ρ

theorem frame_sample2_ref : Cert.quiescent_Sample2RefIdeal :=
  fun m g _ => (θ_run _ _ _).mono (fun r h => ⟨fun c => (h c).2, sem_eq_zero_of_no_sems rfl r.2⟩) (Cert.Sample2RefIdeal.Value.run m g)

theorem preserves_kernel : Cert.preserves_Kernel_KernelIdeal :=
  ⟨IdealRules.bf16_pair.bufferStatement _ _, IdealRules.bf16_pair.bufferStatement _ _, IdealRules.bf16_pair.packStatement _,
    IdealRules.bf16_pair.statement _ _, IdealRules.bf16_pair.bufferStatement _ _, IdealRules.bf16_pair.statement _ _, IdealRules.bf16_pair.statement _ _⟩

theorem experts_algebraic : Cert.algebraic_KernelIdeal_ReferenceIdeal_pre_tame (hPre_tame := Cert.Pre_tame.Gen.facts) := by
  intro m g m' g' hpre hagree
  have htame := hpre
  refine ⟨fun c => (Cert.KernelIdeal.Chain.dat1 (Cert.KernelIdeal.Chain.V2 (F := Ideal) m g) c).arrAt 4 Cert.KernelIdeal.cfg1.N, ?_, ?_⟩
  · run_from Cert.KernelIdeal.Chain.run_main m g
  · run_from Cert.ReferenceIdeal.Value.run m' g'
    obtain ⟨e0, e1, e2, e3, e4, e5, e6⟩ := hagree c
    exact (Cert.ReferenceIdeal.Plain.res_whole m' c).trans (by
      rw [e0, e1, e2, e3, e4, e5, e6]
      exact (Cert.Answer.final_eq m g c (htame c)).symm)

theorem inproj_algebraic : Cert.algebraic_InprojIdeal_InprojRefIdeal := by
  intro m g m' g' _ hagree
  refine ⟨fun c => Cert.InprojRefIdeal.Plain.packed (Cert.InprojRefIdeal.Plain.prod (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2))),
    fun c => Cert.InprojRefIdeal.Plain.convP (Cert.InprojRefIdeal.Plain.prod (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2))),
    fun c => Cert.InprojRefIdeal.Plain.convS (m ((c.tc : Thread Cert.InprojIdeal.nD Cert.InprojIdeal.τ).loc Cert.InprojIdeal.main_arg3)) (Cert.InprojRefIdeal.Plain.prod (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2))),
    fun c => Cert.InprojRefIdeal.Plain.poolP (Cert.InprojRefIdeal.Plain.prod (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2))),
    fun c => Cert.InprojRefIdeal.Plain.poolS (m ((c.tc : Thread Cert.InprojIdeal.nD Cert.InprojIdeal.τ).loc Cert.InprojIdeal.main_arg4)) (Cert.InprojRefIdeal.Plain.prod (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2))), ?_, ?_⟩
  · exact Cert.InprojIdeal.Plain.run m g
  · refine (θ_run _ _ _).mono (fun r h c => ?_) (Cert.InprojRefIdeal.Plain.run m' g')
    obtain ⟨e0, e1, e2, e3, e4⟩ := hagree c
    beta_reduce
    rw [← e0, ← e1, ← e2, ← e3, ← e4]
    exact h c

theorem merge_algebraic : Cert.algebraic_MergeIdeal_MergeRefIdeal := by
  intro m g m' g' _ hagree
  refine ⟨fun c => Cert.MergeIdeal.Plain.rowsX m c, fun c => Cert.MergeRefIdeal.Plain.high (F := Ideal) (Cert.MergeIdeal.Plain.rowsH m c),
    fun c => Cert.MergeRefIdeal.Plain.low (F := Ideal) (Cert.MergeIdeal.Plain.rowsH m c), ?_, ?_⟩
  · exact Cert.MergeIdeal.Plain.run m g
  · refine (θ_run _ _ _).mono (fun r h c => ?_) (Cert.MergeRefIdeal.Plain.run m' g')
    obtain ⟨hx, hh⟩ := Cert.MergeIdeal.Plain.rows_eq m m' c (hagree c)
    exact ⟨(h c).1.trans hx, (h c).2.1.trans (congrArg (Cert.MergeRefIdeal.Plain.high (F := Ideal)) hh), (h c).2.2.1.trans (congrArg (Cert.MergeRefIdeal.Plain.low (F := Ideal)) hh), (h c).2.2.2⟩

theorem prompt0_algebraic : Cert.algebraic_Prompt0Ideal_Prompt0RefIdeal := by
  intro m g m' g' _ hagree
  refine ⟨fun c => Cert.Prompt0RefIdeal.Rows.cache (m ((c.tc : Thread Cert.Prompt0Ideal.nD Cert.Prompt0Ideal.τ).loc Cert.Prompt0Ideal.main_arg0)), ?_, ?_⟩
  · exact Cert.Prompt0Ideal.Plain.run m g
  · refine (θ_run _ _ _).mono (fun r h c => ?_) (Cert.Prompt0RefIdeal.Value.run m' g')
    refine ⟨(h c).1.trans ((Cert.Prompt0RefIdeal.Rows.cache_eq m' c).trans ?_), (h c).2⟩
    exact congrArg Cert.Prompt0RefIdeal.Rows.cache (hagree c)

theorem prompt1_algebraic : Cert.algebraic_Prompt1Ideal_Prompt1RefIdeal := by
  intro m g m' g' _ hagree
  refine ⟨fun c => Cert.Prompt1RefIdeal.Rows.cache (m ((c.tc : Thread Cert.Prompt1Ideal.nD Cert.Prompt1Ideal.τ).loc Cert.Prompt1Ideal.main_arg0)), ?_, ?_⟩
  · exact Cert.Prompt1Ideal.Plain.run m g
  · refine (θ_run _ _ _).mono (fun r h c => ?_) (Cert.Prompt1RefIdeal.Value.run m' g')
    refine ⟨(h c).1.trans ((Cert.Prompt1RefIdeal.Rows.cache_eq m' c).trans ?_), (h c).2⟩
    exact congrArg Cert.Prompt1RefIdeal.Rows.cache (hagree c)

theorem prompt2_algebraic : Cert.algebraic_Prompt2Ideal_Prompt2RefIdeal := by
  intro m g m' g' _ hagree
  refine ⟨fun c => Cert.Prompt2RefIdeal.Rows.cache (m ((c.tc : Thread Cert.Prompt2Ideal.nD Cert.Prompt2Ideal.τ).loc Cert.Prompt2Ideal.main_arg0)), ?_, ?_⟩
  · exact Cert.Prompt2Ideal.Plain.run m g
  · refine (θ_run _ _ _).mono (fun r h c => ?_) (Cert.Prompt2RefIdeal.Value.run m' g')
    refine ⟨(h c).1.trans ((Cert.Prompt2RefIdeal.Rows.cache_eq m' c).trans ?_), (h c).2⟩
    exact congrArg Cert.Prompt2RefIdeal.Rows.cache (hagree c)

theorem sample0_algebraic : Cert.algebraic_Sample0Ideal_Sample0RefIdeal := by
  intro m g m' g' _ hagree
  refine ⟨fun c => Cert.Sample0RefIdeal.Rows.cache (m ((c.tc : Thread Cert.Sample0Ideal.nD Cert.Sample0Ideal.τ).loc Cert.Sample0Ideal.main_arg0)) (m ((c.tc : Thread Cert.Sample0Ideal.nD Cert.Sample0Ideal.τ).loc Cert.Sample0Ideal.main_arg1)), ?_, ?_⟩
  · exact Cert.Sample0Ideal.Plain.run m g
  · refine (θ_run _ _ _).mono (fun r h c => ?_) (Cert.Sample0RefIdeal.Value.run m' g')
    obtain ⟨e0, e1⟩ := hagree c
    refine ⟨(h c).1.trans ((Cert.Sample0RefIdeal.Rows.cache_res m' c).trans ?_), (h c).2⟩
    beta_reduce
    rw [← e0, ← e1]

theorem sample1_algebraic : Cert.algebraic_Sample1Ideal_Sample1RefIdeal := by
  intro m g m' g' _ hagree
  refine ⟨fun c => Cert.Sample1RefIdeal.Rows.cache (m ((c.tc : Thread Cert.Sample1Ideal.nD Cert.Sample1Ideal.τ).loc Cert.Sample1Ideal.main_arg0)) (m ((c.tc : Thread Cert.Sample1Ideal.nD Cert.Sample1Ideal.τ).loc Cert.Sample1Ideal.main_arg1)), ?_, ?_⟩
  · exact Cert.Sample1Ideal.Plain.run m g
  · refine (θ_run _ _ _).mono (fun r h c => ?_) (Cert.Sample1RefIdeal.Value.run m' g')
    obtain ⟨e0, e1⟩ := hagree c
    refine ⟨(h c).1.trans ((Cert.Sample1RefIdeal.Rows.cache_res m' c).trans ?_), (h c).2⟩
    beta_reduce
    rw [← e0, ← e1]

theorem sample2_algebraic : Cert.algebraic_Sample2Ideal_Sample2RefIdeal := by
  intro m g m' g' _ hagree
  refine ⟨fun c => Cert.Sample2RefIdeal.Rows.cache (m ((c.tc : Thread Cert.Sample2Ideal.nD Cert.Sample2Ideal.τ).loc Cert.Sample2Ideal.main_arg0)) (m ((c.tc : Thread Cert.Sample2Ideal.nD Cert.Sample2Ideal.τ).loc Cert.Sample2Ideal.main_arg1)), ?_, ?_⟩
  · exact Cert.Sample2Ideal.Plain.run m g
  · refine (θ_run _ _ _).mono (fun r h c => ?_) (Cert.Sample2RefIdeal.Value.run m' g')
    obtain ⟨e0, e1⟩ := hagree c
    refine ⟨(h c).1.trans ((Cert.Sample2RefIdeal.Rows.cache_res m' c).trans ?_), (h c).2⟩
    beta_reduce
    rw [← e0, ← e1]

theorem claim : Cert.Claim :=
  ⟨Cert.Kernel.Gen.facts, Cert.KernelIdeal.Gen.facts, Cert.ReferenceIdeal.Gen.facts, Cert.Inproj.Gen.facts, Cert.InprojIdeal.Gen.facts, Cert.InprojRefIdeal.Gen.facts, Cert.Merge.Gen.facts, Cert.MergeIdeal.Gen.facts, Cert.MergeRefIdeal.Gen.facts, Cert.Prompt0.Gen.facts, Cert.Prompt0Ideal.Gen.facts, Cert.Prompt0RefIdeal.Gen.facts, Cert.Prompt1.Gen.facts, Cert.Prompt1Ideal.Gen.facts, Cert.Prompt1RefIdeal.Gen.facts, Cert.Prompt2.Gen.facts, Cert.Prompt2Ideal.Gen.facts, Cert.Prompt2RefIdeal.Gen.facts, Cert.Sample0.Gen.facts, Cert.Sample0Ideal.Gen.facts, Cert.Sample0RefIdeal.Gen.facts, Cert.Sample1.Gen.facts, Cert.Sample1Ideal.Gen.facts, Cert.Sample1RefIdeal.Gen.facts, Cert.Sample2.Gen.facts, Cert.Sample2Ideal.Gen.facts, Cert.Sample2RefIdeal.Gen.facts, Cert.Pre_tame.Gen.facts,
    frame_kernel, frame_kernel_ideal, frame_kernel_ideal_tame, frame_reference, frame_reference_tame, frame_inproj, frame_inproj_ideal, frame_inproj_ref,
    frame_merge, frame_merge_ideal, frame_merge_ref,
    frame_prompt0, frame_prompt0_ideal, frame_prompt0_ref, frame_prompt1, frame_prompt1_ideal, frame_prompt1_ref, frame_prompt2, frame_prompt2_ideal, frame_prompt2_ref, frame_sample0, frame_sample0_ideal, frame_sample0_ref, frame_sample1, frame_sample1_ideal, frame_sample1_ref, frame_sample2, frame_sample2_ideal, frame_sample2_ref,
    preserves_kernel, experts_algebraic, trivial, inproj_algebraic, trivial, merge_algebraic, trivial, prompt0_algebraic, trivial, prompt1_algebraic, trivial, prompt2_algebraic, trivial, sample0_algebraic, trivial, sample1_algebraic, trivial, sample2_algebraic⟩

end Cert.Proof

end
